-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 [hPre_experts_exist : Cert.Pre_experts_exist.Facts] (m : (ℓ : Loc Cert.Kernel5.nD Cert.Kernel5.τ Cert.Kernel5.sig) → Buf (Elt Bits) ℓ) : Prop :=
  ∀ c : Dev Cert.Kernel5.nD,
    (Cert.Pre_experts_exist.fn (F := Bits) (m ((c.tc : Thread Cert.Kernel5.nD Cert.Kernel5.τ).loc Cert.Kernel5.main_arg0)) (m ((c.tc : Thread Cert.Kernel5.nD Cert.Kernel5.τ).loc Cert.Kernel5.main_arg1)) (m ((c.tc : Thread Cert.Kernel5.nD Cert.Kernel5.τ).loc Cert.Kernel5.main_arg2)) (m ((c.tc : Thread Cert.Kernel5.nD Cert.Kernel5.τ).loc Cert.Kernel5.main_arg3)) (m ((c.tc : Thread Cert.Kernel5.nD Cert.Kernel5.τ).loc Cert.Kernel5.main_arg4))) = (fun _ => 1#1)

def Pre_Kernel5Ideal [hPre_experts_exist : Cert.Pre_experts_exist.Facts] (m : (ℓ : Loc Cert.Kernel5Ideal.nD Cert.Kernel5Ideal.τ Cert.Kernel5Ideal.sig) → Buf (Elt Ideal) ℓ) : Prop :=
  ∀ c : Dev Cert.Kernel5Ideal.nD,
    (Cert.Pre_experts_exist.fn (F := Ideal) (m ((c.tc : Thread Cert.Kernel5Ideal.nD Cert.Kernel5Ideal.τ).loc Cert.Kernel5Ideal.main_arg0)) (m ((c.tc : Thread Cert.Kernel5Ideal.nD Cert.Kernel5Ideal.τ).loc Cert.Kernel5Ideal.main_arg1)) (m ((c.tc : Thread Cert.Kernel5Ideal.nD Cert.Kernel5Ideal.τ).loc Cert.Kernel5Ideal.main_arg2)) (m ((c.tc : Thread Cert.Kernel5Ideal.nD Cert.Kernel5Ideal.τ).loc Cert.Kernel5Ideal.main_arg3)) (m ((c.tc : Thread Cert.Kernel5Ideal.nD Cert.Kernel5Ideal.τ).loc Cert.Kernel5Ideal.main_arg4))) = (fun _ => 1#1)

def Pre_Reference5Ideal (m : (ℓ : Loc Cert.Reference5Ideal.nD Cert.Reference5Ideal.τ Cert.Reference5Ideal.sig) → Buf (Elt Ideal) ℓ) : Prop :=
  True

def Pre_Reference5Ideal_experts_exist [hPre_experts_exist : Cert.Pre_experts_exist.Facts] (m : (ℓ : Loc Cert.Reference5Ideal.nD Cert.Reference5Ideal.τ Cert.Reference5Ideal.sig) → Buf (Elt Ideal) ℓ) : Prop :=
  ∀ c : Dev Cert.Reference5Ideal.nD,
    (Cert.Pre_experts_exist.fn (F := Ideal) (m ((c.tc : Thread Cert.Reference5Ideal.nD Cert.Reference5Ideal.τ).loc Cert.Reference5Ideal.main_arg0)) (m ((c.tc : Thread Cert.Reference5Ideal.nD Cert.Reference5Ideal.τ).loc Cert.Reference5Ideal.main_arg1)) (m ((c.tc : Thread Cert.Reference5Ideal.nD Cert.Reference5Ideal.τ).loc Cert.Reference5Ideal.main_arg2)) (m ((c.tc : Thread Cert.Reference5Ideal.nD Cert.Reference5Ideal.τ).loc Cert.Reference5Ideal.main_arg3)) (m ((c.tc : Thread Cert.Reference5Ideal.nD Cert.Reference5Ideal.τ).loc Cert.Reference5Ideal.main_arg4))) = (fun _ => 1#1)

def Pre_Kernel6 [hPre_experts_exist_down : Cert.Pre_experts_exist_down.Facts] (m : (ℓ : Loc Cert.Kernel6.nD Cert.Kernel6.τ Cert.Kernel6.sig) → Buf (Elt Bits) ℓ) : Prop :=
  ∀ c : Dev Cert.Kernel6.nD,
    (Cert.Pre_experts_exist_down.fn (F := Bits) (m ((c.tc : Thread Cert.Kernel6.nD Cert.Kernel6.τ).loc Cert.Kernel6.main_arg0)) (m ((c.tc : Thread Cert.Kernel6.nD Cert.Kernel6.τ).loc Cert.Kernel6.main_arg1)) (m ((c.tc : Thread Cert.Kernel6.nD Cert.Kernel6.τ).loc Cert.Kernel6.main_arg2)) (m ((c.tc : Thread Cert.Kernel6.nD Cert.Kernel6.τ).loc Cert.Kernel6.main_arg3))) = (fun _ => 1#1)

def Pre_Kernel6Ideal [hPre_experts_exist_down : Cert.Pre_experts_exist_down.Facts] (m : (ℓ : Loc Cert.Kernel6Ideal.nD Cert.Kernel6Ideal.τ Cert.Kernel6Ideal.sig) → Buf (Elt Ideal) ℓ) : Prop :=
  ∀ c : Dev Cert.Kernel6Ideal.nD,
    (Cert.Pre_experts_exist_down.fn (F := Ideal) (m ((c.tc : Thread Cert.Kernel6Ideal.nD Cert.Kernel6Ideal.τ).loc Cert.Kernel6Ideal.main_arg0)) (m ((c.tc : Thread Cert.Kernel6Ideal.nD Cert.Kernel6Ideal.τ).loc Cert.Kernel6Ideal.main_arg1)) (m ((c.tc : Thread Cert.Kernel6Ideal.nD Cert.Kernel6Ideal.τ).loc Cert.Kernel6Ideal.main_arg2)) (m ((c.tc : Thread Cert.Kernel6Ideal.nD Cert.Kernel6Ideal.τ).loc Cert.Kernel6Ideal.main_arg3))) = (fun _ => 1#1)

def Pre_Reference6Ideal (m : (ℓ : Loc Cert.Reference6Ideal.nD Cert.Reference6Ideal.τ Cert.Reference6Ideal.sig) → Buf (Elt Ideal) ℓ) : Prop :=
  True

def Pre_Reference6Ideal_experts_exist_down [hPre_experts_exist_down : Cert.Pre_experts_exist_down.Facts] (m : (ℓ : Loc Cert.Reference6Ideal.nD Cert.Reference6Ideal.τ Cert.Reference6Ideal.sig) → Buf (Elt Ideal) ℓ) : Prop :=
  ∀ c : Dev Cert.Reference6Ideal.nD,
    (Cert.Pre_experts_exist_down.fn (F := Ideal) (m ((c.tc : Thread Cert.Reference6Ideal.nD Cert.Reference6Ideal.τ).loc Cert.Reference6Ideal.main_arg0)) (m ((c.tc : Thread Cert.Reference6Ideal.nD Cert.Reference6Ideal.τ).loc Cert.Reference6Ideal.main_arg1)) (m ((c.tc : Thread Cert.Reference6Ideal.nD Cert.Reference6Ideal.τ).loc Cert.Reference6Ideal.main_arg2)) (m ((c.tc : Thread Cert.Reference6Ideal.nD Cert.Reference6Ideal.τ).loc Cert.Reference6Ideal.main_arg3))) = (fun _ => 1#1)

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Kernel7Ideal_finite_scores [hPre_finite_scores : Cert.Pre_finite_scores.Facts] (m : (ℓ : Loc Cert.Kernel7Ideal.nD Cert.Kernel7Ideal.τ Cert.Kernel7Ideal.sig) → Buf (Elt Ideal) ℓ) : Prop :=
  ∀ c : Dev Cert.Kernel7Ideal.nD,
    (Cert.Pre_finite_scores.fn (F := Ideal) (m ((c.tc : Thread Cert.Kernel7Ideal.nD Cert.Kernel7Ideal.τ).loc Cert.Kernel7Ideal.main_arg0)) (m ((c.tc : Thread Cert.Kernel7Ideal.nD Cert.Kernel7Ideal.τ).loc Cert.Kernel7Ideal.main_arg1)) (m ((c.tc : Thread Cert.Kernel7Ideal.nD Cert.Kernel7Ideal.τ).loc Cert.Kernel7Ideal.main_arg2)) (m ((c.tc : Thread Cert.Kernel7Ideal.nD Cert.Kernel7Ideal.τ).loc Cert.Kernel7Ideal.main_arg3))).1 = (fun _ => 1#1)
    ∧ (Cert.Pre_finite_scores.fn (F := Ideal) (m ((c.tc : Thread Cert.Kernel7Ideal.nD Cert.Kernel7Ideal.τ).loc Cert.Kernel7Ideal.main_arg0)) (m ((c.tc : Thread Cert.Kernel7Ideal.nD Cert.Kernel7Ideal.τ).loc Cert.Kernel7Ideal.main_arg1)) (m ((c.tc : Thread Cert.Kernel7Ideal.nD Cert.Kernel7Ideal.τ).loc Cert.Kernel7Ideal.main_arg2)) (m ((c.tc : Thread Cert.Kernel7Ideal.nD Cert.Kernel7Ideal.τ).loc Cert.Kernel7Ideal.main_arg3))).2.1 = (fun _ => 1#1)
    ∧ (Cert.Pre_finite_scores.fn (F := Ideal) (m ((c.tc : Thread Cert.Kernel7Ideal.nD Cert.Kernel7Ideal.τ).loc Cert.Kernel7Ideal.main_arg0)) (m ((c.tc : Thread Cert.Kernel7Ideal.nD Cert.Kernel7Ideal.τ).loc Cert.Kernel7Ideal.main_arg1)) (m ((c.tc : Thread Cert.Kernel7Ideal.nD Cert.Kernel7Ideal.τ).loc Cert.Kernel7Ideal.main_arg2)) (m ((c.tc : Thread Cert.Kernel7Ideal.nD Cert.Kernel7Ideal.τ).loc Cert.Kernel7Ideal.main_arg3))).2.2.1 = (fun _ => 1#1)
    ∧ (Cert.Pre_finite_scores.fn (F := Ideal) (m ((c.tc : Thread Cert.Kernel7Ideal.nD Cert.Kernel7Ideal.τ).loc Cert.Kernel7Ideal.main_arg0)) (m ((c.tc : Thread Cert.Kernel7Ideal.nD Cert.Kernel7Ideal.τ).loc Cert.Kernel7Ideal.main_arg1)) (m ((c.tc : Thread Cert.Kernel7Ideal.nD Cert.Kernel7Ideal.τ).loc Cert.Kernel7Ideal.main_arg2)) (m ((c.tc : Thread Cert.Kernel7Ideal.nD Cert.Kernel7Ideal.τ).loc Cert.Kernel7Ideal.main_arg3))).2.2.2 = (fun _ => 1#1)

def Pre_Reference7Ideal (m : (ℓ : Loc Cert.Reference7Ideal.nD Cert.Reference7Ideal.τ Cert.Reference7Ideal.sig) → Buf (Elt Ideal) ℓ) : Prop :=
  True

def Pre_Reference7Ideal_finite_scores [hPre_finite_scores : Cert.Pre_finite_scores.Facts] (m : (ℓ : Loc Cert.Reference7Ideal.nD Cert.Reference7Ideal.τ Cert.Reference7Ideal.sig) → Buf (Elt Ideal) ℓ) : Prop :=
  ∀ c : Dev Cert.Reference7Ideal.nD,
    (Cert.Pre_finite_scores.fn (F := Ideal) (m ((c.tc : Thread Cert.Reference7Ideal.nD Cert.Reference7Ideal.τ).loc Cert.Reference7Ideal.main_arg0)) (m ((c.tc : Thread Cert.Reference7Ideal.nD Cert.Reference7Ideal.τ).loc Cert.Reference7Ideal.main_arg1)) (m ((c.tc : Thread Cert.Reference7Ideal.nD Cert.Reference7Ideal.τ).loc Cert.Reference7Ideal.main_arg2)) (m ((c.tc : Thread Cert.Reference7Ideal.nD Cert.Reference7Ideal.τ).loc Cert.Reference7Ideal.main_arg3))).1 = (fun _ => 1#1)
    ∧ (Cert.Pre_finite_scores.fn (F := Ideal) (m ((c.tc : Thread Cert.Reference7Ideal.nD Cert.Reference7Ideal.τ).loc Cert.Reference7Ideal.main_arg0)) (m ((c.tc : Thread Cert.Reference7Ideal.nD Cert.Reference7Ideal.τ).loc Cert.Reference7Ideal.main_arg1)) (m ((c.tc : Thread Cert.Reference7Ideal.nD Cert.Reference7Ideal.τ).loc Cert.Reference7Ideal.main_arg2)) (m ((c.tc : Thread Cert.Reference7Ideal.nD Cert.Reference7Ideal.τ).loc Cert.Reference7Ideal.main_arg3))).2.1 = (fun _ => 1#1)
    ∧ (Cert.Pre_finite_scores.fn (F := Ideal) (m ((c.tc : Thread Cert.Reference7Ideal.nD Cert.Reference7Ideal.τ).loc Cert.Reference7Ideal.main_arg0)) (m ((c.tc : Thread Cert.Reference7Ideal.nD Cert.Reference7Ideal.τ).loc Cert.Reference7Ideal.main_arg1)) (m ((c.tc : Thread Cert.Reference7Ideal.nD Cert.Reference7Ideal.τ).loc Cert.Reference7Ideal.main_arg2)) (m ((c.tc : Thread Cert.Reference7Ideal.nD Cert.Reference7Ideal.τ).loc Cert.Reference7Ideal.main_arg3))).2.2.1 = (fun _ => 1#1)
    ∧ (Cert.Pre_finite_scores.fn (F := Ideal) (m ((c.tc : Thread Cert.Reference7Ideal.nD Cert.Reference7Ideal.τ).loc Cert.Reference7Ideal.main_arg0)) (m ((c.tc : Thread Cert.Reference7Ideal.nD Cert.Reference7Ideal.τ).loc Cert.Reference7Ideal.main_arg1)) (m ((c.tc : Thread Cert.Reference7Ideal.nD Cert.Reference7Ideal.τ).loc Cert.Reference7Ideal.main_arg2)) (m ((c.tc : Thread Cert.Reference7Ideal.nD Cert.Reference7Ideal.τ).loc Cert.Reference7Ideal.main_arg3))).2.2.2 = (fun _ => 1#1)

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Kernel8Ideal_finite_router [hPre_finite_router : Cert.Pre_finite_router.Facts] (m : (ℓ : Loc Cert.Kernel8Ideal.nD Cert.Kernel8Ideal.τ Cert.Kernel8Ideal.sig) → Buf (Elt Ideal) ℓ) : Prop :=
  ∀ c : Dev Cert.Kernel8Ideal.nD,
    (Cert.Pre_finite_router.fn (F := Ideal) (m ((c.tc : Thread Cert.Kernel8Ideal.nD Cert.Kernel8Ideal.τ).loc Cert.Kernel8Ideal.main_arg0)) (m ((c.tc : Thread Cert.Kernel8Ideal.nD Cert.Kernel8Ideal.τ).loc Cert.Kernel8Ideal.main_arg1)) (m ((c.tc : Thread Cert.Kernel8Ideal.nD Cert.Kernel8Ideal.τ).loc Cert.Kernel8Ideal.main_arg2))).1 = (fun _ => 1#1)
    ∧ (Cert.Pre_finite_router.fn (F := Ideal) (m ((c.tc : Thread Cert.Kernel8Ideal.nD Cert.Kernel8Ideal.τ).loc Cert.Kernel8Ideal.main_arg0)) (m ((c.tc : Thread Cert.Kernel8Ideal.nD Cert.Kernel8Ideal.τ).loc Cert.Kernel8Ideal.main_arg1)) (m ((c.tc : Thread Cert.Kernel8Ideal.nD Cert.Kernel8Ideal.τ).loc Cert.Kernel8Ideal.main_arg2))).2 = (fun _ => 1#1)

def Pre_Reference8Ideal (m : (ℓ : Loc Cert.Reference8Ideal.nD Cert.Reference8Ideal.τ Cert.Reference8Ideal.sig) → Buf (Elt Ideal) ℓ) : Prop :=
  True

def Pre_Reference8Ideal_finite_router [hPre_finite_router : Cert.Pre_finite_router.Facts] (m : (ℓ : Loc Cert.Reference8Ideal.nD Cert.Reference8Ideal.τ Cert.Reference8Ideal.sig) → Buf (Elt Ideal) ℓ) : Prop :=
  ∀ c : Dev Cert.Reference8Ideal.nD,
    (Cert.Pre_finite_router.fn (F := Ideal) (m ((c.tc : Thread Cert.Reference8Ideal.nD Cert.Reference8Ideal.τ).loc Cert.Reference8Ideal.main_arg0)) (m ((c.tc : Thread Cert.Reference8Ideal.nD Cert.Reference8Ideal.τ).loc Cert.Reference8Ideal.main_arg1)) (m ((c.tc : Thread Cert.Reference8Ideal.nD Cert.Reference8Ideal.τ).loc Cert.Reference8Ideal.main_arg2))).1 = (fun _ => 1#1)
    ∧ (Cert.Pre_finite_router.fn (F := Ideal) (m ((c.tc : Thread Cert.Reference8Ideal.nD Cert.Reference8Ideal.τ).loc Cert.Reference8Ideal.main_arg0)) (m ((c.tc : Thread Cert.Reference8Ideal.nD Cert.Reference8Ideal.τ).loc Cert.Reference8Ideal.main_arg1)) (m ((c.tc : Thread Cert.Reference8Ideal.nD Cert.Reference8Ideal.τ).loc Cert.Reference8Ideal.main_arg2))).2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5)
      ∧ r.2.mem ((c.tc : Thread Cert.Kernel2.nD Cert.Kernel2.τ).loc Cert.Kernel2.main_arg6) = m ((c.tc : Thread Cert.Kernel2.nD Cert.Kernel2.τ).loc Cert.Kernel2.main_arg6)
      ∧ r.2.mem ((c.tc : Thread Cert.Kernel2.nD Cert.Kernel2.τ).loc Cert.Kernel2.main_arg7) = m ((c.tc : Thread Cert.Kernel2.nD Cert.Kernel2.τ).loc Cert.Kernel2.main_arg7)
      ∧ r.2.mem ((c.tc : Thread Cert.Kernel2.nD Cert.Kernel2.τ).loc Cert.Kernel2.main_arg8) = m ((c.tc : Thread Cert.Kernel2.nD Cert.Kernel2.τ).loc Cert.Kernel2.main_arg8)
      ∧ r.2.mem ((c.tc : Thread Cert.Kernel2.nD Cert.Kernel2.τ).loc Cert.Kernel2.main_arg9) = m ((c.tc : Thread Cert.Kernel2.nD Cert.Kernel2.τ).loc Cert.Kernel2.main_arg9))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
      ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
      ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8)
      ∧ r.2.mem ((c.tc : Thread Cert.Kernel2Ideal.nD Cert.Kernel2Ideal.τ).loc Cert.Kernel2Ideal.main_arg9) = m ((c.tc : Thread Cert.Kernel2Ideal.nD Cert.Kernel2Ideal.τ).loc Cert.Kernel2Ideal.main_arg9))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6)
      ∧ r.2.mem ((c.tc : Thread Cert.Reference2Ideal.nD Cert.Reference2Ideal.τ).loc Cert.Reference2Ideal.main_arg7) = m ((c.tc : Thread Cert.Reference2Ideal.nD Cert.Reference2Ideal.τ).loc Cert.Reference2Ideal.main_arg7)
      ∧ r.2.mem ((c.tc : Thread Cert.Reference2Ideal.nD Cert.Reference2Ideal.τ).loc Cert.Reference2Ideal.main_arg8) = m ((c.tc : Thread Cert.Reference2Ideal.nD Cert.Reference2Ideal.τ).loc Cert.Reference2Ideal.main_arg8)
      ∧ r.2.mem ((c.tc : Thread Cert.Reference2Ideal.nD Cert.Reference2Ideal.τ).loc Cert.Reference2Ideal.main_arg9) = m ((c.tc : Thread Cert.Reference2Ideal.nD Cert.Reference2Ideal.τ).loc Cert.Reference2Ideal.main_arg9))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4)
      ∧ r.2.mem ((c.tc : Thread Cert.Kernel4.nD Cert.Kernel4.τ).loc Cert.Kernel4.main_arg5) = m ((c.tc : Thread Cert.Kernel4.nD Cert.Kernel4.τ).loc Cert.Kernel4.main_arg5))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
      ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5))
      ∧ r.2.sem = fun _ => 0)

def quiescent_Kernel5 [hKernel5 : Cert.Kernel5.Facts] [hPre_experts_exist : Cert.Pre_experts_exist.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3)
      ∧ r.2.mem ((c.tc : Thread Cert.Kernel5.nD Cert.Kernel5.τ).loc Cert.Kernel5.main_arg4) = m ((c.tc : Thread Cert.Kernel5.nD Cert.Kernel5.τ).loc Cert.Kernel5.main_arg4))
      ∧ r.2.sem = fun _ => 0)

def quiescent_Kernel5Ideal [hKernel5Ideal : Cert.Kernel5Ideal.Facts] [hPre_experts_exist : Cert.Pre_experts_exist.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4))
      ∧ r.2.sem = fun _ => 0)

def quiescent_Reference5Ideal_pre_experts_exist [hReference5Ideal : Cert.Reference5Ideal.Facts] [hPre_experts_exist : Cert.Pre_experts_exist.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal_experts_exist m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4))
      ∧ r.2.sem = fun _ => 0)

def quiescent_Kernel6 [hKernel6 : Cert.Kernel6.Facts] [hPre_experts_exist_down : Cert.Pre_experts_exist_down.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2)
      ∧ r.2.mem ((c.tc : Thread Cert.Kernel6.nD Cert.Kernel6.τ).loc Cert.Kernel6.main_arg3) = m ((c.tc : Thread Cert.Kernel6.nD Cert.Kernel6.τ).loc Cert.Kernel6.main_arg3))
      ∧ r.2.sem = fun _ => 0)

def quiescent_Kernel6Ideal [hKernel6Ideal : Cert.Kernel6Ideal.Facts] [hPre_experts_exist_down : Cert.Pre_experts_exist_down.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3))
      ∧ r.2.sem = fun _ => 0)

def quiescent_Reference6Ideal_pre_experts_exist_down [hReference6Ideal : Cert.Reference6Ideal.Facts] [hPre_experts_exist_down : Cert.Pre_experts_exist_down.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal_experts_exist_down m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1)
      ∧ r.2.mem ((c.tc : Thread Cert.Kernel7.nD Cert.Kernel7.τ).loc Cert.Kernel7.main_arg2) = m ((c.tc : Thread Cert.Kernel7.nD Cert.Kernel7.τ).loc Cert.Kernel7.main_arg2)
      ∧ r.2.mem ((c.tc : Thread Cert.Kernel7.nD Cert.Kernel7.τ).loc Cert.Kernel7.main_arg3) = m ((c.tc : Thread Cert.Kernel7.nD Cert.Kernel7.τ).loc Cert.Kernel7.main_arg3))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
      ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3))
      ∧ r.2.sem = fun _ => 0)

def quiescent_Kernel7Ideal_pre_finite_scores [hKernel7Ideal : Cert.Kernel7Ideal.Facts] [hPre_finite_scores : Cert.Pre_finite_scores.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal_finite_scores m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
      ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2)
      ∧ r.2.mem ((c.tc : Thread Cert.Reference7Ideal.nD Cert.Reference7Ideal.τ).loc Cert.Reference7Ideal.main_arg3) = m ((c.tc : Thread Cert.Reference7Ideal.nD Cert.Reference7Ideal.τ).loc Cert.Reference7Ideal.main_arg3))
      ∧ r.2.sem = fun _ => 0)

def quiescent_Reference7Ideal_pre_finite_scores [hReference7Ideal : Cert.Reference7Ideal.Facts] [hPre_finite_scores : Cert.Pre_finite_scores.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal_finite_scores m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2)
      ∧ r.2.mem ((c.tc : Thread Cert.Reference7Ideal.nD Cert.Reference7Ideal.τ).loc Cert.Reference7Ideal.main_arg3) = m ((c.tc : Thread Cert.Reference7Ideal.nD Cert.Reference7Ideal.τ).loc Cert.Reference7Ideal.main_arg3))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1)
      ∧ r.2.mem ((c.tc : Thread Cert.Kernel8.nD Cert.Kernel8.τ).loc Cert.Kernel8.main_arg2) = m ((c.tc : Thread Cert.Kernel8.nD Cert.Kernel8.τ).loc Cert.Kernel8.main_arg2))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
      ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2))
      ∧ r.2.sem = fun _ => 0)

def quiescent_Kernel8Ideal_pre_finite_router [hKernel8Ideal : Cert.Kernel8Ideal.Facts] [hPre_finite_router : Cert.Pre_finite_router.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal_finite_router m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
      ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1)
      ∧ r.2.mem ((c.tc : Thread Cert.Reference8Ideal.nD Cert.Reference8Ideal.τ).loc Cert.Reference8Ideal.main_arg2) = m ((c.tc : Thread Cert.Reference8Ideal.nD Cert.Reference8Ideal.τ).loc Cert.Reference8Ideal.main_arg2))
      ∧ r.2.sem = fun _ => 0)

def quiescent_Reference8Ideal_pre_finite_router [hReference8Ideal : Cert.Reference8Ideal.Facts] [hPre_finite_router : Cert.Pre_finite_router.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal_finite_router m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1)
      ∧ r.2.mem ((c.tc : Thread Cert.Reference8Ideal.nD Cert.Reference8Ideal.τ).loc Cert.Reference8Ideal.main_arg2) = m ((c.tc : Thread Cert.Reference8Ideal.nD Cert.Reference8Ideal.τ).loc Cert.Reference8Ideal.main_arg2))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v49) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)
      ∧ m' ((c.tc : Thread Cert.Reference2Ideal.nD Cert.Reference2Ideal.τ).loc Cert.Reference2Ideal.main_arg6) = m ((c.tc : Thread Cert.Kernel2Ideal.nD Cert.Kernel2Ideal.τ).loc Cert.Kernel2Ideal.main_arg6)
      ∧ m' ((c.tc : Thread Cert.Reference2Ideal.nD Cert.Reference2Ideal.τ).loc Cert.Reference2Ideal.main_arg7) = m ((c.tc : Thread Cert.Kernel2Ideal.nD Cert.Kernel2Ideal.τ).loc Cert.Kernel2Ideal.main_arg7)
      ∧ m' ((c.tc : Thread Cert.Reference2Ideal.nD Cert.Reference2Ideal.τ).loc Cert.Reference2Ideal.main_arg8) = m ((c.tc : Thread Cert.Kernel2Ideal.nD Cert.Kernel2Ideal.τ).loc Cert.Kernel2Ideal.main_arg8)
      ∧ m' ((c.tc : Thread Cert.Reference2Ideal.nD Cert.Reference2Ideal.τ).loc Cert.Reference2Ideal.main_arg9) = m ((c.tc : Thread Cert.Kernel2Ideal.nD Cert.Kernel2Ideal.τ).loc Cert.Kernel2Ideal.main_arg9)) →
    ∃ (v0 : (c : Dev Cert.Kernel2Ideal.nD) → Buf (Elt Ideal) ((c.tc : Thread Cert.Kernel2Ideal.nD Cert.Kernel2Ideal.τ).loc Cert.Kernel2Ideal.main_v9_0)) (v1 : (c : Dev Cert.Kernel2Ideal.nD) → Buf (Elt Ideal) ((c.tc : Thread Cert.Kernel2Ideal.nD Cert.Kernel2Ideal.τ).loc Cert.Kernel2Ideal.main_v9_1)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v9_0) = v0 c
          ∧ r.2.mem ((c.tc : Thread Cert.Kernel2Ideal.nD Cert.Kernel2Ideal.τ).loc Cert.Kernel2Ideal.main_v9_1) = v1 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
          ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
          ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
          ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8)
          ∧ r.2.mem ((c.tc : Thread Cert.Kernel2Ideal.nD Cert.Kernel2Ideal.τ).loc Cert.Kernel2Ideal.main_arg9) = m ((c.tc : Thread Cert.Kernel2Ideal.nD Cert.Kernel2Ideal.τ).loc Cert.Kernel2Ideal.main_arg9))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v18) = v0 c
          ∧ r.2.mem ((c.tc : Thread Cert.Reference2Ideal.nD Cert.Reference2Ideal.τ).loc Cert.Reference2Ideal.main_v32) = v1 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5)
          ∧ r.2.mem ((c.tc : Thread Cert.Reference2Ideal.nD Cert.Reference2Ideal.τ).loc Cert.Reference2Ideal.main_arg6) = m' ((c.tc : Thread Cert.Reference2Ideal.nD Cert.Reference2Ideal.τ).loc Cert.Reference2Ideal.main_arg6)
          ∧ r.2.mem ((c.tc : Thread Cert.Reference2Ideal.nD Cert.Reference2Ideal.τ).loc Cert.Reference2Ideal.main_arg7) = m' ((c.tc : Thread Cert.Reference2Ideal.nD Cert.Reference2Ideal.τ).loc Cert.Reference2Ideal.main_arg7)
          ∧ r.2.mem ((c.tc : Thread Cert.Reference2Ideal.nD Cert.Reference2Ideal.τ).loc Cert.Reference2Ideal.main_arg8) = m' ((c.tc : Thread Cert.Reference2Ideal.nD Cert.Reference2Ideal.τ).loc Cert.Reference2Ideal.main_arg8)
          ∧ r.2.mem ((c.tc : Thread Cert.Reference2Ideal.nD Cert.Reference2Ideal.τ).loc Cert.Reference2Ideal.main_arg9) = m' ((c.tc : Thread Cert.Reference2Ideal.nD Cert.Reference2Ideal.τ).loc Cert.Reference2Ideal.main_arg9))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)) →
    ∃ (v0 : (c : Dev Cert.Kernel3Ideal.nD) → Buf (Elt Ideal) ((c.tc : Thread Cert.Kernel3Ideal.nD Cert.Kernel3Ideal.τ).loc Cert.Kernel3Ideal.main_v4)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v4) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v5) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)
      ∧ m' ((c.tc : Thread Cert.Reference4Ideal.nD Cert.Reference4Ideal.τ).loc Cert.Reference4Ideal.main_arg5) = m ((c.tc : Thread Cert.Kernel4Ideal.nD Cert.Kernel4Ideal.τ).loc Cert.Kernel4Ideal.main_arg5)) →
    ∃ (v0 : (c : Dev Cert.Kernel4Ideal.nD) → Buf (Elt Ideal) ((c.tc : Thread Cert.Kernel4Ideal.nD Cert.Kernel4Ideal.τ).loc Cert.Kernel4Ideal.main_v5_0)) (v1 : (c : Dev Cert.Kernel4Ideal.nD) → Buf (Elt Ideal) ((c.tc : Thread Cert.Kernel4Ideal.nD Cert.Kernel4Ideal.τ).loc Cert.Kernel4Ideal.main_v5_1)) (v2 : (c : Dev Cert.Kernel4Ideal.nD) → Buf (Elt Ideal) ((c.tc : Thread Cert.Kernel4Ideal.nD Cert.Kernel4Ideal.τ).loc Cert.Kernel4Ideal.main_v5_2)) (v3 : (c : Dev Cert.Kernel4Ideal.nD) → Buf (Elt Ideal) ((c.tc : Thread Cert.Kernel4Ideal.nD Cert.Kernel4Ideal.τ).loc Cert.Kernel4Ideal.main_v5_3)) (v4 : (c : Dev Cert.Kernel4Ideal.nD) → Buf (Elt Ideal) ((c.tc : Thread Cert.Kernel4Ideal.nD Cert.Kernel4Ideal.τ).loc Cert.Kernel4Ideal.main_v5_4)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v5_0) = v0 c
          ∧ r.2.mem ((c.tc : Thread Cert.Kernel4Ideal.nD Cert.Kernel4Ideal.τ).loc Cert.Kernel4Ideal.main_v5_1) = v1 c
          ∧ r.2.mem ((c.tc : Thread Cert.Kernel4Ideal.nD Cert.Kernel4Ideal.τ).loc Cert.Kernel4Ideal.main_v5_2) = v2 c
          ∧ r.2.mem ((c.tc : Thread Cert.Kernel4Ideal.nD Cert.Kernel4Ideal.τ).loc Cert.Kernel4Ideal.main_v5_3) = v3 c
          ∧ r.2.mem ((c.tc : Thread Cert.Kernel4Ideal.nD Cert.Kernel4Ideal.τ).loc Cert.Kernel4Ideal.main_v5_4) = v4 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
          ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v13) = v0 c
          ∧ r.2.mem ((c.tc : Thread Cert.Reference4Ideal.nD Cert.Reference4Ideal.τ).loc Cert.Reference4Ideal.main_v14) = v1 c
          ∧ r.2.mem ((c.tc : Thread Cert.Reference4Ideal.nD Cert.Reference4Ideal.τ).loc Cert.Reference4Ideal.main_v15) = v2 c
          ∧ r.2.mem ((c.tc : Thread Cert.Reference4Ideal.nD Cert.Reference4Ideal.τ).loc Cert.Reference4Ideal.main_v16) = v3 c
          ∧ r.2.mem ((c.tc : Thread Cert.Reference4Ideal.nD Cert.Reference4Ideal.τ).loc Cert.Reference4Ideal.main_v17) = v4 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4)
          ∧ r.2.mem ((c.tc : Thread Cert.Reference4Ideal.nD Cert.Reference4Ideal.τ).loc Cert.Reference4Ideal.main_arg5) = m' ((c.tc : Thread Cert.Reference4Ideal.nD Cert.Reference4Ideal.τ).loc Cert.Reference4Ideal.main_arg5))

def preserves_Kernel5_Kernel5Ideal : Prop :=
  True

def algebraic_Kernel5Ideal_Reference5Ideal [hKernel5Ideal : Cert.Kernel5Ideal.Facts] [hReference5Ideal : Cert.Reference5Ideal.Facts] [hPre_experts_exist : Cert.Pre_experts_exist.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)
      ∧ m' ((c.tc : Thread Cert.Reference5Ideal.nD Cert.Reference5Ideal.τ).loc Cert.Reference5Ideal.main_arg4) = m ((c.tc : Thread Cert.Kernel5Ideal.nD Cert.Kernel5Ideal.τ).loc Cert.Kernel5Ideal.main_arg4)) →
    ∃ (v0 : (c : Dev Cert.Kernel5Ideal.nD) → Buf (Elt Ideal) ((c.tc : Thread Cert.Kernel5Ideal.nD Cert.Kernel5Ideal.τ).loc Cert.Kernel5Ideal.main_v3)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v3) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
          ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v14) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3)
          ∧ r.2.mem ((c.tc : Thread Cert.Reference5Ideal.nD Cert.Reference5Ideal.τ).loc Cert.Reference5Ideal.main_arg4) = m' ((c.tc : Thread Cert.Reference5Ideal.nD Cert.Reference5Ideal.τ).loc Cert.Reference5Ideal.main_arg4))

def preserves_Kernel6_Kernel6Ideal : Prop :=
  True

def algebraic_Kernel6Ideal_Reference6Ideal [hKernel6Ideal : Cert.Kernel6Ideal.Facts] [hReference6Ideal : Cert.Reference6Ideal.Facts] [hPre_experts_exist_down : Cert.Pre_experts_exist_down.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)
      ∧ m' ((c.tc : Thread Cert.Reference6Ideal.nD Cert.Reference6Ideal.τ).loc Cert.Reference6Ideal.main_arg3) = m ((c.tc : Thread Cert.Kernel6Ideal.nD Cert.Kernel6Ideal.τ).loc Cert.Kernel6Ideal.main_arg3)) →
    ∃ (v0 : (c : Dev Cert.Kernel6Ideal.nD) → Buf (Elt Ideal) ((c.tc : Thread Cert.Kernel6Ideal.nD Cert.Kernel6Ideal.τ).loc Cert.Kernel6Ideal.main_v2)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v2) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
          ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v9) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2)
          ∧ r.2.mem ((c.tc : Thread Cert.Reference6Ideal.nD Cert.Reference6Ideal.τ).loc Cert.Reference6Ideal.main_arg3) = m' ((c.tc : Thread Cert.Reference6Ideal.nD Cert.Reference6Ideal.τ).loc Cert.Reference6Ideal.main_arg3))

def preserves_Kernel7_Kernel7Ideal : Prop :=
  True

def algebraic_Kernel7Ideal_Reference7Ideal_pre_finite_scores [hKernel7Ideal : Cert.Kernel7Ideal.Facts] [hReference7Ideal : Cert.Reference7Ideal.Facts] [hPre_finite_scores : Cert.Pre_finite_scores.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal_finite_scores m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)
      ∧ m' ((c.tc : Thread Cert.Reference7Ideal.nD Cert.Reference7Ideal.τ).loc Cert.Reference7Ideal.main_arg2) = m ((c.tc : Thread Cert.Kernel7Ideal.nD Cert.Kernel7Ideal.τ).loc Cert.Kernel7Ideal.main_arg2)
      ∧ m' ((c.tc : Thread Cert.Reference7Ideal.nD Cert.Reference7Ideal.τ).loc Cert.Reference7Ideal.main_arg3) = m ((c.tc : Thread Cert.Kernel7Ideal.nD Cert.Kernel7Ideal.τ).loc Cert.Kernel7Ideal.main_arg3)) →
    ∃ (v0 : (c : Dev Cert.Kernel7Ideal.nD) → Buf (Elt Ideal) ((c.tc : Thread Cert.Kernel7Ideal.nD Cert.Kernel7Ideal.τ).loc Cert.Kernel7Ideal.main_v27)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v27) = v0 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
          ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
          ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v86) = v0 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1)
          ∧ r.2.mem ((c.tc : Thread Cert.Reference7Ideal.nD Cert.Reference7Ideal.τ).loc Cert.Reference7Ideal.main_arg2) = m' ((c.tc : Thread Cert.Reference7Ideal.nD Cert.Reference7Ideal.τ).loc Cert.Reference7Ideal.main_arg2)
          ∧ r.2.mem ((c.tc : Thread Cert.Reference7Ideal.nD Cert.Reference7Ideal.τ).loc Cert.Reference7Ideal.main_arg3) = m' ((c.tc : Thread Cert.Reference7Ideal.nD Cert.Reference7Ideal.τ).loc Cert.Reference7Ideal.main_arg3))

def preserves_Kernel8_Kernel8Ideal : Prop :=
  True

def algebraic_Kernel8Ideal_Reference8Ideal_pre_finite_router [hKernel8Ideal : Cert.Kernel8Ideal.Facts] [hReference8Ideal : Cert.Reference8Ideal.Facts] [hPre_finite_router : Cert.Pre_finite_router.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal_finite_router m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)
      ∧ m' ((c.tc : Thread Cert.Reference8Ideal.nD Cert.Reference8Ideal.τ).loc Cert.Reference8Ideal.main_arg2) = m ((c.tc : Thread Cert.Kernel8Ideal.nD Cert.Kernel8Ideal.τ).loc Cert.Kernel8Ideal.main_arg2)) →
    ∃ (v0 : (c : Dev Cert.Kernel8Ideal.nD) → Buf (Elt Ideal) ((c.tc : Thread Cert.Kernel8Ideal.nD Cert.Kernel8Ideal.τ).loc Cert.Kernel8Ideal.main_v2_0)) (v1 : (c : Dev Cert.Kernel8Ideal.nD) → Buf (Elt Ideal) ((c.tc : Thread Cert.Kernel8Ideal.nD Cert.Kernel8Ideal.τ).loc Cert.Kernel8Ideal.main_v2_1)) (v2 : (c : Dev Cert.Kernel8Ideal.nD) → Buf (Elt Ideal) ((c.tc : Thread Cert.Kernel8Ideal.nD Cert.Kernel8Ideal.τ).loc Cert.Kernel8Ideal.main_v2_2)) (v3 : (c : Dev Cert.Kernel8Ideal.nD) → Buf (Elt Ideal) ((c.tc : Thread Cert.Kernel8Ideal.nD Cert.Kernel8Ideal.τ).loc Cert.Kernel8Ideal.main_v2_3)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v2_0) = v0 c
          ∧ r.2.mem ((c.tc : Thread Cert.Kernel8Ideal.nD Cert.Kernel8Ideal.τ).loc Cert.Kernel8Ideal.main_v2_1) = v1 c
          ∧ r.2.mem ((c.tc : Thread Cert.Kernel8Ideal.nD Cert.Kernel8Ideal.τ).loc Cert.Kernel8Ideal.main_v2_2) = v2 c
          ∧ r.2.mem ((c.tc : Thread Cert.Kernel8Ideal.nD Cert.Kernel8Ideal.τ).loc Cert.Kernel8Ideal.main_v2_3) = v3 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
          ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v47) = v0 c
          ∧ r.2.mem ((c.tc : Thread Cert.Reference8Ideal.nD Cert.Reference8Ideal.τ).loc Cert.Reference8Ideal.main_v63) = v1 c
          ∧ r.2.mem ((c.tc : Thread Cert.Reference8Ideal.nD Cert.Reference8Ideal.τ).loc Cert.Reference8Ideal.main_v79) = v2 c
          ∧ r.2.mem ((c.tc : Thread Cert.Reference8Ideal.nD Cert.Reference8Ideal.τ).loc Cert.Reference8Ideal.main_v82) = v3 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1)
          ∧ r.2.mem ((c.tc : Thread Cert.Reference8Ideal.nD Cert.Reference8Ideal.τ).loc Cert.Reference8Ideal.main_arg2) = m' ((c.tc : Thread Cert.Reference8Ideal.nD Cert.Reference8Ideal.τ).loc Cert.Reference8Ideal.main_arg2))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hPre_experts_exist : Cert.Pre_experts_exist.Facts) (hPre_experts_exist_down : Cert.Pre_experts_exist_down.Facts) (hPre_finite_scores : Cert.Pre_finite_scores.Facts) (hPre_finite_router : Cert.Pre_finite_router.Facts),
    quiescent_Kernel (hKernel := hKernel)
    ∧ quiescent_KernelIdeal (hKernelIdeal := hKernelIdeal)
    ∧ quiescent_ReferenceIdeal (hReferenceIdeal := hReferenceIdeal)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5) (hPre_experts_exist := hPre_experts_exist)
    ∧ quiescent_Kernel5Ideal (hKernel5Ideal := hKernel5Ideal) (hPre_experts_exist := hPre_experts_exist)
    ∧ quiescent_Reference5Ideal (hReference5Ideal := hReference5Ideal)
    ∧ quiescent_Reference5Ideal_pre_experts_exist (hReference5Ideal := hReference5Ideal) (hPre_experts_exist := hPre_experts_exist)
    ∧ quiescent_Kernel6 (hKernel6 := hKernel6) (hPre_experts_exist_down := hPre_experts_exist_down)
    ∧ quiescent_Kernel6Ideal (hKernel6Ideal := hKernel6Ideal) (hPre_experts_exist_down := hPre_experts_exist_down)
    ∧ quiescent_Reference6Ideal (hReference6Ideal := hReference6Ideal)
    ∧ quiescent_Reference6Ideal_pre_experts_exist_down (hReference6Ideal := hReference6Ideal) (hPre_experts_exist_down := hPre_experts_exist_down)
    ∧ quiescent_Kernel7 (hKernel7 := hKernel7)
    ∧ quiescent_Kernel7Ideal (hKernel7Ideal := hKernel7Ideal)
    ∧ quiescent_Kernel7Ideal_pre_finite_scores (hKernel7Ideal := hKernel7Ideal) (hPre_finite_scores := hPre_finite_scores)
    ∧ quiescent_Reference7Ideal (hReference7Ideal := hReference7Ideal)
    ∧ quiescent_Reference7Ideal_pre_finite_scores (hReference7Ideal := hReference7Ideal) (hPre_finite_scores := hPre_finite_scores)
    ∧ quiescent_Kernel8 (hKernel8 := hKernel8)
    ∧ quiescent_Kernel8Ideal (hKernel8Ideal := hKernel8Ideal)
    ∧ quiescent_Kernel8Ideal_pre_finite_router (hKernel8Ideal := hKernel8Ideal) (hPre_finite_router := hPre_finite_router)
    ∧ quiescent_Reference8Ideal (hReference8Ideal := hReference8Ideal)
    ∧ quiescent_Reference8Ideal_pre_finite_router (hReference8Ideal := hReference8Ideal) (hPre_finite_router := hPre_finite_router)
    ∧ preserves_Kernel_KernelIdeal
    ∧ algebraic_KernelIdeal_ReferenceIdeal (hKernelIdeal := hKernelIdeal) (hReferenceIdeal := hReferenceIdeal)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal) (hPre_experts_exist := hPre_experts_exist)
    ∧ preserves_Kernel6_Kernel6Ideal
    ∧ algebraic_Kernel6Ideal_Reference6Ideal (hKernel6Ideal := hKernel6Ideal) (hReference6Ideal := hReference6Ideal) (hPre_experts_exist_down := hPre_experts_exist_down)
    ∧ preserves_Kernel7_Kernel7Ideal
    ∧ algebraic_Kernel7Ideal_Reference7Ideal_pre_finite_scores (hKernel7Ideal := hKernel7Ideal) (hReference7Ideal := hReference7Ideal) (hPre_finite_scores := hPre_finite_scores)
    ∧ preserves_Kernel8_Kernel8Ideal
    ∧ algebraic_Kernel8Ideal_Reference8Ideal_pre_finite_router (hKernel8Ideal := hKernel8Ideal) (hReference8Ideal := hReference8Ideal) (hPre_finite_router := hPre_finite_router)
-- ==== Pre_experts_exist.lean ====
abbrev S136 : Shape := ⟨1, ![136]⟩
abbrev S1 : Shape := ⟨1, ![1]⟩
abbrev S34816x1024 : Shape := ⟨2, ![34816, 1024]⟩
abbrev S8x1024x3584 : Shape := ⟨3, ![8, 1024, 3584]⟩
abbrev S_ : Shape := ⟨0, ![]⟩

class Facts : Prop where
  bcast_S_S136 : S_.BroadcastsInDim S136 (![] : Fin 0 → Fin S136.rank)

variable [Facts]

def fn {F : FTy → Type} [FloatOps F] (main_arg0 : IVec S136 32) (main_arg1 : IVec S1 32) (main_arg2 : FVec F S34816x1024 .f32) (main_arg3 : FVec F S8x1024x3584 .f32) (main_arg4 : FVec F S8x1024x3584 .f32) : IVec S136 1 :=
  let main_c : IVec S_ 32 := constantI S_ 32 0#32
  let main_v0 : IVec S136 32 := broadcastInDim S136 ![] bcast_S_S136 main_c
  let main_v1 : IVec S136 1 := cmpi .sge main_arg0 main_v0
  let main_c_0 : IVec S_ 32 := constantI S_ 32 8#32
  let main_v2 : IVec S136 32 := broadcastInDim S136 ![] bcast_S_S136 main_c_0
  let main_v3 : IVec S136 1 := cmpi .slt main_arg0 main_v2
  let main_v4 : IVec S136 1 := andi main_v1 main_v3
  main_v4
-- ==== Pre_experts_exist_down.lean ====
abbrev S136 : Shape := ⟨1, ![136]⟩
abbrev S1 : Shape := ⟨1, ![1]⟩
abbrev S34816x3584 : Shape := ⟨2, ![34816, 3584]⟩
abbrev S8x3584x1024 : Shape := ⟨3, ![8, 3584, 1024]⟩
abbrev S_ : Shape := ⟨0, ![]⟩

class Facts : Prop where
  bcast_S_S136 : S_.BroadcastsInDim S136 (![] : Fin 0 → Fin S136.rank)

variable [Facts]

def fn {F : FTy → Type} [FloatOps F] (main_arg0 : IVec S136 32) (main_arg1 : IVec S1 32) (main_arg2 : FVec F S34816x3584 .f32) (main_arg3 : FVec F S8x3584x1024 .f32) : IVec S136 1 :=
  let main_c : IVec S_ 32 := constantI S_ 32 0#32
  let main_v0 : IVec S136 32 := broadcastInDim S136 ![] bcast_S_S136 main_c
  let main_v1 : IVec S136 1 := cmpi .sge main_arg0 main_v0
  let main_c_0 : IVec S_ 32 := constantI S_ 32 8#32
  let main_v2 : IVec S136 32 := broadcastInDim S136 ![] bcast_S_S136 main_c_0
  let main_v3 : IVec S136 1 := cmpi .slt main_arg0 main_v2
  let main_v4 : IVec S136 1 := andi main_v1 main_v3
  main_v4
-- ==== Pre_finite_router.lean ====
abbrev S16384x1024 : Shape := ⟨2, ![16384, 1024]⟩
abbrev S1024 : Shape := ⟨1, ![1024]⟩
abbrev S1024x8 : Shape := ⟨2, ![1024, 8]⟩
abbrev S_ : Shape := ⟨0, ![]⟩

class Facts : Prop where
  bcast_S_S1024 : S_.BroadcastsInDim S1024 (![] : Fin 0 → Fin S1024.rank)
  bcast_S_S1024x8 : S_.BroadcastsInDim S1024x8 (![] : Fin 0 → Fin S1024x8.rank)

variable [Facts]

def fn {F : FTy → Type} [FloatOps F] (main_arg0 : FVec F S16384x1024 .f32) (main_arg1 : FVec F S1024 .f32) (main_arg2 : FVec F S1024x8 .f32) : IVec S1024 1 × IVec S1024x8 1 :=
  let main_v0 : FVec F S1024 .f32 := Host.absf main_arg1
  let main_cst : FVec F S_ .f32 := constant S_ .f32 0x7F800000#32
  let main_v1 : FVec F S1024 .f32 := broadcastInDim S1024 ![] bcast_S_S1024 main_cst
  let main_v2 : IVec S1024 1 := cmpf .olt main_v0 main_v1
  let main_v3 : FVec F S1024x8 .f32 := Host.absf main_arg2
  let main_cst_0 : FVec F S_ .f32 := constant S_ .f32 0x7F800000#32
  let main_v4 : FVec F S1024x8 .f32 := broadcastInDim S1024x8 ![] bcast_S_S1024x8 main_cst_0
  let main_v5 : IVec S1024x8 1 := cmpf .olt main_v3 main_v4
  (main_v2, main_v5)
-- ==== Pre_finite_scores.lean ====
abbrev S8x2048x1536 : Shape := ⟨3, ![8, 2048, 1536]⟩
abbrev S64 : Shape := ⟨1, ![64]⟩
abbrev S8x257 : Shape := ⟨2, ![8, 257]⟩
abbrev S8x2048x1024 : Shape := ⟨3, ![8, 2048, 1024]⟩
abbrev S_ : Shape := ⟨0, ![]⟩

class Facts : Prop where
  slices_S8x2048x1536_S8x2048x1024_0_0_0 : S8x2048x1536.Slices ![0, 0, 0] S8x2048x1024
  bcast_S_S8x2048x1024 : S_.BroadcastsInDim S8x2048x1024 (![] : Fin 0 → Fin S8x2048x1024.rank)
  bcast_S_S64 : S_.BroadcastsInDim S64 (![] : Fin 0 → Fin S64.rank)
  bcast_S_S8x257 : S_.BroadcastsInDim S8x257 (![] : Fin 0 → Fin S8x257.rank)

variable [Facts]

def fn {F : FTy → Type} [FloatOps F] (main_arg0 : FVec F S8x2048x1536 .f32) (main_arg1 : FVec F S64 .f32) (main_arg2 : FVec F S64 .f32) (main_arg3 : FVec F S8x257 .f32) : IVec S8x2048x1024 1 × IVec S64 1 × IVec S64 1 × IVec S8x257 1 :=
  let main_v0 : FVec F S8x2048x1024 .f32 := (extractStridedSlice S8x2048x1024 ![0, 0, 0] · slices_S8x2048x1536_S8x2048x1024_0_0_0) main_arg0
  let main_v1 : FVec F S8x2048x1024 .f32 := Host.absf main_v0
  let main_cst : FVec F S_ .f32 := constant S_ .f32 0x7F800000#32
  let main_v2 : FVec F S8x2048x1024 .f32 := broadcastInDim S8x2048x1024 ![] bcast_S_S8x2048x1024 main_cst
  let main_v3 : IVec S8x2048x1024 1 := cmpf .olt main_v1 main_v2
  let main_v4 : FVec F S64 .f32 := Host.absf main_arg1
  let main_cst_0 : FVec F S_ .f32 := constant S_ .f32 0x7F800000#32
  let main_v5 : FVec F S64 .f32 := broadcastInDim S64 ![] bcast_S_S64 main_cst_0
  let main_v6 : IVec S64 1 := cmpf .olt main_v4 main_v5
  let main_v7 : FVec F S64 .f32 := Host.absf main_arg2
  let main_cst_1 : FVec F S_ .f32 := constant S_ .f32 0x7F800000#32
  let main_v8 : FVec F S64 .f32 := broadcastInDim S64 ![] bcast_S_S64 main_cst_1
  let main_v9 : IVec S64 1 := cmpf .olt main_v7 main_v8
  let main_v10 : FVec F S8x257 .f32 := Host.absf main_arg3
  let main_cst_2 : FVec F S_ .f32 := constant S_ .f32 0x7F800000#32
  let main_v11 : FVec F S8x257 .f32 := broadcastInDim S8x257 ![] bcast_S_S8x257 main_cst_2
  let main_v12 : IVec S8x257 1 := cmpf .olt main_v10 main_v11
  (main_v3, main_v6, main_v9, main_v12)
-- ==== Kernel.lean ====
abbrev S8x2048x1664 : Shape := ⟨3, ![8, 2048, 1664]⟩
abbrev S16x256 : Shape := ⟨2, ![16, 256]⟩
abbrev S256 : Shape := ⟨1, ![256]⟩
abbrev S128 : Shape := ⟨1, ![128]⟩
abbrev S_ : Shape := ⟨0, ![]⟩
abbrev S128x256 : Shape := ⟨2, ![128, 256]⟩
abbrev S1x256 : Shape := ⟨2, ![1, 256]⟩
abbrev S1x128 : Shape := ⟨2, ![1, 128]⟩
abbrev S8x2048x512 : Shape := ⟨3, ![8, 2048, 512]⟩
abbrev S1x128x1664 : Shape := ⟨3, ![1, 128, 1664]⟩
abbrev S1x128x512 : Shape := ⟨3, ![1, 128, 512]⟩
abbrev S512x256 : Shape := ⟨2, ![512, 256]⟩
abbrev S128x512 : Shape := ⟨2, ![128, 512]⟩
abbrev S1x128x256 : Shape := ⟨3, ![1, 128, 256]⟩
abbrev S1x128x128 : Shape := ⟨3, ![1, 128, 128]⟩
abbrev S128x128 : Shape := ⟨2, ![128, 128]⟩
abbrev S64x256 : Shape := ⟨2, ![64, 256]⟩
abbrev S64x512 : Shape := ⟨2, ![64, 512]⟩
abbrev S256x256 : Shape := ⟨2, ![256, 256]⟩
abbrev S256x512 : Shape := ⟨2, ![256, 512]⟩
abbrev S128x1 : Shape := ⟨2, ![128, 1]⟩

abbrev nBuf : Space → Nat
  | .hbm => 10
  | .vmem => 9
  | .smem => 0
  | _ => 0

abbrev bufTy : (tb : Table) → Fin (tcTables nBuf tb) → BufTy
  | .hbm, ⟨0, _⟩ => ⟨S8x2048x1664, .f32⟩
  | .hbm, ⟨1, _⟩ => ⟨S16x256, .f32⟩
  | .hbm, ⟨2, _⟩ => ⟨S256, .f32⟩
  | .hbm, ⟨3, _⟩ => ⟨S128, .f32⟩
  | .hbm, ⟨4, _⟩ => ⟨S_, .i32⟩
  | .hbm, ⟨5, _⟩ => ⟨S_, .f32⟩
  | .hbm, ⟨6, _⟩ => ⟨S128x256, .f32⟩
  | .hbm, ⟨7, _⟩ => ⟨S1x256, .f32⟩
  | .hbm, ⟨8, _⟩ => ⟨S1x128, .f32⟩
  | .hbm, ⟨9, _⟩ => ⟨S8x2048x512, .bf16⟩
  | .local _ .vmem, ⟨0, _⟩ => ⟨S1x128x1664, .f32⟩
  | .local _ .vmem, ⟨1, _⟩ => ⟨S1x128x1664, .f32⟩
  | .local _ .vmem, ⟨2, _⟩ => ⟨S128x256, .f32⟩
  | .local _ .vmem, ⟨3, _⟩ => ⟨S1x256, .f32⟩
  | .local _ .vmem, ⟨4, _⟩ => ⟨S1x128, .f32⟩
  | .local _ .vmem, ⟨5, _⟩ => ⟨S1x128x512, .bf16⟩
  | .local _ .vmem, ⟨6, _⟩ => ⟨S1x128x512, .bf16⟩
  | .local _ .vmem, ⟨7, _⟩ => ⟨S512x256, .f32⟩
  | .local _ .vmem, ⟨8, _⟩ => ⟨S128x512, .f32⟩
  | _, _ => ⟨S8x2048x1664, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_c : Ref sig .tc := ⟨.hbm, 4, rfl⟩
abbrev main_call0_v0 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_scratch0 : Ref sig .tc := ⟨.vmem, 7, rfl⟩
abbrev cc0_scratch1 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6

abbrev nD : Nat := 1
abbrev τ : Topo := Topo.v7x

variable {F : FTy → Type} [FloatOps F]

abbrev grid0 : Pipeline.Grid := ⟨2, ![8, 16], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x128x1664 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S128x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S1x128x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== ReferenceIdeal.lean ====
abbrev S8x2048x1664 : Shape := ⟨3, ![8, 2048, 1664]⟩
abbrev S16x256 : Shape := ⟨2, ![16, 256]⟩
abbrev S256 : Shape := ⟨1, ![256]⟩
abbrev S128 : Shape := ⟨1, ![128]⟩
abbrev S8x2048x256 : Shape := ⟨3, ![8, 2048, 256]⟩
abbrev S8x2048x512 : Shape := ⟨3, ![8, 2048, 512]⟩
abbrev S8x2048x16 : Shape := ⟨3, ![8, 2048, 16]⟩
abbrev S1x1x256 : Shape := ⟨3, ![1, 1, 256]⟩
abbrev S_ : Shape := ⟨0, ![]⟩
abbrev S8x32x64x4x64 : Shape := ⟨5, ![8, 32, 64, 4, 64]⟩
abbrev S8x32x64x4x128 : Shape := ⟨5, ![8, 32, 64, 4, 128]⟩
abbrev S8x4x64x128 : Shape := ⟨4, ![8, 4, 64, 128]⟩
abbrev S32x8x64x4x64 : Shape := ⟨5, ![32, 8, 64, 4, 64]⟩
abbrev S32x8x64x4x128 : Shape := ⟨5, ![32, 8, 64, 4, 128]⟩
abbrev S1x8x64x4x64 : Shape := ⟨5, ![1, 8, 64, 4, 64]⟩
abbrev S8x64x4x64 : Shape := ⟨4, ![8, 64, 4, 64]⟩
abbrev S1x8x64x4x128 : Shape := ⟨5, ![1, 8, 64, 4, 128]⟩
abbrev S8x64x4x128 : Shape := ⟨4, ![8, 64, 4, 128]⟩
abbrev S8x1x4x64 : Shape := ⟨4, ![8, 1, 4, 64]⟩
abbrev S64x64 : Shape := ⟨2, ![64, 64]⟩
abbrev S8x4x64x64 : Shape := ⟨4, ![8, 4, 64, 64]⟩
abbrev S8x4x128x64 : Shape := ⟨4, ![8, 4, 128, 64]⟩
abbrev S8x4x64 : Shape := ⟨3, ![8, 4, 64]⟩
abbrev S8x4x64x1 : Shape := ⟨4, ![8, 4, 64, 1]⟩
abbrev S8x2048x4x128 : Shape := ⟨4, ![8, 2048, 4, 128]⟩
abbrev S8x2048x4 : Shape := ⟨3, ![8, 2048, 4]⟩
abbrev S8x2048x4x1 : Shape := ⟨4, ![8, 2048, 4, 1]⟩
abbrev S1x1x1x128 : Shape := ⟨4, ![1, 1, 1, 128]⟩

abbrev nBuf : Space → Nat
  | .hbm => 152
  | .vmem => 0
  | .smem => 0
  | _ => 0

abbrev hbmTy0_0 (i : Nat) : BufTy := match i % 128 with
  | 0 => ⟨S8x2048x1664, .f32⟩
  | 1 => ⟨S16x256, .f32⟩
  | 2 => ⟨S256, .f32⟩
  | 3 => ⟨S128, .f32⟩
  | 4 => ⟨S8x2048x256, .f32⟩
  | 5 => ⟨S8x2048x256, .f32⟩
  | 6 => ⟨S8x2048x512, .f32⟩
  | 7 => ⟨S8x2048x16, .f32⟩
  | 8 => ⟨S8x2048x256, .f32⟩
  | 9 => ⟨S1x1x256, .f32⟩
  | 10 => ⟨S8x2048x256, .f32⟩
  | 11 => ⟨S8x2048x256, .f32⟩
  | 12 => ⟨S_, .f32⟩
  | 13 => ⟨S8x2048x256, .f32⟩
  | 14 => ⟨S8x2048x256, .f32⟩
  | 15 => ⟨S8x2048x256, .f32⟩
  | 16 => ⟨S8x2048x256, .f32⟩
  | 17 => ⟨S8x2048x256, .f32⟩
  | 18 => ⟨S8x2048x256, .f32⟩
  | 19 => ⟨S8x2048x256, .f32⟩
  | 20 => ⟨S_, .f32⟩
  | 21 => ⟨S8x2048x256, .f32⟩
  | 22 => ⟨S8x2048x256, .f32⟩
  | 23 => ⟨S_, .f32⟩
  | 24 => ⟨S8x2048x256, .f32⟩
  | 25 => ⟨S8x2048x256, .f32⟩
  | 26 => ⟨S8x32x64x4x64, .f32⟩
  | 27 => ⟨S8x32x64x4x64, .f32⟩
  | 28 => ⟨S8x32x64x4x128, .f32⟩
  | 29 => ⟨S8x32x64x4x64, .f32⟩
  | 30 => ⟨S_, .f32⟩
  | 31 => ⟨S8x4x64x128, .f32⟩
  | 32 => ⟨S32x8x64x4x64, .f32⟩
  | 33 => ⟨S32x8x64x4x64, .f32⟩
  | 34 => ⟨S32x8x64x4x128, .f32⟩
  | 35 => ⟨S32x8x64x4x64, .f32⟩
  | 36 => ⟨S_, .f32⟩
  | 37 => ⟨S32x8x64x4x128, .f32⟩
  | 38 => ⟨S_, .i32⟩
  | 39 => ⟨S32x8x64x4x64, .f32⟩
  | 40 => ⟨S32x8x64x4x64, .f32⟩
  | 41 => ⟨S32x8x64x4x128, .f32⟩
  | 42 => ⟨S32x8x64x4x64, .f32⟩
  | 43 => ⟨S_, .i32⟩
  | 44 => ⟨S8x4x64x128, .f32⟩
  | 45 => ⟨S32x8x64x4x128, .f32⟩
  | 46 => ⟨S_, .i32⟩
  | 47 => ⟨S_, .i1⟩
  | 48 => ⟨S_, .i32⟩
  | 49 => ⟨S_, .i32⟩
  | 50 => ⟨S_, .i32⟩
  | 51 => ⟨S_, .i32⟩
  | 52 => ⟨S1x8x64x4x64, .f32⟩
  | 53 => ⟨S8x64x4x64, .f32⟩
  | 54 => ⟨S_, .i32⟩
  | 55 => ⟨S_, .i32⟩
  | 56 => ⟨S_, .i32⟩
  | 57 => ⟨S_, .i32⟩
  | 58 => ⟨S1x8x64x4x64, .f32⟩
  | 59 => ⟨S8x64x4x64, .f32⟩
  | 60 => ⟨S_, .i32⟩
  | 61 => ⟨S_, .i32⟩
  | 62 => ⟨S_, .i32⟩
  | 63 => ⟨S_, .i32⟩
  | 64 => ⟨S1x8x64x4x128, .f32⟩
  | 65 => ⟨S8x64x4x128, .f32⟩
  | 66 => ⟨S_, .i32⟩
  | 67 => ⟨S_, .i32⟩
  | 68 => ⟨S_, .i32⟩
  | 69 => ⟨S_, .i32⟩
  | 70 => ⟨S1x8x64x4x64, .f32⟩
  | 71 => ⟨S8x64x4x64, .f32⟩
  | 72 => ⟨S_, .f32⟩
  | 73 => ⟨S_, .f32⟩
  | 74 => ⟨S8x64x4x64, .f32⟩
  | 75 => ⟨S8x1x4x64, .f32⟩
  | 76 => ⟨S8x64x4x64, .f32⟩
  | 77 => ⟨S8x64x4x64, .f32⟩
  | 78 => ⟨S8x64x4x64, .f32⟩
  | 79 => ⟨S8x64x4x64, .f32⟩
  | 80 => ⟨S8x64x4x64, .f32⟩
  | 81 => ⟨S8x64x4x64, .f32⟩
  | 82 => ⟨S8x64x4x64, .f32⟩
  | 83 => ⟨S8x64x4x64, .f32⟩
  | 84 => ⟨S8x64x4x64, .f32⟩
  | 85 => ⟨S_, .i1⟩
  | 86 => ⟨S64x64, .i1⟩
  | 87 => ⟨S64x64, .i32⟩
  | 88 => ⟨S_, .i32⟩
  | 89 => ⟨S64x64, .i32⟩
  | 90 => ⟨S64x64, .i32⟩
  | 91 => ⟨S64x64, .i32⟩
  | 92 => ⟨S64x64, .i1⟩
  | 93 => ⟨S_, .i1⟩
  | 94 => ⟨S64x64, .i1⟩
  | 95 => ⟨S64x64, .i1⟩
  | 96 => ⟨S8x4x64x64, .f32⟩
  | 97 => ⟨S_, .f32⟩
  | 98 => ⟨S8x4x64x64, .f32⟩
  | 99 => ⟨S8x4x64x64, .i1⟩
  | 100 => ⟨S8x4x64x64, .f32⟩
  | 101 => ⟨S8x4x128x64, .f32⟩
  | 102 => ⟨S8x64x4x128, .f32⟩
  | 103 => ⟨S8x4x64x128, .f32⟩
  | 104 => ⟨S8x4x128x64, .f32⟩
  | 105 => ⟨S8x64x4x128, .f32⟩
  | 106 => ⟨S8x64x4x128, .f32⟩
  | 107 => ⟨S8x4x64, .f32⟩
  | 108 => ⟨S8x4x64, .f32⟩
  | 109 => ⟨S8x4x64x1, .f32⟩
  | 110 => ⟨S8x4x64x128, .f32⟩
  | 111 => ⟨S8x4x64x128, .f32⟩
  | 112 => ⟨S8x4x64x128, .f32⟩
  | 113 => ⟨S1x8x64x4x128, .f32⟩
  | 114 => ⟨S_, .i32⟩
  | 115 => ⟨S_, .i32⟩
  | 116 => ⟨S_, .i32⟩
  | 117 => ⟨S_, .i32⟩
  | 118 => ⟨S32x8x64x4x128, .f32⟩
  | 119 => ⟨S_, .i32⟩
  | 120 => ⟨S_, .i32⟩
  | 121 => ⟨S8x32x64x4x128, .f32⟩
  | 122 => ⟨S8x2048x4x128, .f32⟩
  | 123 => ⟨S8x2048x4x128, .f32⟩
  | 124 => ⟨S_, .f32⟩
  | 125 => ⟨S8x2048x4, .f32⟩
  | 126 => ⟨S8x2048x4x1, .f32⟩
  | 127 => ⟨S_, .f32⟩
  | _ => ⟨S8x2048x1664, .f32⟩

abbrev hbmTy0_1 (i : Nat) : BufTy := match i % 128 with
  | 0 => ⟨S8x2048x4x1, .f32⟩
  | 1 => ⟨S8x2048x4x1, .f32⟩
  | 2 => ⟨S_, .f32⟩
  | 3 => ⟨S8x2048x4x1, .f32⟩
  | 4 => ⟨S8x2048x4x1, .f32⟩
  | 5 => ⟨S8x2048x4x1, .f32⟩
  | 6 => ⟨S8x2048x4x128, .f32⟩
  | 7 => ⟨S8x2048x4x128, .f32⟩
  | 8 => ⟨S1x1x1x128, .f32⟩
  | 9 => ⟨S8x2048x4x128, .f32⟩
  | 10 => ⟨S8x2048x4x128, .f32⟩
  | 11 => ⟨S8x2048x512, .f32⟩
  | 12 => ⟨S8x2048x512, .f32⟩
  | 13 => ⟨S8x2048x512, .f32⟩
  | 14 => ⟨S8x2048x512, .f32⟩
  | 15 => ⟨S_, .f32⟩
  | 16 => ⟨S8x2048x512, .f32⟩
  | 17 => ⟨S8x2048x512, .f32⟩
  | 18 => ⟨S_, .f32⟩
  | 19 => ⟨S8x2048x512, .f32⟩
  | 20 => ⟨S8x2048x512, .f32⟩
  | 21 => ⟨S8x2048x512, .f32⟩
  | 22 => ⟨S8x2048x512, .f32⟩
  | 23 => ⟨S8x2048x512, .bf16⟩
  | _ => ⟨S8x2048x1664, .f32⟩

abbrev hbmTy (i : Nat) : BufTy := match i / 128 with
  | 0 => hbmTy0_0 i
  | 1 => hbmTy0_1 i
  | _ => ⟨S8x2048x1664, .f32⟩

abbrev bufTy : (tb : Table) → Fin (tcTables nBuf tb) → BufTy
  | .hbm, ⟨i, _⟩ => hbmTy i
  | _, _ => ⟨S8x2048x1664, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_cst : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_cst_0 : Ref sig .tc := ⟨.hbm, 20, rfl⟩
abbrev main_v15 : Ref sig .tc := ⟨.hbm, 21, rfl⟩
abbrev main_v16 : Ref sig .tc := ⟨.hbm, 22, rfl⟩
abbrev main_cst_1 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_cst_2 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_cst_3 : Ref sig .tc := ⟨.hbm, 36, rfl⟩
abbrev main_v28 : Ref sig .tc := ⟨.hbm, 37, rfl⟩
abbrev main_c : Ref sig .tc := ⟨.hbm, 38, rfl⟩
abbrev main_v29_0 : Ref sig .tc := ⟨.hbm, 39, rfl⟩
abbrev main_v29_1 : Ref sig .tc := ⟨.hbm, 40, rfl⟩
abbrev main_v29_2 : Ref sig .tc := ⟨.hbm, 41, rfl⟩
abbrev main_v29_3 : Ref sig .tc := ⟨.hbm, 42, rfl⟩
abbrev main_v29_4 : Ref sig .tc := ⟨.hbm, 43, rfl⟩
abbrev main_v29_5 : Ref sig .tc := ⟨.hbm, 44, rfl⟩
abbrev main_v29_6 : Ref sig .tc := ⟨.hbm, 45, rfl⟩
abbrev main_while0c_c_13 : Ref sig .tc := ⟨.hbm, 46, rfl⟩
abbrev main_while0c_v50 : Ref sig .tc := ⟨.hbm, 47, rfl⟩
abbrev main_while0b_call0_c : Ref sig .tc := ⟨.hbm, 48, rfl⟩
abbrev main_while0b_call0_c_0 : Ref sig .tc := ⟨.hbm, 49, rfl⟩
abbrev main_while0b_call0_c_1 : Ref sig .tc := ⟨.hbm, 50, rfl⟩
abbrev main_while0b_call0_c_2 : Ref sig .tc := ⟨.hbm, 51, rfl⟩
abbrev main_while0b_call0_v0 : Ref sig .tc := ⟨.hbm, 52, rfl⟩
abbrev main_while0b_v50 : Ref sig .tc := ⟨.hbm, 53, rfl⟩
abbrev main_while0b_call1_c : Ref sig .tc := ⟨.hbm, 54, rfl⟩
abbrev main_while0b_call1_c_0 : Ref sig .tc := ⟨.hbm, 55, rfl⟩
abbrev main_while0b_call1_c_1 : Ref sig .tc := ⟨.hbm, 56, rfl⟩
abbrev main_while0b_call1_c_2 : Ref sig .tc := ⟨.hbm, 57, rfl⟩
abbrev main_while0b_call1_v0 : Ref sig .tc := ⟨.hbm, 58, rfl⟩
abbrev main_while0b_v51 : Ref sig .tc := ⟨.hbm, 59, rfl⟩
abbrev main_while0b_call2_c : Ref sig .tc := ⟨.hbm, 60, rfl⟩
abbrev main_while0b_call2_c_0 : Ref sig .tc := ⟨.hbm, 61, rfl⟩
abbrev main_while0b_call2_c_1 : Ref sig .tc := ⟨.hbm, 62, rfl⟩
abbrev main_while0b_call2_c_2 : Ref sig .tc := ⟨.hbm, 63, rfl⟩
abbrev main_while0b_call2_v0 : Ref sig .tc := ⟨.hbm, 64, rfl⟩
abbrev main_while0b_v52 : Ref sig .tc := ⟨.hbm, 65, rfl⟩
abbrev main_while0b_call3_c : Ref sig .tc := ⟨.hbm, 66, rfl⟩
abbrev main_while0b_call3_c_0 : Ref sig .tc := ⟨.hbm, 67, rfl⟩
abbrev main_while0b_call3_c_1 : Ref sig .tc := ⟨.hbm, 68, rfl⟩
abbrev main_while0b_call3_c_2 : Ref sig .tc := ⟨.hbm, 69, rfl⟩
abbrev main_while0b_call3_v0 : Ref sig .tc := ⟨.hbm, 70, rfl⟩
abbrev main_while0b_v53 : Ref sig .tc := ⟨.hbm, 71, rfl⟩
abbrev main_while0b_call4_call0_cst : Ref sig .tc := ⟨.hbm, 72, rfl⟩
abbrev main_while0b_call4_call0_v0 : Ref sig .tc := ⟨.hbm, 73, rfl⟩
abbrev main_while0b_v54 : Ref sig .tc := ⟨.hbm, 74, rfl⟩
abbrev main_while0b_v55 : Ref sig .tc := ⟨.hbm, 75, rfl⟩
abbrev main_while0b_v56 : Ref sig .tc := ⟨.hbm, 76, rfl⟩
abbrev main_while0b_v57 : Ref sig .tc := ⟨.hbm, 77, rfl⟩
abbrev main_while0b_v58 : Ref sig .tc := ⟨.hbm, 78, rfl⟩
abbrev main_while0b_v59 : Ref sig .tc := ⟨.hbm, 79, rfl⟩
abbrev main_while0b_v60 : Ref sig .tc := ⟨.hbm, 80, rfl⟩
abbrev main_while0b_v61 : Ref sig .tc := ⟨.hbm, 81, rfl⟩
abbrev main_while0b_v62 : Ref sig .tc := ⟨.hbm, 82, rfl⟩
abbrev main_while0b_v63 : Ref sig .tc := ⟨.hbm, 83, rfl⟩
abbrev main_while0b_v64 : Ref sig .tc := ⟨.hbm, 84, rfl⟩
abbrev main_while0b_c_13 : Ref sig .tc := ⟨.hbm, 85, rfl⟩
abbrev main_while0b_v65 : Ref sig .tc := ⟨.hbm, 86, rfl⟩
abbrev main_while0b_call5_v0 : Ref sig .tc := ⟨.hbm, 87, rfl⟩
abbrev main_while0b_call5_c : Ref sig .tc := ⟨.hbm, 88, rfl⟩
abbrev main_while0b_call5_v1 : Ref sig .tc := ⟨.hbm, 89, rfl⟩
abbrev main_while0b_call5_v2 : Ref sig .tc := ⟨.hbm, 90, rfl⟩
abbrev main_while0b_call5_v3 : Ref sig .tc := ⟨.hbm, 91, rfl⟩
abbrev main_while0b_call5_v4 : Ref sig .tc := ⟨.hbm, 92, rfl⟩
abbrev main_while0b_call5_c_0 : Ref sig .tc := ⟨.hbm, 93, rfl⟩
abbrev main_while0b_call5_v5 : Ref sig .tc := ⟨.hbm, 94, rfl⟩
abbrev main_while0b_v66 : Ref sig .tc := ⟨.hbm, 95, rfl⟩
abbrev main_while0b_v67 : Ref sig .tc := ⟨.hbm, 96, rfl⟩
abbrev main_while0b_cst_14 : Ref sig .tc := ⟨.hbm, 97, rfl⟩
abbrev main_while0b_v68 : Ref sig .tc := ⟨.hbm, 98, rfl⟩
abbrev main_while0b_call6_v0 : Ref sig .tc := ⟨.hbm, 99, rfl⟩
abbrev main_while0b_v69 : Ref sig .tc := ⟨.hbm, 100, rfl⟩
abbrev main_while0b_v70 : Ref sig .tc := ⟨.hbm, 101, rfl⟩
abbrev main_while0b_v71 : Ref sig .tc := ⟨.hbm, 102, rfl⟩
abbrev main_while0b_v72 : Ref sig .tc := ⟨.hbm, 103, rfl⟩
abbrev main_while0b_v73 : Ref sig .tc := ⟨.hbm, 104, rfl⟩
abbrev main_while0b_v74 : Ref sig .tc := ⟨.hbm, 105, rfl⟩
abbrev main_while0b_v75 : Ref sig .tc := ⟨.hbm, 106, rfl⟩
abbrev main_while0b_v76 : Ref sig .tc := ⟨.hbm, 107, rfl⟩
abbrev main_while0b_v77 : Ref sig .tc := ⟨.hbm, 108, rfl⟩
abbrev main_while0b_v78 : Ref sig .tc := ⟨.hbm, 109, rfl⟩
abbrev main_while0b_v79 : Ref sig .tc := ⟨.hbm, 110, rfl⟩
abbrev main_while0b_v80 : Ref sig .tc := ⟨.hbm, 111, rfl⟩
abbrev main_while0b_v81 : Ref sig .tc := ⟨.hbm, 112, rfl⟩
abbrev main_while0b_call7_v0 : Ref sig .tc := ⟨.hbm, 113, rfl⟩
abbrev main_while0b_call7_c : Ref sig .tc := ⟨.hbm, 114, rfl⟩
abbrev main_while0b_call7_c_0 : Ref sig .tc := ⟨.hbm, 115, rfl⟩
abbrev main_while0b_call7_c_1 : Ref sig .tc := ⟨.hbm, 116, rfl⟩
abbrev main_while0b_call7_c_2 : Ref sig .tc := ⟨.hbm, 117, rfl⟩
abbrev main_while0b_v82 : Ref sig .tc := ⟨.hbm, 118, rfl⟩
abbrev main_while0b_c_15 : Ref sig .tc := ⟨.hbm, 119, rfl⟩
abbrev main_while0b_v83 : Ref sig .tc := ⟨.hbm, 120, rfl⟩
abbrev main_v30 : Ref sig .tc := ⟨.hbm, 121, rfl⟩
abbrev main_v31 : Ref sig .tc := ⟨.hbm, 122, rfl⟩
abbrev main_v32 : Ref sig .tc := ⟨.hbm, 123, rfl⟩
abbrev main_cst_4 : Ref sig .tc := ⟨.hbm, 124, rfl⟩
abbrev main_v33 : Ref sig .tc := ⟨.hbm, 125, rfl⟩
abbrev main_v34 : Ref sig .tc := ⟨.hbm, 126, rfl⟩
abbrev main_cst_5 : Ref sig .tc := ⟨.hbm, 127, rfl⟩
abbrev main_v35 : Ref sig .tc := ⟨.hbm, 128, rfl⟩
abbrev main_v36 : Ref sig .tc := ⟨.hbm, 129, rfl⟩
abbrev main_cst_6 : Ref sig .tc := ⟨.hbm, 130, rfl⟩
abbrev main_v37 : Ref sig .tc := ⟨.hbm, 131, rfl⟩
abbrev main_v38 : Ref sig .tc := ⟨.hbm, 132, rfl⟩
abbrev main_v39 : Ref sig .tc := ⟨.hbm, 133, rfl⟩
abbrev main_v40 : Ref sig .tc := ⟨.hbm, 134, rfl⟩
abbrev main_v41 : Ref sig .tc := ⟨.hbm, 135, rfl⟩
abbrev main_v42 : Ref sig .tc := ⟨.hbm, 136, rfl⟩
abbrev main_v43 : Ref sig .tc := ⟨.hbm, 137, rfl⟩
abbrev main_v44 : Ref sig .tc := ⟨.hbm, 138, rfl⟩
abbrev main_v45 : Ref sig .tc := ⟨.hbm, 139, rfl⟩
abbrev main_v46 : Ref sig .tc := ⟨.hbm, 140, rfl⟩
abbrev main_call8_v0 : Ref sig .tc := ⟨.hbm, 141, rfl⟩
abbrev main_call8_v1 : Ref sig .tc := ⟨.hbm, 142, rfl⟩
abbrev main_call8_cst : Ref sig .tc := ⟨.hbm, 143, rfl⟩
abbrev main_call8_v2 : Ref sig .tc := ⟨.hbm, 144, rfl⟩
abbrev main_call8_v3 : Ref sig .tc := ⟨.hbm, 145, rfl⟩
abbrev main_call8_cst_0 : Ref sig .tc := ⟨.hbm, 146, rfl⟩
abbrev main_call8_v4 : Ref sig .tc := ⟨.hbm, 147, rfl⟩
abbrev main_call8_v5 : Ref sig .tc := ⟨.hbm, 148, rfl⟩
abbrev main_v47 : Ref sig .tc := ⟨.hbm, 149, rfl⟩
abbrev main_v48 : Ref sig .tc := ⟨.hbm, 150, rfl⟩
abbrev main_v49 : Ref sig .tc := ⟨.hbm, 151, rfl⟩

abbrev nD : Nat := 1
abbrev τ : Topo := Topo.v7x

variable {F : FTy → Type} [FloatOps F]

abbrev main_while0_count : Scf.Loop 32 := ⟨0#32, 32#32, 1#32⟩
-- ==== Kernel2.lean ====
abbrev S16384x1024 : Shape := ⟨2, ![16384, 1024]⟩
abbrev S16384x512 : Shape := ⟨2, ![16384, 512]⟩
abbrev S1024x4096 : Shape := ⟨2, ![1024, 4096]⟩
abbrev S4x512x1024 : Shape := ⟨3, ![4, 512, 1024]⟩
abbrev S1024x1024 : Shape := ⟨2, ![1024, 1024]⟩
abbrev S1024 : Shape := ⟨1, ![1024]⟩
abbrev S1x1024 : Shape := ⟨2, ![1, 1024]⟩
abbrev S256x1024 : Shape := ⟨2, ![256, 1024]⟩
abbrev S256x512 : Shape := ⟨2, ![256, 512]⟩
abbrev S1x512x1024 : Shape := ⟨3, ![1, 512, 1024]⟩
abbrev S512x1024 : Shape := ⟨2, ![512, 1024]⟩
abbrev S256 : Shape := ⟨1, ![256]⟩
abbrev S256x1 : Shape := ⟨2, ![256, 1]⟩

abbrev nBuf : Space → Nat
  | .hbm => 21
  | .vmem => 20
  | .smem => 0
  | _ => 0

abbrev bufTy : (tb : Table) → Fin (tcTables nBuf tb) → BufTy
  | .hbm, ⟨0, _⟩ => ⟨S16384x1024, .f32⟩
  | .hbm, ⟨1, _⟩ => ⟨S16384x1024, .f32⟩
  | .hbm, ⟨2, _⟩ => ⟨S16384x512, .f32⟩
  | .hbm, ⟨3, _⟩ => ⟨S16384x512, .f32⟩
  | .hbm, ⟨4, _⟩ => ⟨S16384x512, .f32⟩
  | .hbm, ⟨5, _⟩ => ⟨S16384x512, .f32⟩
  | .hbm, ⟨6, _⟩ => ⟨S1024x4096, .f32⟩
  | .hbm, ⟨7, _⟩ => ⟨S4x512x1024, .f32⟩
  | .hbm, ⟨8, _⟩ => ⟨S1024x1024, .f32⟩
  | .hbm, ⟨9, _⟩ => ⟨S1024, .f32⟩
  | .hbm, ⟨10, _⟩ => ⟨S16384x512, .bf16⟩
  | .hbm, ⟨11, _⟩ => ⟨S16384x512, .bf16⟩
  | .hbm, ⟨12, _⟩ => ⟨S16384x512, .bf16⟩
  | .hbm, ⟨13, _⟩ => ⟨S16384x512, .bf16⟩
  | .hbm, ⟨14, _⟩ => ⟨S16384x1024, .bf16⟩
  | .hbm, ⟨15, _⟩ => ⟨S1024x4096, .bf16⟩
  | .hbm, ⟨16, _⟩ => ⟨S4x512x1024, .bf16⟩
  | .hbm, ⟨17, _⟩ => ⟨S1024x1024, .bf16⟩
  | .hbm, ⟨18, _⟩ => ⟨S1x1024, .f32⟩
  | .hbm, ⟨19, _⟩ => ⟨S16384x1024, .f32⟩
  | .hbm, ⟨20, _⟩ => ⟨S16384x1024, .bf16⟩
  | .local _ .vmem, ⟨0, _⟩ => ⟨S256x1024, .f32⟩
  | .local _ .vmem, ⟨1, _⟩ => ⟨S256x1024, .f32⟩
  | .local _ .vmem, ⟨2, _⟩ => ⟨S256x1024, .bf16⟩
  | .local _ .vmem, ⟨3, _⟩ => ⟨S256x1024, .bf16⟩
  | .local _ .vmem, ⟨4, _⟩ => ⟨S256x512, .bf16⟩
  | .local _ .vmem, ⟨5, _⟩ => ⟨S256x512, .bf16⟩
  | .local _ .vmem, ⟨6, _⟩ => ⟨S256x512, .bf16⟩
  | .local _ .vmem, ⟨7, _⟩ => ⟨S256x512, .bf16⟩
  | .local _ .vmem, ⟨8, _⟩ => ⟨S256x512, .bf16⟩
  | .local _ .vmem, ⟨9, _⟩ => ⟨S256x512, .bf16⟩
  | .local _ .vmem, ⟨10, _⟩ => ⟨S256x512, .bf16⟩
  | .local _ .vmem, ⟨11, _⟩ => ⟨S256x512, .bf16⟩
  | .local _ .vmem, ⟨12, _⟩ => ⟨S1024x4096, .bf16⟩
  | .local _ .vmem, ⟨13, _⟩ => ⟨S4x512x1024, .bf16⟩
  | .local _ .vmem, ⟨14, _⟩ => ⟨S1024x1024, .bf16⟩
  | .local _ .vmem, ⟨15, _⟩ => ⟨S1x1024, .f32⟩
  | .local _ .vmem, ⟨16, _⟩ => ⟨S256x1024, .f32⟩
  | .local _ .vmem, ⟨17, _⟩ => ⟨S256x1024, .f32⟩
  | .local _ .vmem, ⟨18, _⟩ => ⟨S256x1024, .bf16⟩
  | .local _ .vmem, ⟨19, _⟩ => ⟨S256x1024, .bf16⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9_0 : Ref sig .tc := ⟨.hbm, 19, rfl⟩
abbrev main_v9_1 : Ref sig .tc := ⟨.hbm, 20, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg7_0 : Ref sig .tc := ⟨.vmem, 13, rfl⟩
abbrev cc0_stg8_0 : Ref sig .tc := ⟨.vmem, 14, rfl⟩
abbrev cc0_stg9_0 : Ref sig .tc := ⟨.vmem, 15, rfl⟩
abbrev cc0_stg10_0 : Ref sig .tc := ⟨.vmem, 16, rfl⟩
abbrev cc0_stg10_1 : Ref sig .tc := ⟨.vmem, 17, rfl⟩
abbrev cc0_stg11_0 : Ref sig .tc := ⟨.vmem, 18, rfl⟩
abbrev cc0_stg11_1 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem7_0 : DmaSem sig := 13
abbrev cc0_sem8_0 : DmaSem sig := 14
abbrev cc0_sem9_0 : DmaSem sig := 15
abbrev cc0_sem10_0 : DmaSem sig := 16
abbrev cc0_sem10_1 : DmaSem sig := 17
abbrev cc0_sem11_0 : DmaSem sig := 18
abbrev cc0_sem11_1 : DmaSem sig := 19

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1024x4096 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S4x512x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1024x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S256x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S256x1024 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]
-- ==== Reference2Ideal.lean ====
abbrev S16384x1024 : Shape := ⟨2, ![16384, 1024]⟩
abbrev S16384x512 : Shape := ⟨2, ![16384, 512]⟩
abbrev S1024x4096 : Shape := ⟨2, ![1024, 4096]⟩
abbrev S4x512x1024 : Shape := ⟨3, ![4, 512, 1024]⟩
abbrev S1024x1024 : Shape := ⟨2, ![1024, 1024]⟩
abbrev S1024 : Shape := ⟨1, ![1024]⟩
abbrev S16384x4096 : Shape := ⟨2, ![16384, 4096]⟩
abbrev S16384x1x512 : Shape := ⟨3, ![16384, 1, 512]⟩
abbrev S16384x4x512 : Shape := ⟨3, ![16384, 4, 512]⟩
abbrev S4x1024x16384 : Shape := ⟨3, ![4, 1024, 16384]⟩
abbrev S16384x4x1024 : Shape := ⟨3, ![16384, 4, 1024]⟩
abbrev S_ : Shape := ⟨0, ![]⟩
abbrev S16384 : Shape := ⟨1, ![16384]⟩
abbrev S16384x1 : Shape := ⟨2, ![16384, 1]⟩
abbrev S1x1024 : Shape := ⟨2, ![1, 1024]⟩

abbrev nBuf : Space → Nat
  | .hbm => 49
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S16384x1024, .f32⟩
  | .hbm, ⟨2, _⟩ => ⟨S16384x512, .f32⟩
  | .hbm, ⟨3, _⟩ => ⟨S16384x512, .f32⟩
  | .hbm, ⟨4, _⟩ => ⟨S16384x512, .f32⟩
  | .hbm, ⟨5, _⟩ => ⟨S16384x512, .f32⟩
  | .hbm, ⟨6, _⟩ => ⟨S1024x4096, .f32⟩
  | .hbm, ⟨7, _⟩ => ⟨S4x512x1024, .f32⟩
  | .hbm, ⟨8, _⟩ => ⟨S1024x1024, .f32⟩
  | .hbm, ⟨9, _⟩ => ⟨S1024, .f32⟩
  | .hbm, ⟨10, _⟩ => ⟨S16384x4096, .f32⟩
  | .hbm, ⟨11, _⟩ => ⟨S16384x1x512, .f32⟩
  | .hbm, ⟨12, _⟩ => ⟨S16384x1x512, .f32⟩
  | .hbm, ⟨13, _⟩ => ⟨S16384x1x512, .f32⟩
  | .hbm, ⟨14, _⟩ => ⟨S16384x1x512, .f32⟩
  | .hbm, ⟨15, _⟩ => ⟨S16384x4x512, .f32⟩
  | .hbm, ⟨16, _⟩ => ⟨S4x1024x16384, .f32⟩
  | .hbm, ⟨17, _⟩ => ⟨S16384x4x1024, .f32⟩
  | .hbm, ⟨18, _⟩ => ⟨S16384x4x1024, .f32⟩
  | .hbm, ⟨19, _⟩ => ⟨S16384x4x1024, .f32⟩
  | .hbm, ⟨20, _⟩ => ⟨S16384x4x1024, .f32⟩
  | .hbm, ⟨21, _⟩ => ⟨S_, .f32⟩
  | .hbm, ⟨22, _⟩ => ⟨S16384x4x1024, .f32⟩
  | .hbm, ⟨23, _⟩ => ⟨S16384x4x1024, .f32⟩
  | .hbm, ⟨24, _⟩ => ⟨S_, .f32⟩
  | .hbm, ⟨25, _⟩ => ⟨S16384x4x1024, .f32⟩
  | .hbm, ⟨26, _⟩ => ⟨S16384x4x1024, .f32⟩
  | .hbm, ⟨27, _⟩ => ⟨S16384x4x1024, .f32⟩
  | .hbm, ⟨28, _⟩ => ⟨S_, .f32⟩
  | .hbm, ⟨29, _⟩ => ⟨S16384x1024, .f32⟩
  | .hbm, ⟨30, _⟩ => ⟨S16384x1024, .f32⟩
  | .hbm, ⟨31, _⟩ => ⟨S16384x1024, .f32⟩
  | .hbm, ⟨32, _⟩ => ⟨S16384x1024, .f32⟩
  | .hbm, ⟨33, _⟩ => ⟨S_, .f32⟩
  | .hbm, ⟨34, _⟩ => ⟨S16384, .f32⟩
  | .hbm, ⟨35, _⟩ => ⟨S16384x1, .f32⟩
  | .hbm, ⟨36, _⟩ => ⟨S_, .f32⟩
  | .hbm, ⟨37, _⟩ => ⟨S16384x1, .f32⟩
  | .hbm, ⟨38, _⟩ => ⟨S16384x1, .f32⟩
  | .hbm, ⟨39, _⟩ => ⟨S_, .f32⟩
  | .hbm, ⟨40, _⟩ => ⟨S16384x1, .f32⟩
  | .hbm, ⟨41, _⟩ => ⟨S16384x1, .f32⟩
  | .hbm, ⟨42, _⟩ => ⟨S16384x1, .f32⟩
  | .hbm, ⟨43, _⟩ => ⟨S16384x1024, .f32⟩
  | .hbm, ⟨44, _⟩ => ⟨S16384x1024, .f32⟩
  | .hbm, ⟨45, _⟩ => ⟨S1x1024, .f32⟩
  | .hbm, ⟨46, _⟩ => ⟨S16384x1024, .f32⟩
  | .hbm, ⟨47, _⟩ => ⟨S16384x1024, .f32⟩
  | .hbm, ⟨48, _⟩ => ⟨S16384x1024, .bf16⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst : Ref sig .tc := ⟨.hbm, 21, rfl⟩
abbrev main_v11 : Ref sig .tc := ⟨.hbm, 22, rfl⟩
abbrev main_v12 : Ref sig .tc := ⟨.hbm, 23, rfl⟩
abbrev main_cst_0 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_cst_1 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_cst_2 : Ref sig .tc := ⟨.hbm, 33, rfl⟩
abbrev main_v20 : Ref sig .tc := ⟨.hbm, 34, rfl⟩
abbrev main_v21 : Ref sig .tc := ⟨.hbm, 35, rfl⟩
abbrev main_cst_3 : Ref sig .tc := ⟨.hbm, 36, rfl⟩
abbrev main_v22 : Ref sig .tc := ⟨.hbm, 37, rfl⟩
abbrev main_v23 : Ref sig .tc := ⟨.hbm, 38, rfl⟩
abbrev main_cst_4 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩

abbrev nD : Nat := 1
abbrev τ : Topo := Topo.v7x

variable {F : FTy → Type} [FloatOps F]
-- ==== Kernel3.lean ====
abbrev S16384x1024 : Shape := ⟨2, ![16384, 1024]⟩
abbrev S1024x2816 : Shape := ⟨2, ![1024, 2816]⟩
abbrev S2816x1024 : Shape := ⟨2, ![2816, 1024]⟩
abbrev S512x1024 : Shape := ⟨2, ![512, 1024]⟩
abbrev S1024x512 : Shape := ⟨2, ![1024, 512]⟩
abbrev S512x512 : Shape := ⟨2, ![512, 512]⟩
abbrev S1024x256 : Shape := ⟨2, ![1024, 256]⟩
abbrev S512x256 : Shape := ⟨2, ![512, 256]⟩
abbrev S256x1024 : Shape := ⟨2, ![256, 1024]⟩

abbrev nBuf : Space → Nat
  | .hbm => 10
  | .vmem => 9
  | .smem => 0
  | _ => 0

abbrev bufTy : (tb : Table) → Fin (tcTables nBuf tb) → BufTy
  | .hbm, ⟨0, _⟩ => ⟨S16384x1024, .f32⟩
  | .hbm, ⟨1, _⟩ => ⟨S16384x1024, .f32⟩
  | .hbm, ⟨2, _⟩ => ⟨S1024x2816, .f32⟩
  | .hbm, ⟨3, _⟩ => ⟨S1024x2816, .f32⟩
  | .hbm, ⟨4, _⟩ => ⟨S2816x1024, .f32⟩
  | .hbm, ⟨5, _⟩ => ⟨S16384x1024, .bf16⟩
  | .hbm, ⟨6, _⟩ => ⟨S1024x2816, .bf16⟩
  | .hbm, ⟨7, _⟩ => ⟨S1024x2816, .bf16⟩
  | .hbm, ⟨8, _⟩ => ⟨S2816x1024, .bf16⟩
  | .hbm, ⟨9, _⟩ => ⟨S16384x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .bf16⟩
  | .local _ .vmem, ⟨3, _⟩ => ⟨S512x1024, .bf16⟩
  | .local _ .vmem, ⟨4, _⟩ => ⟨S1024x2816, .bf16⟩
  | .local _ .vmem, ⟨5, _⟩ => ⟨S1024x2816, .bf16⟩
  | .local _ .vmem, ⟨6, _⟩ => ⟨S2816x1024, .bf16⟩
  | .local _ .vmem, ⟨7, _⟩ => ⟨S512x1024, .f32⟩
  | .local _ .vmem, ⟨8, _⟩ => ⟨S512x1024, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1024x2816 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x2816 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S2816x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== Reference3Ideal.lean ====
abbrev S16384x1024 : Shape := ⟨2, ![16384, 1024]⟩
abbrev S1024x2816 : Shape := ⟨2, ![1024, 2816]⟩
abbrev S2816x1024 : Shape := ⟨2, ![2816, 1024]⟩
abbrev S16384x2816 : Shape := ⟨2, ![16384, 2816]⟩
abbrev S_ : Shape := ⟨0, ![]⟩

abbrev nBuf : Space → Nat
  | .hbm => 19
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S16384x1024, .f32⟩
  | .hbm, ⟨2, _⟩ => ⟨S1024x2816, .f32⟩
  | .hbm, ⟨3, _⟩ => ⟨S1024x2816, .f32⟩
  | .hbm, ⟨4, _⟩ => ⟨S2816x1024, .f32⟩
  | .hbm, ⟨5, _⟩ => ⟨S16384x2816, .f32⟩
  | .hbm, ⟨6, _⟩ => ⟨S16384x2816, .f32⟩
  | .hbm, ⟨7, _⟩ => ⟨S16384x2816, .f32⟩
  | .hbm, ⟨8, _⟩ => ⟨S_, .f32⟩
  | .hbm, ⟨9, _⟩ => ⟨S16384x2816, .f32⟩
  | .hbm, ⟨10, _⟩ => ⟨S16384x2816, .f32⟩
  | .hbm, ⟨11, _⟩ => ⟨S_, .f32⟩
  | .hbm, ⟨12, _⟩ => ⟨S16384x2816, .f32⟩
  | .hbm, ⟨13, _⟩ => ⟨S16384x2816, .f32⟩
  | .hbm, ⟨14, _⟩ => ⟨S16384x2816, .f32⟩
  | .hbm, ⟨15, _⟩ => ⟨S16384x2816, .f32⟩
  | .hbm, ⟨16, _⟩ => ⟨S16384x2816, .f32⟩
  | .hbm, ⟨17, _⟩ => ⟨S16384x1024, .f32⟩
  | .hbm, ⟨18, _⟩ => ⟨S16384x1024, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_call0_v0 : Ref sig .tc := ⟨.hbm, 6, rfl⟩
abbrev main_call0_v1 : Ref sig .tc := ⟨.hbm, 7, rfl⟩
abbrev main_call0_cst : Ref sig .tc := ⟨.hbm, 8, rfl⟩
abbrev main_call0_v2 : Ref sig .tc := ⟨.hbm, 9, rfl⟩
abbrev main_call0_v3 : Ref sig .tc := ⟨.hbm, 10, rfl⟩
abbrev main_call0_cst_0 : Ref sig .tc := ⟨.hbm, 11, rfl⟩
abbrev main_call0_v4 : Ref sig .tc := ⟨.hbm, 12, rfl⟩
abbrev main_call0_v5 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩

abbrev nD : Nat := 1
abbrev τ : Topo := Topo.v7x

variable {F : FTy → Type} [FloatOps F]
-- ==== Kernel4.lean ====
abbrev S16384x1024 : Shape := ⟨2, ![16384, 1024]⟩
abbrev S1024 : Shape := ⟨1, ![1024]⟩
abbrev S1024x1920 : Shape := ⟨2, ![1024, 1920]⟩
abbrev S1024x1664 : Shape := ⟨2, ![1024, 1664]⟩
abbrev S1024x1536 : Shape := ⟨2, ![1024, 1536]⟩
abbrev S1x1024 : Shape := ⟨2, ![1, 1024]⟩
abbrev S16384x1920 : Shape := ⟨2, ![16384, 1920]⟩
abbrev S16384x1664 : Shape := ⟨2, ![16384, 1664]⟩
abbrev S16384x1536 : Shape := ⟨2, ![16384, 1536]⟩
abbrev S256x1024 : Shape := ⟨2, ![256, 1024]⟩
abbrev S256x1920 : Shape := ⟨2, ![256, 1920]⟩
abbrev S256x1664 : Shape := ⟨2, ![256, 1664]⟩
abbrev S256x1536 : Shape := ⟨2, ![256, 1536]⟩
abbrev S256 : Shape := ⟨1, ![256]⟩
abbrev S256x1 : Shape := ⟨2, ![256, 1]⟩

abbrev nBuf : Space → Nat
  | .hbm => 16
  | .vmem => 17
  | .smem => 0
  | _ => 0

abbrev bufTy : (tb : Table) → Fin (tcTables nBuf tb) → BufTy
  | .hbm, ⟨0, _⟩ => ⟨S16384x1024, .f32⟩
  | .hbm, ⟨1, _⟩ => ⟨S1024, .f32⟩
  | .hbm, ⟨2, _⟩ => ⟨S1024x1920, .f32⟩
  | .hbm, ⟨3, _⟩ => ⟨S1024x1664, .f32⟩
  | .hbm, ⟨4, _⟩ => ⟨S1024x1536, .f32⟩
  | .hbm, ⟨5, _⟩ => ⟨S1024x1664, .f32⟩
  | .hbm, ⟨6, _⟩ => ⟨S1x1024, .f32⟩
  | .hbm, ⟨7, _⟩ => ⟨S1024x1920, .bf16⟩
  | .hbm, ⟨8, _⟩ => ⟨S1024x1664, .bf16⟩
  | .hbm, ⟨9, _⟩ => ⟨S1024x1536, .bf16⟩
  | .hbm, ⟨10, _⟩ => ⟨S1024x1664, .bf16⟩
  | .hbm, ⟨11, _⟩ => ⟨S16384x1024, .bf16⟩
  | .hbm, ⟨12, _⟩ => ⟨S16384x1920, .f32⟩
  | .hbm, ⟨13, _⟩ => ⟨S16384x1664, .f32⟩
  | .hbm, ⟨14, _⟩ => ⟨S16384x1536, .f32⟩
  | .hbm, ⟨15, _⟩ => ⟨S16384x1664, .f32⟩
  | .local _ .vmem, ⟨0, _⟩ => ⟨S256x1024, .f32⟩
  | .local _ .vmem, ⟨1, _⟩ => ⟨S256x1024, .f32⟩
  | .local _ .vmem, ⟨2, _⟩ => ⟨S1x1024, .f32⟩
  | .local _ .vmem, ⟨3, _⟩ => ⟨S1024x1920, .bf16⟩
  | .local _ .vmem, ⟨4, _⟩ => ⟨S1024x1664, .bf16⟩
  | .local _ .vmem, ⟨5, _⟩ => ⟨S1024x1536, .bf16⟩
  | .local _ .vmem, ⟨6, _⟩ => ⟨S1024x1664, .bf16⟩
  | .local _ .vmem, ⟨7, _⟩ => ⟨S256x1024, .bf16⟩
  | .local _ .vmem, ⟨8, _⟩ => ⟨S256x1024, .bf16⟩
  | .local _ .vmem, ⟨9, _⟩ => ⟨S256x1920, .f32⟩
  | .local _ .vmem, ⟨10, _⟩ => ⟨S256x1920, .f32⟩
  | .local _ .vmem, ⟨11, _⟩ => ⟨S256x1664, .f32⟩
  | .local _ .vmem, ⟨12, _⟩ => ⟨S256x1664, .f32⟩
  | .local _ .vmem, ⟨13, _⟩ => ⟨S256x1536, .f32⟩
  | .local _ .vmem, ⟨14, _⟩ => ⟨S256x1536, .f32⟩
  | .local _ .vmem, ⟨15, _⟩ => ⟨S256x1664, .f32⟩
  | .local _ .vmem, ⟨16, _⟩ => ⟨S256x1664, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5_0 : Ref sig .tc := ⟨.hbm, 11, rfl⟩
abbrev main_v5_1 : Ref sig .tc := ⟨.hbm, 12, rfl⟩
abbrev main_v5_2 : Ref sig .tc := ⟨.hbm, 13, rfl⟩
abbrev main_v5_3 : Ref sig .tc := ⟨.hbm, 14, rfl⟩
abbrev main_v5_4 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg6_1 : Ref sig .tc := ⟨.vmem, 8, rfl⟩
abbrev cc0_stg7_0 : Ref sig .tc := ⟨.vmem, 9, rfl⟩
abbrev cc0_stg7_1 : Ref sig .tc := ⟨.vmem, 10, rfl⟩
abbrev cc0_stg8_0 : Ref sig .tc := ⟨.vmem, 11, rfl⟩
abbrev cc0_stg8_1 : Ref sig .tc := ⟨.vmem, 12, rfl⟩
abbrev cc0_stg9_0 : Ref sig .tc := ⟨.vmem, 13, rfl⟩
abbrev cc0_stg9_1 : Ref sig .tc := ⟨.vmem, 14, rfl⟩
abbrev cc0_stg10_0 : Ref sig .tc := ⟨.vmem, 15, rfl⟩
abbrev cc0_stg10_1 : Ref sig .tc := ⟨.vmem, 16, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem6_1 : DmaSem sig := 8
abbrev cc0_sem7_0 : DmaSem sig := 9
abbrev cc0_sem7_1 : DmaSem sig := 10
abbrev cc0_sem8_0 : DmaSem sig := 11
abbrev cc0_sem8_1 : DmaSem sig := 12
abbrev cc0_sem9_0 : DmaSem sig := 13
abbrev cc0_sem9_1 : DmaSem sig := 14
abbrev cc0_sem10_0 : DmaSem sig := 15
abbrev cc0_sem10_1 : DmaSem sig := 16

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x1920 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x1664 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x1536 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1024x1664 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S256x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x1920 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x1664 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S256x1536 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S256x1664 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]
-- ==== Reference4Ideal.lean ====
abbrev S16384x1024 : Shape := ⟨2, ![16384, 1024]⟩
abbrev S1024 : Shape := ⟨1, ![1024]⟩
abbrev S1024x1920 : Shape := ⟨2, ![1024, 1920]⟩
abbrev S1024x1664 : Shape := ⟨2, ![1024, 1664]⟩
abbrev S1024x1536 : Shape := ⟨2, ![1024, 1536]⟩
abbrev S_ : Shape := ⟨0, ![]⟩
abbrev S16384 : Shape := ⟨1, ![16384]⟩
abbrev S16384x1 : Shape := ⟨2, ![16384, 1]⟩
abbrev S1x1024 : Shape := ⟨2, ![1, 1024]⟩
abbrev S16384x1920 : Shape := ⟨2, ![16384, 1920]⟩
abbrev S16384x1664 : Shape := ⟨2, ![16384, 1664]⟩
abbrev S16384x1536 : Shape := ⟨2, ![16384, 1536]⟩

abbrev nBuf : Space → Nat
  | .hbm => 27
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S1024, .f32⟩
  | .hbm, ⟨2, _⟩ => ⟨S1024x1920, .f32⟩
  | .hbm, ⟨3, _⟩ => ⟨S1024x1664, .f32⟩
  | .hbm, ⟨4, _⟩ => ⟨S1024x1536, .f32⟩
  | .hbm, ⟨5, _⟩ => ⟨S1024x1664, .f32⟩
  | .hbm, ⟨6, _⟩ => ⟨S16384x1024, .f32⟩
  | .hbm, ⟨7, _⟩ => ⟨S_, .f32⟩
  | .hbm, ⟨8, _⟩ => ⟨S16384, .f32⟩
  | .hbm, ⟨9, _⟩ => ⟨S16384x1, .f32⟩
  | .hbm, ⟨10, _⟩ => ⟨S_, .f32⟩
  | .hbm, ⟨11, _⟩ => ⟨S16384x1, .f32⟩
  | .hbm, ⟨12, _⟩ => ⟨S16384x1, .f32⟩
  | .hbm, ⟨13, _⟩ => ⟨S_, .f32⟩
  | .hbm, ⟨14, _⟩ => ⟨S16384x1, .f32⟩
  | .hbm, ⟨15, _⟩ => ⟨S16384x1, .f32⟩
  | .hbm, ⟨16, _⟩ => ⟨S16384x1, .f32⟩
  | .hbm, ⟨17, _⟩ => ⟨S16384x1024, .f32⟩
  | .hbm, ⟨18, _⟩ => ⟨S16384x1024, .f32⟩
  | .hbm, ⟨19, _⟩ => ⟨S1x1024, .f32⟩
  | .hbm, ⟨20, _⟩ => ⟨S16384x1024, .f32⟩
  | .hbm, ⟨21, _⟩ => ⟨S16384x1024, .f32⟩
  | .hbm, ⟨22, _⟩ => ⟨S16384x1024, .bf16⟩
  | .hbm, ⟨23, _⟩ => ⟨S16384x1920, .f32⟩
  | .hbm, ⟨24, _⟩ => ⟨S16384x1664, .f32⟩
  | .hbm, ⟨25, _⟩ => ⟨S16384x1536, .f32⟩
  | .hbm, ⟨26, _⟩ => ⟨S16384x1664, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_cst_1 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩

abbrev nD : Nat := 1
abbrev τ : Topo := Topo.v7x

variable {F : FTy → Type} [FloatOps F]
-- ==== Kernel5.lean ====
abbrev S136 : Shape := ⟨1, ![136]⟩
abbrev S1 : Shape := ⟨1, ![1]⟩
abbrev S34816x1024 : Shape := ⟨2, ![34816, 1024]⟩
abbrev S8x1024x3584 : Shape := ⟨3, ![8, 1024, 3584]⟩
abbrev S34816x3584 : Shape := ⟨2, ![34816, 3584]⟩
abbrev S256x1024 : Shape := ⟨2, ![256, 1024]⟩
abbrev S1x1024x512 : Shape := ⟨3, ![1, 1024, 512]⟩
abbrev S256x512 : Shape := ⟨2, ![256, 512]⟩
abbrev S1024x512 : Shape := ⟨2, ![1024, 512]⟩

abbrev nBuf : Space → Nat
  | .hbm => 7
  | .vmem => 8
  | .smem => 2
  | _ => 0

abbrev bufTy : (tb : Table) → Fin (tcTables nBuf tb) → BufTy
  | .hbm, ⟨0, _⟩ => ⟨S34816x1024, .f32⟩
  | .hbm, ⟨1, _⟩ => ⟨S8x1024x3584, .f32⟩
  | .hbm, ⟨2, _⟩ => ⟨S8x1024x3584, .f32⟩
  | .hbm, ⟨3, _⟩ => ⟨S34816x1024, .bf16⟩
  | .hbm, ⟨4, _⟩ => ⟨S8x1024x3584, .bf16⟩
  | .hbm, ⟨5, _⟩ => ⟨S8x1024x3584, .bf16⟩
  | .hbm, ⟨6, _⟩ => ⟨S34816x3584, .bf16⟩
  | .local _ .vmem, ⟨0, _⟩ => ⟨S256x1024, .bf16⟩
  | .local _ .vmem, ⟨1, _⟩ => ⟨S256x1024, .bf16⟩
  | .local _ .vmem, ⟨2, _⟩ => ⟨S1x1024x512, .bf16⟩
  | .local _ .vmem, ⟨3, _⟩ => ⟨S1x1024x512, .bf16⟩
  | .local _ .vmem, ⟨4, _⟩ => ⟨S1x1024x512, .bf16⟩
  | .local _ .vmem, ⟨5, _⟩ => ⟨S1x1024x512, .bf16⟩
  | .local _ .vmem, ⟨6, _⟩ => ⟨S256x512, .bf16⟩
  | .local _ .vmem, ⟨7, _⟩ => ⟨S256x512, .bf16⟩
  | .local _ .smem, ⟨0, _⟩ => ⟨S136, .i32⟩
  | .local _ .smem, ⟨1, _⟩ => ⟨S1, .i32⟩
  | _, _ => ⟨S34816x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg2 : Ref sig .tc := ⟨.hbm, 0, rfl⟩
abbrev main_arg3 : Ref sig .tc := ⟨.hbm, 1, rfl⟩
abbrev main_arg4 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_arg0 : Ref sig .tc := ⟨.smem, 0, rfl⟩
abbrev main_arg1 : Ref sig .tc := ⟨.smem, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![7, 136], ![false, false]⟩

abbrev pre0 : Pipeline.Prefetch sig := ⟨2, ![main_arg0.idx, main_arg1.idx], fun | 0 => main_arg0.names | 1 => main_arg1.names | ⟨_ + 2, h⟩ => absurd h (Nat.not_lt.2 (Nat.le_add_left _ _)), fun | 0 => rfl | 1 => rfl | ⟨_ + 2, h⟩ => absurd h (Nat.not_lt.2 (Nat.le_add_left _ _))⟩

def k0_off1 (i : grid0.Coords) : Fin 1 → Nat :=
  let arg1 : BitVec 32 := BitVec.ofNat 32 (i 1).val
  let v0 : Index := Scalar.indexCast arg1
  ![v0.toNat]
def k0_cond1 (i : grid0.Coords) (v0 : BitVec 32) : BitVec 1 :=
  let arg1 : BitVec 32 := BitVec.ofNat 32 (i 1).val
  let v1 : BitVec 1 := Scalar.cmpi .slt arg1 v0
  let v2 : BitVec 32 := Scalar.extui v1
  let c0_i32 : BitVec 32 := 0#32
  let v3 : BitVec 1 := Scalar.cmpi .ne v2 c0_i32
  v3

def k0_cond2 (i : grid0.Coords) (v4 : BitVec 32) : BitVec 1 :=
  let arg1 : BitVec 32 := BitVec.ofNat 32 (i 1).val
  let v5 : BitVec 1 := Scalar.cmpi .sge arg1 v4
  let v6 : BitVec 32 := Scalar.extui v5
  let c0_i32_1 : BitVec 32 := 0#32
  let v7 : BitVec 1 := Scalar.cmpi .ne v6 c0_i32_1
  v7

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (k0_off1_inb : ∀ i : grid0.Coords, ∀ a, (k0_off1 i) a + S1.size a ≤ S136.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg1
  let v1 : BitVec 32 := pf.at 0 (Rect.unit (s := S136) ![v0.toNat] S1.size (k0_off1_inb i)) numel1_S1
  let c0_i32 : BitVec 32 := 0#32
  let c0_i32_0 : BitVec 32 := 0#32
  ![v1.toNat, c0_i32.toNat, arg0.toNat]

def cc0_transform_2 (k0_off1_inb : ∀ i : grid0.Coords, ∀ a, (k0_off1 i) a + S1.size a ≤ S136.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg1
  let v1 : BitVec 32 := pf.at 0 (Rect.unit (s := S136) ![v0.toNat] S1.size (k0_off1_inb i)) numel1_S1
  let c0_i32 : BitVec 32 := 0#32
  let c0_i32_0 : BitVec 32 := 0#32
  ![v1.toNat, c0_i32.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S256x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1x1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S256x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== Reference5Ideal.lean ====
abbrev S136 : Shape := ⟨1, ![136]⟩
abbrev S1 : Shape := ⟨1, ![1]⟩
abbrev S34816x1024 : Shape := ⟨2, ![34816, 1024]⟩
abbrev S8x1024x3584 : Shape := ⟨3, ![8, 1024, 3584]⟩
abbrev S136x256x1024 : Shape := ⟨3, ![136, 256, 1024]⟩
abbrev S_ : Shape := ⟨0, ![]⟩
abbrev S136x1x1 : Shape := ⟨3, ![136, 1, 1]⟩
abbrev S136x1 : Shape := ⟨2, ![136, 1]⟩
abbrev S136x1024x3584 : Shape := ⟨3, ![136, 1024, 3584]⟩
abbrev S136x256x3584 : Shape := ⟨3, ![136, 256, 3584]⟩
abbrev S34816x3584 : Shape := ⟨2, ![34816, 3584]⟩

abbrev nBuf : Space → Nat
  | .hbm => 34
  | .vmem => 0
  | .smem => 0
  | _ => 0

abbrev bufTy : (tb : Table) → Fin (tcTables nBuf tb) → BufTy
  | .hbm, ⟨0, _⟩ => ⟨S136, .i32⟩
  | .hbm, ⟨1, _⟩ => ⟨S1, .i32⟩
  | .hbm, ⟨2, _⟩ => ⟨S34816x1024, .f32⟩
  | .hbm, ⟨3, _⟩ => ⟨S8x1024x3584, .f32⟩
  | .hbm, ⟨4, _⟩ => ⟨S8x1024x3584, .f32⟩
  | .hbm, ⟨5, _⟩ => ⟨S136x256x1024, .f32⟩
  | .hbm, ⟨6, _⟩ => ⟨S136, .i32⟩
  | .hbm, ⟨7, _⟩ => ⟨S_, .i32⟩
  | .hbm, ⟨8, _⟩ => ⟨S136, .i32⟩
  | .hbm, ⟨9, _⟩ => ⟨S136, .i1⟩
  | .hbm, ⟨10, _⟩ => ⟨S136x1x1, .i1⟩
  | .hbm, ⟨11, _⟩ => ⟨S_, .f32⟩
  | .hbm, ⟨12, _⟩ => ⟨S_, .f32⟩
  | .hbm, ⟨13, _⟩ => ⟨S136x256x1024, .i1⟩
  | .hbm, ⟨14, _⟩ => ⟨S136x256x1024, .f32⟩
  | .hbm, ⟨15, _⟩ => ⟨S136x256x1024, .f32⟩
  | .hbm, ⟨16, _⟩ => ⟨S136x1, .i32⟩
  | .hbm, ⟨17, _⟩ => ⟨S136x1024x3584, .f32⟩
  | .hbm, ⟨18, _⟩ => ⟨S136x256x3584, .f32⟩
  | .hbm, ⟨19, _⟩ => ⟨S136x1, .i32⟩
  | .hbm, ⟨20, _⟩ => ⟨S136x1024x3584, .f32⟩
  | .hbm, ⟨21, _⟩ => ⟨S136x256x3584, .f32⟩
  | .hbm, ⟨22, _⟩ => ⟨S136x256x3584, .f32⟩
  | .hbm, ⟨23, _⟩ => ⟨S136x256x3584, .f32⟩
  | .hbm, ⟨24, _⟩ => ⟨S_, .f32⟩
  | .hbm, ⟨25, _⟩ => ⟨S136x256x3584, .f32⟩
  | .hbm, ⟨26, _⟩ => ⟨S136x256x3584, .f32⟩
  | .hbm, ⟨27, _⟩ => ⟨S_, .f32⟩
  | .hbm, ⟨28, _⟩ => ⟨S136x256x3584, .f32⟩
  | .hbm, ⟨29, _⟩ => ⟨S136x256x3584, .f32⟩
  | .hbm, ⟨30, _⟩ => ⟨S136x256x3584, .f32⟩
  | .hbm, ⟨31, _⟩ => ⟨S136x256x3584, .f32⟩
  | .hbm, ⟨32, _⟩ => ⟨S136x256x3584, .bf16⟩
  | .hbm, ⟨33, _⟩ => ⟨S34816x3584, .bf16⟩
  | _, _ => ⟨S136, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_cst : Ref sig .tc := ⟨.hbm, 11, rfl⟩
abbrev main_call0_v0 : Ref sig .tc := ⟨.hbm, 12, rfl⟩
abbrev main_call0_v1 : Ref sig .tc := ⟨.hbm, 13, rfl⟩
abbrev main_call0_v2 : Ref sig .tc := ⟨.hbm, 14, rfl⟩
abbrev main_v6 : Ref sig .tc := ⟨.hbm, 15, rfl⟩
abbrev main_call1_v0 : Ref sig .tc := ⟨.hbm, 16, rfl⟩
abbrev main_v7 : Ref sig .tc := ⟨.hbm, 17, rfl⟩
abbrev main_v8 : Ref sig .tc := ⟨.hbm, 18, rfl⟩
abbrev main_call2_v0 : Ref sig .tc := ⟨.hbm, 19, rfl⟩
abbrev main_v9 : Ref sig .tc := ⟨.hbm, 20, rfl⟩
abbrev main_v10 : Ref sig .tc := ⟨.hbm, 21, rfl⟩
abbrev main_call3_v0 : Ref sig .tc := ⟨.hbm, 22, rfl⟩
abbrev main_call3_v1 : Ref sig .tc := ⟨.hbm, 23, rfl⟩
abbrev main_call3_cst : Ref sig .tc := ⟨.hbm, 24, rfl⟩
abbrev main_call3_v2 : Ref sig .tc := ⟨.hbm, 25, rfl⟩
abbrev main_call3_v3 : Ref sig .tc := ⟨.hbm, 26, rfl⟩
abbrev main_call3_cst_0 : Ref sig .tc := ⟨.hbm, 27, rfl⟩
abbrev main_call3_v4 : Ref sig .tc := ⟨.hbm, 28, rfl⟩
abbrev main_call3_v5 : Ref sig .tc := ⟨.hbm, 29, rfl⟩
abbrev main_v11 : Ref sig .tc := ⟨.hbm, 30, rfl⟩
abbrev main_v12 : Ref sig .tc := ⟨.hbm, 31, rfl⟩
abbrev main_v13 : Ref sig .tc := ⟨.hbm, 32, rfl⟩
abbrev main_v14 : Ref sig .tc := ⟨.hbm, 33, rfl⟩

abbrev nD : Nat := 1
abbrev τ : Topo := Topo.v7x

variable {F : FTy → Type} [FloatOps F]
-- ==== Kernel6.lean ====
abbrev S136 : Shape := ⟨1, ![136]⟩
abbrev S1 : Shape := ⟨1, ![1]⟩
abbrev S34816x3584 : Shape := ⟨2, ![34816, 3584]⟩
abbrev S8x3584x1024 : Shape := ⟨3, ![8, 3584, 1024]⟩
abbrev S34816x1024 : Shape := ⟨2, ![34816, 1024]⟩
abbrev S256x3584 : Shape := ⟨2, ![256, 3584]⟩
abbrev S1x3584x1024 : Shape := ⟨3, ![1, 3584, 1024]⟩
abbrev S256x1024 : Shape := ⟨2, ![256, 1024]⟩
abbrev S3584x1024 : Shape := ⟨2, ![3584, 1024]⟩

abbrev nBuf : Space → Nat
  | .hbm => 5
  | .vmem => 6
  | .smem => 2
  | _ => 0

abbrev bufTy : (tb : Table) → Fin (tcTables nBuf tb) → BufTy
  | .hbm, ⟨0, _⟩ => ⟨S34816x3584, .f32⟩
  | .hbm, ⟨1, _⟩ => ⟨S8x3584x1024, .f32⟩
  | .hbm, ⟨2, _⟩ => ⟨S34816x3584, .bf16⟩
  | .hbm, ⟨3, _⟩ => ⟨S8x3584x1024, .bf16⟩
  | .hbm, ⟨4, _⟩ => ⟨S34816x1024, .f32⟩
  | .local _ .vmem, ⟨0, _⟩ => ⟨S256x3584, .bf16⟩
  | .local _ .vmem, ⟨1, _⟩ => ⟨S256x3584, .bf16⟩
  | .local _ .vmem, ⟨2, _⟩ => ⟨S1x3584x1024, .bf16⟩
  | .local _ .vmem, ⟨3, _⟩ => ⟨S1x3584x1024, .bf16⟩
  | .local _ .vmem, ⟨4, _⟩ => ⟨S256x1024, .f32⟩
  | .local _ .vmem, ⟨5, _⟩ => ⟨S256x1024, .f32⟩
  | .local _ .smem, ⟨0, _⟩ => ⟨S136, .i32⟩
  | .local _ .smem, ⟨1, _⟩ => ⟨S1, .i32⟩
  | _, _ => ⟨S34816x3584, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg2 : Ref sig .tc := ⟨.hbm, 0, rfl⟩
abbrev main_arg3 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_arg0 : Ref sig .tc := ⟨.smem, 0, rfl⟩
abbrev main_arg1 : Ref sig .tc := ⟨.smem, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨1, ![136], ![false]⟩

abbrev pre0 : Pipeline.Prefetch sig := ⟨2, ![main_arg0.idx, main_arg1.idx], fun | 0 => main_arg0.names | 1 => main_arg1.names | ⟨_ + 2, h⟩ => absurd h (Nat.not_lt.2 (Nat.le_add_left _ _)), fun | 0 => rfl | 1 => rfl | ⟨_ + 2, h⟩ => absurd h (Nat.not_lt.2 (Nat.le_add_left _ _))⟩

def k0_off1 (i : grid0.Coords) : Fin 1 → Nat :=
  let arg0 : BitVec 32 := BitVec.ofNat 32 (i 0).val
  let v0 : Index := Scalar.indexCast arg0
  ![v0.toNat]
def k0_cond1 (i : grid0.Coords) (v0 : BitVec 32) : BitVec 1 :=
  let arg0 : BitVec 32 := BitVec.ofNat 32 (i 0).val
  let v1 : BitVec 1 := Scalar.cmpi .slt arg0 v0
  let v2 : BitVec 32 := Scalar.extui v1
  let c0_i32 : BitVec 32 := 0#32
  let v3 : BitVec 1 := Scalar.cmpi .ne v2 c0_i32
  v3

def k0_cond2 (i : grid0.Coords) (v4 : BitVec 32) : BitVec 1 :=
  let arg0 : BitVec 32 := BitVec.ofNat 32 (i 0).val
  let v5 : BitVec 1 := Scalar.cmpi .sge arg0 v4
  let v6 : BitVec 32 := Scalar.extui v5
  let c0_i32_1 : BitVec 32 := 0#32
  let v7 : BitVec 1 := Scalar.cmpi .ne v6 c0_i32_1
  v7

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (k0_off1_inb : ∀ i : grid0.Coords, ∀ a, (k0_off1 i) a + S1.size a ≤ S136.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S136) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x3584 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x3584x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== Reference6Ideal.lean ====
abbrev S136 : Shape := ⟨1, ![136]⟩
abbrev S1 : Shape := ⟨1, ![1]⟩
abbrev S34816x3584 : Shape := ⟨2, ![34816, 3584]⟩
abbrev S8x3584x1024 : Shape := ⟨3, ![8, 3584, 1024]⟩
abbrev S136x256x3584 : Shape := ⟨3, ![136, 256, 3584]⟩
abbrev S_ : Shape := ⟨0, ![]⟩
abbrev S136x1x1 : Shape := ⟨3, ![136, 1, 1]⟩
abbrev S136x1 : Shape := ⟨2, ![136, 1]⟩
abbrev S136x3584x1024 : Shape := ⟨3, ![136, 3584, 1024]⟩
abbrev S136x256x1024 : Shape := ⟨3, ![136, 256, 1024]⟩
abbrev S34816x1024 : Shape := ⟨2, ![34816, 1024]⟩

abbrev nBuf : Space → Nat
  | .hbm => 19
  | .vmem => 0
  | .smem => 0
  | _ => 0

abbrev bufTy : (tb : Table) → Fin (tcTables nBuf tb) → BufTy
  | .hbm, ⟨0, _⟩ => ⟨S136, .i32⟩
  | .hbm, ⟨1, _⟩ => ⟨S1, .i32⟩
  | .hbm, ⟨2, _⟩ => ⟨S34816x3584, .f32⟩
  | .hbm, ⟨3, _⟩ => ⟨S8x3584x1024, .f32⟩
  | .hbm, ⟨4, _⟩ => ⟨S136x256x3584, .f32⟩
  | .hbm, ⟨5, _⟩ => ⟨S136, .i32⟩
  | .hbm, ⟨6, _⟩ => ⟨S_, .i32⟩
  | .hbm, ⟨7, _⟩ => ⟨S136, .i32⟩
  | .hbm, ⟨8, _⟩ => ⟨S136, .i1⟩
  | .hbm, ⟨9, _⟩ => ⟨S136x1x1, .i1⟩
  | .hbm, ⟨10, _⟩ => ⟨S_, .f32⟩
  | .hbm, ⟨11, _⟩ => ⟨S_, .f32⟩
  | .hbm, ⟨12, _⟩ => ⟨S136x256x3584, .i1⟩
  | .hbm, ⟨13, _⟩ => ⟨S136x256x3584, .f32⟩
  | .hbm, ⟨14, _⟩ => ⟨S136x256x3584, .f32⟩
  | .hbm, ⟨15, _⟩ => ⟨S136x1, .i32⟩
  | .hbm, ⟨16, _⟩ => ⟨S136x3584x1024, .f32⟩
  | .hbm, ⟨17, _⟩ => ⟨S136x256x1024, .f32⟩
  | .hbm, ⟨18, _⟩ => ⟨S34816x1024, .f32⟩
  | _, _ => ⟨S136, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_cst : Ref sig .tc := ⟨.hbm, 10, rfl⟩
abbrev main_call0_v0 : Ref sig .tc := ⟨.hbm, 11, rfl⟩
abbrev main_call0_v1 : Ref sig .tc := ⟨.hbm, 12, rfl⟩
abbrev main_call0_v2 : Ref sig .tc := ⟨.hbm, 13, rfl⟩
abbrev main_v6 : Ref sig .tc := ⟨.hbm, 14, rfl⟩
abbrev main_call1_v0 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩

abbrev nD : Nat := 1
abbrev τ : Topo := Topo.v7x

variable {F : FTy → Type} [FloatOps F]
-- ==== Kernel7.lean ====
abbrev S8x2048x1536 : Shape := ⟨3, ![8, 2048, 1536]⟩
abbrev S64 : Shape := ⟨1, ![64]⟩
abbrev S8x257 : Shape := ⟨2, ![8, 257]⟩
abbrev S768 : Shape := ⟨1, ![768]⟩
abbrev S1x768 : Shape := ⟨2, ![1, 768]⟩
abbrev S_ : Shape := ⟨0, ![]⟩
abbrev S256 : Shape := ⟨1, ![256]⟩
abbrev S256x1 : Shape := ⟨2, ![256, 1]⟩
abbrev S256x768 : Shape := ⟨2, ![256, 768]⟩
abbrev S256x768x1 : Shape := ⟨3, ![256, 768, 1]⟩
abbrev S8x256x768 : Shape := ⟨3, ![8, 256, 768]⟩
abbrev S1x64 : Shape := ⟨2, ![1, 64]⟩
abbrev S8x64 : Shape := ⟨2, ![8, 64]⟩
abbrev S512 : Shape := ⟨1, ![512]⟩
abbrev S1x512 : Shape := ⟨2, ![1, 512]⟩
abbrev S8x2048x512 : Shape := ⟨3, ![8, 2048, 512]⟩
abbrev S1x256x512 : Shape := ⟨3, ![1, 256, 512]⟩
abbrev S1x2048x512 : Shape := ⟨3, ![1, 2048, 512]⟩
abbrev S2560x512 : Shape := ⟨2, ![2560, 512]⟩
abbrev S512x512 : Shape := ⟨2, ![512, 512]⟩
abbrev S256x512 : Shape := ⟨2, ![256, 512]⟩
abbrev S768x512 : Shape := ⟨2, ![768, 512]⟩
abbrev S256x128 : Shape := ⟨2, ![256, 128]⟩
abbrev S768x128 : Shape := ⟨2, ![768, 128]⟩
abbrev S1x256x768 : Shape := ⟨3, ![1, 256, 768]⟩
abbrev S1x256x128 : Shape := ⟨3, ![1, 256, 128]⟩

abbrev nBuf : Space → Nat
  | .hbm => 43
  | .vmem => 13
  | .smem => 0
  | _ => 0

abbrev bufTy : (tb : Table) → Fin (tcTables nBuf tb) → BufTy
  | .hbm, ⟨0, _⟩ => ⟨S8x2048x1536, .f32⟩
  | .hbm, ⟨1, _⟩ => ⟨S64, .f32⟩
  | .hbm, ⟨2, _⟩ => ⟨S64, .f32⟩
  | .hbm, ⟨3, _⟩ => ⟨S8x257, .f32⟩
  | .hbm, ⟨4, _⟩ => ⟨S768, .i32⟩
  | .hbm, ⟨5, _⟩ => ⟨S1x768, .i32⟩
  | .hbm, ⟨6, _⟩ => ⟨S_, .i32⟩
  | .hbm, ⟨7, _⟩ => ⟨S1x768, .i32⟩
  | .hbm, ⟨8, _⟩ => ⟨S1x768, .i32⟩
  | .hbm, ⟨9, _⟩ => ⟨S256, .i32⟩
  | .hbm, ⟨10, _⟩ => ⟨S256x1, .i32⟩
  | .hbm, ⟨11, _⟩ => ⟨S256x768, .i32⟩
  | .hbm, ⟨12, _⟩ => ⟨S256x768, .i32⟩
  | .hbm, ⟨13, _⟩ => ⟨S256x768, .i32⟩
  | .hbm, ⟨14, _⟩ => ⟨S_, .i32⟩
  | .hbm, ⟨15, _⟩ => ⟨S_, .i32⟩
  | .hbm, ⟨16, _⟩ => ⟨S_, .i32⟩
  | .hbm, ⟨17, _⟩ => ⟨S256x768, .i32⟩
  | .hbm, ⟨18, _⟩ => ⟨S256x768, .i32⟩
  | .hbm, ⟨19, _⟩ => ⟨S_, .i32⟩
  | .hbm, ⟨20, _⟩ => ⟨S256x768, .i32⟩
  | .hbm, ⟨21, _⟩ => ⟨S256x768, .i32⟩
  | .hbm, ⟨22, _⟩ => ⟨S_, .i32⟩
  | .hbm, ⟨23, _⟩ => ⟨S256x768, .i32⟩
  | .hbm, ⟨24, _⟩ => ⟨S256x768, .i32⟩
  | .hbm, ⟨25, _⟩ => ⟨S_, .i32⟩
  | .hbm, ⟨26, _⟩ => ⟨S256x768, .i32⟩
  | .hbm, ⟨27, _⟩ => ⟨S256x768, .i1⟩
  | .hbm, ⟨28, _⟩ => ⟨S_, .i32⟩
  | .hbm, ⟨29, _⟩ => ⟨S256x768, .i32⟩
  | .hbm, ⟨30, _⟩ => ⟨S256x768, .i32⟩
  | .hbm, ⟨31, _⟩ => ⟨S256x768, .i32⟩
  | .hbm, ⟨32, _⟩ => ⟨S256x768x1, .i32⟩
  | .hbm, ⟨33, _⟩ => ⟨S8x256x768, .f32⟩
  | .hbm, ⟨34, _⟩ => ⟨S1x64, .f32⟩
  | .hbm, ⟨35, _⟩ => ⟨S8x64, .f32⟩
  | .hbm, ⟨36, _⟩ => ⟨S512, .f32⟩
  | .hbm, ⟨37, _⟩ => ⟨S1x512, .f32⟩
  | .hbm, ⟨38, _⟩ => ⟨S1x64, .f32⟩
  | .hbm, ⟨39, _⟩ => ⟨S8x64, .f32⟩
  | .hbm, ⟨40, _⟩ => ⟨S512, .f32⟩
  | .hbm, ⟨41, _⟩ => ⟨S1x512, .f32⟩
  | .hbm, ⟨42, _⟩ => ⟨S8x2048x512, .bf16⟩
  | .local _ .vmem, ⟨0, _⟩ => ⟨S1x256x512, .f32⟩
  | .local _ .vmem, ⟨1, _⟩ => ⟨S1x256x512, .f32⟩
  | .local _ .vmem, ⟨2, _⟩ => ⟨S1x2048x512, .f32⟩
  | .local _ .vmem, ⟨3, _⟩ => ⟨S1x2048x512, .f32⟩
  | .local _ .vmem, ⟨4, _⟩ => ⟨S1x2048x512, .f32⟩
  | .local _ .vmem, ⟨5, _⟩ => ⟨S1x2048x512, .f32⟩
  | .local _ .vmem, ⟨6, _⟩ => ⟨S1x512, .f32⟩
  | .local _ .vmem, ⟨7, _⟩ => ⟨S1x512, .f32⟩
  | .local _ .vmem, ⟨8, _⟩ => ⟨S8x256x768, .f32⟩
  | .local _ .vmem, ⟨9, _⟩ => ⟨S1x256x512, .bf16⟩
  | .local _ .vmem, ⟨10, _⟩ => ⟨S1x256x512, .bf16⟩
  | .local _ .vmem, ⟨11, _⟩ => ⟨S2560x512, .bf16⟩
  | .local _ .vmem, ⟨12, _⟩ => ⟨S2560x512, .bf16⟩
  | _, _ => ⟨S8x2048x1536, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_c : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_c_0 : Ref sig .tc := ⟨.hbm, 14, rfl⟩
abbrev main_c_1 : Ref sig .tc := ⟨.hbm, 15, rfl⟩
abbrev main_call0_v0 : Ref sig .tc := ⟨.hbm, 16, rfl⟩
abbrev main_call0_v1 : Ref sig .tc := ⟨.hbm, 17, rfl⟩
abbrev main_call0_v2 : Ref sig .tc := ⟨.hbm, 18, rfl⟩
abbrev main_call0_v3 : Ref sig .tc := ⟨.hbm, 19, rfl⟩
abbrev main_call0_v4 : Ref sig .tc := ⟨.hbm, 20, rfl⟩
abbrev main_v9 : Ref sig .tc := ⟨.hbm, 21, rfl⟩
abbrev main_c_2 : Ref sig .tc := ⟨.hbm, 22, rfl⟩
abbrev main_v10 : Ref sig .tc := ⟨.hbm, 23, rfl⟩
abbrev main_v11 : Ref sig .tc := ⟨.hbm, 24, rfl⟩
abbrev main_c_3 : Ref sig .tc := ⟨.hbm, 25, rfl⟩
abbrev main_v12 : Ref sig .tc := ⟨.hbm, 26, rfl⟩
abbrev main_v13 : Ref sig .tc := ⟨.hbm, 27, rfl⟩
abbrev main_c_4 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_scratch0 : Ref sig .tc := ⟨.vmem, 11, rfl⟩
abbrev cc0_scratch1 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem6_1 : DmaSem sig := 10

abbrev nD : Nat := 1
abbrev τ : Topo := Topo.v7x

variable {F : FTy → Type} [FloatOps F]

abbrev grid0 : Pipeline.Grid := ⟨2, ![8, 8], ![false, false]⟩

def k0_mult1 (i : grid0.Coords) : BitVec 32 :=
  let arg1 : BitVec 32 := BitVec.ofNat 32 (i 1).val
  let c256_i32 : BitVec 32 := 256#32
  let v83 : BitVec 32 := Scalar.muli arg1 c256_i32
  v83
def k0_off1 (i : grid0.Coords) : Fin 2 → Nat :=
  let arg1 : BitVec 32 := BitVec.ofNat 32 (i 1).val
  let c256_i32 : BitVec 32 := 256#32
  let v83 : BitVec 32 := Scalar.muli arg1 c256_i32
  let v84 : BitVec 32 := v83
  let v85 : Index := Scalar.indexCast v84
  let c0_23 : Index := 0#32
  ![v85.toNat, 0]
def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c1_i32 : BitVec 32 := 1#32
  let c0_i32_0 : BitVec 32 := 0#32
  ![arg0.toNat, c0_i32.toNat, c1_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c2_i32 : BitVec 32 := 2#32
  let c0_i32_0 : BitVec 32 := 0#32
  ![arg0.toNat, c0_i32.toNat, c2_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x256x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x2048x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x2048x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 1 → Memref sig .tc .vmem S1x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S8x256x768 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S1x256x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== Reference7Ideal.lean ====
abbrev S8x2048x1536 : Shape := ⟨3, ![8, 2048, 1536]⟩
abbrev S64 : Shape := ⟨1, ![64]⟩
abbrev S8x257 : Shape := ⟨2, ![8, 257]⟩
abbrev S8x2048x512 : Shape := ⟨3, ![8, 2048, 512]⟩
abbrev S8x2048x8x64 : Shape := ⟨4, ![8, 2048, 8, 64]⟩
abbrev S_ : Shape := ⟨0, ![]⟩
abbrev S8x2048x8 : Shape := ⟨3, ![8, 2048, 8]⟩
abbrev S8x2048x8x1 : Shape := ⟨4, ![8, 2048, 8, 1]⟩
abbrev S1x1x1x64 : Shape := ⟨4, ![1, 1, 1, 64]⟩
abbrev S2048 : Shape := ⟨1, ![2048]⟩
abbrev S1x2048 : Shape := ⟨2, ![1, 2048]⟩
abbrev S2048x1 : Shape := ⟨2, ![2048, 1]⟩
abbrev S2048x2048 : Shape := ⟨2, ![2048, 2048]⟩
abbrev S8x8x2048x2048 : Shape := ⟨4, ![8, 8, 2048, 2048]⟩
abbrev S2048x2048x1 : Shape := ⟨3, ![2048, 2048, 1]⟩
abbrev S8x2048x2048 : Shape := ⟨3, ![8, 2048, 2048]⟩
abbrev S1x8x2048x2048 : Shape := ⟨4, ![1, 8, 2048, 2048]⟩
abbrev S32 : Shape := ⟨1, ![32]⟩
abbrev S32x1 : Shape := ⟨2, ![32, 1]⟩
abbrev S32x64 : Shape := ⟨2, ![32, 64]⟩
abbrev S8x8x2048 : Shape := ⟨3, ![8, 8, 2048]⟩
abbrev S8x8x2048x1 : Shape := ⟨4, ![8, 8, 2048, 1]⟩
abbrev S8x8x64x2048 : Shape := ⟨4, ![8, 8, 64, 2048]⟩

abbrev nBuf : Space → Nat
  | .hbm => 112
  | .vmem => 0
  | .smem => 0
  | _ => 0

abbrev bufTy : (tb : Table) → Fin (tcTables nBuf tb) → BufTy
  | .hbm, ⟨0, _⟩ => ⟨S8x2048x1536, .f32⟩
  | .hbm, ⟨1, _⟩ => ⟨S64, .f32⟩
  | .hbm, ⟨2, _⟩ => ⟨S64, .f32⟩
  | .hbm, ⟨3, _⟩ => ⟨S8x257, .f32⟩
  | .hbm, ⟨4, _⟩ => ⟨S8x2048x512, .f32⟩
  | .hbm, ⟨5, _⟩ => ⟨S8x2048x8x64, .f32⟩
  | .hbm, ⟨6, _⟩ => ⟨S8x2048x8x64, .f32⟩
  | .hbm, ⟨7, _⟩ => ⟨S_, .f32⟩
  | .hbm, ⟨8, _⟩ => ⟨S8x2048x8, .f32⟩
  | .hbm, ⟨9, _⟩ => ⟨S8x2048x8x1, .f32⟩
  | .hbm, ⟨10, _⟩ => ⟨S_, .f32⟩
  | .hbm, ⟨11, _⟩ => ⟨S8x2048x8x1, .f32⟩
  | .hbm, ⟨12, _⟩ => ⟨S8x2048x8x1, .f32⟩
  | .hbm, ⟨13, _⟩ => ⟨S_, .f32⟩
  | .hbm, ⟨14, _⟩ => ⟨S8x2048x8x1, .f32⟩
  | .hbm, ⟨15, _⟩ => ⟨S8x2048x8x1, .f32⟩
  | .hbm, ⟨16, _⟩ => ⟨S8x2048x8x1, .f32⟩
  | .hbm, ⟨17, _⟩ => ⟨S8x2048x8x64, .f32⟩
  | .hbm, ⟨18, _⟩ => ⟨S8x2048x8x64, .f32⟩
  | .hbm, ⟨19, _⟩ => ⟨S1x1x1x64, .f32⟩
  | .hbm, ⟨20, _⟩ => ⟨S8x2048x8x64, .f32⟩
  | .hbm, ⟨21, _⟩ => ⟨S8x2048x8x64, .f32⟩
  | .hbm, ⟨22, _⟩ => ⟨S8x2048x512, .f32⟩
  | .hbm, ⟨23, _⟩ => ⟨S8x2048x8x64, .f32⟩
  | .hbm, ⟨24, _⟩ => ⟨S8x2048x8x64, .f32⟩
  | .hbm, ⟨25, _⟩ => ⟨S_, .f32⟩
  | .hbm, ⟨26, _⟩ => ⟨S8x2048x8, .f32⟩
  | .hbm, ⟨27, _⟩ => ⟨S8x2048x8x1, .f32⟩
  | .hbm, ⟨28, _⟩ => ⟨S_, .f32⟩
  | .hbm, ⟨29, _⟩ => ⟨S8x2048x8x1, .f32⟩
  | .hbm, ⟨30, _⟩ => ⟨S8x2048x8x1, .f32⟩
  | .hbm, ⟨31, _⟩ => ⟨S_, .f32⟩
  | .hbm, ⟨32, _⟩ => ⟨S8x2048x8x1, .f32⟩
  | .hbm, ⟨33, _⟩ => ⟨S8x2048x8x1, .f32⟩
  | .hbm, ⟨34, _⟩ => ⟨S8x2048x8x1, .f32⟩
  | .hbm, ⟨35, _⟩ => ⟨S8x2048x8x64, .f32⟩
  | .hbm, ⟨36, _⟩ => ⟨S8x2048x8x64, .f32⟩
  | .hbm, ⟨37, _⟩ => ⟨S1x1x1x64, .f32⟩
  | .hbm, ⟨38, _⟩ => ⟨S8x2048x8x64, .f32⟩
  | .hbm, ⟨39, _⟩ => ⟨S8x2048x8x64, .f32⟩
  | .hbm, ⟨40, _⟩ => ⟨S8x2048x512, .f32⟩
  | .hbm, ⟨41, _⟩ => ⟨S8x2048x8x64, .f32⟩
  | .hbm, ⟨42, _⟩ => ⟨S2048, .i32⟩
  | .hbm, ⟨43, _⟩ => ⟨S1x2048, .i32⟩
  | .hbm, ⟨44, _⟩ => ⟨S2048x1, .i32⟩
  | .hbm, ⟨45, _⟩ => ⟨S2048x2048, .i32⟩
  | .hbm, ⟨46, _⟩ => ⟨S2048x2048, .i32⟩
  | .hbm, ⟨47, _⟩ => ⟨S2048x2048, .i32⟩
  | .hbm, ⟨48, _⟩ => ⟨S_, .i32⟩
  | .hbm, ⟨49, _⟩ => ⟨S2048x2048, .i32⟩
  | .hbm, ⟨50, _⟩ => ⟨S2048x2048, .i32⟩
  | .hbm, ⟨51, _⟩ => ⟨S_, .i32⟩
  | .hbm, ⟨52, _⟩ => ⟨S2048x2048, .i32⟩
  | .hbm, ⟨53, _⟩ => ⟨S2048x2048, .i32⟩
  | .hbm, ⟨54, _⟩ => ⟨S_, .i32⟩
  | .hbm, ⟨55, _⟩ => ⟨S2048x2048, .i32⟩
  | .hbm, ⟨56, _⟩ => ⟨S2048x2048, .i32⟩
  | .hbm, ⟨57, _⟩ => ⟨S8x8x2048x2048, .f32⟩
  | .hbm, ⟨58, _⟩ => ⟨S_, .f32⟩
  | .hbm, ⟨59, _⟩ => ⟨S8x8x2048x2048, .f32⟩
  | .hbm, ⟨60, _⟩ => ⟨S8x8x2048x2048, .f32⟩
  | .hbm, ⟨61, _⟩ => ⟨S_, .i32⟩
  | .hbm, ⟨62, _⟩ => ⟨S2048x2048, .i32⟩
  | .hbm, ⟨63, _⟩ => ⟨S2048x2048, .i1⟩
  | .hbm, ⟨64, _⟩ => ⟨S_, .i32⟩
  | .hbm, ⟨65, _⟩ => ⟨S2048x2048, .i32⟩
  | .hbm, ⟨66, _⟩ => ⟨S2048x2048, .i32⟩
  | .hbm, ⟨67, _⟩ => ⟨S2048x2048, .i32⟩
  | .hbm, ⟨68, _⟩ => ⟨S2048x2048x1, .i32⟩
  | .hbm, ⟨69, _⟩ => ⟨S8x2048x2048, .f32⟩
  | .hbm, ⟨70, _⟩ => ⟨S1x8x2048x2048, .f32⟩
  | .hbm, ⟨71, _⟩ => ⟨S8x8x2048x2048, .f32⟩
  | .hbm, ⟨72, _⟩ => ⟨S8x8x2048x2048, .f32⟩
  | .hbm, ⟨73, _⟩ => ⟨S32, .i32⟩
  | .hbm, ⟨74, _⟩ => ⟨S32x1, .i32⟩
  | .hbm, ⟨75, _⟩ => ⟨S32x64, .i32⟩
  | .hbm, ⟨76, _⟩ => ⟨S2048, .i32⟩
  | .hbm, ⟨77, _⟩ => ⟨S2048x1, .i32⟩
  | .hbm, ⟨78, _⟩ => ⟨S1x2048, .i32⟩
  | .hbm, ⟨79, _⟩ => ⟨S2048x2048, .i32⟩
  | .hbm, ⟨80, _⟩ => ⟨S2048x2048, .i32⟩
  | .hbm, ⟨81, _⟩ => ⟨S2048x2048, .i32⟩
  | .hbm, ⟨82, _⟩ => ⟨S_, .i32⟩
  | .hbm, ⟨83, _⟩ => ⟨S2048x2048, .i32⟩
  | .hbm, ⟨84, _⟩ => ⟨S2048x2048, .i1⟩
  | .hbm, ⟨85, _⟩ => ⟨S_, .i32⟩
  | .hbm, ⟨86, _⟩ => ⟨S2048x2048, .i32⟩
  | .hbm, ⟨87, _⟩ => ⟨S2048x2048, .i1⟩
  | .hbm, ⟨88, _⟩ => ⟨S2048x2048, .i1⟩
  | .hbm, ⟨89, _⟩ => ⟨S_, .f32⟩
  | .hbm, ⟨90, _⟩ => ⟨S_, .f32⟩
  | .hbm, ⟨91, _⟩ => ⟨S8x8x2048x2048, .i1⟩
  | .hbm, ⟨92, _⟩ => ⟨S8x8x2048x2048, .f32⟩
  | .hbm, ⟨93, _⟩ => ⟨S8x8x2048x2048, .f32⟩
  | .hbm, ⟨94, _⟩ => ⟨S_, .f32⟩
  | .hbm, ⟨95, _⟩ => ⟨S8x8x2048, .f32⟩
  | .hbm, ⟨96, _⟩ => ⟨S_, .f32⟩
  | .hbm, ⟨97, _⟩ => ⟨S8x8x2048, .f32⟩
  | .hbm, ⟨98, _⟩ => ⟨S8x8x2048, .f32⟩
  | .hbm, ⟨99, _⟩ => ⟨S8x8x2048x1, .f32⟩
  | .hbm, ⟨100, _⟩ => ⟨S8x8x2048x2048, .f32⟩
  | .hbm, ⟨101, _⟩ => ⟨S8x8x2048x2048, .f32⟩
  | .hbm, ⟨102, _⟩ => ⟨S8x8x2048x2048, .f32⟩
  | .hbm, ⟨103, _⟩ => ⟨S_, .f32⟩
  | .hbm, ⟨104, _⟩ => ⟨S8x8x2048, .f32⟩
  | .hbm, ⟨105, _⟩ => ⟨S8x8x2048x1, .f32⟩
  | .hbm, ⟨106, _⟩ => ⟨S8x8x2048x2048, .f32⟩
  | .hbm, ⟨107, _⟩ => ⟨S8x8x2048x2048, .f32⟩
  | .hbm, ⟨108, _⟩ => ⟨S8x8x64x2048, .f32⟩
  | .hbm, ⟨109, _⟩ => ⟨S8x2048x8x64, .f32⟩
  | .hbm, ⟨110, _⟩ => ⟨S8x2048x512, .f32⟩
  | .hbm, ⟨111, _⟩ => ⟨S8x2048x512, .bf16⟩
  | _, _ => ⟨S8x2048x1536, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst : Ref sig .tc := ⟨.hbm, 7, rfl⟩
abbrev main_v3 : Ref sig .tc := ⟨.hbm, 8, rfl⟩
abbrev main_v4 : Ref sig .tc := ⟨.hbm, 9, rfl⟩
abbrev main_cst_0 : Ref sig .tc := ⟨.hbm, 10, rfl⟩
abbrev main_v5 : Ref sig .tc := ⟨.hbm, 11, rfl⟩
abbrev main_v6 : Ref sig .tc := ⟨.hbm, 12, rfl⟩
abbrev main_cst_1 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_cst_2 : Ref sig .tc := ⟨.hbm, 25, rfl⟩
abbrev main_v18 : Ref sig .tc := ⟨.hbm, 26, rfl⟩
abbrev main_v19 : Ref sig .tc := ⟨.hbm, 27, rfl⟩
abbrev main_cst_3 : Ref sig .tc := ⟨.hbm, 28, rfl⟩
abbrev main_v20 : Ref sig .tc := ⟨.hbm, 29, rfl⟩
abbrev main_v21 : Ref sig .tc := ⟨.hbm, 30, rfl⟩
abbrev main_cst_4 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_c : Ref sig .tc := ⟨.hbm, 48, rfl⟩
abbrev main_v38 : Ref sig .tc := ⟨.hbm, 49, rfl⟩
abbrev main_v39 : Ref sig .tc := ⟨.hbm, 50, rfl⟩
abbrev main_c_5 : Ref sig .tc := ⟨.hbm, 51, rfl⟩
abbrev main_v40 : Ref sig .tc := ⟨.hbm, 52, rfl⟩
abbrev main_v41 : Ref sig .tc := ⟨.hbm, 53, rfl⟩
abbrev main_c_6 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩
abbrev main_cst_7 : Ref sig .tc := ⟨.hbm, 58, rfl⟩
abbrev main_v45 : Ref sig .tc := ⟨.hbm, 59, rfl⟩
abbrev main_v46 : Ref sig .tc := ⟨.hbm, 60, rfl⟩
abbrev main_c_8 : Ref sig .tc := ⟨.hbm, 61, rfl⟩
abbrev main_v47 : Ref sig .tc := ⟨.hbm, 62, rfl⟩
abbrev main_v48 : Ref sig .tc := ⟨.hbm, 63, rfl⟩
abbrev main_c_9 : Ref sig .tc := ⟨.hbm, 64, rfl⟩
abbrev main_v49 : Ref sig .tc := ⟨.hbm, 65, rfl⟩
abbrev main_v50 : Ref sig .tc := ⟨.hbm, 66, rfl⟩
abbrev main_v51 : Ref sig .tc := ⟨.hbm, 67, rfl⟩
abbrev main_v52 : Ref sig .tc := ⟨.hbm, 68, rfl⟩
abbrev main_v53 : Ref sig .tc := ⟨.hbm, 69, rfl⟩
abbrev main_v54 : Ref sig .tc := ⟨.hbm, 70, rfl⟩
abbrev main_v55 : Ref sig .tc := ⟨.hbm, 71, rfl⟩
abbrev main_v56 : Ref sig .tc := ⟨.hbm, 72, rfl⟩
abbrev main_v57 : Ref sig .tc := ⟨.hbm, 73, rfl⟩
abbrev main_v58 : Ref sig .tc := ⟨.hbm, 74, rfl⟩
abbrev main_v59 : Ref sig .tc := ⟨.hbm, 75, rfl⟩
abbrev main_v60 : Ref sig .tc := ⟨.hbm, 76, rfl⟩
abbrev main_v61 : Ref sig .tc := ⟨.hbm, 77, rfl⟩
abbrev main_v62 : Ref sig .tc := ⟨.hbm, 78, rfl⟩
abbrev main_v63 : Ref sig .tc := ⟨.hbm, 79, rfl⟩
abbrev main_v64 : Ref sig .tc := ⟨.hbm, 80, rfl⟩
abbrev main_v65 : Ref sig .tc := ⟨.hbm, 81, rfl⟩
abbrev main_c_10 : Ref sig .tc := ⟨.hbm, 82, rfl⟩
abbrev main_v66 : Ref sig .tc := ⟨.hbm, 83, rfl⟩
abbrev main_v67 : Ref sig .tc := ⟨.hbm, 84, rfl⟩
abbrev main_c_11 : Ref sig .tc := ⟨.hbm, 85, rfl⟩
abbrev main_v68 : Ref sig .tc := ⟨.hbm, 86, rfl⟩
abbrev main_v69 : Ref sig .tc := ⟨.hbm, 87, rfl⟩
abbrev main_v70 : Ref sig .tc := ⟨.hbm, 88, rfl⟩
abbrev main_cst_12 : Ref sig .tc := ⟨.hbm, 89, rfl⟩
abbrev main_call0_v0 : Ref sig .tc := ⟨.hbm, 90, rfl⟩
abbrev main_call0_v1 : Ref sig .tc := ⟨.hbm, 91, rfl⟩
abbrev main_call0_v2 : Ref sig .tc := ⟨.hbm, 92, rfl⟩
abbrev main_v71 : Ref sig .tc := ⟨.hbm, 93, rfl⟩
abbrev main_cst_13 : Ref sig .tc := ⟨.hbm, 94, rfl⟩
abbrev main_v72 : Ref sig .tc := ⟨.hbm, 95, rfl⟩
abbrev main_cst_14 : Ref sig .tc := ⟨.hbm, 96, rfl⟩
abbrev main_v73 : Ref sig .tc := ⟨.hbm, 97, rfl⟩
abbrev main_v74 : Ref sig .tc := ⟨.hbm, 98, rfl⟩
abbrev main_v75 : Ref sig .tc := ⟨.hbm, 99, rfl⟩
abbrev main_v76 : Ref sig .tc := ⟨.hbm, 100, rfl⟩
abbrev main_v77 : Ref sig .tc := ⟨.hbm, 101, rfl⟩
abbrev main_v78 : Ref sig .tc := ⟨.hbm, 102, rfl⟩
abbrev main_cst_15 : Ref sig .tc := ⟨.hbm, 103, rfl⟩
abbrev main_v79 : Ref sig .tc := ⟨.hbm, 104, rfl⟩
abbrev main_v80 : Ref sig .tc := ⟨.hbm, 105, rfl⟩
abbrev main_v81 : Ref sig .tc := ⟨.hbm, 106, rfl⟩
abbrev main_v82 : Ref sig .tc := ⟨.hbm, 107, rfl⟩
abbrev main_v83 : Ref sig .tc := ⟨.hbm, 108, rfl⟩
abbrev main_v84 : Ref sig .tc := ⟨.hbm, 109, rfl⟩
abbrev main_v85 : Ref sig .tc := ⟨.hbm, 110, rfl⟩
abbrev main_v86 : Ref sig .tc := ⟨.hbm, 111, rfl⟩

abbrev nD : Nat := 1
abbrev τ : Topo := Topo.v7x

variable {F : FTy → Type} [FloatOps F]
-- ==== Kernel8.lean ====
abbrev S16384x1024 : Shape := ⟨2, ![16384, 1024]⟩
abbrev S1024 : Shape := ⟨1, ![1024]⟩
abbrev S1024x8 : Shape := ⟨2, ![1024, 8]⟩
abbrev S1x1024 : Shape := ⟨2, ![1, 1024]⟩
abbrev S8x1024 : Shape := ⟨2, ![8, 1024]⟩
abbrev S2x16384 : Shape := ⟨2, ![2, 16384]⟩
abbrev S8x128 : Shape := ⟨2, ![8, 128]⟩
abbrev S256x1024 : Shape := ⟨2, ![256, 1024]⟩
abbrev S2x256 : Shape := ⟨2, ![2, 256]⟩
abbrev S256 : Shape := ⟨1, ![256]⟩
abbrev S256x1 : Shape := ⟨2, ![256, 1]⟩
abbrev S8x256 : Shape := ⟨2, ![8, 256]⟩
abbrev S1x256 : Shape := ⟨2, ![1, 256]⟩
abbrev S256x256 : Shape := ⟨2, ![256, 256]⟩
abbrev S8x1 : Shape := ⟨2, ![8, 1]⟩
abbrev S8 : Shape := ⟨1, ![8]⟩

abbrev nBuf : Space → Nat
  | .hbm => 9
  | .vmem => 12
  | .smem => 0
  | _ => 0

abbrev bufTy : (tb : Table) → Fin (tcTables nBuf tb) → BufTy
  | .hbm, ⟨0, _⟩ => ⟨S16384x1024, .f32⟩
  | .hbm, ⟨1, _⟩ => ⟨S1024, .f32⟩
  | .hbm, ⟨2, _⟩ => ⟨S1024x8, .f32⟩
  | .hbm, ⟨3, _⟩ => ⟨S1x1024, .f32⟩
  | .hbm, ⟨4, _⟩ => ⟨S8x1024, .f32⟩
  | .hbm, ⟨5, _⟩ => ⟨S2x16384, .i32⟩
  | .hbm, ⟨6, _⟩ => ⟨S2x16384, .f32⟩
  | .hbm, ⟨7, _⟩ => ⟨S2x16384, .i32⟩
  | .hbm, ⟨8, _⟩ => ⟨S8x128, .f32⟩
  | .local _ .vmem, ⟨0, _⟩ => ⟨S256x1024, .f32⟩
  | .local _ .vmem, ⟨1, _⟩ => ⟨S256x1024, .f32⟩
  | .local _ .vmem, ⟨2, _⟩ => ⟨S1x1024, .f32⟩
  | .local _ .vmem, ⟨3, _⟩ => ⟨S8x1024, .f32⟩
  | .local _ .vmem, ⟨4, _⟩ => ⟨S2x256, .i32⟩
  | .local _ .vmem, ⟨5, _⟩ => ⟨S2x256, .i32⟩
  | .local _ .vmem, ⟨6, _⟩ => ⟨S2x256, .f32⟩
  | .local _ .vmem, ⟨7, _⟩ => ⟨S2x256, .f32⟩
  | .local _ .vmem, ⟨8, _⟩ => ⟨S2x256, .i32⟩
  | .local _ .vmem, ⟨9, _⟩ => ⟨S2x256, .i32⟩
  | .local _ .vmem, ⟨10, _⟩ => ⟨S8x128, .f32⟩
  | .local _ .vmem, ⟨11, _⟩ => ⟨S8x128, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2_0 : Ref sig .tc := ⟨.hbm, 5, rfl⟩
abbrev main_v2_1 : Ref sig .tc := ⟨.hbm, 6, rfl⟩
abbrev main_v2_2 : Ref sig .tc := ⟨.hbm, 7, rfl⟩
abbrev main_v2_3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_scratch0 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S8x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S2x256 .i32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S2x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S2x256 .i32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S8x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== Reference8Ideal.lean ====
abbrev S16384x1024 : Shape := ⟨2, ![16384, 1024]⟩
abbrev S1024 : Shape := ⟨1, ![1024]⟩
abbrev S1024x8 : Shape := ⟨2, ![1024, 8]⟩
abbrev S_ : Shape := ⟨0, ![]⟩
abbrev S16384 : Shape := ⟨1, ![16384]⟩
abbrev S16384x1 : Shape := ⟨2, ![16384, 1]⟩
abbrev S1x1024 : Shape := ⟨2, ![1, 1024]⟩
abbrev S16384x8 : Shape := ⟨2, ![16384, 8]⟩
abbrev S8 : Shape := ⟨1, ![8]⟩
abbrev S16384x8x1 : Shape := ⟨3, ![16384, 8, 1]⟩
abbrev S16384x1x8 : Shape := ⟨3, ![16384, 1, 8]⟩
abbrev S16384x8x8 : Shape := ⟨3, ![16384, 8, 8]⟩
abbrev S1x1x8 : Shape := ⟨3, ![1, 1, 8]⟩
abbrev S1x8x1 : Shape := ⟨3, ![1, 8, 1]⟩
abbrev S1x8x8 : Shape := ⟨3, ![1, 8, 8]⟩
abbrev S1x16384x8 : Shape := ⟨3, ![1, 16384, 8]⟩
abbrev S2 : Shape := ⟨1, ![2]⟩
abbrev S2x1x1 : Shape := ⟨3, ![2, 1, 1]⟩
abbrev S2x16384x8 : Shape := ⟨3, ![2, 16384, 8]⟩
abbrev S2x16384 : Shape := ⟨2, ![2, 16384]⟩
abbrev S1x16384 : Shape := ⟨2, ![1, 16384]⟩
abbrev S16384x16384 : Shape := ⟨2, ![16384, 16384]⟩
abbrev S8x1 : Shape := ⟨2, ![8, 1]⟩
abbrev S8x128 : Shape := ⟨2, ![8, 128]⟩

abbrev nBuf : Space → Nat
  | .hbm => 110
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S1024, .f32⟩
  | .hbm, ⟨2, _⟩ => ⟨S1024x8, .f32⟩
  | .hbm, ⟨3, _⟩ => ⟨S16384x1024, .f32⟩
  | .hbm, ⟨4, _⟩ => ⟨S_, .f32⟩
  | .hbm, ⟨5, _⟩ => ⟨S16384, .f32⟩
  | .hbm, ⟨6, _⟩ => ⟨S16384x1, .f32⟩
  | .hbm, ⟨7, _⟩ => ⟨S_, .f32⟩
  | .hbm, ⟨8, _⟩ => ⟨S16384x1, .f32⟩
  | .hbm, ⟨9, _⟩ => ⟨S16384x1, .f32⟩
  | .hbm, ⟨10, _⟩ => ⟨S_, .f32⟩
  | .hbm, ⟨11, _⟩ => ⟨S16384x1, .f32⟩
  | .hbm, ⟨12, _⟩ => ⟨S16384x1, .f32⟩
  | .hbm, ⟨13, _⟩ => ⟨S16384x1, .f32⟩
  | .hbm, ⟨14, _⟩ => ⟨S16384x1024, .f32⟩
  | .hbm, ⟨15, _⟩ => ⟨S16384x1024, .f32⟩
  | .hbm, ⟨16, _⟩ => ⟨S1x1024, .f32⟩
  | .hbm, ⟨17, _⟩ => ⟨S16384x1024, .f32⟩
  | .hbm, ⟨18, _⟩ => ⟨S16384x1024, .f32⟩
  | .hbm, ⟨19, _⟩ => ⟨S16384x8, .f32⟩
  | .hbm, ⟨20, _⟩ => ⟨S8, .i32⟩
  | .hbm, ⟨21, _⟩ => ⟨S16384x8x1, .f32⟩
  | .hbm, ⟨22, _⟩ => ⟨S16384x1x8, .f32⟩
  | .hbm, ⟨23, _⟩ => ⟨S16384x8x8, .f32⟩
  | .hbm, ⟨24, _⟩ => ⟨S16384x8x8, .f32⟩
  | .hbm, ⟨25, _⟩ => ⟨S16384x8x8, .i1⟩
  | .hbm, ⟨26, _⟩ => ⟨S16384x8x8, .f32⟩
  | .hbm, ⟨27, _⟩ => ⟨S16384x8x8, .f32⟩
  | .hbm, ⟨28, _⟩ => ⟨S16384x8x8, .i1⟩
  | .hbm, ⟨29, _⟩ => ⟨S1x1x8, .i32⟩
  | .hbm, ⟨30, _⟩ => ⟨S1x8x1, .i32⟩
  | .hbm, ⟨31, _⟩ => ⟨S1x8x8, .i32⟩
  | .hbm, ⟨32, _⟩ => ⟨S1x8x8, .i32⟩
  | .hbm, ⟨33, _⟩ => ⟨S1x8x8, .i1⟩
  | .hbm, ⟨34, _⟩ => ⟨S16384x8x8, .i1⟩
  | .hbm, ⟨35, _⟩ => ⟨S16384x8x8, .i1⟩
  | .hbm, ⟨36, _⟩ => ⟨S16384x8x8, .i1⟩
  | .hbm, ⟨37, _⟩ => ⟨S_, .f32⟩
  | .hbm, ⟨38, _⟩ => ⟨S_, .f32⟩
  | .hbm, ⟨39, _⟩ => ⟨S16384x8x8, .f32⟩
  | .hbm, ⟨40, _⟩ => ⟨S16384x8x8, .f32⟩
  | .hbm, ⟨41, _⟩ => ⟨S16384x8x8, .f32⟩
  | .hbm, ⟨42, _⟩ => ⟨S16384x8x8, .f32⟩
  | .hbm, ⟨43, _⟩ => ⟨S_, .f32⟩
  | .hbm, ⟨44, _⟩ => ⟨S16384x8, .f32⟩
  | .hbm, ⟨45, _⟩ => ⟨S1x16384x8, .f32⟩
  | .hbm, ⟨46, _⟩ => ⟨S2, .f32⟩
  | .hbm, ⟨47, _⟩ => ⟨S2x1x1, .f32⟩
  | .hbm, ⟨48, _⟩ => ⟨S2x16384x8, .f32⟩
  | .hbm, ⟨49, _⟩ => ⟨S2x16384x8, .f32⟩
  | .hbm, ⟨50, _⟩ => ⟨S2x16384x8, .i1⟩
  | .hbm, ⟨51, _⟩ => ⟨S_, .f32⟩
  | .hbm, ⟨52, _⟩ => ⟨S_, .f32⟩
  | .hbm, ⟨53, _⟩ => ⟨S2x16384x8, .f32⟩
  | .hbm, ⟨54, _⟩ => ⟨S2x16384x8, .f32⟩
  | .hbm, ⟨55, _⟩ => ⟨S2x16384x8, .f32⟩
  | .hbm, ⟨56, _⟩ => ⟨S8, .f32⟩
  | .hbm, ⟨57, _⟩ => ⟨S2x16384x8, .f32⟩
  | .hbm, ⟨58, _⟩ => ⟨S1x1x8, .f32⟩
  | .hbm, ⟨59, _⟩ => ⟨S2x16384x8, .f32⟩
  | .hbm, ⟨60, _⟩ => ⟨S2x16384x8, .f32⟩
  | .hbm, ⟨61, _⟩ => ⟨S_, .f32⟩
  | .hbm, ⟨62, _⟩ => ⟨S2x16384, .f32⟩
  | .hbm, ⟨63, _⟩ => ⟨S2x16384, .i32⟩
  | .hbm, ⟨64, _⟩ => ⟨S1x16384x8, .f32⟩
  | .hbm, ⟨65, _⟩ => ⟨S2x16384x8, .f32⟩
  | .hbm, ⟨66, _⟩ => ⟨S2x16384x8, .f32⟩
  | .hbm, ⟨67, _⟩ => ⟨S2x16384x8, .f32⟩
  | .hbm, ⟨68, _⟩ => ⟨S_, .f32⟩
  | .hbm, ⟨69, _⟩ => ⟨S2x16384, .f32⟩
  | .hbm, ⟨70, _⟩ => ⟨S_, .f32⟩
  | .hbm, ⟨71, _⟩ => ⟨S16384, .f32⟩
  | .hbm, ⟨72, _⟩ => ⟨S_, .f32⟩
  | .hbm, ⟨73, _⟩ => ⟨S16384, .f32⟩
  | .hbm, ⟨74, _⟩ => ⟨S16384, .f32⟩
  | .hbm, ⟨75, _⟩ => ⟨S1x16384, .f32⟩
  | .hbm, ⟨76, _⟩ => ⟨S2x16384, .f32⟩
  | .hbm, ⟨77, _⟩ => ⟨S2x16384, .f32⟩
  | .hbm, ⟨78, _⟩ => ⟨S2x16384, .f32⟩
  | .hbm, ⟨79, _⟩ => ⟨S_, .f32⟩
  | .hbm, ⟨80, _⟩ => ⟨S16384, .f32⟩
  | .hbm, ⟨81, _⟩ => ⟨S1x16384, .f32⟩
  | .hbm, ⟨82, _⟩ => ⟨S2x16384, .f32⟩
  | .hbm, ⟨83, _⟩ => ⟨S2x16384, .f32⟩
  | .hbm, ⟨84, _⟩ => ⟨S2x16384x8, .f32⟩
  | .hbm, ⟨85, _⟩ => ⟨S_, .f32⟩
  | .hbm, ⟨86, _⟩ => ⟨S16384x8, .f32⟩
  | .hbm, ⟨87, _⟩ => ⟨S16384, .i32⟩
  | .hbm, ⟨88, _⟩ => ⟨S1x16384, .i32⟩
  | .hbm, ⟨89, _⟩ => ⟨S16384x1, .i32⟩
  | .hbm, ⟨90, _⟩ => ⟨S16384x16384, .i32⟩
  | .hbm, ⟨91, _⟩ => ⟨S16384x16384, .i32⟩
  | .hbm, ⟨92, _⟩ => ⟨S16384x16384, .i1⟩
  | .hbm, ⟨93, _⟩ => ⟨S_, .f32⟩
  | .hbm, ⟨94, _⟩ => ⟨S_, .f32⟩
  | .hbm, ⟨95, _⟩ => ⟨S16384x16384, .f32⟩
  | .hbm, ⟨96, _⟩ => ⟨S16384x16384, .f32⟩
  | .hbm, ⟨97, _⟩ => ⟨S16384x16384, .f32⟩
  | .hbm, ⟨98, _⟩ => ⟨S16384x8, .f32⟩
  | .hbm, ⟨99, _⟩ => ⟨S1x16384x8, .f32⟩
  | .hbm, ⟨100, _⟩ => ⟨S2x16384x8, .f32⟩
  | .hbm, ⟨101, _⟩ => ⟨S2x16384x8, .f32⟩
  | .hbm, ⟨102, _⟩ => ⟨S2x16384x8, .f32⟩
  | .hbm, ⟨103, _⟩ => ⟨S_, .f32⟩
  | .hbm, ⟨104, _⟩ => ⟨S2x16384, .f32⟩
  | .hbm, ⟨105, _⟩ => ⟨S2x16384, .i32⟩
  | .hbm, ⟨106, _⟩ => ⟨S_, .f32⟩
  | .hbm, ⟨107, _⟩ => ⟨S8, .f32⟩
  | .hbm, ⟨108, _⟩ => ⟨S8x1, .f32⟩
  | .hbm, ⟨109, _⟩ => ⟨S8x128, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_v29 : Ref sig .tc := ⟨.hbm, 35, rfl⟩
abbrev main_v30 : Ref sig .tc := ⟨.hbm, 36, rfl⟩
abbrev main_cst_2 : Ref sig .tc := ⟨.hbm, 37, rfl⟩
abbrev main_cst_3 : Ref sig .tc := ⟨.hbm, 38, rfl⟩
abbrev main_call0_v0 : Ref sig .tc := ⟨.hbm, 39, rfl⟩
abbrev main_call0_v1 : Ref sig .tc := ⟨.hbm, 40, rfl⟩
abbrev main_v31 : Ref sig .tc := ⟨.hbm, 41, rfl⟩
abbrev main_v32 : Ref sig .tc := ⟨.hbm, 42, rfl⟩
abbrev main_cst_4 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_cst_5 : Ref sig .tc := ⟨.hbm, 51, rfl⟩
abbrev main_cst_6 : Ref sig .tc := ⟨.hbm, 52, rfl⟩
abbrev main_call1_v0 : Ref sig .tc := ⟨.hbm, 53, rfl⟩
abbrev main_call1_v1 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_cst_7 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩
abbrev main_v49 : Ref sig .tc := ⟨.hbm, 65, rfl⟩
abbrev main_v50 : Ref sig .tc := ⟨.hbm, 66, rfl⟩
abbrev main_v51 : Ref sig .tc := ⟨.hbm, 67, rfl⟩
abbrev main_cst_8 : Ref sig .tc := ⟨.hbm, 68, rfl⟩
abbrev main_v52 : Ref sig .tc := ⟨.hbm, 69, rfl⟩
abbrev main_cst_9 : Ref sig .tc := ⟨.hbm, 70, rfl⟩
abbrev main_v53 : Ref sig .tc := ⟨.hbm, 71, rfl⟩
abbrev main_cst_10 : Ref sig .tc := ⟨.hbm, 72, rfl⟩
abbrev main_v54 : Ref sig .tc := ⟨.hbm, 73, rfl⟩
abbrev main_v55 : Ref sig .tc := ⟨.hbm, 74, rfl⟩
abbrev main_v56 : Ref sig .tc := ⟨.hbm, 75, rfl⟩
abbrev main_v57 : Ref sig .tc := ⟨.hbm, 76, rfl⟩
abbrev main_v58 : Ref sig .tc := ⟨.hbm, 77, rfl⟩
abbrev main_v59 : Ref sig .tc := ⟨.hbm, 78, rfl⟩
abbrev main_cst_11 : Ref sig .tc := ⟨.hbm, 79, rfl⟩
abbrev main_v60 : Ref sig .tc := ⟨.hbm, 80, rfl⟩
abbrev main_v61 : Ref sig .tc := ⟨.hbm, 81, rfl⟩
abbrev main_v62 : Ref sig .tc := ⟨.hbm, 82, rfl⟩
abbrev main_v63 : Ref sig .tc := ⟨.hbm, 83, rfl⟩
abbrev main_v64 : Ref sig .tc := ⟨.hbm, 84, rfl⟩
abbrev main_cst_12 : Ref sig .tc := ⟨.hbm, 85, rfl⟩
abbrev main_v65 : Ref sig .tc := ⟨.hbm, 86, rfl⟩
abbrev main_v66 : Ref sig .tc := ⟨.hbm, 87, rfl⟩
abbrev main_v67 : Ref sig .tc := ⟨.hbm, 88, rfl⟩
abbrev main_v68 : Ref sig .tc := ⟨.hbm, 89, rfl⟩
abbrev main_v69 : Ref sig .tc := ⟨.hbm, 90, rfl⟩
abbrev main_v70 : Ref sig .tc := ⟨.hbm, 91, rfl⟩
abbrev main_v71 : Ref sig .tc := ⟨.hbm, 92, rfl⟩
abbrev main_cst_13 : Ref sig .tc := ⟨.hbm, 93, rfl⟩
abbrev main_cst_14 : Ref sig .tc := ⟨.hbm, 94, rfl⟩
abbrev main_call2_v0 : Ref sig .tc := ⟨.hbm, 95, rfl⟩
abbrev main_call2_v1 : Ref sig .tc := ⟨.hbm, 96, rfl⟩
abbrev main_v72 : Ref sig .tc := ⟨.hbm, 97, rfl⟩
abbrev main_v73 : Ref sig .tc := ⟨.hbm, 98, rfl⟩
abbrev main_v74 : Ref sig .tc := ⟨.hbm, 99, rfl⟩
abbrev main_v75 : Ref sig .tc := ⟨.hbm, 100, rfl⟩
abbrev main_v76 : Ref sig .tc := ⟨.hbm, 101, rfl⟩
abbrev main_v77 : Ref sig .tc := ⟨.hbm, 102, rfl⟩
abbrev main_cst_15 : Ref sig .tc := ⟨.hbm, 103, rfl⟩
abbrev main_v78 : Ref sig .tc := ⟨.hbm, 104, rfl⟩
abbrev main_v79 : Ref sig .tc := ⟨.hbm, 105, rfl⟩
abbrev main_cst_16 : Ref sig .tc := ⟨.hbm, 106, rfl⟩
abbrev main_v80 : Ref sig .tc := ⟨.hbm, 107, rfl⟩
abbrev main_v81 : Ref sig .tc := ⟨.hbm, 108, rfl⟩
abbrev main_v82 : Ref sig .tc := ⟨.hbm, 109, rfl⟩

abbrev nD : Nat := 1
abbrev τ : Topo := Topo.v7x

variable {F : FTy → Type} [FloatOps F]
-- ==== Proof.Gla.Cumsum.lean ====
/- A running sum written as a window sum: over a window of all 64 positions, padded below by 63 zeros, position `l`
   holds the sum of the elements up to `l`. -/
module

public import Idealize.ShloMosaic.Lib.Pointwise

@[expose] public section

set_option maxRecDepth 16384

noncomputable section

namespace Gla

open Idealize.ShloMosaic

/-- The sum of the terms up to `l`. -/
def cum (a : Fin 64 → EReal) (l : Fin 64) : EReal := ∑ s : Fin 64, if s ≤ l then a s else 0

/-- The window's positions that fall on an element, counted by the element. -/
theorem sum_window (f : Fin 64 → EReal) (l : Fin 64) :
    (∑ w : Fin 64, if h : 63 ≤ l.val + w.val then f ⟨l.val + w.val - 63, by omega⟩ else 0) = cum f l := by
  unfold cum
  have hl (g : Fin 64 → EReal) (p : Fin 64 → Prop) [DecidablePred p] :
      (∑ s : Fin 64, if p s then g s else 0) = ∑ s ∈ Finset.univ.filter p, g s := (Finset.sum_filter p g).symm
  rw [hl f (fun s => s ≤ l)]
  have e : (∑ w : Fin 64, if h : 63 ≤ l.val + w.val then f ⟨l.val + w.val - 63, by omega⟩ else 0)
      = ∑ w : Fin 64, if 63 ≤ l.val + w.val then f ⟨(l.val + w.val - 63) % 64, Nat.mod_lt _ (by decide)⟩ else 0 := by
    refine Finset.sum_congr rfl fun w _ => ?_
    by_cases h : 63 ≤ l.val + w.val
    · rw [dif_pos h, if_pos h]
      congr 1
      apply Fin.ext
      show l.val + w.val - 63 = (l.val + w.val - 63) % 64
      omega
    · rw [dif_neg h, if_neg h]
  rw [e, hl _ (fun w => 63 ≤ l.val + w.val)]
  refine Finset.sum_nbij' (fun w => ⟨(l.val + w.val - 63) % 64, Nat.mod_lt _ (by decide)⟩)
    (fun s => ⟨(63 + s.val - l.val) % 64, Nat.mod_lt _ (by decide)⟩) ?_ ?_ ?_ ?_ ?_
  · intro w hw
    simp only [Finset.mem_filter, Finset.mem_univ, true_and] at hw ⊢
    rw [Fin.le_def]
    show (l.val + w.val - 63) % 64 ≤ l.val
    omega
  · intro s hs
    simp only [Finset.mem_filter, Finset.mem_univ, true_and] at hs ⊢
    rw [Fin.le_def] at hs
    omega
  · intro w hw
    simp only [Finset.mem_filter, Finset.mem_univ, true_and] at hw
    apply Fin.ext
    show (63 + (l.val + w.val - 63) % 64 - l.val) % 64 = w.val
    omega
  · intro s hs
    simp only [Finset.mem_filter, Finset.mem_univ, true_and] at hs
    rw [Fin.le_def] at hs
    apply Fin.ext
    show (l.val + (63 + s.val - l.val) % 64 - 63) % 64 = s.val
    omega
  · intro w _
    rfl

/-- A fold of additions from zero is the sum. -/
theorem foldl_add {n : ℕ} (f : Fin n → EReal) : (List.finRange n).foldl (fun r i => r + f i) 0 = ∑ i, f i := by
  have h (l : List (Fin n)) (z : EReal) : l.foldl (fun r i => r + f i) z = z + (l.map f).sum := by
    induction l generalizing z with
    | nil => simp
    | cons a l ih => rw [List.foldl_cons, ih, List.map_cons, List.sum_cons, add_assoc]
  rw [h, zero_add, ← List.ofFn_eq_map, List.sum_ofFn]

/-- The window sum of a [8, 64, 4, 64] array over its second axis. -/
theorem cumsum_at (x : FVec Ideal ⟨4, ![8, 64, 4, 64]⟩ .f32) (z : (⟨0, ![]⟩ : Shape).Idx → EReal) (hz : ∀ i, z i = 0)
    (h : (⟨4, ![8, 64, 4, 64]⟩ : Shape).ReduceWindows ![1, 64, 1, 1] ![1, 1, 1, 1] ![0, 63, 0, 0] ![0, 0, 0, 0] ⟨4, ![8, 64, 4, 64]⟩)
    (hu : 0 < (⟨0, ![]⟩ : Shape).numel) (b : Fin 8) (l : Fin 64) (c : Fin 4) (d : Fin 64) :
    Host.reduceWindowAdd (F := Ideal) (φ := .f32) ![1, 64, 1, 1] ![1, 1, 1, 1] ![0, 63, 0, 0] ![0, 0, 0, 0] x z h hu (ix4 b l c d)
      = cum (fun s => x (ix4 b s c d)) l := by
  unfold Host.reduceWindowAdd
  rw [Ideal.hostReduceWindowAdd_def, hz]
  unfold Ideal.hostReduceWindowAdd Host.reduceWindow
  dsimp only
  rw [foldl_add]
  rw [← Equiv.sum_comp (Shape.rowMajor (⟨4, ![1, 64, 1, 1]⟩ : Shape))]
  simp only [Equiv.symm_apply_apply]
  rw [← sum_window]
  rw [sum_idx4]
  simp only [Finset.univ_unique, Finset.sum_singleton]
  refine Finset.sum_congr rfl fun w _ => ?_
  by_cases hw : 63 ≤ l.val + w.val
  · rw [dif_pos hw, dif_pos]
    · congr 1
      funext a
      apply Fin.ext
      fin_cases a
      · show b.val * 1 + 0 - 0 = b.val
        omega
      · show l.val * 1 + w.val - 63 = l.val + w.val - 63
        omega
      · show c.val * 1 + 0 - 0 = c.val
        omega
      · show d.val * 1 + 0 - 0 = d.val
        omega
    · intro a
      fin_cases a
      · show 0 ≤ b.val * 1 + 0 ∧ b.val * 1 + 0 - 0 < 8
        omega
      · show 63 ≤ l.val * 1 + w.val ∧ l.val * 1 + w.val - 63 < 64
        omega
      · show 0 ≤ c.val * 1 + 0 ∧ c.val * 1 + 0 - 0 < 4
        omega
      · show 0 ≤ d.val * 1 + 0 ∧ d.val * 1 + 0 - 0 < 64
        omega
  · rw [dif_neg hw, dif_neg]
    intro h'
    have h1 : 63 ≤ l.val * 1 + w.val := (h' 1).1
    omega

end Gla

end
-- ==== Proof.Gla.Spec.lean ====
/- One head of gated linear attention over a chunk of 64 positions, on extended reals: the outputs of the chunk and the
   state it hands the next one, of the chunk's queries `q`, keys `k`, values `v`, running log-decays `b` and the state
   `S` entering it. Then the same over a whole sequence, of the arguments. -/
module

public import proofs.«01_k».proof.Proof.Gla.Cumsum

@[expose] public section

noncomputable section

namespace Gla

open Idealize.ShloMosaic

/-- The output at position `l`, lane `e`: the causal part inside the chunk and the part read from the entering state. -/
def out (q k b : Fin 64 → Fin 64 → EReal) (v S : Fin 64 → Fin 128 → EReal) (l : Fin 64) (e : Fin 128) : EReal :=
  (∑ s, v s e * (if s ≤ l then ∑ d, (q l d * Ideal.exp (b l d)) * (k s d * Ideal.exp (-(b s d))) else 0))
    + ∑ d, S d e * (q l d * Ideal.exp (b l d))

/-- The state after the chunk. -/
def next (k b : Fin 64 → Fin 64 → EReal) (v S : Fin 64 → Fin 128 → EReal) (d : Fin 64) (e : Fin 128) : EReal :=
  S d e * Ideal.exp (b 63 d) + ∑ l, (k l d * Ideal.exp (b 63 d - b l d)) * v l e

/-! The arguments of a chunk: rows `64 n …` of the sequence. -/

/-- Position `l` of chunk `n` (the chunks are 32; beyond, the rows wrap around). -/
def row (n : ℕ) (l : Fin 64) : Fin 2048 := ⟨(n * 64 + l.val) % 2048, Nat.mod_lt _ (by decide)⟩

/-- Lane `d` of head `h`, of 64 lanes a head. -/
def lane (h : Fin 4) (d : Fin 64) : Fin 256 := ⟨h.val * 64 + d.val, by omega⟩

section
variable (Z : FVec Ideal ⟨3, ![8, 2048, 1664]⟩ .f32) (U : FVec Ideal ⟨2, ![16, 256]⟩ .f32) (B : FVec Ideal ⟨1, ![256]⟩ .f32)

/-- Scaled queries, keys, values. -/
def qA (b : Fin 8) (r : Fin 2048) (c : Fin 256) : EReal :=
  Z (ix3 b r ⟨c.val, by omega⟩) * Ideal.ofBits .f32 0x3E000000#32
def kA (b : Fin 8) (r : Fin 2048) (c : Fin 256) : EReal := Z (ix3 b r ⟨256 + c.val, by omega⟩)
def vA (b : Fin 8) (r : Fin 2048) (c : Fin 512) : EReal := Z (ix3 b r ⟨512 + c.val, by omega⟩)

/-- The gate before its nonlinearity. -/
def gate (b : Fin 8) (r : Fin 2048) (c : Fin 256) : EReal :=
  (∑ i : Fin 16, Z (ix3 b r ⟨1536 + i.val, by omega⟩) * U (ix2 i c)) + B (ix1 c)

/-- The logarithm of the logistic function. -/
def logSig (x : EReal) : EReal := min x 0 - Ideal.log1p (Ideal.exp (-(max x (-x))))

/-- The log-decays. -/
def aA (b : Fin 8) (r : Fin 2048) (c : Fin 256) : EReal :=
  Ideal.div (logSig (gate Z U B b r c)) (Ideal.ofBits .f32 0x41800000#32)

/-- The running log-decays of chunk `n`. -/
def bC (b : Fin 8) (h : Fin 4) (n : ℕ) (l d : Fin 64) : EReal := cum (fun s => aA Z U B b (row n s) (lane h d)) l
def qC (b : Fin 8) (h : Fin 4) (n : ℕ) (l d : Fin 64) : EReal := qA Z b (row n l) (lane h d)
def kC (b : Fin 8) (h : Fin 4) (n : ℕ) (l d : Fin 64) : EReal := kA Z b (row n l) (lane h d)
def vC (b : Fin 8) (h : Fin 4) (n : ℕ) (l : Fin 64) (e : Fin 128) : EReal := vA Z b (row n l) ⟨h.val * 128 + e.val, by omega⟩

/-- The state of sequence `b`, head `h` entering chunk `n`. -/
def St (b : Fin 8) (h : Fin 4) : ℕ → Fin 64 → Fin 128 → EReal
  | 0 => fun _ _ => 0
  | n + 1 => next (kC Z b h n) (bC Z U B b h n) (vC Z b h n) (St b h n)

/-- The outputs of chunk `n`. -/
def Out (b : Fin 8) (h : Fin 4) (n : ℕ) : Fin 64 → Fin 128 → EReal :=
  out (qC Z b h n) (kC Z b h n) (bC Z U B b h n) (vC Z b h n) (St Z U B b h n)

/-- An output normalised over its head, scaled by the head's weights and gated. -/
def fin (w : FVec Ideal ⟨1, ![128]⟩ .f32) (o : Fin 128 → EReal) (g : EReal) (e : Fin 128) : EReal :=
  o e * Ideal.rsqrt (Ideal.div (∑ i, o i * o i) (Ideal.ofBits .f32 0x43000000#32) + Ideal.ofBits .f32 0x358637BD#32) * w (ix1 e)
    * (g * Ideal.div 1 (1 + Ideal.exp (-g)))

end

end Gla

end
-- ==== Proof.Gla.Sums.lean ====
/- Facts on extended reals the kernel's arithmetic rests on: sums over lanes split by head, a product whose second factor
   is split into a leading part and remainders, and two spellings of the logarithm of the logistic function. -/
module

public import proofs.«01_k».proof.Proof.Gla.Spec

@[expose] public section

noncomputable section

namespace Gla

open Idealize.ShloMosaic

/-- A sum over `n * k` places is one over `n` groups of `k`. -/
theorem sum_groups {M : Type} [AddCommMonoid M] {n k : ℕ} (f : Fin (n * k) → M) :
    ∑ c, f c = ∑ a : Fin n, ∑ b : Fin k, f ⟨a.val * k + b.val, by
      have := a.isLt; have := b.isLt
      calc a.val * k + b.val < a.val * k + k := by omega
        _ = (a.val + 1) * k := by ring
        _ ≤ n * k := Nat.mul_le_mul_right _ (by omega)⟩ := by
  rw [← Fintype.sum_prod_type', ← finProdFinEquiv.sum_comp]
  refine Finset.sum_congr rfl fun x _ => congrArg f (Fin.ext ?_)
  show x.2.val + k * x.1.val = x.1.val * k + x.2.val
  ring

/-- Over 256 lanes, the terms of one head. -/
theorem sum_head (f : Fin 256 → EReal) (h : Fin 4) (hf : ∀ h' d, h' ≠ h → f (lane h' d) = 0) :
    ∑ c, f c = ∑ d, f (lane h d) := by
  have e := sum_groups (n := 4) (k := 64) f
  refine e.trans ((Finset.sum_eq_single h (fun h' _ hne => ?_) (fun hn => absurd (Finset.mem_univ _) hn)))
  exact Finset.sum_eq_zero fun d _ => hf h' d hne

/-- A factor split into itself and what rounding left over, which is nothing: the three products add up to the first. -/
theorem split_sum {n : ℕ} (t a : Fin n → EReal) (ht : ∀ s, t s = 0 ∨ t s = 1) (ha : ∀ s, a s ≠ ⊤) :
    ∑ s, t s * a s + ∑ s, t s * (a s - a s) + ∑ s, t s * (a s - a s - (a s - a s)) = ∑ s, t s * a s := by
  by_cases hb : ∃ s, t s = 1 ∧ a s = ⊥
  · obtain ⟨s, h1, h2⟩ := hb
    have e : ∑ s, t s * a s = ⊥ := by
      rw [← Finset.add_sum_erase _ _ (Finset.mem_univ s), h1, h2, one_mul, EReal.bot_add]
    rw [e, EReal.bot_add, EReal.bot_add]
  · have z (s) : t s * (a s - a s) = 0 ∧ t s * (a s - a s - (a s - a s)) = 0 := by
      rcases ht s with h | h
      · simp [h]
      · have hbot : a s ≠ ⊥ := fun e => hb ⟨s, h, e⟩
        have : a s - a s = 0 := EReal.sub_self (ha s) hbot
        simp [this]
    rw [Finset.sum_eq_zero fun s _ => (z s).1, Finset.sum_eq_zero fun s _ => (z s).2, add_zero, add_zero]

theorem exp_nonneg (x : EReal) : 0 ≤ Ideal.exp x := by
  induction x using EReal.rec with
  | bot => exact le_rfl
  | top => exact le_top
  | coe r => exact EReal.coe_nonneg.2 (Real.exp_pos r).le

theorem log_nonneg {x : EReal} (h : 1 ≤ x) : 0 ≤ Ideal.log x := by
  induction x using EReal.rec with
  | bot => exact absurd (lt_of_lt_of_le (EReal.bot_lt_coe 1) h) (lt_irrefl _)
  | top => exact le_top
  | coe r =>
    have hr : 1 ≤ r := by exact_mod_cast h
    show 0 ≤ if r ≤ 0 then (⊥ : EReal) else (Real.log r : EReal)
    rw [if_neg (by linarith)]
    exact EReal.coe_nonneg.2 (Real.log_nonneg hr)

theorem neg_nonpos' {x : EReal} (h : 0 ≤ x) : -x ≤ 0 := by
  have := EReal.neg_le_neg_iff.2 h
  rwa [neg_zero] at this

/-- The correction term of the softplus is not negative. -/
theorem soft_nonneg (x : EReal) : 0 ≤ Ideal.log (1 + Ideal.exp x) :=
  log_nonneg (le_add_of_nonneg_right (exp_nonneg x))

/-- The negated softplus of the negated argument is the logarithm of the logistic function. -/
theorem log_sig (x : EReal) :
    0 - (max (0 - x) 0 + Ideal.log (1 + Ideal.exp (0 - max (0 - x) (-(0 - x))))) = logSig x := by
  unfold logSig Ideal.log1p
  rw [zero_sub, zero_sub, zero_sub, neg_neg, max_comm (-x) x]
  have hw := soft_nonneg (-(max x (-x)))
  generalize Ideal.log (1 + Ideal.exp (-(max x (-x)))) = w at hw ⊢
  have h1 : max (-x) 0 ≠ ⊥ := fun e => absurd (e ▸ le_max_right (-x) 0 : (0 : EReal) ≤ ⊥) (by simp)
  have h2 : w ≠ ⊥ := fun e => absurd (e ▸ hw) (by simp)
  rw [EReal.neg_add (.inl h1) (.inr h2)]
  congr 1
  rcases le_total x 0 with h | h
  · rw [min_eq_left h, max_eq_left (EReal.neg_nonneg.2 h), neg_neg]
  · rw [min_eq_right h, max_eq_right (neg_nonpos' h), neg_zero]

/-- It is not positive. -/
theorem log_sig_le (x : EReal) : logSig x ≤ 0 := by
  unfold logSig Ideal.log1p
  have hw := soft_nonneg (-(max x (-x)))
  rw [sub_eq_add_neg]
  exact add_nonpos (min_le_right _ _) (neg_nonpos' hw)

/-- A log-decay is never `⊤`. -/
theorem decay_ne_top (x : EReal) : Ideal.div (logSig x) (Ideal.ofBits .f32 0x41800000#32) ≠ ⊤ := by
  have h16 : Ideal.ofBits .f32 0x41800000#32 = ((16 : ℝ) : EReal) := by
    simp [Ideal.ofBits, Ideal.ieee, -EReal.coe_mul]; norm_num
  rw [h16]
  have hx := log_sig_le x
  generalize logSig x = y at hx
  unfold Ideal.div
  rw [if_neg (by norm_num), ← EReal.coe_inv]
  refine ne_of_lt (lt_of_le_of_lt (b := 0) ?_ (by simp))
  exact mul_nonpos_of_nonpos_of_nonneg hx (EReal.coe_nonneg.2 (by norm_num))

end Gla

end
-- ==== Proof.Gla.Masks.lean ====
/- The kernel's integer masks, read at an index: the head of a lane, the causal mask of a chunk beside itself four times,
   the blocks on the diagonal of the state, and the lower triangle inside a chunk of the running sum. -/
module

public import proofs.«01_k».proof.Proof.Gen.KernelIdeal.Skeleton
public import proofs.«01_k».proof.Proof.Gla.Sums
public import Idealize.ShloMosaic.Lib.Pointwise

@[expose] public section

set_option maxRecDepth 16384

noncomputable section

namespace Cert.KernelIdeal.Pt

open Idealize.ShloMosaic Idealize.ShloMosaic.TcCoe
open Cert.KernelIdeal Cert.KernelIdeal.Gen
open Gla

abbrev kHead : IVec S64x256 32 := k0_pay17 k0_pay14 k0_pay15 k0_pay16
abbrev vHead : IVec S64x512 32 := k0_pay18
abbrev causal : IVec S64x256 1 := k0_pay22 (iota .tc S64x256 32 [0] iota_S64x256_d0_w32) k0_pay19 k0_pay20 k0_pay21
abbrev diag : IVec S512x256 1 := k0_pay28 k0_pay23 k0_pay24 k0_pay25 k0_pay26 k0_pay27

theorem kHead_at (s : Fin 64) (c : Fin 256) : kHead (ix2 s c) = BitVec.ofNat 32 (c.val / 64) := by
  pointwise [kHead, k0_pay14, k0_pay15, k0_pay16, k0_pay17]
  revert c
  decide +kernel

theorem vHead_at (s : Fin 64) (c : Fin 512) : vHead (ix2 s c) = BitVec.ofNat 32 (c.val / 128) := by
  pointwise [vHead, k0_pay18]
  revert c
  decide +kernel

theorem causal_at (l : Fin 64) (c : Fin 256) : causal (ix2 l c) = if c.val % 64 ≤ l.val then 1#1 else 0#1 := by
  pointwise [causal, k0_pay22, k0_pay19, k0_pay20, k0_pay21]
  revert l c
  decide +kernel

theorem diagRow_at (r : Fin 512) (c : Fin 256) : k0_pay23 (ix2 r c) = BitVec.ofNat 32 (r.val / 128) := by
  pointwise [k0_pay23]
  revert r
  decide +kernel

/-- The head of a column of the state. -/
def diagCol : IVec S512x256 32 := select (andi k0_pay25 (cmpi .ne k0_pay26 k0_pay27)) (subi k0_pay24 (broadcast S512x256 1#32)) k0_pay24

theorem diagCol_at (r : Fin 512) (c : Fin 256) : diagCol (ix2 r c) = BitVec.ofNat 32 (c.val / 64) := by
  pointwise [diagCol, k0_pay24, k0_pay25, k0_pay26, k0_pay27]
  revert c
  decide +kernel

theorem diag_at (r : Fin 512) (c : Fin 256) : diag (ix2 r c) = if r.val / 128 = c.val / 64 then 1#1 else 0#1 := by
  have e2 : diag (ix2 r c) = IntOp.cmpi .eq (k0_pay23 (ix2 r c)) (diagCol (ix2 r c)) := rfl
  rw [e2, diagRow_at, diagCol_at]
  have e3 : ∀ (a : Fin 4) (b : Fin 4), IntOp.cmpi .eq (BitVec.ofNat 32 a.val) (BitVec.ofNat 32 b.val) = if a.val = b.val then 1#1 else 0#1 := by
    decide +kernel
  exact e3 ⟨r.val / 128, by omega⟩ ⟨c.val / 64, by omega⟩

/-- The triangle of the running sum, its entries 0 and 1. -/
def tri (r s : Fin 128) : EReal := if r.val / 64 = s.val / 64 ∧ s.val ≤ r.val then 1 else 0

end Cert.KernelIdeal.Pt

end
-- ==== Proof.Gla.Chunk.lean ====
/- One chunk of the kernel's body, read at an index: masks put the four heads side by side, so a sum over 256 lanes or over
   four copies of the chunk keeps one head's terms, and the chunk is `Gla.out` and `Gla.next` of that head. -/
module

public import proofs.«01_k».proof.Proof.Gla.Masks

@[expose] public section

set_option maxRecDepth 16384

noncomputable section

namespace Cert.KernelIdeal.Pt

open Idealize.ShloMosaic Idealize.ShloMosaic.TcCoe
open Cert.KernelIdeal Cert.KernelIdeal.Gen
open Gla

/-- Lane `e` of head `h`, of 128 lanes a head. -/
abbrev wide (h : Fin 4) (e : Fin 128) : Fin 512 := ⟨h.val * 128 + e.val, by omega⟩

/-- A state holding the four heads' states on its diagonal and nothing elsewhere. -/
def Diag (S : Fin 4 → Fin 64 → Fin 128 → EReal) (st : FVec Ideal S512x256 .f32) : Prop :=
  ∀ h h' d e, st (ix2 (wide h e) (lane h' d)) = if h = h' then S h d e else 0

/-- Row `l` of chunk `i` of the two in a tile. -/
abbrev half (i : Fin 2) (l : Fin 64) : Fin 128 := ⟨i.val * 64 + l.val, by omega⟩

theorem half_zero (l : Fin 64) : half 0 l = ⟨l.val, by omega⟩ := Fin.ext (by show 0 * 64 + l.val = l.val; omega)

theorem diag_head (h h' : Fin 4) (d : Fin 64) (e : Fin 128) : diag (ix2 (wide h e) (lane h' d)) = if h = h' then 1#1 else 0#1 := by
  rw [diag_at]
  have e1 : (wide h e).val / 128 = h.val := by show (h.val * 128 + e.val) / 128 = h.val; omega
  have e2 : (lane h' d).val / 64 = h'.val := by show (h'.val * 64 + d.val) / 64 = h'.val; omega
  rw [e1, e2]
  exact if_congr Fin.ext_iff.symm rfl rfl

theorem eq_word (a b : Fin 4) : IntOp.cmpi .eq (BitVec.ofNat 32 a.val) (BitVec.ofNat 32 b.val) = if a = b then 1#1 else 0#1 := by
  revert a b; decide +kernel

/-- A word that counts heads, compared with a head's. -/
theorem pick (n : ℕ) (h i : Fin 4) (w : BitVec 32) (hn : n = h.val) (hw : w = BitVec.ofNat 32 i.val) (x : EReal) :
    Scalar.select (IntOp.cmpi .eq (BitVec.ofNat 32 n) w) x 0 = if h = i then x else 0 := by
  subst hn hw
  rw [eq_word]
  by_cases e : h = i <;> simp [e, Scalar.select]

/-- Four copies of a chunk's keys one under another, each keeping the lanes of its head. -/
def kbd (g : FVec Ideal S64x256 .f32) : FVec Ideal S256x256 .f32 :=
  concatenate S256x256 0
    [⟨S64x256, select (cmpi .eq kHead (broadcast S64x256 0#32)) g (broadcast S64x256 (FloatOps.ofBits .f32 0x00000000#32))⟩,
     ⟨S64x256, select (cmpi .eq kHead (broadcast S64x256 1#32)) g (broadcast S64x256 (FloatOps.ofBits .f32 0x00000000#32))⟩,
     ⟨S64x256, select (cmpi .eq kHead (broadcast S64x256 2#32)) g (broadcast S64x256 (FloatOps.ofBits .f32 0x00000000#32))⟩,
     ⟨S64x256, select (cmpi .eq kHead (broadcast S64x256 3#32)) g (broadcast S64x256 (FloatOps.ofBits .f32 0x00000000#32))⟩]
    concatenates_S64x256_S64x256_S64x256_S64x256_S256x256_d0

/-- The same of the values. -/
def vbd (g : FVec Ideal S64x512 .f32) : FVec Ideal S256x512 .f32 :=
  concatenate S256x512 0
    [⟨S64x512, select (cmpi .eq vHead (broadcast S64x512 0#32)) g (broadcast S64x512 (FloatOps.ofBits .f32 0x00000000#32))⟩,
     ⟨S64x512, select (cmpi .eq vHead (broadcast S64x512 1#32)) g (broadcast S64x512 (FloatOps.ofBits .f32 0x00000000#32))⟩,
     ⟨S64x512, select (cmpi .eq vHead (broadcast S64x512 2#32)) g (broadcast S64x512 (FloatOps.ofBits .f32 0x00000000#32))⟩,
     ⟨S64x512, select (cmpi .eq vHead (broadcast S64x512 3#32)) g (broadcast S64x512 (FloatOps.ofBits .f32 0x00000000#32))⟩]
    concatenates_S64x512_S64x512_S64x512_S64x512_S256x512_d0

theorem kbd_at (g : FVec Ideal S64x256 .f32) (i h : Fin 4) (s d : Fin 64) :
    kbd g (ix2 ⟨i.val * 64 + s.val, by omega⟩ (lane h d)) = if h = i then g (ix2 s (lane h d)) else 0 := by
  have hh : (lane h d).val / 64 = h.val := by show (h.val * 64 + d.val) / 64 = h.val; omega
  pointwise [kbd]
  match i with
  | 0 =>
    rw [dif_pos (by show 0 * 64 + s.val < 64; omega)]
    simp only [kHead_at, show (0 : Fin 4).val * 64 + s.val = s.val from by show 0 * 64 + s.val = s.val; omega]
    exact pick _ h 0 _ hh rfl _
  | 1 =>
    rw [dif_neg (by show ¬ 1 * 64 + s.val < 64; omega), dif_pos (by show 1 * 64 + s.val - 64 < 64; omega)]
    simp only [kHead_at, show (1 : Fin 4).val * 64 + s.val - 64 = s.val from by show 1 * 64 + s.val - 64 = s.val; omega]
    exact pick _ h 1 _ hh rfl _
  | 2 =>
    rw [dif_neg (by show ¬ 2 * 64 + s.val < 64; omega), dif_neg (by show ¬ 2 * 64 + s.val - 64 < 64; omega),
      dif_pos (by show 2 * 64 + s.val - 64 - 64 < 64; omega)]
    simp only [kHead_at, show (2 : Fin 4).val * 64 + s.val - 64 - 64 = s.val from by show 2 * 64 + s.val - 64 - 64 = s.val; omega]
    exact pick _ h 2 _ hh rfl _
  | 3 =>
    rw [dif_neg (by show ¬ 3 * 64 + s.val < 64; omega), dif_neg (by show ¬ 3 * 64 + s.val - 64 < 64; omega),
      dif_neg (by show ¬ 3 * 64 + s.val - 64 - 64 < 64; omega)]
    simp only [kHead_at, show (3 : Fin 4).val * 64 + s.val - 64 - 64 - 64 = s.val from by show 3 * 64 + s.val - 64 - 64 - 64 = s.val; omega]
    exact pick _ h 3 _ hh rfl _

theorem vbd_at (g : FVec Ideal S64x512 .f32) (i h : Fin 4) (s : Fin 64) (e : Fin 128) :
    vbd g (ix2 ⟨i.val * 64 + s.val, by omega⟩ (wide h e)) = if h = i then g (ix2 s (wide h e)) else 0 := by
  have hh : (wide h e).val / 128 = h.val := by show (h.val * 128 + e.val) / 128 = h.val; omega
  pointwise [vbd]
  match i with
  | 0 =>
    rw [dif_pos (by show 0 * 64 + s.val < 64; omega)]
    simp only [vHead_at, show (0 : Fin 4).val * 64 + s.val = s.val from by show 0 * 64 + s.val = s.val; omega]
    exact pick _ h 0 _ hh rfl _
  | 1 =>
    rw [dif_neg (by show ¬ 1 * 64 + s.val < 64; omega), dif_pos (by show 1 * 64 + s.val - 64 < 64; omega)]
    simp only [vHead_at, show (1 : Fin 4).val * 64 + s.val - 64 = s.val from by show 1 * 64 + s.val - 64 = s.val; omega]
    exact pick _ h 1 _ hh rfl _
  | 2 =>
    rw [dif_neg (by show ¬ 2 * 64 + s.val < 64; omega), dif_neg (by show ¬ 2 * 64 + s.val - 64 < 64; omega),
      dif_pos (by show 2 * 64 + s.val - 64 - 64 < 64; omega)]
    simp only [vHead_at, show (2 : Fin 4).val * 64 + s.val - 64 - 64 = s.val from by show 2 * 64 + s.val - 64 - 64 = s.val; omega]
    exact pick _ h 2 _ hh rfl _
  | 3 =>
    rw [dif_neg (by show ¬ 3 * 64 + s.val < 64; omega), dif_neg (by show ¬ 3 * 64 + s.val - 64 < 64; omega),
      dif_neg (by show ¬ 3 * 64 + s.val - 64 - 64 < 64; omega)]
    simp only [vHead_at, show (3 : Fin 4).val * 64 + s.val - 64 - 64 - 64 = s.val from by show 3 * 64 + s.val - 64 - 64 - 64 = s.val; omega]
    exact pick _ h 3 _ hh rfl _

/-- The outputs of a chunk, of its decayed queries, keys and values and the state. -/
def yC (qg : FVec Ideal S64x256 .f32) (kb : FVec Ideal S256x256 .f32) (vb : FVec Ideal S256x512 .f32) (st : FVec Ideal S512x256 .f32) :
    FVec Ideal S64x512 .f32 :=
  shapeCast S64x512 (addf
    (matmul dot_S64x256_S256x512_S64x512_1_0_0_1_n_n none
      (truncf .bf16 (select causal (matmul dot_S64x256_S256x256_S64x256_1_1_0_0_n_n none (truncf .bf16 qg bitsLt_bf16_f32) (truncf .bf16 kb bitsLt_bf16_f32) (constant S64x256 .f32 0x00000000#32))
        (broadcast S64x256 (FloatOps.ofBits .f32 0x00000000#32))) bitsLt_bf16_f32) (truncf .bf16 vb bitsLt_bf16_f32) (constant S64x512 .f32 0x00000000#32))
    (matmul dot_S64x256_S512x256_S64x512_1_1_0_0_n_n none (truncf .bf16 qg bitsLt_bf16_f32) (truncf .bf16 st bitsLt_bf16_f32) (constant S64x512 .f32 0x00000000#32)))
    shapeCasts_S64x512_S64x512

theorem causal_mask (i : Fin 4) (l s : Fin 64) (x : EReal) :
    Scalar.select (causal (ix2 l ⟨i.val * 64 + s.val, by omega⟩)) x 0 = if s ≤ l then x else 0 := by
  rw [causal_at, show (⟨i.val * 64 + s.val, by omega⟩ : Fin 256).val % 64 = s.val by show (i.val * 64 + s.val) % 64 = s.val; omega]
  by_cases h : s ≤ l
  · rw [if_pos (show s.val ≤ l.val from h), if_pos h]; rfl
  · rw [if_neg (show ¬ s.val ≤ l.val from h), if_neg h]; rfl

variable (S : Fin 4 → Fin 64 → Fin 128 → EReal) (st : FVec Ideal S512x256 .f32)

theorem yC_at (hS : Diag S st) (qg kg : FVec Ideal S64x256 .f32) (vc : FVec Ideal S64x512 .f32) (l : Fin 64) (h : Fin 4) (e : Fin 128) :
    yC qg (kbd kg) (vbd vc) st (ix2 l (wide h e))
      = (∑ s, vc (ix2 s (wide h e)) * (if s ≤ l then ∑ d, qg (ix2 l (lane h d)) * kg (ix2 s (lane h d)) else 0))
        + ∑ d, S h d e * qg (ix2 l (lane h d)) := by
  pointwise [yC]
  refine congrArg₂ _ ?_ ?_
  · refine (sum_groups (n := 4) (k := 64) _).trans ?_
    refine (Finset.sum_eq_single h (fun i _ hne => ?_) (fun hn => absurd (Finset.mem_univ _) hn)).trans ?_
    · refine Finset.sum_eq_zero fun s _ => ?_
      rw [vbd_at, if_neg (Ne.symm hne), mul_zero, causal_mask, ite_self]
    · refine Finset.sum_congr rfl fun s _ => ?_
      rw [vbd_at, if_pos rfl, causal_mask, mul_comm, mul_ite, mul_zero]
      refine if_congr Iff.rfl (congrArg _ ?_) rfl
      refine (sum_head _ h fun h' d hne => ?_).trans (Finset.sum_congr rfl fun d _ => ?_)
      · rw [kbd_at, if_neg hne, mul_zero]
      · rw [kbd_at, if_pos rfl]
  · refine (sum_head _ h fun h' d hne => ?_).trans (Finset.sum_congr rfl fun d _ => ?_)
    · rw [hS, if_neg (Ne.symm hne), mul_zero]
    · rw [hS, if_pos rfl, mul_comm]

theorem keep (h h' : Fin 4) (a x f : EReal) :
    (if h = h' then a else 0) * f + Scalar.select (if h = h' then 1#1 else 0#1) x 0 = if h = h' then a * f + x else 0 := by
  by_cases e : h = h' <;> simp [e, Scalar.select]

variable (q k bc : FVec Ideal S128x256 .f32) (v : FVec Ideal S128x512 .f32)

theorem state0_at (hS : Diag S st) :
    Diag (fun h => next (fun l d => k (ix2 (half 0 l) (lane h d))) (fun l d => bc (ix2 (half 0 l) (lane h d)))
        (fun l e => v (ix2 (half 0 l) (wide h e))) (S h))
      (k0_pay39 diag (k0_pay30 bc) (k0_pay32 k bc) (k0_pay33 v) st) := by
  intro h h' d e
  pointwise [k0_pay39, k0_pay30, k0_pay32, k0_pay33, k0_pay29]
  rw [diag_head, hS]
  refine (keep h h' _ _ _).trans (if_ctx_congr Iff.rfl (fun e => ?_) (fun _ => rfl))
  subst e
  unfold next
  refine congrArg₂ _ rfl (Finset.sum_congr rfl fun x _ => (mul_comm _ _).trans ?_)
  simp only [half_zero]
  rfl

theorem state1_at (hS : Diag S st) :
    Diag (fun h => next (fun l d => k (ix2 (half 1 l) (lane h d))) (fun l d => bc (ix2 (half 1 l) (lane h d)))
        (fun l e => v (ix2 (half 1 l) (wide h e))) (S h))
      (k0_pay53 diag (k0_pay41 bc) (k0_pay45 k (k0_pay40 bc) (k0_pay41 bc)) (k0_pay46 v) st) := by
  intro h h' d e
  pointwise [k0_pay53, k0_pay41, k0_pay45, k0_pay40, k0_pay46]
  rw [diag_head, hS]
  refine (keep h h' _ _ _).trans (if_ctx_congr Iff.rfl (fun e => ?_) (fun _ => rfl))
  subst e
  unfold next
  refine congrArg₂ _ rfl (Finset.sum_congr rfl fun x _ => (mul_comm _ _).trans ?_)
  rfl

/-- The decayed keys of a chunk, from row `r` on. -/
abbrev kg0 : FVec Ideal S64x256 .f32 := mulf (extractStridedSlice S64x256 ![0, 0] k slices_S128x256_o0_0_S64x256)
  (exp (subf (broadcast S64x256 (FloatOps.ofBits .f32 0x00000000#32)) (k0_pay29 bc)))
abbrev kg1 : FVec Ideal S64x256 .f32 := mulf (extractStridedSlice S64x256 ![64, 0] k slices_S128x256_o64_0_S64x256)
  (exp (subf (broadcast S64x256 (FloatOps.ofBits .f32 0x00000000#32)) (k0_pay40 bc)))

theorem pay34_eq : k0_pay34 k bc kHead = kbd (kg0 k bc) := by
  unfold k0_pay34 kbd; rfl

theorem pay47_eq : k0_pay47 k kHead (k0_pay40 bc) = kbd (kg1 k bc) := by
  unfold k0_pay47 kbd; rfl

theorem pay38_eq (qg : FVec Ideal S64x256 .f32) (kb : FVec Ideal S256x256 .f32) :
    k0_pay38 vHead causal qg (k0_pay33 v) kb (k0_pay35 v vHead) (k0_pay36 vHead) k0_pay37 st = yC qg kb (vbd (k0_pay33 v)) st := by
  unfold k0_pay38 yC vbd k0_pay35 k0_pay36 k0_pay37; rfl

theorem pay52_eq (qg : FVec Ideal S64x256 .f32) (kb : FVec Ideal S256x256 .f32) :
    k0_pay52 causal qg (k0_pay46 v) kb (k0_pay48 v vHead) (k0_pay49 v vHead) (k0_pay50 v vHead) (k0_pay51 vHead)
      (FloatOps.ofBits .f32 0x00000000#32) st = yC qg kb (vbd (k0_pay46 v)) st := by
  unfold k0_pay52 yC vbd k0_pay48 k0_pay49 k0_pay50 k0_pay51; rfl

theorem out0_at (hS : Diag S st) (l : Fin 64) (h : Fin 4) (e : Fin 128) :
    k0_pay38 vHead causal (k0_pay31 q bc) (k0_pay33 v) (k0_pay34 k bc kHead) (k0_pay35 v vHead) (k0_pay36 vHead) k0_pay37 st (ix2 l (wide h e))
      = out (fun l d => q (ix2 (half 0 l) (lane h d))) (fun l d => k (ix2 (half 0 l) (lane h d))) (fun l d => bc (ix2 (half 0 l) (lane h d)))
        (fun l e => v (ix2 (half 0 l) (wide h e))) (S h) l e := by
  rw [pay34_eq, pay38_eq, yC_at S st hS]
  pointwise [k0_pay31, k0_pay33, k0_pay29, kg0]
  simp only [half_zero, zero_sub, out]

theorem out1_at (hS : Diag S st) (l : Fin 64) (h : Fin 4) (e : Fin 128) :
    k0_pay52 causal (k0_pay44 (k0_pay42 q) (k0_pay43 bc)) (k0_pay46 v) (k0_pay47 k kHead (k0_pay40 bc)) (k0_pay48 v vHead) (k0_pay49 v vHead)
        (k0_pay50 v vHead) (k0_pay51 vHead) (FloatOps.ofBits .f32 0x00000000#32) st (ix2 l (wide h e))
      = out (fun l d => q (ix2 (half 1 l) (lane h d))) (fun l d => k (ix2 (half 1 l) (lane h d))) (fun l d => bc (ix2 (half 1 l) (lane h d)))
        (fun l e => v (ix2 (half 1 l) (wide h e))) (S h) l e := by
  rw [pay47_eq, pay52_eq, yC_at S st hS]
  pointwise [k0_pay44, k0_pay42, k0_pay43, k0_pay46, k0_pay40, kg1]
  simp only [zero_sub, out]
  rfl

end Cert.KernelIdeal.Pt

end
-- ==== Proof.Gla.Cells.lean ====
/- The rest of the kernel's body, read at an index: the log-decays and their running sums inside a chunk, and the normalised,
   gated outputs of each head. -/
module

public import proofs.«01_k».proof.Proof.Gla.Chunk

@[expose] public section

set_option maxRecDepth 16384

noncomputable section

namespace Cert.KernelIdeal.Pt

open Idealize.ShloMosaic Idealize.ShloMosaic.TcCoe
open Cert.KernelIdeal Cert.KernelIdeal.Gen
open Gla

/-- The log-decays of a tile. -/
theorem decay_at (x : FVec Ideal S1x128x128 .f32) (g : FVec Ideal S128x256 .f32) (b : FVec Ideal S1x256 .f32) (r : Fin 128) (c : Fin 256) :
    k0_pay8 (F := Ideal) (k0_pay7 x g b) (FloatOps.ofBits .f32 0x00000000#32) (ix2 r c)
      = Ideal.div (logSig ((∑ i, x (ix3 0 r i) * g (ix2 i c)) + b (ix2 0 c))) (Ideal.ofBits .f32 0x41800000#32) := by
  rw [← log_sig]
  pointwise [k0_pay8, k0_pay7]
  rfl

/-- The chunk of a column. -/
def colChunk : IVec S128x128 32 :=
  select (andi k0_pay11 (cmpi .ne (remsi (iota .tc S128x128 32 [1] iota_S128x128_d1_w32) k0_pay12) (broadcast S128x128 0#32)))
    (subi k0_pay10 (broadcast S128x128 1#32)) k0_pay10

theorem rowChunk_at (r s : Fin 128) : k0_pay9 (ix2 r s) = BitVec.ofNat 32 (r.val / 64) := by
  pointwise [k0_pay9]
  revert r
  decide +kernel

theorem colChunk_at (r s : Fin 128) : colChunk (ix2 r s) = BitVec.ofNat 32 (s.val / 64) := by
  pointwise [colChunk, k0_pay10, k0_pay11, k0_pay12]
  revert s
  decide +kernel

/-- The triangle, as the kernel makes it: of rows and columns numbered by words. -/
def triangle : FVec Ideal S128x128 .f32 :=
  select (andi (cmpi .eq k0_pay9 colChunk)
    (cmpi .sge (iota .tc S128x128 32 [0] iota_S128x128_d0_w32) (iota .tc S128x128 32 [1] iota_S128x128_d1_w32)))
    (broadcast S128x128 (FloatOps.ofBits .f32 0x3F800000#32)) (broadcast S128x128 (FloatOps.ofBits .f32 0x00000000#32))

theorem triangle_at (r s : Fin 128) : triangle (ix2 r s) = tri r s := by
  pointwise [triangle]
  rw [rowChunk_at, colChunk_at]
  have e1 : ∀ a b : Fin 2, IntOp.cmpi .eq (BitVec.ofNat 32 a.val) (BitVec.ofNat 32 b.val) = if a.val = b.val then 1#1 else 0#1 := by
    decide +kernel
  have e2 : ∀ a b : Fin 128, IntOp.cmpi .sge (BitVec.ofNat 32 a.val) (BitVec.ofNat 32 b.val) = if b.val ≤ a.val then 1#1 else 0#1 := by
    decide +kernel
  rw [e1 ⟨r.val / 64, by omega⟩ ⟨s.val / 64, by omega⟩, e2, tri]
  by_cases h1 : r.val / 64 = s.val / 64 <;> by_cases h2 : s.val ≤ r.val <;> simp [h1, h2, Scalar.select, IntOp.andi]

theorem sums_at (a : FVec Ideal S128x256 .f32) (r : Fin 128) (c : Fin 256) :
    k0_pay13 a (iota .tc S128x128 32 [0] iota_S128x128_d0_w32) (iota .tc S128x128 32 [1] iota_S128x128_d1_w32) k0_pay9 k0_pay10 k0_pay11 k0_pay12 (ix2 r c)
      = ∑ s, triangle (ix2 r s) * a (ix2 s c) + ∑ s, triangle (ix2 r s) * (a (ix2 s c) - a (ix2 s c))
        + ∑ s, triangle (ix2 r s) * (a (ix2 s c) - a (ix2 s c) - (a (ix2 s c) - a (ix2 s c))) := by
  pointwise [k0_pay13, triangle, colChunk]

/-- The running sum of a chunk's log-decays. -/
theorem bc_at (a : FVec Ideal S128x256 .f32) (ha : ∀ i, a i ≠ ⊤) (i : Fin 2) (l : Fin 64) (c : Fin 256) :
    k0_pay13 a (iota .tc S128x128 32 [0] iota_S128x128_d0_w32) (iota .tc S128x128 32 [1] iota_S128x128_d1_w32) k0_pay9 k0_pay10 k0_pay11 k0_pay12 (ix2 (half i l) c)
      = cum (fun s => a (ix2 (half i s) c)) l := by
  rw [sums_at]
  refine (split_sum _ _ (fun s => ?_) (fun s => ha _)).trans ?_
  · rw [triangle_at]; unfold tri; split <;> simp
  · unfold cum
    refine (sum_groups (n := 2) (k := 64) _).trans ?_
    refine (Finset.sum_eq_single i (fun j _ hne => ?_) (fun hn => absurd (Finset.mem_univ _) hn)).trans ?_
    · refine Finset.sum_eq_zero fun s _ => ?_
      rw [triangle_at, tri, if_neg, zero_mul]
      intro h
      apply hne
      have := h.1
      apply Fin.ext
      have e1 : (half i l).val / 64 = i.val := by show (i.val * 64 + l.val) / 64 = i.val; omega
      have e2 : (j.val * 64 + s.val) / 64 = j.val := by omega
      rw [e1] at this
      exact e2.symm.trans this.symm
    · refine Finset.sum_congr rfl fun s _ => ?_
      rw [triangle_at, tri]
      have e1 : ((half i l).val / 64 = (half i s).val / 64 ∧ (half i s).val ≤ (half i l).val) ↔ s ≤ l := by
        show ((i.val * 64 + l.val) / 64 = (i.val * 64 + s.val) / 64 ∧ i.val * 64 + s.val ≤ i.val * 64 + l.val) ↔ s.val ≤ l.val
        omega
      rw [if_congr e1 rfl rfl]
      split <;> simp

variable (y : FVec Ideal S128x512 .f32) (w : FVec Ideal S1x128 .f32) (g : FVec Ideal S1x128x128 .f32) (r e : Fin 128)

theorem wide_zero (e : Fin 128) : wide 0 e = ⟨e.val, by omega⟩ := Fin.ext (by show 0 * 128 + e.val = e.val; omega)

theorem norm0_at : k0_pay56 (F := Ideal) (k0_pay54 y) (k0_pay55 y) w g (ix3 0 r e)
    = fin (fun i => w (ix2 0 (i 0))) (fun i => y (ix2 r (wide 0 i))) (g (ix3 0 r e)) e := by
  pointwise [k0_pay56, k0_pay54, k0_pay55, fin]
  simp only [zero_sub, wide_zero]

theorem norm1_at : k0_pay60 (F := Ideal) (k0_pay57 y w) (k0_pay58 g) k0_pay59 (ix3 0 r e)
    = fin (fun i => w (ix2 0 (i 0))) (fun i => y (ix2 r (wide 1 i))) (g (ix3 0 r e)) e := by
  pointwise [k0_pay60, k0_pay57, k0_pay58, k0_pay59, fin]
  simp only [zero_sub]
  rfl

theorem norm2_at : k0_pay1 (F := Ideal) (k0_pay61 y w g) (ix3 0 r e)
    = fin (fun i => w (ix2 0 (i 0))) (fun i => y (ix2 r (wide 2 i))) (g (ix3 0 r e)) e := by
  pointwise [k0_pay1, k0_pay61, fin]
  simp only [zero_sub]
  rfl

theorem norm3_at : k0_pay2 (F := Ideal) y w g (ix3 0 r e)
    = fin (fun i => w (ix2 0 (i 0))) (fun i => y (ix2 r (wide 3 i))) (g (ix3 0 r e)) e := by
  pointwise [k0_pay2, fin]
  simp only [zero_sub]
  rfl

end Cert.KernelIdeal.Pt

end
-- ==== Proof.Gla.Tile.lean ====
/- A point of the kernel's grid: what it leaves in the carried state and in its output block, of its input blocks. -/
module

public import proofs.«01_k».proof.Proof.Gen.KernelIdeal.Value
public import proofs.«01_k».proof.Proof.Gla.Cells
public import Idealize.ShloMosaic.Lib.Pipeline.ValueKit

@[expose] public section

set_option maxRecDepth 16384

noncomputable section

namespace Cert.KernelIdeal.Pt

open Idealize.ShloMosaic Idealize.ShloMosaic.TcCoe Idealize.SL.Sem
open Cert.KernelIdeal Cert.KernelIdeal.Gen
open Gla

section
variable (z : FVec Ideal S1x128x1664 .f32) (g : FVec Ideal S128x256 .f32) (b : FVec Ideal S1x256 .f32) (w : FVec Ideal S1x128 .f32)

/-- The tile's queries, keys, values, log-decays and their running sums, chunk `i` of two, head `h`. -/
def tq (i : Fin 2) (h : Fin 4) (l d : Fin 64) : EReal := z (ix3 0 (half i l) ⟨(lane h d).val, by omega⟩) * Ideal.ofBits .f32 0x3E000000#32
def tk (i : Fin 2) (h : Fin 4) (l d : Fin 64) : EReal := z (ix3 0 (half i l) ⟨256 + (lane h d).val, by omega⟩)
def tv (i : Fin 2) (h : Fin 4) (l : Fin 64) (e : Fin 128) : EReal := z (ix3 0 (half i l) ⟨512 + (wide h e).val, by omega⟩)
def ta (r : Fin 128) (c : Fin 256) : EReal :=
  Ideal.div (logSig ((∑ i : Fin 128, z (ix3 0 r ⟨1536 + i.val, by omega⟩) * g (ix2 i c)) + b (ix2 0 c))) (Ideal.ofBits .f32 0x41800000#32)
def tb (i : Fin 2) (h : Fin 4) (l d : Fin 64) : EReal := cum (fun s => ta z g b (half i s) (lane h d)) l

/-- The states after chunk `i`, of those before. -/
def tn (i : Fin 2) (S : Fin 4 → Fin 64 → Fin 128 → EReal) (h : Fin 4) : Fin 64 → Fin 128 → EReal :=
  next (tk z i h) (tb z g b i h) (tv z i h) (S h)
/-- The outputs of chunk `i`. -/
def tu (i : Fin 2) (S : Fin 4 → Fin 64 → Fin 128 → EReal) (h : Fin 4) : Fin 64 → Fin 128 → EReal :=
  out (tq z i h) (tk z i h) (tb z g b i h) (tv z i h) (S h)
end

/-! The tile's pieces as the body loads them. -/

section
variable (z : FVec Ideal S1x128x1664 .f32) (g : FVec Ideal S128x256 .f32) (b : FVec Ideal S1x256 .f32)

abbrev Q : FVec Ideal S128x256 .f32 := k0_pay4 (View.ld (Val := Elt Ideal) (S := S1x128x1664) (e' := .f32) z (Rect.unit (s := S1x128x1664) ![0, 0, 0] S1x128x256.size inb_S1x128x1664_S1x128x256_0_0_0))
abbrev K : FVec Ideal S128x256 .f32 := k0_pay5 (View.ld (Val := Elt Ideal) (S := S1x128x1664) (e' := .f32) z (Rect.unit (s := S1x128x1664) ![0, 0, 256] S1x128x256.size inb_S1x128x1664_S1x128x256_0_0_256))
abbrev V' : FVec Ideal S128x512 .f32 := k0_pay6 (View.ld (Val := Elt Ideal) (S := S1x128x1664) (e' := .f32) z (Rect.unit (s := S1x128x1664) ![0, 0, 512] S1x128x512.size inb_S1x128x1664_S1x128x512_0_0_512))
abbrev A : FVec Ideal S128x256 .f32 :=
  k0_pay8 (k0_pay7 (View.ld (Val := Elt Ideal) (S := S1x128x1664) (e' := .f32) z (Rect.unit (s := S1x128x1664) ![0, 0, 1536] S1x128x128.size inb_S1x128x1664_S1x128x128_0_0_1536)) g b) (FloatOps.ofBits FTy.f32 0#32)
abbrev BC : FVec Ideal S128x256 .f32 :=
  k0_pay13 (A z g b) (iota Kind.tc S128x128 32 [0] iota_S128x128_d0_w32) (iota Kind.tc S128x128 32 [1] iota_S128x128_d1_w32) k0_pay9 k0_pay10 k0_pay11 k0_pay12

theorem Q_at (i : Fin 2) (h : Fin 4) : (fun l d => Q z (ix2 (half i l) (lane h d))) = tq z i h := by
  funext l d
  pointwise [Q, k0_pay4, tq]

theorem K_at (i : Fin 2) (h : Fin 4) : (fun l d => K z (ix2 (half i l) (lane h d))) = tk z i h := by
  funext l d
  pointwise [K, k0_pay5, tk]

theorem V_at (i : Fin 2) (h : Fin 4) : (fun l e => V' z (ix2 (half i l) (wide h e))) = tv z i h := by
  funext l d
  pointwise [V', k0_pay6, tv]

theorem A_at (r : Fin 128) (c : Fin 256) : A z g b (ix2 r c) = ta z g b r c := by
  unfold A ta
  rw [decay_at]
  refine congrArg (fun f : Fin 128 → EReal => Ideal.div (logSig ((∑ i, f i * g (ix2 i c)) + b (ix2 0 c))) (Ideal.ofBits .f32 0x41800000#32)) (funext fun i => ?_)
  pointwise []

theorem BC_at (i : Fin 2) (h : Fin 4) : (fun l d => BC z g b (ix2 (half i l) (lane h d))) = tb z g b i h := by
  funext l d
  unfold BC tb
  rw [bc_at]
  · refine congrArg (fun f => cum f l) (funext fun s => A_at z g b _ _)
  · intro i
    idx_vars i
    rw [A_at]
    exact decay_ne_top _

end

end Cert.KernelIdeal.Pt

end
-- ==== Proof.Gla.Point.lean ====
/- A point of the kernel's grid: the states it carries on, of its input blocks. -/
module

public import proofs.«01_k».proof.Proof.Gen.KernelIdeal.Value
public import proofs.«01_k».proof.Proof.Gla.Tile
public import Idealize.ShloMosaic.Lib.Pipeline.ValueKit
public import Idealize.ShloMosaic.Lib.Pipeline.ReadBack

@[expose] public section

set_option maxRecDepth 16384

noncomputable section

namespace Cert.KernelIdeal.Pt

open Idealize.ShloMosaic Idealize.ShloMosaic.TcCoe Idealize.SL.Sem
open Cert.KernelIdeal Cert.KernelIdeal.Gen
open Gla

variable (m : (ℓ : Loc nD τ sig) → Buf (Elt Ideal) ℓ) (c : Dev nD) (S : Fin 4 → Fin 64 → Fin 128 → EReal)

/-- The states after the two chunks of a tile. -/
theorem two_at (z : FVec Ideal S1x128x1664 .f32) (g : FVec Ideal S128x256 .f32) (b : FVec Ideal S1x256 .f32) (st : FVec Ideal S512x256 .f32)
    (hS : Diag S st) :
    Diag (tn z g b 0 S) (k0_pay39 diag (k0_pay30 (BC z g b)) (k0_pay32 (K z) (BC z g b)) (k0_pay33 (V' z)) st)
    ∧ Diag (tn z g b 1 (tn z g b 0 S)) (k0_pay53 diag (k0_pay41 (BC z g b)) (k0_pay45 (K z) (k0_pay40 (BC z g b)) (k0_pay41 (BC z g b))) (k0_pay46 (V' z))
      (k0_pay39 diag (k0_pay30 (BC z g b)) (k0_pay32 (K z) (BC z g b)) (k0_pay33 (V' z)) st)) := by
  have h1 := state0_at S st (K z) (BC z g b) (V' z) hS
  simp only [K_at, BC_at, V_at] at h1
  have h2 := state1_at _ _ (K z) (BC z g b) (V' z) h1
  simp only [K_at, BC_at, V_at] at h2
  exact ⟨h1, h2⟩

theorem stB (t : Fin cfg0.N) (h0 : ¬ t.val % 16 = 0)
    (hS : Diag S (outsAt0 m c (t.val - 1) (Nat.lt_of_le_of_lt (Nat.sub_le _ _) t.isLt)).2) :
    Diag (tn (iblk m c 0 t) (iblk m c 1 t) (iblk m c 2 t) 1 (tn (iblk m c 0 t) (iblk m c 1 t) (iblk m c 2 t) 0 S)) (outsAt0 m c t.val t.isLt).2 := by
  rw [outsAt0_B m c t h0]
  frame_out
  have h := (two_at S (iblk m c 0 t) (iblk m c 1 t) (iblk m c 2 t) _ hS).2
  rw [read_unread_whole]
  exact h

theorem zero_diag : Diag (fun _ _ _ => 0) (k0_pay3 (F := Ideal)) := by
  intro h h' d e
  pointwise [k0_pay3]
  try simp

theorem stA (t : Fin cfg0.N) (h0 : t.val % 16 = 0) :
    Diag (tn (iblk m c 0 t) (iblk m c 1 t) (iblk m c 2 t) 1 (tn (iblk m c 0 t) (iblk m c 1 t) (iblk m c 2 t) 0 (fun _ _ _ => 0)))
      (outsAt0 m c t.val t.isLt).2 := by
  rw [outsAt0_A m c t h0]
  frame_out
  exact (two_at _ (iblk m c 0 t) (iblk m c 1 t) (iblk m c 2 t) _ zero_diag).2

end Cert.KernelIdeal.Pt

end
-- ==== Proof.Gla.Block.lean ====
/- The output block of a point: the normed and gated outputs of the tile's two chunks, a group of columns a head. -/
module

public import proofs.«01_k».proof.Proof.Gen.KernelIdeal.Value
public import proofs.«01_k».proof.Proof.Gla.Point
public import Idealize.ShloMosaic.Lib.Pipeline.ValueKit
public import Idealize.ShloMosaic.Lib.Pipeline.ReadBack

@[expose] public section

set_option maxRecDepth 16384

noncomputable section

namespace Cert.KernelIdeal.Pt

open Idealize.ShloMosaic Idealize.ShloMosaic.TcCoe Idealize.SL.Sem
open Cert.KernelIdeal Cert.KernelIdeal.Gen
open Gla

variable (m : (ℓ : Loc nD τ sig) → Buf (Elt Ideal) ℓ) (c : Dev nD) (S : Fin 4 → Fin 64 → Fin 128 → EReal)

section
variable (z : FVec Ideal S1x128x1664 .f32) (g : FVec Ideal S128x256 .f32) (b : FVec Ideal S1x256 .f32) (st : FVec Ideal S512x256 .f32)

/-- The states before chunk `i` of the tile. -/
def pre (i : Fin 2) : Fin 4 → Fin 64 → Fin 128 → EReal := if i = 0 then S else tn z g b 0 S

abbrev y0 : FVec Ideal S64x512 .f32 :=
  k0_pay38 vHead causal (k0_pay31 (Q z) (BC z g b)) (k0_pay33 (V' z)) (k0_pay34 (K z) (BC z g b) kHead) (k0_pay35 (V' z) vHead) (k0_pay36 vHead) k0_pay37 st
abbrev y1 : FVec Ideal S64x512 .f32 :=
  k0_pay52 causal (k0_pay44 (k0_pay42 (Q z)) (k0_pay43 (BC z g b))) (k0_pay46 (V' z)) (k0_pay47 (K z) kHead (k0_pay40 (BC z g b))) (k0_pay48 (V' z) vHead)
    (k0_pay49 (V' z) vHead) (k0_pay50 (V' z) vHead) (k0_pay51 vHead) (FloatOps.ofBits .f32 0x00000000#32)
    (k0_pay39 diag (k0_pay30 (BC z g b)) (k0_pay32 (K z) (BC z g b)) (k0_pay33 (V' z)) st)

/-- The outputs of the two chunks, stacked in scratch and read back whole. -/
abbrev Y : FVec Ideal S128x512 .f32 :=
  View.readCov (Val := Elt Ideal) (e := .f32) (View.whole cc0_scratch1)
    [⟨Rect.unit (s := S128x512) ![64, 0] S64x512.size inb_S128x512_S64x512_64_0, y1 z g b st⟩,
     ⟨Rect.unit (s := S128x512) ![0, 0] S64x512.size inb_S128x512_S64x512_0_0, y0 z g b st⟩]
    (Rect.unit (s := S128x512) ![0, 0] S128x512.size inb_S128x512_S128x512_0_0).toLoadRect

theorem y0_at (hS : Diag S st) (l : Fin 64) (h : Fin 4) (e : Fin 128) : y0 z g b st (ix2 l (wide h e)) = tu z g b 0 S h l e := by
  refine (out0_at S st (Q z) (K z) (BC z g b) (V' z) hS l h e).trans ?_
  simp only [Q_at, K_at, BC_at, V_at, tu]

theorem y1_at (hS : Diag S st) (l : Fin 64) (h : Fin 4) (e : Fin 128) :
    y1 z g b st (ix2 l (wide h e)) = tu z g b 1 (tn z g b 0 S) h l e := by
  refine (out1_at _ _ (Q z) (K z) (BC z g b) (V' z) (two_at S z g b st hS).1 l h e).trans ?_
  simp only [Q_at, K_at, BC_at, V_at, tu]

theorem Y_at (hS : Diag S st) (i : Fin 2) (l : Fin 64) (h : Fin 4) (e : Fin 128) :
    Y z g b st (ix2 (half i l) (wide h e)) = tu z g b i (pre S z g b i) h l e := by
  unfold Y
  rw [View.readCov_eq_canon']
  canon_tiles x hx
  · have h0 : 0 + 1 * (i.val * 64 + l.val) = 64 + (x 0).val := hx0
    have h1 : 0 + 1 * (h.val * 128 + e.val) = (x 1).val := hx1
    obtain rfl : i = 1 := Fin.ext (by have := i.isLt; have := l.isLt; show i.val = 1; omega)
    obtain rfl : x = ix2 l (wide h e) := by
      funext a
      refine Fin.ext ?_
      fin_cases a
      · show (x 0).val = l.val
        simp only [Fin.val_one] at h0
        omega
      · show (x 1).val = h.val * 128 + e.val
        omega
    exact y1_at S z g b st hS l h e
  · have h0 : 0 + 1 * (i.val * 64 + l.val) = (x 0).val := hx0
    have h1 : 0 + 1 * (h.val * 128 + e.val) = (x 1).val := hx1
    obtain rfl : i = 0 := Fin.ext (by have := i.isLt; have := l.isLt; show i.val = 0; omega)
    obtain rfl : x = ix2 l (wide h e) := by
      funext a
      refine Fin.ext ?_
      fin_cases a
      · show (x 0).val = l.val
        simp only [Fin.val_zero] at h0
        omega
      · show (x 1).val = h.val * 128 + e.val
        omega
    exact y0_at S z g b st hS l h e
end

/-- The output at row `r` of chunk `i`, head `h`, feature `e`, of the tile's blocks and the states before it. -/
def tile (z : FVec Ideal S1x128x1664 .f32) (g : FVec Ideal S128x256 .f32) (b : FVec Ideal S1x256 .f32) (w : FVec Ideal S1x128 .f32)
    (i : Fin 2) (l : Fin 64) (h : Fin 4) (e : Fin 128) : EReal :=
  fin (fun i => w (ix2 0 (i 0))) (fun e => tu z g b i (pre S z g b i) h l e) (z (ix3 0 (half i l) ⟨1024 + (wide h e).val, by omega⟩)) e

theorem gate_at (z : FVec Ideal S1x128x1664 .f32) (o : ℕ) (hb) (r : Fin 128) (e : Fin 128) (k : Fin 1664) (hk : k.val = o + e.val) :
    View.ld (Val := Elt Ideal) (S := S1x128x1664) (e' := .f32) z (Rect.unit (s := S1x128x1664) ![0, 0, o] S1x128x128.size hb) (ix3 0 r e) = z (ix3 0 r k) := by
  refine congrArg z (funext fun a => Fin.ext ?_)
  fin_cases a
  · rfl
  · show 0 + 1 * r.val = r.val
    omega
  · show o + 1 * e.val = k.val
    omega

section
variable (z : FVec Ideal S1x128x1664 .f32) (g : FVec Ideal S128x256 .f32) (b : FVec Ideal S1x256 .f32) (w : FVec Ideal S1x128 .f32)
  (st : FVec Ideal S512x256 .f32)

/-- A piece's index from its coordinates. -/
theorem piece_idx (i : Fin 2) (l : Fin 64) (h : Fin 4) (e : Fin 128) (x : S1x128x128.Idx) (k : Fin 4) (h1 : half i l = x 1)
    (h2 : h.val * 128 + e.val = 128 * k.val + (x 2).val) : h = k ∧ x = ix3 0 (half i l) e := by
  have hx0 : (x 0).val < 1 := (x 0).isLt
  have hx2 : (x 2).val < 128 := (x 2).isLt
  have he := e.isLt
  have hk : h.val = k.val := by omega
  refine ⟨Fin.ext hk, funext fun a => Fin.ext ?_⟩
  fin_cases a
  · show (x 0).val = 0
    omega
  · exact congrArg Fin.val h1.symm
  · show (x 2).val = e.val
    omega

theorem head0 (hS : Diag S st) (i : Fin 2) (l : Fin 64) (h : Fin 4) (e : Fin 128) (x : S1x128x128.Idx) (h1 : half i l = x 1)
    (h2 : h.val * 128 + e.val = 0 + (x 2).val) :
    k0_pay56 (k0_pay54 (Y z g b st)) (k0_pay55 (Y z g b st)) w (View.ld (Val := Elt Ideal) (S := S1x128x1664) (e' := .f32) z (Rect.unit (s := S1x128x1664) ![0, 0, 1024] S1x128x128.size inb_S1x128x1664_S1x128x128_0_0_1024)) x = tile S z g b w i l h e := by
  obtain ⟨rfl, rfl⟩ := piece_idx i l h e x 0 h1 h2
  refine (norm0_at (Y z g b st) w _ (half i l) e).trans ?_
  simp only [Y_at S z g b st hS]
  rw [gate_at _ _ _ _ _ ⟨1024 + (wide 0 e).val, by omega⟩ (by simp only [wide]; have : (0 : Fin 4).val = 0 := rfl; omega)]
  rfl

theorem head1 (hS : Diag S st) (i : Fin 2) (l : Fin 64) (h : Fin 4) (e : Fin 128) (x : S1x128x128.Idx) (h1 : half i l = x 1)
    (h2 : h.val * 128 + e.val = 128 + (x 2).val) :
    k0_pay60 (k0_pay57 (Y z g b st) w) (k0_pay58 (View.ld (Val := Elt Ideal) (S := S1x128x1664) (e' := .f32) z (Rect.unit (s := S1x128x1664) ![0, 0, 1152] S1x128x128.size inb_S1x128x1664_S1x128x128_0_0_1152))) k0_pay59 x = tile S z g b w i l h e := by
  obtain ⟨rfl, rfl⟩ := piece_idx i l h e x 1 h1 h2
  refine (norm1_at (Y z g b st) w _ (half i l) e).trans ?_
  simp only [Y_at S z g b st hS]
  rw [gate_at _ _ _ _ _ ⟨1024 + (wide 1 e).val, by omega⟩ (by simp only [wide]; have : (1 : Fin 4).val = 1 := rfl; omega)]
  rfl

theorem head2 (hS : Diag S st) (i : Fin 2) (l : Fin 64) (h : Fin 4) (e : Fin 128) (x : S1x128x128.Idx) (h1 : half i l = x 1)
    (h2 : h.val * 128 + e.val = 256 + (x 2).val) :
    k0_pay1 (k0_pay61 (Y z g b st) w (View.ld (Val := Elt Ideal) (S := S1x128x1664) (e' := .f32) z (Rect.unit (s := S1x128x1664) ![0, 0, 1280] S1x128x128.size inb_S1x128x1664_S1x128x128_0_0_1280))) x = tile S z g b w i l h e := by
  obtain ⟨rfl, rfl⟩ := piece_idx i l h e x 2 h1 h2
  refine (norm2_at (Y z g b st) w _ (half i l) e).trans ?_
  simp only [Y_at S z g b st hS]
  rw [gate_at _ _ _ _ _ ⟨1024 + (wide 2 e).val, by omega⟩ (by simp only [wide]; have : (2 : Fin 4).val = 2 := rfl; omega)]
  rfl

theorem head3 (hS : Diag S st) (i : Fin 2) (l : Fin 64) (h : Fin 4) (e : Fin 128) (x : S1x128x128.Idx) (h1 : half i l = x 1)
    (h2 : h.val * 128 + e.val = 384 + (x 2).val) :
    k0_pay2 (Y z g b st) w (View.ld (Val := Elt Ideal) (S := S1x128x1664) (e' := .f32) z (Rect.unit (s := S1x128x1664) ![0, 0, 1408] S1x128x128.size inb_S1x128x1664_S1x128x128_0_0_1408)) x = tile S z g b w i l h e := by
  obtain ⟨rfl, rfl⟩ := piece_idx i l h e x 3 h1 h2
  refine (norm3_at (Y z g b st) w _ (half i l) e).trans ?_
  simp only [Y_at S z g b st hS]
  rw [gate_at _ _ _ _ _ ⟨1024 + (wide 3 e).val, by omega⟩ (by simp only [wide]; have : (3 : Fin 4).val = 3 := rfl; omega)]
  rfl

end

/-- The output block of a later point of a sequence. -/
theorem oB (t : Fin cfg0.N) (h0 : ¬ t.val % 16 = 0)
    (hS : Diag S (outsAt0 m c (t.val - 1) (Nat.lt_of_le_of_lt (Nat.sub_le _ _) t.isLt)).2)
    (i : Fin 2) (l : Fin 64) (h : Fin 4) (e : Fin 128) :
    (outsAt0 m c t.val t.isLt).1 (ix3 0 (half i l) (wide h e)) = tile S (iblk m c 0 t) (iblk m c 1 t) (iblk m c 2 t) (iblk m c 3 t) i l h e := by
  rw [outsAt0_B m c t h0]
  frame_out
  simp only [read_unread_whole]
  canon_tiles x hx
  · exact head3 S (iblk m c 0 t) (iblk m c 1 t) (iblk m c 2 t) (iblk m c 3 t) _ hS i l h e x (Fin.ext hx1) hx2
  · exact head2 S (iblk m c 0 t) (iblk m c 1 t) (iblk m c 2 t) (iblk m c 3 t) _ hS i l h e x (Fin.ext hx1) hx2
  · exact head1 S (iblk m c 0 t) (iblk m c 1 t) (iblk m c 2 t) (iblk m c 3 t) _ hS i l h e x (Fin.ext hx1) hx2
  · exact head0 S (iblk m c 0 t) (iblk m c 1 t) (iblk m c 2 t) (iblk m c 3 t) _ hS i l h e x (Fin.ext hx1) (hx2.trans (Nat.zero_add _).symm)

/-- The output block of the first point of a sequence: the states begin at zero. -/
theorem oA (t : Fin cfg0.N) (h0 : t.val % 16 = 0) (i : Fin 2) (l : Fin 64) (h : Fin 4) (e : Fin 128) :
    (outsAt0 m c t.val t.isLt).1 (ix3 0 (half i l) (wide h e))
      = tile (fun _ _ _ => 0) (iblk m c 0 t) (iblk m c 1 t) (iblk m c 2 t) (iblk m c 3 t) i l h e := by
  rw [outsAt0_A m c t h0]
  frame_out
  canon_tiles x hx
  · exact head3 _ (iblk m c 0 t) (iblk m c 1 t) (iblk m c 2 t) (iblk m c 3 t) _ zero_diag i l h e x (Fin.ext hx1) hx2
  · exact head2 _ (iblk m c 0 t) (iblk m c 1 t) (iblk m c 2 t) (iblk m c 3 t) _ zero_diag i l h e x (Fin.ext hx1) hx2
  · exact head1 _ (iblk m c 0 t) (iblk m c 1 t) (iblk m c 2 t) (iblk m c 3 t) _ zero_diag i l h e x (Fin.ext hx1) hx2
  · exact head0 _ (iblk m c 0 t) (iblk m c 1 t) (iblk m c 2 t) (iblk m c 3 t) _ zero_diag i l h e x (Fin.ext hx1) (hx2.trans (Nat.zero_add _).symm)

end Cert.KernelIdeal.Pt

end
-- ==== Proof.Gla.Input.lean ====
/- The blocks a point of the grid reads, at coordinates: of the argument arrays. -/
module

public import proofs.«01_k».proof.Proof.Gla.Block

@[expose] public section

set_option maxRecDepth 16384

noncomputable section

namespace Cert.KernelIdeal.Pt

open Idealize.ShloMosaic Idealize.ShloMosaic.TcCoe Idealize.SL.Sem
open Cert.KernelIdeal Cert.KernelIdeal.Gen
open Gla

variable (m : (ℓ : Loc nD τ sig) → Buf (Elt Ideal) ℓ) (c : Dev nD)

/-- The block indices of every window, decided over the grid. -/
theorem idx : ∀ t : Fin cfg0.N, win0_0.index t = ![t.val / 16, t.val % 16, 0] ∧ win0_1.index t = ![0, 0] ∧ win0_2.index t = ![0, 0]
    ∧ win0_3.index t = ![0, 0] ∧ win0_4.index t = ![t.val / 16, t.val % 16, 0] :=
  (by decide +kernel : ∀ t : Fin grid0.N, _)

theorem zd_at (t : Fin cfg0.N) (r : Fin 128) (k : Fin 1664) (b : Fin 8) (hb : b.val = t.val / 16) (R : Fin 2048) (hR : R.val = (t.val % 16) * 128 + r.val) :
    iblk m c 0 t (ix3 0 r k) = m ((c : Thread nD τ).loc main_arg0) (ix3 b R k) := by
  blk_ext [iblk, V, idx t]

theorem V_v0 : V m c main_v0 = pad S128x256 ![0, 0] ![112, 0] ![0, 0] (m ((c : Thread nD τ).loc main_arg1)) (sitofp (F := Ideal) .f32 (constantI S_ 32 0#32)) pads_S16x256_S128x256_01120_000 h_S_ := by
  simp only [V, hostOps0, hostOps0_1, hostOps0_2, List.flatten_cons, List.flatten_nil, List.append_nil, List.cons_append, List.nil_append]
  entry_read
  try rfl

theorem V_v1 : V m c main_v1 = shapeCast S1x256 (m ((c : Thread nD τ).loc main_arg2)) shapeCasts_S256_S1x256 := by
  simp only [V, hostOps0, hostOps0_1, hostOps0_2, List.flatten_cons, List.flatten_nil, List.append_nil, List.cons_append, List.nil_append]
  entry_read
  try rfl

theorem V_v2 : V m c main_v2 = shapeCast S1x128 (m ((c : Thread nD τ).loc main_arg3)) shapeCasts_S128_S1x128 := by
  simp only [V, hostOps0, hostOps0_1, hostOps0_2, List.flatten_cons, List.flatten_nil, List.append_nil, List.cons_append, List.nil_append]
  entry_read
  try rfl

theorem gup_at (t : Fin cfg0.N) (r : Fin 128) (k : Fin 256) :
    iblk m c 1 t (ix2 r k) = if h : r.val < 16 then (m ((c : Thread nD τ).loc main_arg1) : FVec Ideal S16x256 .f32) (ix2 ⟨r.val, h⟩ k) else (0 : EReal) := by
  blk_simp [iblk]
  have e : (win0_1.blk t).view.emb (ix2 r k) = ix2 r k := by blk_ext [idx t]
  rw [e, V_v0]
  pointwise
  by_cases h : r.val < 16
  · rw [dif_pos h, dif_pos]
    intro a
    have hk := k.isLt
    fin_cases a
    · refine ⟨Nat.zero_le _, Nat.mod_one _, ?_⟩
      show (r.val - 0) / 1 < 16
      omega
    · refine ⟨Nat.zero_le _, Nat.mod_one _, ?_⟩
      show (k.val - 0) / 1 < 256
      omega
  · rw [dif_neg h, dif_neg]
    · show (((0#32 : BitVec 32).toInt : ℝ) : EReal) = 0
      simp
    · intro hh
      have h2 : (r.val - 0) / 1 < 16 := (hh 0).2.2
      omega

theorem gb_at (t : Fin cfg0.N) (k : Fin 256) : iblk m c 2 t (ix2 0 k) = m ((c : Thread nD τ).loc main_arg2) (ix1 k) := by
  blk_simp [iblk]
  have e : (win0_2.blk t).view.emb (ix2 0 k) = ix2 0 k := by blk_ext [idx t]
  rw [e, V_v1]
  pointwise

theorem nw_at (t : Fin cfg0.N) (k : Fin 128) : iblk m c 3 t (ix2 0 k) = m ((c : Thread nD τ).loc main_arg3) (ix1 k) := by
  blk_simp [iblk]
  have e : (win0_3.blk t).view.emb (ix2 0 k) = ix2 0 k := by blk_ext [idx t]
  rw [e, V_v2]
  pointwise

end Cert.KernelIdeal.Pt

end
-- ==== Proof.Gla.States.lean ====
/- The points of the grid in turn: a sequence's sixteen points carry the states of its thirty-two chunks. -/
module

public import proofs.«01_k».proof.Proof.Gla.Input

@[expose] public section

set_option maxRecDepth 16384

noncomputable section

namespace Cert.KernelIdeal.Pt

open Idealize.ShloMosaic Idealize.ShloMosaic.TcCoe Idealize.SL.Sem
open Cert.KernelIdeal Cert.KernelIdeal.Gen
open Gla

variable (m : (ℓ : Loc nD τ sig) → Buf (Elt Ideal) ℓ) (c : Dev nD)

/-- The arguments. -/
abbrev aZ : FVec Ideal S8x2048x1664 .f32 := m ((c : Thread nD τ).loc main_arg0)
abbrev aU : FVec Ideal S16x256 .f32 := m ((c : Thread nD τ).loc main_arg1)
abbrev aB : FVec Ideal S256 .f32 := m ((c : Thread nD τ).loc main_arg2)
abbrev aW : FVec Ideal S128 .f32 := m ((c : Thread nD τ).loc main_arg3)

/-- The states entering chunk `n`. -/
abbrev sts (b : Fin 8) (n : ℕ) (h : Fin 4) : Fin 64 → Fin 128 → EReal := St (aZ m c) (aU m c) (aB m c) b h n

section
variable (t : Fin cfg0.N) (b : Fin 8) (hb : b.val = t.val / 16)

/-- Chunk `i` of point `t`. -/
abbrev chunk (i : Fin 2) : ℕ := 2 * (t.val % 16) + i.val

theorem row_val (i : Fin 2) (l : Fin 64) : (row (chunk t i) l).val = (t.val % 16) * 128 + (half i l).val := by
  simp only [row, half, chunk]
  omega

include hb

theorem tq_eq (i : Fin 2) (h : Fin 4) : tq (iblk m c 0 t) i h = qC (aZ m c) b h (chunk t i) := by
  funext l d
  unfold tq qC qA
  rw [zd_at m c t _ _ b hb _ (row_val t i l)]

theorem tk_eq (i : Fin 2) (h : Fin 4) : tk (iblk m c 0 t) i h = kC (aZ m c) b h (chunk t i) := by
  funext l d
  unfold tk kC kA
  rw [zd_at m c t _ _ b hb _ (row_val t i l)]

theorem tv_eq (i : Fin 2) (h : Fin 4) : tv (iblk m c 0 t) i h = vC (aZ m c) b h (chunk t i) := by
  funext l e
  unfold tv vC vA
  rw [zd_at m c t _ _ b hb _ (row_val t i l)]

theorem ta_eq (r : Fin 128) (k : Fin 256) (R : Fin 2048) (hR : R.val = (t.val % 16) * 128 + r.val) :
    ta (iblk m c 0 t) (iblk m c 1 t) (iblk m c 2 t) r k = aA (aZ m c) (aU m c) (aB m c) b R k := by
  unfold ta aA gate
  rw [gb_at]
  refine congrArg (fun x => Ideal.div (logSig (x + aB m c (ix1 k))) (Ideal.ofBits .f32 0x41800000#32)) ?_
  refine (Fin.sum_univ_add (a := 16) (b := 112) _).trans ?_
  rw [Finset.sum_eq_zero (s := (Finset.univ : Finset (Fin 112))) (fun i _ => ?_), add_zero]
  · refine Finset.sum_congr rfl fun i _ => ?_
    rw [gup_at, dif_pos (show (Fin.castAdd 112 i).val < 16 from i.isLt), zd_at m c t _ _ b hb _ hR]
    rfl
  · rw [gup_at, dif_neg (show ¬ (Fin.natAdd 16 i).val < 16 by simp), mul_zero]

theorem tb_eq (i : Fin 2) (h : Fin 4) : tb (iblk m c 0 t) (iblk m c 1 t) (iblk m c 2 t) i h = bC (aZ m c) (aU m c) (aB m c) b h (chunk t i) := by
  funext l d
  unfold tb bC
  exact congrArg (fun f => cum f l) (funext fun s => ta_eq m c t b hb _ _ _ (row_val t i s))

theorem tn_eq (i : Fin 2) : tn (iblk m c 0 t) (iblk m c 1 t) (iblk m c 2 t) i (sts m c b (chunk t i)) = sts m c b (chunk t i + 1) := by
  funext h
  unfold tn
  rw [tk_eq m c t b hb, tb_eq m c t b hb, tv_eq m c t b hb]
  rfl

theorem tu_eq (i : Fin 2) (h : Fin 4) :
    tu (iblk m c 0 t) (iblk m c 1 t) (iblk m c 2 t) i (sts m c b (chunk t i)) h = Out (aZ m c) (aU m c) (aB m c) b h (chunk t i) := by
  unfold tu
  rw [tq_eq m c t b hb, tk_eq m c t b hb, tb_eq m c t b hb, tv_eq m c t b hb]
  rfl

/-- Both chunks of the point. -/
theorem two_eq : tn (iblk m c 0 t) (iblk m c 1 t) (iblk m c 2 t) 1 (tn (iblk m c 0 t) (iblk m c 1 t) (iblk m c 2 t) 0 (sts m c b (2 * (t.val % 16))))
    = sts m c b (2 * (t.val % 16) + 2) := by
  have e0 := tn_eq m c t b hb 0
  have e1 := tn_eq m c t b hb 1
  rw [show chunk t 0 = 2 * (t.val % 16) from rfl] at e0
  rw [e0]
  exact e1

theorem pre_eq (i : Fin 2) :
    pre (sts m c b (2 * (t.val % 16))) (iblk m c 0 t) (iblk m c 1 t) (iblk m c 2 t) i = sts m c b (chunk t i) := by
  unfold pre
  fin_cases i
  · rfl
  · exact tn_eq m c t b hb 0

end

/-- What the scratch holds entering point `t` and leaving it. -/
theorem carried : ∀ (n : ℕ) (hn : n < cfg0.N) (b : Fin 8), b.val = n / 16 → Diag (sts m c b (2 * (n % 16) + 2)) (outsAt0 m c n hn).2 := by
  intro n
  induction n with
  | zero =>
    intro hn b hb
    have h := stA m c ⟨0, hn⟩ rfl
    have e := two_eq m c ⟨0, hn⟩ b hb
    exact (congrArg (fun S => Diag S (outsAt0 m c 0 hn).2) e).mp h
  | succ n ih =>
    intro hn b hb
    by_cases h0 : (n + 1) % 16 = 0
    · have h := stA m c ⟨n + 1, hn⟩ h0
      have e := two_eq m c ⟨n + 1, hn⟩ b hb
      have z : sts m c b (2 * ((n + 1) % 16)) = fun _ _ _ => 0 := by rw [h0]; rfl
      rw [z] at e
      exact (congrArg (fun S => Diag S (outsAt0 m c (n + 1) hn).2) e).mp h
    · have hp := ih (by omega) b (by omega)
      have hk : 2 * (n % 16) + 2 = 2 * ((n + 1) % 16) := by omega
      rw [hk] at hp
      have h := stB m c _ ⟨n + 1, hn⟩ h0 hp
      exact (congrArg (fun S => Diag S (outsAt0 m c (n + 1) hn).2) (two_eq m c ⟨n + 1, hn⟩ b hb)).mp h

/-- The output block of a point. -/
theorem block_at (t : Fin cfg0.N) (b : Fin 8) (hb : b.val = t.val / 16) (i : Fin 2) (l : Fin 64) (h : Fin 4) (e : Fin 128) :
    (outsAt0 m c t.val t.isLt).1 (ix3 0 (half i l) (wide h e))
      = fin (aW m c) (Out (aZ m c) (aU m c) (aB m c) b h (chunk t i) l) (aZ m c (ix3 b (row (chunk t i) l) ⟨1024 + (wide h e).val, by omega⟩)) e := by
  have key : (outsAt0 m c t.val t.isLt).1 (ix3 0 (half i l) (wide h e))
      = tile (sts m c b (2 * (t.val % 16))) (iblk m c 0 t) (iblk m c 1 t) (iblk m c 2 t) (iblk m c 3 t) i l h e := by
    by_cases h0 : t.val % 16 = 0
    · rw [oA m c t h0, h0]
      rfl
    · have hn : t.val - 1 < cfg0.N := Nat.lt_of_le_of_lt (Nat.sub_le _ _) t.isLt
      have hp := carried m c (t.val - 1) hn b (by omega)
      rw [show 2 * ((t.val - 1) % 16) + 2 = 2 * (t.val % 16) by omega] at hp
      exact oB m c _ t h0 hp i l h e
  rw [key]
  unfold tile
  rw [pre_eq m c t b hb, tu_eq m c t b hb, zd_at m c t _ _ b hb _ (row_val t i l)]
  refine congrArg (fun w => fin w _ _ e) (funext fun j => ?_)
  idx_vars j
  exact nw_at m c t _

end Cert.KernelIdeal.Pt

end
-- ==== Proof.Gla.RefRun.lean ====
/- The reference's loop, run: what one trip leaves in the carried buffers is `Step.step` of what it found, so the
   result is `Step.R_main_v49` of the 32nd state of any sequence that starts at `Step.init` and goes on by `Step.step`. -/
module

public import proofs.«01_k».proof.Proof.Gen.ReferenceIdeal.Run
public import proofs.«01_k».proof.Proof.Gen.ReferenceIdeal.Step

@[expose] public section

set_option maxRecDepth 16384

noncomputable section

namespace Cert.ReferenceIdeal.Trips

open Idealize.ShloMosaic Idealize.ShloMosaic.TcCoe Idealize.SL.Sem Idealize.ShloMosaic.StableHlo
open Cert.ReferenceIdeal Cert.ReferenceIdeal.Gen Cert.ReferenceIdeal.Value
open Cert.ReferenceIdeal.Step (State step init)

variable {F : FTy → Type} [FloatOps F]

/-- The loop's buffers hold the state `s`, and its counter the number `j`. -/
structure At (W : Valuation τ sig (Elt F)) (s : State F) (j : ℕ) : Prop where
  state : W (Proc.devRef .tc main_v29_5) = s.main_v29_5
  outs : W (Proc.devRef .tc main_v29_6) = s.main_v29_6
  q : W (Proc.devRef .tc main_v29_0) = s.main_v29_0
  k : W (Proc.devRef .tc main_v29_1) = s.main_v29_1
  v : W (Proc.devRef .tc main_v29_2) = s.main_v29_2
  a : W (Proc.devRef .tc main_v29_3) = s.main_v29_3
  num : W (Proc.devRef .tc main_v29_4) = constantI S_ 32 (BitVec.ofNat 32 j)

variable {W : Valuation τ sig (Elt F)} {s : State F} {j : ℕ}

/-- The trip's rows of k, v, q and of the log-decays, and what the trip first makes of them. -/
theorem trip_k (h : At W s j) : res_main_while0b_v51 W = Step.b11 j s := by
  unfold res_main_while0b_v51
  rw [h.k, h.num]
  rfl

theorem trip_v (h : At W s j) : res_main_while0b_v52 W = Step.b17 j s := by
  unfold res_main_while0b_v52
  rw [h.v, h.num]
  rfl

theorem trip_cum (h : At W s j) : res_main_while0b_v54 W = Step.b26 j s := by
  unfold res_main_while0b_v54
  rw [h.a, h.num]
  rfl

theorem trip_last (h : At W s j) : res_main_while0b_v55 W = Step.b27 j s := by
  unfold res_main_while0b_v55
  rw [trip_cum h]
  rfl

theorem trip_qg (h : At W s j) : res_main_while0b_v57 W = Step.b29 j s := by
  unfold res_main_while0b_v57
  rw [trip_cum h, h.q, h.num]
  rfl

/-- The state a trip leaves. -/
theorem trip_state (h : At W s j) : step_main_v29_5 W = (step j s).main_v29_5 := by
  unfold step_main_v29_5
  rw [trip_k h, trip_v h, trip_cum h, trip_last h, h.state]
  rfl

/-- The outputs a trip leaves. -/
theorem trip_outs (h : At W s j) : step_main_v29_6 W = (step j s).main_v29_6 := by
  unfold step_main_v29_6
  rw [trip_k h, trip_v h, trip_cum h, trip_qg h, h.state, h.outs, h.num]
  rfl

/-- The counter a trip leaves. -/
theorem trip_num (h : At W s j) : step_main_v29_4 W = constantI S_ 32 (BitVec.ofNat 32 (j + 1)) := by
  unfold step_main_v29_4
  rw [h.num]
  funext i
  show BitVec.ofNat 32 j + 1#32 = BitVec.ofNat 32 (j + 1)
  simp only [BitVec.ofNat_add]

/-- A trip goes on by `step`. -/
theorem at_step (h : At W s j) : At (STEP W) (step j s) (j + 1) where
  state := (STEP_main_v29_5 W).trans (trip_state h)
  outs := (STEP_main_v29_6 W).trans (trip_outs h)
  num := (STEP_main_v29_4 W).trans (trip_num h)
  q := (STEP_main_v29_0 W).trans h.q
  k := (STEP_main_v29_1 W).trans h.k
  v := (STEP_main_v29_2 W).trans h.v
  a := (STEP_main_v29_3 W).trans h.a

/-- The state the loop is entered with. -/
abbrev start (m : (ℓ : Loc nD τ sig) → Buf (Elt F) ℓ) (c : Dev nD) : State F :=
  init (m ((c.tc : Thread nD τ).loc main_arg0)) (m ((c.tc : Thread nD τ).loc main_arg1)) (m ((c.tc : Thread nD τ).loc main_arg2))

variable (m : (ℓ : Loc nD τ sig) → Buf (Elt F) ℓ) (c : Dev nD)

set_option maxRecDepth 65536 in
set_option maxHeartbeats 1000000 in
/-- The operations before the loop leave the starting state and the number 0. -/
theorem at_start : At (entryContents preI m c) (start m c) 0 := by
  constructor <;> (simp only [entryContents, afterL_cons, afterL_nil]; after_reads_simp) <;> rfl

/-- The states of the loop: `n` trips from the starting one. -/
def states : ℕ → State F
  | 0 => start m c
  | n + 1 => step n (states n)

/-- Before trip `n` the buffers hold the `n`-th state. -/
theorem at_trip : ∀ n, At (STEP^[n] (entryContents preI m c)) (states m c n) n
  | 0 => at_start m c
  | n + 1 => by
    rw [Function.iterate_succ_apply']
    exact at_step (at_trip n)

/-- The result after the loop, of the state it leaves. -/
theorem result (h : At W s j) {x : (⟨S8x2048x1664, .f32⟩ : BufTy).Contents (Elt F)} (hx : W (Proc.devRef .tc main_arg0) = x)
    {w : (⟨S128, .f32⟩ : BufTy).Contents (Elt F)} (hw : W (Proc.devRef .tc main_arg3) = w) :
    out_main_v49 W = Step.R_main_v49 s x w := by
  unfold out_main_v49
  rw [h.outs, hx, hw]
  rfl

/-- Every execution ends with the result made of the 32nd state, the arguments as they were. -/
theorem run (ρ : Dev nD → PrngReg) :
    θ_run (defs (F := F)) (onTc (τ := τ) (main (F := F))) ⟨m, fun _ => 0, ρ⟩ fun r => ∀ c : Dev nD,
      r.2.mem ((c.tc : Thread nD τ).loc main_v49) = Step.R_main_v49 (states m c 32) (m ((c.tc : Thread nD τ).loc main_arg0)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c =>
    ⟨(h c).1.trans (result (at_trip m c 32) (iter_main_arg0 m c 32) (iter_main_arg3 m c 32)), (h c).2⟩) (Value.run m ρ)

end Cert.ReferenceIdeal.Trips

end
-- ==== Proof.Gla.RefValue.lean ====
/- The reference's trips and result, read at an index: each is the chunk step of Gla/Spec.lean. -/
module

public import proofs.«01_k».proof.Proof.Gla.RefRun
public import proofs.«01_k».proof.Proof.Gla.Spec

@[expose] public section

set_option maxRecDepth 16384

noncomputable section

namespace Cert.ReferenceIdeal.Trips

open Idealize.ShloMosaic Idealize.ShloMosaic.TcCoe
open Cert.ReferenceIdeal Cert.ReferenceIdeal.Gen Cert.ReferenceIdeal.Step
open Gla

/-- A start vector whose first entry is the trip number. -/
theorem clamp_first {s u : Shape} (hr : u.rank = s.rank) (st : Fin s.rank → Int) (a : Fin s.rank) (j : ℕ) (h : st a = j)
    (hle : j + u.size (a.cast hr.symm) ≤ s.size a) : Host.clampedStart s u hr st a = j :=
  Host.clampedStart_of_le hr st a j h hle

/-- An axis taken whole starts at zero. -/
theorem clamp_whole {s u : Shape} (hr : u.rank = s.rank) (st : Fin s.rank → Int) (a : Fin s.rank)
    (h : s.size a = u.size (a.cast hr.symm)) : Host.clampedStart s u hr st a = 0 := by
  unfold Host.clampedStart; omega

/-- One chunk of the chunked operand. -/
theorem slice_at {w : ℕ} (x : FVec Ideal ⟨5, ![32, 8, 64, 4, w]⟩ .f32) (st : Fin 5 → Int)
    (hs : (⟨5, ![32, 8, 64, 4, w]⟩ : Shape).Slices (fun _ => 0) ⟨5, ![1, 8, 64, 4, w]⟩) (j : ℕ) (hj : j < 32) (h0 : st 0 = j)
    (b : Fin 8) (l : Fin 64) (h : Fin 4) (d : Fin w) :
    Host.dynamicSlice ⟨5, ![1, 8, 64, 4, w]⟩ x st hs (ix5 0 b l h d) = x (ix5 ⟨j, hj⟩ b l h d) := by
  rw [Host.dynamicSlice_apply]
  refine congrArg x (funext fun a => Fin.ext ?_)
  fin_cases a
  · exact (congrArg (· + 0) (clamp_first hs.1 st 0 j h0 (by show j + 1 ≤ 32; omega)))
  · exact (congrArg (· + b.val) (clamp_whole hs.1 st 1 rfl)).trans (Nat.zero_add _)
  · exact (congrArg (· + l.val) (clamp_whole hs.1 st 2 rfl)).trans (Nat.zero_add _)
  · exact (congrArg (· + h.val) (clamp_whole hs.1 st 3 rfl)).trans (Nat.zero_add _)
  · exact (congrArg (· + d.val) (clamp_whole hs.1 st 4 rfl)).trans (Nat.zero_add _)

/-- A position inside a window, from the window's start. -/
theorem window {c k i u : ℕ} (h : c = k) (h1 : k ≤ i) (h2 : i < k + u) : c ≤ i ∧ i < c + u := by
  subst h; exact ⟨h1, h2⟩

/-- One chunk put into the chunked operand. -/
theorem put_at {w : ℕ} (x : FVec Ideal ⟨5, ![32, 8, 64, 4, w]⟩ .f32) (y : FVec Ideal ⟨5, ![1, 8, 64, 4, w]⟩ .f32) (st : Fin 5 → Int)
    (hs : (⟨5, ![32, 8, 64, 4, w]⟩ : Shape).Slices (fun _ => 0) ⟨5, ![1, 8, 64, 4, w]⟩) (j : ℕ) (hj : j < 32) (h0 : st 0 = j)
    (n : Fin 32) (b : Fin 8) (l : Fin 64) (h : Fin 4) (d : Fin w) :
    Host.dynamicUpdateSlice x y st hs (ix5 n b l h d) = if n.val = j then y (ix5 0 b l h d) else x (ix5 n b l h d) := by
  have c0 := clamp_first hs.1 st 0 j h0 (by show j + 1 ≤ 32; omega)
  have c1 := clamp_whole hs.1 st 1 rfl
  have c2 := clamp_whole hs.1 st 2 rfl
  have c3 := clamp_whole hs.1 st 3 rfl
  have c4 := clamp_whole hs.1 st 4 rfl
  rw [Host.dynamicUpdateSlice_apply]
  split
  · rename_i hin
    have hn : n.val = j := by
      have := hin 0; rw [c0] at this
      have e1 : j ≤ n.val := this.1
      have e2 : n.val < j + 1 := this.2
      omega
    rw [if_pos hn]
    refine congrArg y (funext fun a => Fin.ext ?_)
    fin_cases a
    · exact (congrArg (n.val - ·) c0).trans (by show n.val - j = 0; omega)
    · exact (congrArg (b.val - ·) c1).trans (Nat.sub_zero _)
    · exact (congrArg (l.val - ·) c2).trans (Nat.sub_zero _)
    · exact (congrArg (h.val - ·) c3).trans (Nat.sub_zero _)
    · exact (congrArg (d.val - ·) c4).trans (Nat.sub_zero _)
  · rename_i hin
    rw [if_neg]
    intro hn
    refine hin fun a => ?_
    fin_cases a
    · exact window c0 hn.ge (by show n.val < j + 1; omega)
    · exact window c1 (Nat.zero_le _) (lt_of_lt_of_eq b.isLt (Nat.zero_add _).symm)
    · exact window c2 (Nat.zero_le _) (lt_of_lt_of_eq l.isLt (Nat.zero_add _).symm)
    · exact window c3 (Nat.zero_le _) (lt_of_lt_of_eq h.isLt (Nat.zero_add _).symm)
    · exact window c4 (Nat.zero_le _) (lt_of_lt_of_eq d.isLt (Nat.zero_add _).symm)

/-- A trip's number as a word. -/
theorem trip_word (j : ℕ) (hj : j < 32) : (BitVec.ofNat 32 j).toInt = j := by
  have h : ∀ k : Fin 32, (BitVec.ofNat 32 k.val).toInt = k.val := by decide +kernel
  exact h ⟨j, hj⟩

variable (j : ℕ) (s : State Ideal)

theorem q_at (hj : j < 32) (b : Fin 8) (l : Fin 64) (h : Fin 4) (d : Fin 64) :
    b5 j s (ix4 b l h d) = s.main_v29_0 (ix5 ⟨j, hj⟩ b l h d) := by
  rw [show b5 j s (ix4 b l h d) = b4 j s (ix5 0 b l h d) by pointwise [b5]]
  exact slice_at _ _ _ j hj (trip_word j hj) b l h d

theorem k_at (hj : j < 32) (b : Fin 8) (l : Fin 64) (h : Fin 4) (d : Fin 64) :
    b11 j s (ix4 b l h d) = s.main_v29_1 (ix5 ⟨j, hj⟩ b l h d) := by
  rw [show b11 j s (ix4 b l h d) = b10 j s (ix5 0 b l h d) by pointwise [b11]]
  exact slice_at _ _ _ j hj (trip_word j hj) b l h d

theorem v_at (hj : j < 32) (b : Fin 8) (l : Fin 64) (h : Fin 4) (d : Fin 128) :
    b17 j s (ix4 b l h d) = s.main_v29_2 (ix5 ⟨j, hj⟩ b l h d) := by
  rw [show b17 j s (ix4 b l h d) = b16 j s (ix5 0 b l h d) by pointwise [b17]]
  exact slice_at _ _ _ j hj (trip_word j hj) b l h d

theorem a_at (hj : j < 32) (b : Fin 8) (l : Fin 64) (h : Fin 4) (d : Fin 64) :
    b23 j s (ix4 b l h d) = s.main_v29_3 (ix5 ⟨j, hj⟩ b l h d) := by
  rw [show b23 j s (ix4 b l h d) = b22 j s (ix5 0 b l h d) by pointwise [b23]]
  exact slice_at _ _ _ j hj (trip_word j hj) b l h d

/-- The causal mask. -/
theorem mask_at (l x : Fin 64) (a c : EReal) :
    Scalar.select (Scalar.select (IntOp.cmpi CmpIPredicate.sge (IntOp.addi (BitVec.ofNat 32 l.val) 0#32) (BitVec.ofNat 32 x.val)) 1#1
            0#1) a c = if x ≤ l then a else c := by
  have h : ∀ l x : Fin 64, (Scalar.select (IntOp.cmpi CmpIPredicate.sge (IntOp.addi (BitVec.ofNat 32 l.val) 0#32) (BitVec.ofNat 32 x.val)) 1#1
            0#1) = if x ≤ l then 1#1 else 0#1 := by decide +kernel
  rw [h]
  by_cases hx : x ≤ l <;> simp [hx, Scalar.select]

theorem cum_at (b : Fin 8) (l : Fin 64) (h : Fin 4) (d : Fin 64) :
    b26 j s (ix4 b l h d) = cum (fun i => b23 j s (ix4 b i h d)) l := by
  unfold b26
  exact cumsum_at _ _ (fun i => by pointwise [b25, b24]) _ _ b l h d

theorem state_at (b : Fin 8) (h : Fin 4) (d : Fin 64) (e : Fin 128) :
    (step j s).main_v29_5 (ix4 b h d e) = next (fun l d => b11 j s (ix4 b l h d)) (fun l d => b26 j s (ix4 b l h d))
      (fun l e => b17 j s (ix4 b l h e)) (fun d e => s.main_v29_5 (ix4 b h d e)) d e := by
  rw [step_main_v29_5]
  pointwise [b64, b63, b62, b61, b60, b59, b55, b36, b35, b34, b33, b27, next]

theorem out_at (b : Fin 8) (l : Fin 64) (h : Fin 4)  (e : Fin 128) :
    b58 j s (ix4 b l h e) = out (fun l d => b5 j s (ix4 b l h d)) (fun l d => b11 j s (ix4 b l h d)) (fun l d => b26 j s (ix4 b l h d))
      (fun l e => b17 j s (ix4 b l h e)) (fun d e => s.main_v29_5 (ix4 b h d e)) l e := by
  pointwise [b58, b57, b56, b55, b54, b53, b52, b51, b50, b49, b48, b47, b46, b45, b44, b43, b42, b41, b40, b39, b38, b37, b29, b28, b32, b31, b30, out]
  refine congrArg₂ _ (Finset.sum_congr rfl fun x _ => ?_) rfl
  rw [mask_at]
  split <;> simp only [mul_zero]

theorem outs_at (hj : j < 32) (n : Fin 32) (b : Fin 8) (l : Fin 64) (h : Fin 4)  (e : Fin 128) :
    (step j s).main_v29_6 (ix5 n b l h e) = if n.val = j then b58 j s (ix4 b l h e) else s.main_v29_6 (ix5 n b l h e) := by
  rw [step_main_v29_6]
  refine (put_at _ _ _ _ j hj (trip_word j hj) n b l h e).trans ?_
  rw [show b65 j s (ix5 0 b l h e) = b58 j s (ix4 b l h e) by pointwise [b65]]

/-! The loop's operands. -/

section
variable (Z : FVec Ideal ⟨3, ![8, 2048, 1664]⟩ .f32) (U : FVec Ideal ⟨2, ![16, 256]⟩ .f32) (B : FVec Ideal ⟨1, ![256]⟩ .f32)

theorem row_eq (n : Fin 32) (l : Fin 64) (h : n.val * 64 + l.val < 2048) : (⟨n.val * 64 + l.val, h⟩ : Fin 2048) = row n l :=
  Fin.ext (Nat.mod_eq_of_lt h).symm

theorem log_at (b : Fin 8) (r : Fin 2048) (c : Fin 256) : A_main_v16 (F := Ideal) Z U B (ix3 b r c) = aA Z U B b r c := by
  pointwise [A_main_v16, A_main_v14, A_main_v13, A_main_v12, A_main_v11, A_main_v10, A_main_v9, A_main_v7, A_main_v6, A_main_v5, A_main_v4,
    A_main_v3, K_main_v8, K_main_v15, K_main_cst, K_main_cst_0, aA, logSig, gate]
  rfl

theorem qs_at (n : Fin 32) (b : Fin 8) (l : Fin 64) (h : Fin 4) (d : Fin 64) :
    A_main_v24 (F := Ideal) Z U B (ix5 n b l h d) = qC Z b h n l d := by
  pointwise [A_main_v24, A_main_v19, A_main_v18, A_main_v0, K_main_v17, K_main_cst_1, qC, qA, lane]
  rw [row_eq]

theorem ks_at (n : Fin 32) (b : Fin 8) (l : Fin 64) (h : Fin 4) (d : Fin 64) :
    A_main_v25 (F := Ideal) Z U B (ix5 n b l h d) = kC Z b h n l d := by
  pointwise [A_main_v25, A_main_v20, A_main_v1, kC, kA, lane]
  rw [row_eq]

theorem vs_at (n : Fin 32) (b : Fin 8) (l : Fin 64) (h : Fin 4) (e : Fin 128) :
    A_main_v26 (F := Ideal) Z U B (ix5 n b l h e) = vC Z b h n l e := by
  pointwise [A_main_v26, A_main_v21, A_main_v2, vC, vA]
  rw [row_eq]

theorem as_at (n : Fin 32) (b : Fin 8) (l : Fin 64) (h : Fin 4) (d : Fin 64) :
    A_main_v27 (F := Ideal) Z U B (ix5 n b l h d) = aA Z U B b (row n l) (lane h d) := by
  rw [← log_at]
  pointwise [A_main_v27, A_main_v22, lane]
  rw [row_eq]
end

theorem res_at (Z : FVec Ideal ⟨3, ![8, 2048, 1664]⟩ .f32) (W : FVec Ideal ⟨1, ![128]⟩ .f32) (b : Fin 8) (t : Fin 2048) (h : Fin 4) (e : Fin 128) :
    R_main_v49 s Z W (ix3 b t ⟨h.val * 128 + e.val, by omega⟩)
      = fin W (fun i => s.main_v29_6 (ix5 ⟨t.val / 64, by omega⟩ b ⟨t.val % 64, by omega⟩ h i)) (Z (ix3 b t ⟨1024 + (h.val * 128 + e.val), by omega⟩)) e := by
  pointwise [R_main_v49, fin]

/-! The loop. -/

section
variable (Z : FVec Ideal ⟨3, ![8, 2048, 1664]⟩ .f32) (U : FVec Ideal ⟨2, ![16, 256]⟩ .f32) (B : FVec Ideal ⟨1, ![256]⟩ .f32)

/-- What holds before trip `n`: the operands are the arguments', the states are those entering chunk `n`, and the outputs
    of the chunks before are there. -/
structure Inv (n : ℕ) (s : State Ideal) : Prop where
  q : s.main_v29_0 = A_main_v24 (F := Ideal) Z U B
  k : s.main_v29_1 = A_main_v25 (F := Ideal) Z U B
  v : s.main_v29_2 = A_main_v26 (F := Ideal) Z U B
  a : s.main_v29_3 = A_main_v27 (F := Ideal) Z U B
  st : ∀ b h d e, s.main_v29_5 (ix4 b h d e) = St Z U B b h n d e
  o : ∀ (i : Fin 32) b l h e, i.val < n → s.main_v29_6 (ix5 i b l h e) = Out Z U B b h i l e

theorem inv_init : Inv Z U B 0 (init (F := Ideal) Z U B) where
  q := rfl
  k := rfl
  v := rfl
  a := rfl
  st b h d e := by
    rw [show (init (F := Ideal) Z U B).main_v29_5 = K_main_v23 from rfl]
    pointwise [K_main_v23, K_main_cst_2, St]
  o i b l h e hi := absurd hi (Nat.not_lt_zero _)

theorem inv_step (n : ℕ) (hn : n < 32) (s : State Ideal) (H : Inv Z U B n s) : Inv Z U B (n + 1) (step n s) := by
  have hq (b h) : (fun l d => b5 n s (ix4 b l h d)) = qC Z b h n := by
    funext l d; rw [q_at n s hn, H.q, qs_at]
  have hk (b h) : (fun l d => b11 n s (ix4 b l h d)) = kC Z b h n := by
    funext l d; rw [k_at n s hn, H.k, ks_at]
  have hv (b h) : (fun l d => b17 n s (ix4 b l h d)) = vC Z b h n := by
    funext l d; rw [v_at n s hn, H.v, vs_at]
  have hb (b h) : (fun l d => b26 n s (ix4 b l h d)) = bC Z U B b h n := by
    funext l d
    rw [cum_at]
    refine congrArg (fun f => cum f l) (funext fun i => ?_)
    rw [a_at n s hn, H.a, as_at]
  have hs (b h) : (fun d e => s.main_v29_5 (ix4 b h d e)) = St Z U B b h n := by
    funext d e; exact H.st b h d e
  have ho (b h l e) : b58 n s (ix4 b l h e) = Out Z U B b h n l e := by
    rw [out_at, hq, hk, hv, hb, hs]; rfl
  exact {
    q := H.q, k := H.k, v := H.v, a := H.a
    st := fun b h d e => by rw [state_at, hk, hv, hb, hs]; rfl
    o := fun i b l h e hi => by
      rw [outs_at n s hn]
      split
      · rename_i hin; rw [ho, hin]
      · rename_i hin; exact H.o i b l h e (by omega) }

/-- The reference's result at a position: the chunk's output, normalised and gated. -/
def res (W : FVec Ideal ⟨1, ![128]⟩ .f32) (b : Fin 8) (t : Fin 2048) (h : Fin 4) (e : Fin 128) : EReal :=
  fin W (Out Z U B b h (t.val / 64) ⟨t.val % 64, Nat.mod_lt _ (by decide)⟩) (Z (ix3 b t ⟨1024 + (h.val * 128 + e.val), by omega⟩)) e

end

variable (m : (ℓ : Loc nD τ sig) → Buf (Elt Ideal) ℓ) (c : Dev nD)

theorem inv_at : ∀ n, n ≤ 32 → Inv (m ((c.tc : Thread nD τ).loc main_arg0)) (m ((c.tc : Thread nD τ).loc main_arg1))
    (m ((c.tc : Thread nD τ).loc main_arg2)) n (states m c n)
  | 0, _ => inv_init _ _ _
  | n + 1, h => inv_step _ _ _ n (by omega) _ (inv_at n (by omega))

theorem result_at (b : Fin 8) (t : Fin 2048) (h : Fin 4) (e : Fin 128) :
    R_main_v49 (states m c 32) (m ((c.tc : Thread nD τ).loc main_arg0)) (m ((c.tc : Thread nD τ).loc main_arg3))
        (ix3 b t ⟨h.val * 128 + e.val, by omega⟩)
      = res (m ((c.tc : Thread nD τ).loc main_arg0)) (m ((c.tc : Thread nD τ).loc main_arg1))
          (m ((c.tc : Thread nD τ).loc main_arg2)) (m ((c.tc : Thread nD τ).loc main_arg3)) b t h e := by
  rw [res_at]
  unfold res
  congr 1
  funext i
  exact (inv_at m c 32 le_rfl).o _ _ _ _ _ (by show t.val / 64 < 32; omega)

end Cert.ReferenceIdeal.Trips

end
-- ==== Proof.Gla.Array.lean ====
/- The result array of the kernel, from its blocks: the reference's result at every index. -/
module

public import proofs.«01_k».proof.Proof.Gla.States
public import proofs.«01_k».proof.Proof.Gla.RefValue

@[expose] public section

set_option maxRecDepth 16384

noncomputable section

namespace Cert.KernelIdeal.Pt

open Idealize.ShloMosaic Idealize.ShloMosaic.TcCoe Idealize.SL.Sem
open Cert.KernelIdeal Cert.KernelIdeal.Gen
open Gla
open Cert.ReferenceIdeal.Trips (res)

/-- The result at every index. -/
def G (Z : FVec Ideal S8x2048x1664 .f32) (U : FVec Ideal S16x256 .f32) (B : FVec Ideal S256 .f32) (W : FVec Ideal S128 .f32) :
    FVec Ideal S8x2048x512 .f32 := fun j =>
  have h : (j 2).val < 512 := (j 2).isLt
  res Z U B W (j 0) (j 1) ⟨(j 2).val / 128, by omega⟩ ⟨(j 2).val % 128, Nat.mod_lt _ (by decide)⟩

theorem G_at (Z : FVec Ideal S8x2048x1664 .f32) (U : FVec Ideal S16x256 .f32) (B : FVec Ideal S256 .f32) (W : FVec Ideal S128 .f32)
    (b : Fin 8) (t : Fin 2048) (h : Fin 4) (e : Fin 128) (k : Fin 512) (hk : k.val = h.val * 128 + e.val) : G Z U B W (ix3 b t k) = res Z U B W b t h e := by
  unfold G
  have h1 : (⟨k.val / 128, by omega⟩ : Fin 4) = h := Fin.ext (by show k.val / 128 = h.val; omega)
  have h2 : (⟨k.val % 128, Nat.mod_lt _ (by decide)⟩ : Fin 128) = e := Fin.ext (by show k.val % 128 = e.val; omega)
  exact congrArg₂ (res Z U B W b t) h1 h2

variable (m : (ℓ : Loc nD τ sig) → Buf (Elt Ideal) ℓ) (c : Dev nD)

theorem final : (dats m 0 c).arrAt 4 cfg0.N = G (aZ m c) (aU m c) (aB m c) (aW m c) := by
  refine (dats m 0 c).arrAt_eq_of_covers 4 _ (by decide +kernel) fun t hf y => ?_
  blk_simp
  rw [after0_4]
  have ht : t.val < 128 := t.isLt
  have hy0 : (y 0).val < 1 := (y 0).isLt
  have hy1 : (y 1).val < 128 := (y 1).isLt
  have hy2 : (y 2).val < 512 := (y 2).isLt
  obtain ⟨i, l, hl⟩ : ∃ (i : Fin 2) (l : Fin 64), (y 1).val = i.val * 64 + l.val :=
    ⟨⟨(y 1).val / 64, by omega⟩, ⟨(y 1).val % 64, by omega⟩, by show (y 1).val = (y 1).val / 64 * 64 + (y 1).val % 64; omega⟩
  obtain ⟨h, e, he⟩ : ∃ (h : Fin 4) (e : Fin 128), (y 2).val = h.val * 128 + e.val :=
    ⟨⟨(y 2).val / 128, by omega⟩, ⟨(y 2).val % 128, by omega⟩, by show (y 2).val = (y 2).val / 128 * 128 + (y 2).val % 128; omega⟩
  obtain rfl : y = ix3 0 (half i l) (wide h e) := by
    funext a
    refine Fin.ext ?_
    fin_cases a
    · show (y 0).val = 0
      omega
    · exact hl
    · exact he
  rw [show (win0_4.blk t).view.emb (ix3 0 (half i l) (wide h e)) = ix3 (⟨t.val / 16, by omega⟩ : Fin 8) (row (chunk t i) l) (wide h e) from ?_]
  · rw [G_at _ _ _ _ _ _ h e _ rfl]
    refine (block_at m c t ⟨t.val / 16, by omega⟩ rfl i l h e).trans ?_
    have hr : (row (chunk t i) l).val = chunk t i * 64 + l.val := by
      simp only [row, chunk]
      omega
    have h1 : (row (chunk t i) l).val / 64 = chunk t i := by omega
    have h2 : (⟨(row (chunk t i) l).val % 64, Nat.mod_lt _ (by decide)⟩ : Fin 64) = l := Fin.ext (by show (row (chunk t i) l).val % 64 = l.val; omega)
    unfold res
    rw [h1, h2]
  · have hr := row_val t i l
    funext a
    refine Fin.ext ?_
    fin_cases a
    · blk_simp [idx t]
      rfl
    · blk_simp [idx t]
      exact hr.symm
    · blk_simp [idx t]
      rfl

end Cert.KernelIdeal.Pt

end
-- ==== Proof.Gla.Claim.lean ====
/- The claim about the gated linear attention: the kernel's result is the reference's. -/
module

public import proofs.«01_k».proof.Defs
public import proofs.«01_k».proof.Proof.Gla.Array
public import Idealize.ShloMosaic.Lib.Claim

@[expose] public section

set_option maxRecDepth 16384

noncomputable section

namespace Cert.Proof

open Idealize.ShloMosaic Idealize.ShloMosaic.TcCoe Idealize.SL.Sem
open Gla

/-- The reference's result array. -/
theorem ref_result (m : (ℓ : Loc Cert.ReferenceIdeal.nD Cert.ReferenceIdeal.τ Cert.ReferenceIdeal.sig) → Buf (Elt Ideal) ℓ) (c : Dev Cert.ReferenceIdeal.nD) :
    Cert.ReferenceIdeal.Step.R_main_v49 (Cert.ReferenceIdeal.Trips.states m c 32) (m (c.tc.loc Cert.ReferenceIdeal.main_arg0)) (m (c.tc.loc Cert.ReferenceIdeal.main_arg3))
      = Cert.KernelIdeal.Pt.G (m (c.tc.loc Cert.ReferenceIdeal.main_arg0)) (m (c.tc.loc Cert.ReferenceIdeal.main_arg1))
          (m (c.tc.loc Cert.ReferenceIdeal.main_arg2)) (m (c.tc.loc Cert.ReferenceIdeal.main_arg3)) := by
  funext j
  idx_vars j
  have hlt := j2.isLt
  obtain ⟨h, e, he⟩ : ∃ (h : Fin 4) (e : Fin 128), j2.val = h.val * 128 + e.val :=
    ⟨⟨j2.val / 128, by omega⟩, ⟨j2.val % 128, by omega⟩, by show j2.val = j2.val / 128 * 128 + j2.val % 128; omega⟩
  rw [Cert.KernelIdeal.Pt.G_at _ _ _ _ j0 j1 h e j2 he]
  have ej : j2 = (⟨h.val * 128 + e.val, by omega⟩ : Fin 512) := Fin.ext he
  refine (congrArg (fun k => Cert.ReferenceIdeal.Step.R_main_v49 (F := Ideal) _ _ _ (ix3 j0 j1 k)) ej).trans ?_
  exact Cert.ReferenceIdeal.Trips.result_at m c j0 j1 h e

theorem algebraic : Cert.algebraic_KernelIdeal_ReferenceIdeal := by
  pair_intro
  · run_from Cert.KernelIdeal.Value.run_blocks m g
  · run_from Cert.ReferenceIdeal.Trips.run m' g'
    rw [Cert.KernelIdeal.Pt.final m c]
    have e := ref_result m' c
    rw [(hagree c).1, (hagree c).2.1, (hagree c).2.2.1, (hagree c).2.2.2] at e
    exact e

/-- The reference leaves its arguments, and has no counter that could be left raised. -/
theorem frame_ref : Cert.quiescent_ReferenceIdeal := fun m ρ _ =>
  (θ_run Cert.ReferenceIdeal.defs _ _).mono (fun r h => ⟨fun c => (h c).2, sem_eq_zero_of_no_sems (by decide) r.2⟩)
    (Cert.ReferenceIdeal.Trips.run (F := Ideal) m ρ)

end Cert.Proof

end
-- ==== Proof.Norm.Spec.lean ====
/- A row of 1024 numbers divided by its root mean square, and weighted. -/
module

public import Idealize.ShloMosaic.Lib.Pointwise

@[expose] public section

noncomputable section

namespace Norm

open Idealize.ShloMosaic

/-- Entry `k` of the row `x`, normalized by the row's root mean square and weighted by `w`. -/
def rms (x w : Fin 1024 → EReal) (k : Fin 1024) : EReal :=
  x k * Ideal.rsqrt (Ideal.div (∑ i, x i * x i) (Ideal.ofBits .f32 0x44800000#32) + Ideal.ofBits .f32 0x358637BD#32) * w k

end Norm

end
-- ==== Proof.Proj.Claim.lean ====
/- The claim about the four input projections of the normalized rows: the kernel's five result arrays are the reference's. -/
module

public import proofs.«01_k».proof.Defs
public import proofs.«01_k».proof.Proof.Gen.Kernel4Ideal.Value
public import proofs.«01_k».proof.Proof.Gen.Reference4Ideal.Run
public import proofs.«01_k».proof.Proof.Gen.Reference4Ideal.Read
public import proofs.«01_k».proof.Proof.Norm.Spec
public import Idealize.ShloMosaic.Lib.Pipeline.ValueKit
public import Idealize.ShloMosaic.Lib.Claim

@[expose] public section

set_option maxRecDepth 16384

noncomputable section

namespace Proj

open Idealize.ShloMosaic
open Norm (rms)

/-- The normalized rows. -/
def H (x : (⟨2, ![16384, 1024]⟩ : Shape).Idx → EReal) (n : (⟨1, ![1024]⟩ : Shape).Idx → EReal) : (⟨2, ![16384, 1024]⟩ : Shape).Idx → EReal :=
  fun j => rms (fun k => x (ix2 (j 0) k)) (fun k => n (ix1 k)) (j 1)

/-- The normalized rows times a matrix of `N` columns. -/
def Z {N : ℕ} (x : (⟨2, ![16384, 1024]⟩ : Shape).Idx → EReal) (n : (⟨1, ![1024]⟩ : Shape).Idx → EReal)
    (w : (⟨2, ![1024, N]⟩ : Shape).Idx → EReal) : (⟨2, ![16384, N]⟩ : Shape).Idx → EReal :=
  fun j => ∑ k : Fin 1024, rms (fun i => x (ix2 (j 0) i)) (fun i => n (ix1 i)) k * w (ix2 k (j 1))

end Proj

namespace Cert.Kernel4Ideal.Pt

open Idealize.ShloMosaic Idealize.ShloMosaic.TcCoe Idealize.SL.Sem
open Cert.Kernel4Ideal Cert.Kernel4Ideal.Gen
open Proj
open Norm (rms)

variable (m : (ℓ : Loc nD τ sig) → Buf (Elt Ideal) ℓ) (c : Dev nD)

theorem idx : ∀ t : Fin cfg0.N, win0_0.index t = ![t.val, 0] ∧ win0_1.index t = ![0, 0] ∧ win0_2.index t = ![0, 0]
    ∧ win0_3.index t = ![0, 0] ∧ win0_4.index t = ![0, 0] ∧ win0_5.index t = ![0, 0] ∧ win0_6.index t = ![t.val, 0]
    ∧ win0_7.index t = ![t.val, 0] ∧ win0_8.index t = ![t.val, 0] ∧ win0_9.index t = ![t.val, 0] ∧ win0_10.index t = ![t.val, 0] :=
  (by decide +kernel : ∀ t : Fin grid0.N, _)

theorem V_v0 : V m c main_v0 = shapeCast S1x1024 (m ((c : Thread nD τ).loc main_arg1)) shapeCasts_S1024_S1x1024 := by
  simp only [V, hostOps0, List.flatten_cons, List.flatten_nil, List.append_nil, List.cons_append, List.nil_append]
  entry_read
  try rfl

theorem V_v1 : V m c main_v1 = truncf (F := Ideal) .bf16 (m ((c : Thread nD τ).loc main_arg2)) bitsLt_bf16_f32 := by
  simp only [V, hostOps0, List.flatten_cons, List.flatten_nil, List.append_nil, List.cons_append, List.nil_append]
  entry_read
  try rfl

theorem V_v2 : V m c main_v2 = truncf (F := Ideal) .bf16 (m ((c : Thread nD τ).loc main_arg3)) bitsLt_bf16_f32 := by
  simp only [V, hostOps0, List.flatten_cons, List.flatten_nil, List.append_nil, List.cons_append, List.nil_append]
  entry_read
  try rfl

theorem V_v3 : V m c main_v3 = truncf (F := Ideal) .bf16 (m ((c : Thread nD τ).loc main_arg4)) bitsLt_bf16_f32 := by
  simp only [V, hostOps0, List.flatten_cons, List.flatten_nil, List.append_nil, List.cons_append, List.nil_append]
  entry_read
  try rfl

theorem V_v4 : V m c main_v4 = truncf (F := Ideal) .bf16 (m ((c : Thread nD τ).loc main_arg5)) bitsLt_bf16_f32 := by
  simp only [V, hostOps0, List.flatten_cons, List.flatten_nil, List.append_nil, List.cons_append, List.nil_append]
  entry_read
  try rfl

/-- The row of the arrays that a tile's row is. -/
def row (t : Fin cfg0.N) (r : Fin 256) : Fin 16384 := ⟨t.val * 256 + r.val, by have : t.val < 64 := t.isLt; omega⟩

theorem x_at (t : Fin cfg0.N) (r : Fin 256) (k : Fin 1024) : iblk m c 0 t (ix2 r k) = m ((c : Thread nD τ).loc main_arg0) (ix2 (row t r) k) := by
  blk_ext [iblk, V, idx t, row]

theorem n_at (t : Fin cfg0.N) (k : Fin 1024) : iblk m c 1 t (ix2 0 k) = m ((c : Thread nD τ).loc main_arg1) (ix1 k) := by
  blk_simp [iblk]
  have e : (win0_1.blk t).view.emb (ix2 0 k) = ix2 0 k := by blk_ext [idx t]
  rw [e, V_v0]
  pointwise

theorem a_at (t : Fin cfg0.N) (k : Fin 1024) (j : Fin 1920) : iblk m c 2 t (ix2 k j) = m ((c : Thread nD τ).loc main_arg2) (ix2 k j) := by
  blk_simp [iblk]
  have e : (win0_2.blk t).view.emb (ix2 k j) = ix2 k j := by blk_ext [idx t]
  rw [e, V_v1]
  pointwise

theorem b_at (t : Fin cfg0.N) (k : Fin 1024) (j : Fin 1664) : iblk m c 3 t (ix2 k j) = m ((c : Thread nD τ).loc main_arg3) (ix2 k j) := by
  blk_simp [iblk]
  have e : (win0_3.blk t).view.emb (ix2 k j) = ix2 k j := by blk_ext [idx t]
  rw [e, V_v2]
  pointwise

theorem c_at (t : Fin cfg0.N) (k : Fin 1024) (j : Fin 1536) : iblk m c 4 t (ix2 k j) = m ((c : Thread nD τ).loc main_arg4) (ix2 k j) := by
  blk_simp [iblk]
  have e : (win0_4.blk t).view.emb (ix2 k j) = ix2 k j := by blk_ext [idx t]
  rw [e, V_v3]
  pointwise

theorem d_at (t : Fin cfg0.N) (k : Fin 1024) (j : Fin 1664) : iblk m c 5 t (ix2 k j) = m ((c : Thread nD τ).loc main_arg5) (ix2 k j) := by
  blk_simp [iblk]
  have e : (win0_5.blk t).view.emb (ix2 k j) = ix2 k j := by blk_ext [idx t]
  rw [e, V_v4]
  pointwise

/-- A tile's normalized rows. -/
theorem pay_h (x : Vec Ideal S256x1024 .f32) (n : Vec Ideal S1x1024 .f32) (r : Fin 256) (k : Fin 1024) :
    k0_pay2 (F := Ideal) x n (ix2 r k) = rms (fun i => x (ix2 r i)) (fun i => n (ix2 0 i)) k := by
  pointwise [k0_pay2]
  rfl

theorem out_h (x0 : Vec Ideal S256x1024 .f32) (x1 : Vec Ideal S1x1024 .f32) (x2 : Vec Ideal S1024x1920 .bf16) (x3 : Vec Ideal S1024x1664 .bf16) (x4 : Vec Ideal S1024x1536 .bf16) (x5 : Vec Ideal S1024x1664 .bf16)
    (r : Fin 256) (k : Fin 1024) : out0_6 (F := Ideal) x0 x1 x2 x3 x4 x5 (ix2 r k) = rms (fun i => x0 (ix2 r i)) (fun i => x1 (ix2 0 i)) k := by
  unfold out0_6
  rw [View.canon_unit_zero (by funext a; fin_cases a <;> rfl), View.ld_unit_zero (by funext a; fin_cases a <;> rfl), View.ld_unit_zero (by funext a; fin_cases a <;> rfl)]
  exact pay_h x0 x1 r k

theorem out_a (x0 : Vec Ideal S256x1024 .f32) (x1 : Vec Ideal S1x1024 .f32) (x2 : Vec Ideal S1024x1920 .bf16) (x3 : Vec Ideal S1024x1664 .bf16) (x4 : Vec Ideal S1024x1536 .bf16) (x5 : Vec Ideal S1024x1664 .bf16)
    (r : Fin 256) (j : Fin 1920) : out0_7 (F := Ideal) x0 x1 x2 x3 x4 x5 (ix2 r j)
      = ∑ k : Fin 1024, rms (fun i => x0 (ix2 r i)) (fun i => x1 (ix2 0 i)) k * x2 (ix2 k j) := by
  unfold out0_7
  rw [View.canon_unit_zero (by funext a; fin_cases a <;> rfl), View.ld_unit_zero (by funext a; fin_cases a <;> rfl), View.ld_unit_zero (by funext a; fin_cases a <;> rfl), View.ld_unit_zero (by funext a; fin_cases a <;> rfl)]
  simp only [k0_pay3]
  pointwise [pay_h]

theorem out_b (x0 : Vec Ideal S256x1024 .f32) (x1 : Vec Ideal S1x1024 .f32) (x2 : Vec Ideal S1024x1920 .bf16) (x3 : Vec Ideal S1024x1664 .bf16) (x4 : Vec Ideal S1024x1536 .bf16) (x5 : Vec Ideal S1024x1664 .bf16)
    (r : Fin 256) (j : Fin 1664) : out0_8 (F := Ideal) x0 x1 x2 x3 x4 x5 (ix2 r j)
      = ∑ k : Fin 1024, rms (fun i => x0 (ix2 r i)) (fun i => x1 (ix2 0 i)) k * x3 (ix2 k j) := by
  unfold out0_8
  rw [View.canon_unit_zero (by funext a; fin_cases a <;> rfl), View.ld_unit_zero (by funext a; fin_cases a <;> rfl), View.ld_unit_zero (by funext a; fin_cases a <;> rfl), View.ld_unit_zero (by funext a; fin_cases a <;> rfl)]
  simp only [k0_pay4]
  pointwise [pay_h]

theorem out_c (x0 : Vec Ideal S256x1024 .f32) (x1 : Vec Ideal S1x1024 .f32) (x2 : Vec Ideal S1024x1920 .bf16) (x3 : Vec Ideal S1024x1664 .bf16) (x4 : Vec Ideal S1024x1536 .bf16) (x5 : Vec Ideal S1024x1664 .bf16)
    (r : Fin 256) (j : Fin 1536) : out0_9 (F := Ideal) x0 x1 x2 x3 x4 x5 (ix2 r j)
      = ∑ k : Fin 1024, rms (fun i => x0 (ix2 r i)) (fun i => x1 (ix2 0 i)) k * x4 (ix2 k j) := by
  unfold out0_9
  rw [View.canon_unit_zero (by funext a; fin_cases a <;> rfl), View.ld_unit_zero (by funext a; fin_cases a <;> rfl), View.ld_unit_zero (by funext a; fin_cases a <;> rfl), View.ld_unit_zero (by funext a; fin_cases a <;> rfl)]
  simp only [k0_pay5]
  pointwise [pay_h]

theorem out_d (x0 : Vec Ideal S256x1024 .f32) (x1 : Vec Ideal S1x1024 .f32) (x2 : Vec Ideal S1024x1920 .bf16) (x3 : Vec Ideal S1024x1664 .bf16) (x4 : Vec Ideal S1024x1536 .bf16) (x5 : Vec Ideal S1024x1664 .bf16)
    (r : Fin 256) (j : Fin 1664) : out0_10 (F := Ideal) x0 x1 x2 x3 x4 x5 (ix2 r j)
      = ∑ k : Fin 1024, rms (fun i => x0 (ix2 r i)) (fun i => x1 (ix2 0 i)) k * x5 (ix2 k j) := by
  unfold out0_10
  rw [View.canon_unit_zero (by funext a; fin_cases a <;> rfl), View.ld_unit_zero (by funext a; fin_cases a <;> rfl), View.ld_unit_zero (by funext a; fin_cases a <;> rfl), View.ld_unit_zero (by funext a; fin_cases a <;> rfl)]
  simp only [k0_pay1]
  pointwise [pay_h]

theorem final_h : (dats m 0 c).arrAt 6 cfg0.N = H (m ((c : Thread nD τ).loc main_arg0)) (m ((c : Thread nD τ).loc main_arg1)) := by
  refine (dats m 0 c).arrAt_eq_of_covers 6 _ (by decide +kernel) fun t hf y => ?_
  blk_simp
  rw [after0_6]
  idx_vars y
  rw [show (win0_6.blk t).view.emb (ix2 y0 y1) = ix2 (row t y0) y1 from by blk_ext [idx t, row]]
  refine (out_h (iblk m c 0 t) (iblk m c 1 t) (iblk m c 2 t) (iblk m c 3 t) (iblk m c 4 t) (iblk m c 5 t) y0 y1).trans ?_
  simp only [x_at, n_at]
  rfl

theorem final_a : (dats m 0 c).arrAt 7 cfg0.N = Z (m ((c : Thread nD τ).loc main_arg0)) (m ((c : Thread nD τ).loc main_arg1)) (m ((c : Thread nD τ).loc main_arg2)) := by
  refine (dats m 0 c).arrAt_eq_of_covers 7 _ (by decide +kernel) fun t hf y => ?_
  blk_simp
  rw [after0_7]
  idx_vars y
  rw [show (win0_7.blk t).view.emb (ix2 y0 y1) = ix2 (row t y0) y1 from by blk_ext [idx t, row]]
  refine (out_a (iblk m c 0 t) (iblk m c 1 t) (iblk m c 2 t) (iblk m c 3 t) (iblk m c 4 t) (iblk m c 5 t) y0 y1).trans ?_
  simp only [x_at, n_at, a_at]
  rfl

theorem final_b : (dats m 0 c).arrAt 8 cfg0.N = Z (m ((c : Thread nD τ).loc main_arg0)) (m ((c : Thread nD τ).loc main_arg1)) (m ((c : Thread nD τ).loc main_arg3)) := by
  refine (dats m 0 c).arrAt_eq_of_covers 8 _ (by decide +kernel) fun t hf y => ?_
  blk_simp
  rw [after0_8]
  idx_vars y
  rw [show (win0_8.blk t).view.emb (ix2 y0 y1) = ix2 (row t y0) y1 from by blk_ext [idx t, row]]
  refine (out_b (iblk m c 0 t) (iblk m c 1 t) (iblk m c 2 t) (iblk m c 3 t) (iblk m c 4 t) (iblk m c 5 t) y0 y1).trans ?_
  simp only [x_at, n_at, b_at]
  rfl

theorem final_c : (dats m 0 c).arrAt 9 cfg0.N = Z (m ((c : Thread nD τ).loc main_arg0)) (m ((c : Thread nD τ).loc main_arg1)) (m ((c : Thread nD τ).loc main_arg4)) := by
  refine (dats m 0 c).arrAt_eq_of_covers 9 _ (by decide +kernel) fun t hf y => ?_
  blk_simp
  rw [after0_9]
  idx_vars y
  rw [show (win0_9.blk t).view.emb (ix2 y0 y1) = ix2 (row t y0) y1 from by blk_ext [idx t, row]]
  refine (out_c (iblk m c 0 t) (iblk m c 1 t) (iblk m c 2 t) (iblk m c 3 t) (iblk m c 4 t) (iblk m c 5 t) y0 y1).trans ?_
  simp only [x_at, n_at, c_at]
  rfl

theorem final_d : (dats m 0 c).arrAt 10 cfg0.N = Z (m ((c : Thread nD τ).loc main_arg0)) (m ((c : Thread nD τ).loc main_arg1)) (m ((c : Thread nD τ).loc main_arg5)) := by
  refine (dats m 0 c).arrAt_eq_of_covers 10 _ (by decide +kernel) fun t hf y => ?_
  blk_simp
  rw [after0_10]
  idx_vars y
  rw [show (win0_10.blk t).view.emb (ix2 y0 y1) = ix2 (row t y0) y1 from by blk_ext [idx t, row]]
  refine (out_d (iblk m c 0 t) (iblk m c 1 t) (iblk m c 2 t) (iblk m c 3 t) (iblk m c 4 t) (iblk m c 5 t) y0 y1).trans ?_
  simp only [x_at, n_at, d_at]
  rfl

end Cert.Kernel4Ideal.Pt

namespace Cert.Proof.Proj

open Idealize.ShloMosaic Idealize.ShloMosaic.TcCoe Idealize.SL.Sem
open Cert.Reference4Ideal Cert.Reference4Ideal.Read
open _root_.Proj
open Norm (rms)

theorem ref_row (x : FVec Ideal S16384x1024 .f32) (n : FVec Ideal S1024 .f32) (r : Fin 16384) (k : Fin 1024) :
    val_main_v12 (F := Ideal) x n (ix2 r k) = rms (fun i => x (ix2 r i)) (fun i => n (ix1 i)) k := by
  pointwise [val_main_v12, val_main_v11, val_main_v10, val_main_v9, val_main_v8, val_main_v7, val_main_v6, val_main_v5, val_main_cst_1,
    val_main_v4, val_main_v3, val_main_cst_0, val_main_v2, val_main_v1, val_main_cst, val_main_v0]
  rfl

theorem ref_h (x : FVec Ideal S16384x1024 .f32) (n : FVec Ideal S1024 .f32) : val_main_v13 (F := Ideal) x n = H x n := by
  funext j
  idx_vars j
  exact ref_row x n j0 j1

theorem ref_a (x : FVec Ideal S16384x1024 .f32) (n : FVec Ideal S1024 .f32) (w : FVec Ideal S1024x1920 .f32) :
    val_main_v14 (F := Ideal) x n w = Z x n w := by
  funext j
  idx_vars j
  simp only [val_main_v14]
  pointwise [ref_row]
  rfl

theorem ref_b (x : FVec Ideal S16384x1024 .f32) (n : FVec Ideal S1024 .f32) (w : FVec Ideal S1024x1664 .f32) :
    val_main_v15 (F := Ideal) x n w = Z x n w := by
  funext j
  idx_vars j
  simp only [val_main_v15]
  pointwise [ref_row]
  rfl

theorem ref_c (x : FVec Ideal S16384x1024 .f32) (n : FVec Ideal S1024 .f32) (w : FVec Ideal S1024x1536 .f32) :
    val_main_v16 (F := Ideal) x n w = Z x n w := by
  funext j
  idx_vars j
  simp only [val_main_v16]
  pointwise [ref_row]
  rfl

theorem ref_d (x : FVec Ideal S16384x1024 .f32) (n : FVec Ideal S1024 .f32) (w : FVec Ideal S1024x1664 .f32) :
    val_main_v17 (F := Ideal) x n w = Z x n w := by
  funext j
  idx_vars j
  simp only [val_main_v17]
  pointwise [ref_row]
  rfl

theorem algebraic : Cert.algebraic_Kernel4Ideal_Reference4Ideal := by
  pair_intro
  · run_from Cert.Kernel4Ideal.Value.run_blocks m g
  · run_from Cert.Reference4Ideal.Value.run m' g'
    · rw [Cert.Kernel4Ideal.Pt.final_h m c]
      exact (val_main_v13_eq _ _).trans (ref_h _ _)
    · rw [Cert.Kernel4Ideal.Pt.final_a m c]
      exact (val_main_v14_eq _ _ _).trans (ref_a _ _ _)
    · rw [Cert.Kernel4Ideal.Pt.final_b m c]
      exact (val_main_v15_eq _ _ _).trans (ref_b _ _ _)
    · rw [Cert.Kernel4Ideal.Pt.final_c m c]
      exact (val_main_v16_eq _ _ _).trans (ref_c _ _ _)
    · rw [Cert.Kernel4Ideal.Pt.final_d m c]
      exact (val_main_v17_eq _ _ _).trans (ref_d _ _ _)

/-- The reference leaves its arguments, and has no counter that could be left raised. -/
theorem frame_ref : Cert.quiescent_Reference4Ideal := fun m ρ _ =>
  (θ_run Cert.Reference4Ideal.defs _ _).mono (fun r h => ⟨fun c => (h c).2.2.2.2.2, sem_eq_zero_of_no_sems (by decide) r.2⟩)
    (Cert.Reference4Ideal.Value.run (F := Ideal) m ρ)

end Cert.Proof.Proj

end
-- ==== Proof.Ffn.Spec.lean ====
/- The feed-forward part as a function of its arrays: what one row of the result is, and a sum over the hidden columns taken
   a slice at a time. -/
module

public import Idealize.ShloMosaic.Lib.Pointwise

@[expose] public section

noncomputable section

namespace Ffn

open Idealize.ShloMosaic

/-- `a` times the logistic function of `a`. -/
def sw (a : EReal) : EReal := a * Ideal.div 1 (1 + Ideal.exp (-a))

/-- The hidden value of a row and a column, from the two products. -/
def hid {K : ℕ} (h a b : Fin K → EReal) : EReal := sw (∑ k, h k * a k) * ∑ k, h k * b k

/-- A sum over 2816 columns in five slices of 512 and one of 256, added one after the other. -/
theorem sum_slices (x : EReal) (f : Fin 2816 → EReal) :
    (((((x + ∑ c : Fin 512, f ⟨c.val, by omega⟩) + ∑ c : Fin 512, f ⟨512 + c.val, by omega⟩)
      + ∑ c : Fin 512, f ⟨1024 + c.val, by omega⟩) + ∑ c : Fin 512, f ⟨1536 + c.val, by omega⟩)
      + ∑ c : Fin 512, f ⟨2048 + c.val, by omega⟩) + ∑ c : Fin 256, f ⟨2560 + c.val, by omega⟩ = x + ∑ c, f c := by
  have e1 : ∑ c, f c = ∑ c : Fin 2560, f ⟨c.val, by omega⟩ + ∑ c : Fin 256, f ⟨2560 + c.val, by omega⟩ :=
    Fin.sum_univ_add (a := 2560) (b := 256) f
  have e2 : ∑ c : Fin 2560, f ⟨c.val, by omega⟩ = ∑ c : Fin 2048, f ⟨c.val, by omega⟩ + ∑ c : Fin 512, f ⟨2048 + c.val, by omega⟩ :=
    Fin.sum_univ_add (a := 2048) (b := 512) fun c => f ⟨c.val, by omega⟩
  have e3 : ∑ c : Fin 2048, f ⟨c.val, by omega⟩ = ∑ c : Fin 1536, f ⟨c.val, by omega⟩ + ∑ c : Fin 512, f ⟨1536 + c.val, by omega⟩ :=
    Fin.sum_univ_add (a := 1536) (b := 512) fun c => f ⟨c.val, by omega⟩
  have e4 : ∑ c : Fin 1536, f ⟨c.val, by omega⟩ = ∑ c : Fin 1024, f ⟨c.val, by omega⟩ + ∑ c : Fin 512, f ⟨1024 + c.val, by omega⟩ :=
    Fin.sum_univ_add (a := 1024) (b := 512) fun c => f ⟨c.val, by omega⟩
  have e5 : ∑ c : Fin 1024, f ⟨c.val, by omega⟩ = ∑ c : Fin 512, f ⟨c.val, by omega⟩ + ∑ c : Fin 512, f ⟨512 + c.val, by omega⟩ :=
    Fin.sum_univ_add (a := 512) (b := 512) fun c => f ⟨c.val, by omega⟩
  rw [e1, e2, e3, e4, e5]
  simp only [add_assoc]

end Ffn

end
-- ==== Proof.Ffn.Tile.lean ====
/- One tile of 512 rows of the feed-forward kernel at a row and a column: the input plus the six slices' products. -/
module

public import proofs.«01_k».proof.Proof.Gen.Kernel3Ideal.Value
public import proofs.«01_k».proof.Proof.Ffn.Spec
public import Idealize.ShloMosaic.Lib.Pipeline.ValueKit
public import Idealize.ShloMosaic.Lib.Pipeline.ReadBack

@[expose] public section

set_option maxRecDepth 16384

noncomputable section

namespace Cert.Kernel3Ideal.Pt

open Idealize.ShloMosaic Idealize.ShloMosaic.TcCoe
open Cert.Kernel3Ideal Cert.Kernel3Ideal.Gen
open Ffn

theorem first_at (h : FVec Ideal S512x1024 .bf16) (x : FVec Ideal S512x1024 .f32) (a b : FVec Ideal S1024x512 .bf16)
    (w : FVec Ideal S512x1024 .bf16) (r : Fin 512) (d : Fin 1024) :
    k0_pay3 h x a b w (ix2 r d)
      = x (ix2 r d) + ∑ c : Fin 512, hid (fun k : Fin 1024 => h (ix2 r k)) (fun k => a (ix2 k c)) (fun k => b (ix2 k c)) * w (ix2 c d) := by
  pointwise [k0_pay3, k0_pay2]
  simp only [zero_sub]
  rfl

theorem second_at (h : FVec Ideal S512x1024 .bf16) (s : FVec Ideal S512x1024 .f32) (a b a' b' : FVec Ideal S1024x512 .bf16)
    (w w' : FVec Ideal S512x1024 .bf16) (r : Fin 512) (d : Fin 1024) :
    k0_pay7 (k0_pay2 h) s (k0_pay4 h a) (k0_pay5 h b) (k0_pay6 h a) (Scalar.ofBits .f32 0x3F800000#32) w a' b' w' (ix2 r d)
      = s (ix2 r d) + ∑ c : Fin 512, hid (fun k : Fin 1024 => h (ix2 r k)) (fun k => a (ix2 k c)) (fun k => b (ix2 k c)) * w (ix2 c d)
        + ∑ c : Fin 512, hid (fun k : Fin 1024 => h (ix2 r k)) (fun k => a' (ix2 k c)) (fun k => b' (ix2 k c)) * w' (ix2 c d) := by
  pointwise [k0_pay7, k0_pay2, k0_pay4, k0_pay5, k0_pay6]
  simp only [zero_sub]
  rfl

theorem third_at (h : FVec Ideal S512x1024 .bf16) (s : FVec Ideal S512x1024 .f32) (a b a' b' : FVec Ideal S1024x512 .bf16)
    (w w' : FVec Ideal S512x1024 .bf16) (r : Fin 512) (d : Fin 1024) :
    k0_pay11 (k0_pay2 h) s (k0_pay8 (k0_pay2 h) a) (k0_pay9 (k0_pay2 h) b) (k0_pay10 (k0_pay2 h) a) w a' b' w' (ix2 r d)
      = s (ix2 r d) + ∑ c : Fin 512, hid (fun k : Fin 1024 => h (ix2 r k)) (fun k => a (ix2 k c)) (fun k => b (ix2 k c)) * w (ix2 c d)
        + ∑ c : Fin 512, hid (fun k : Fin 1024 => h (ix2 r k)) (fun k => a' (ix2 k c)) (fun k => b' (ix2 k c)) * w' (ix2 c d) := by
  pointwise [k0_pay11, k0_pay2, k0_pay8, k0_pay9, k0_pay10]
  simp only [zero_sub]
  rfl

theorem last_at (h : FVec Ideal S512x1024 .bf16) (s : FVec Ideal S512x1024 .f32) (a b : FVec Ideal S1024x256 .bf16)
    (w : FVec Ideal S256x1024 .bf16) (r : Fin 512) (d : Fin 1024) :
    k0_pay1 s (k0_pay12 (k0_pay2 h) a) (k0_pay13 (k0_pay2 h) b) w (ix2 r d)
      = s (ix2 r d) + ∑ c : Fin 256, hid (fun k : Fin 1024 => h (ix2 r k)) (fun k => a (ix2 k c)) (fun k => b (ix2 k c)) * w (ix2 c d) := by
  pointwise [k0_pay1, k0_pay2, k0_pay12, k0_pay13]
  simp only [zero_sub]
  rfl

/-- A load of a slice of columns, and one of rows, at coordinates. -/
theorem cols_at {N : ℕ} (z : FVec Ideal S1024x2816 .bf16) (o : ℕ) (hb) (k : Fin 1024) (c : Fin N) (h : o + c.val < 2816) :
    View.ld (Val := Elt Ideal) (S := S1024x2816) (e' := .bf16) z (Rect.unit (s := S1024x2816) ![0, o] ![1024, N] hb) (ix2 k c)
      = z (ix2 k ⟨o + c.val, h⟩) := by
  refine congrArg z (funext fun a => Fin.ext ?_)
  fin_cases a
  · show 0 + 1 * k.val = k.val
    omega
  · show o + 1 * c.val = o + c.val
    omega

theorem rows_at {N : ℕ} (z : FVec Ideal S2816x1024 .bf16) (o : ℕ) (hb) (c : Fin N) (d : Fin 1024) (h : o + c.val < 2816) :
    View.ld (Val := Elt Ideal) (S := S2816x1024) (e' := .bf16) z (Rect.unit (s := S2816x1024) ![o, 0] ![N, 1024] hb) (ix2 c d)
      = z (ix2 ⟨o + c.val, h⟩ d) := by
  refine congrArg z (funext fun a => Fin.ext ?_)
  fin_cases a
  · show o + 1 * c.val = o + c.val
    omega
  · show 0 + 1 * d.val = d.val
    omega

/-- The tile the body leaves. -/
theorem tile_at (x : FVec Ideal S512x1024 .f32) (h : FVec Ideal S512x1024 .bf16) (a b : FVec Ideal S1024x2816 .bf16)
    (w : FVec Ideal S2816x1024 .bf16) (r : Fin 512) (d : Fin 1024) :
    out0_5 (F := Ideal) x h a b w (ix2 r d)
      = x (ix2 r d) + ∑ c : Fin 2816, hid (fun k : Fin 1024 => h (ix2 r k)) (fun k => a (ix2 k c)) (fun k => b (ix2 k c)) * w (ix2 c d) := by
  have hz : (![0, 0] : Fin S512x1024.rank → Nat) = fun _ => 0 := funext fun a => by fin_cases a <;> rfl
  unfold_out out0_5
  rw [View.canon_unit_zero hz, View.ld_unit_zero hz, View.ld_unit_zero hz, last_at, third_at, second_at, first_at]
  rw [← sum_slices]
  have e0 (k : Fin 1024) (c : Fin 512) (z : FVec Ideal S1024x2816 .bf16) : View.ld (Val := Elt Ideal) (S := S1024x2816) (e' := .bf16) z r0_1 (ix2 k c) = z (ix2 k ⟨c.val, by omega⟩) :=
    (cols_at z 0 _ k c (by omega)).trans (congrArg z (congrArg (ix2 k) (Fin.ext (Nat.zero_add _))))
  have e1 (k : Fin 1024) (c : Fin 512) (z : FVec Ideal S1024x2816 .bf16) : View.ld (Val := Elt Ideal) (S := S1024x2816) (e' := .bf16) z r0_3 (ix2 k c) = z (ix2 k ⟨512 + c.val, by omega⟩) :=
    cols_at z 512 _ k c _
  have e2 (k : Fin 1024) (c : Fin 512) (z : FVec Ideal S1024x2816 .bf16) : View.ld (Val := Elt Ideal) (S := S1024x2816) (e' := .bf16) z r0_5 (ix2 k c) = z (ix2 k ⟨1024 + c.val, by omega⟩) :=
    cols_at z 1024 _ k c _
  have e3 (k : Fin 1024) (c : Fin 512) (z : FVec Ideal S1024x2816 .bf16) : View.ld (Val := Elt Ideal) (S := S1024x2816) (e' := .bf16) z r0_7 (ix2 k c) = z (ix2 k ⟨1536 + c.val, by omega⟩) :=
    cols_at z 1536 _ k c _
  have e4 (k : Fin 1024) (c : Fin 512) (z : FVec Ideal S1024x2816 .bf16) : View.ld (Val := Elt Ideal) (S := S1024x2816) (e' := .bf16) z r0_9 (ix2 k c) = z (ix2 k ⟨2048 + c.val, by omega⟩) :=
    cols_at z 2048 _ k c _
  have e5 (k : Fin 1024) (c : Fin 256) (z : FVec Ideal S1024x2816 .bf16) : View.ld (Val := Elt Ideal) (S := S1024x2816) (e' := .bf16) z r0_11 (ix2 k c) = z (ix2 k ⟨2560 + c.val, by omega⟩) :=
    cols_at z 2560 _ k c _
  have f0 (c : Fin 512) : View.ld (Val := Elt Ideal) (S := S2816x1024) (e' := .bf16) w r0_2 (ix2 c d) = w (ix2 ⟨c.val, by omega⟩ d) :=
    (rows_at w 0 _ c d (by omega)).trans (congrArg w (congrArg (ix2 · d) (Fin.ext (Nat.zero_add _))))
  have f1 (c : Fin 512) : View.ld (Val := Elt Ideal) (S := S2816x1024) (e' := .bf16) w r0_4 (ix2 c d) = w (ix2 ⟨512 + c.val, by omega⟩ d) := rows_at w 512 _ c d _
  have f2 (c : Fin 512) : View.ld (Val := Elt Ideal) (S := S2816x1024) (e' := .bf16) w r0_6 (ix2 c d) = w (ix2 ⟨1024 + c.val, by omega⟩ d) := rows_at w 1024 _ c d _
  have f3 (c : Fin 512) : View.ld (Val := Elt Ideal) (S := S2816x1024) (e' := .bf16) w r0_8 (ix2 c d) = w (ix2 ⟨1536 + c.val, by omega⟩ d) := rows_at w 1536 _ c d _
  have f4 (c : Fin 512) : View.ld (Val := Elt Ideal) (S := S2816x1024) (e' := .bf16) w r0_10 (ix2 c d) = w (ix2 ⟨2048 + c.val, by omega⟩ d) := rows_at w 2048 _ c d _
  have f5 (c : Fin 256) : View.ld (Val := Elt Ideal) (S := S2816x1024) (e' := .bf16) w r0_12 (ix2 c d) = w (ix2 ⟨2560 + c.val, by omega⟩ d) := rows_at w 2560 _ c d _
  simp only [f0, f1, f2, f3, f4, f5]
  refine congrArg₂ (· + ·) (congrArg₂ (· + ·) (congrArg₂ (· + ·) (congrArg₂ (· + ·) (congrArg₂ (· + ·) (congrArg₂ (· + ·) rfl ?_) ?_) ?_) ?_) ?_) ?_
  · exact Finset.sum_congr rfl fun c _ => congrArg (· * _) (congrArg₂ (hid _) (funext fun k => e0 k c a) (funext fun k => e0 k c b))
  · exact Finset.sum_congr rfl fun c _ => congrArg (· * _) (congrArg₂ (hid _) (funext fun k => e1 k c a) (funext fun k => e1 k c b))
  · exact Finset.sum_congr rfl fun c _ => congrArg (· * _) (congrArg₂ (hid _) (funext fun k => e2 k c a) (funext fun k => e2 k c b))
  · exact Finset.sum_congr rfl fun c _ => congrArg (· * _) (congrArg₂ (hid _) (funext fun k => e3 k c a) (funext fun k => e3 k c b))
  · exact Finset.sum_congr rfl fun c _ => congrArg (· * _) (congrArg₂ (hid _) (funext fun k => e4 k c a) (funext fun k => e4 k c b))
  · exact Finset.sum_congr rfl fun c _ => congrArg (· * _) (congrArg₂ (hid _) (funext fun k => e5 k c a) (funext fun k => e5 k c b))

end Cert.Kernel3Ideal.Pt

end
-- ==== Proof.Ffn.Claim.lean ====
/- The claim about the feed-forward part: the kernel's result array is the reference's. -/
module

public import proofs.«01_k».proof.Defs
public import proofs.«01_k».proof.Proof.Ffn.Tile
public import proofs.«01_k».proof.Proof.Gen.Reference3Ideal.Run
public import proofs.«01_k».proof.Proof.Gen.Reference3Ideal.Read
public import Idealize.ShloMosaic.Lib.Claim

@[expose] public section

set_option maxRecDepth 16384

noncomputable section

namespace Ffn

open Idealize.ShloMosaic

/-- The result: the input plus the hidden values' product, at every row and column. -/
def G (x h : (⟨2, ![16384, 1024]⟩ : Shape).Idx → EReal) (a b : (⟨2, ![1024, 2816]⟩ : Shape).Idx → EReal)
    (w : (⟨2, ![2816, 1024]⟩ : Shape).Idx → EReal) : (⟨2, ![16384, 1024]⟩ : Shape).Idx → EReal := fun j =>
  x (ix2 (j 0) (j 1)) + ∑ c : Fin 2816, hid (fun k : Fin 1024 => h (ix2 (j 0) k)) (fun k => a (ix2 k c)) (fun k => b (ix2 k c)) * w (ix2 c (j 1))

end Ffn

namespace Cert.Kernel3Ideal.Pt

open Idealize.ShloMosaic Idealize.ShloMosaic.TcCoe Idealize.SL.Sem
open Cert.Kernel3Ideal Cert.Kernel3Ideal.Gen
open Ffn

variable (m : (ℓ : Loc nD τ sig) → Buf (Elt Ideal) ℓ) (c : Dev nD)

theorem idx : ∀ t : Fin cfg0.N, win0_0.index t = ![t.val, 0] ∧ win0_1.index t = ![t.val, 0] ∧ win0_2.index t = ![0, 0]
    ∧ win0_3.index t = ![0, 0] ∧ win0_4.index t = ![0, 0] ∧ win0_5.index t = ![t.val, 0] :=
  (by decide +kernel : ∀ t : Fin grid0.N, _)

theorem V_v0 : V m c main_v0 = truncf (F := Ideal) .bf16 (m ((c : Thread nD τ).loc main_arg1)) bitsLt_bf16_f32 := by
  simp only [V, hostOps0, List.flatten_cons, List.flatten_nil, List.append_nil, List.cons_append, List.nil_append]
  entry_read
  try rfl

theorem V_v1 : V m c main_v1 = truncf (F := Ideal) .bf16 (m ((c : Thread nD τ).loc main_arg2)) bitsLt_bf16_f32 := by
  simp only [V, hostOps0, List.flatten_cons, List.flatten_nil, List.append_nil, List.cons_append, List.nil_append]
  entry_read
  try rfl

theorem V_v2 : V m c main_v2 = truncf (F := Ideal) .bf16 (m ((c : Thread nD τ).loc main_arg3)) bitsLt_bf16_f32 := by
  simp only [V, hostOps0, List.flatten_cons, List.flatten_nil, List.append_nil, List.cons_append, List.nil_append]
  entry_read
  try rfl

theorem V_v3 : V m c main_v3 = truncf (F := Ideal) .bf16 (m ((c : Thread nD τ).loc main_arg4)) bitsLt_bf16_f32 := by
  simp only [V, hostOps0, List.flatten_cons, List.flatten_nil, List.append_nil, List.cons_append, List.nil_append]
  entry_read
  try rfl

/-- The row of the arrays that a tile's row is. -/
def row (t : Fin cfg0.N) (r : Fin 512) : Fin 16384 := ⟨t.val * 512 + r.val, by have : t.val < 32 := t.isLt; omega⟩

theorem x_at (t : Fin cfg0.N) (r : Fin 512) (k : Fin 1024) : iblk m c 0 t (ix2 r k) = m ((c : Thread nD τ).loc main_arg0) (ix2 (row t r) k) := by
  blk_ext [iblk, V, idx t, row]

theorem h_at (t : Fin cfg0.N) (r : Fin 512) (k : Fin 1024) : iblk m c 1 t (ix2 r k) = m ((c : Thread nD τ).loc main_arg1) (ix2 (row t r) k) := by
  blk_simp [iblk]
  have e : (win0_1.blk t).view.emb (ix2 r k) = ix2 (row t r) k := by blk_ext [idx t, row]
  rw [e, V_v0]
  pointwise

theorem a_at (t : Fin cfg0.N) (k : Fin 1024) (j : Fin 2816) : iblk m c 2 t (ix2 k j) = m ((c : Thread nD τ).loc main_arg2) (ix2 k j) := by
  blk_simp [iblk]
  have e : (win0_2.blk t).view.emb (ix2 k j) = ix2 k j := by blk_ext [idx t]
  rw [e, V_v1]
  pointwise

theorem b_at (t : Fin cfg0.N) (k : Fin 1024) (j : Fin 2816) : iblk m c 3 t (ix2 k j) = m ((c : Thread nD τ).loc main_arg3) (ix2 k j) := by
  blk_simp [iblk]
  have e : (win0_3.blk t).view.emb (ix2 k j) = ix2 k j := by blk_ext [idx t]
  rw [e, V_v2]
  pointwise

theorem w_at (t : Fin cfg0.N) (j : Fin 2816) (k : Fin 1024) : iblk m c 4 t (ix2 j k) = m ((c : Thread nD τ).loc main_arg4) (ix2 j k) := by
  blk_simp [iblk]
  have e : (win0_4.blk t).view.emb (ix2 j k) = ix2 j k := by blk_ext [idx t]
  rw [e, V_v3]
  pointwise

theorem final : (dats m 0 c).arrAt 5 cfg0.N = G (m ((c : Thread nD τ).loc main_arg0)) (m ((c : Thread nD τ).loc main_arg1))
    (m ((c : Thread nD τ).loc main_arg2)) (m ((c : Thread nD τ).loc main_arg3)) (m ((c : Thread nD τ).loc main_arg4)) := by
  refine (dats m 0 c).arrAt_eq_of_covers 5 _ (by decide +kernel) fun t hf y => ?_
  blk_simp
  rw [after0_5]
  idx_vars y
  rw [show (win0_5.blk t).view.emb (ix2 y0 y1) = ix2 (row t y0) y1 from by blk_ext [idx t, row]]
  refine (tile_at (iblk m c 0 t) (iblk m c 1 t) (iblk m c 2 t) (iblk m c 3 t) (iblk m c 4 t) y0 y1).trans ?_
  simp only [x_at, h_at, a_at, b_at, w_at]
  rfl

end Cert.Kernel3Ideal.Pt

namespace Cert.Proof.Ffn

open Idealize.ShloMosaic Idealize.ShloMosaic.TcCoe Idealize.SL.Sem
open Cert.Reference3Ideal Cert.Reference3Ideal.Read
open _root_.Ffn

/-- The reference's result array. -/
theorem ref_result (x h : FVec Ideal S16384x1024 .f32) (a b : FVec Ideal S1024x2816 .f32) (w : FVec Ideal S2816x1024 .f32) :
    val_main_v5 (F := Ideal) x h a b w = G x h a b w := by
  funext j
  idx_vars j
  pointwise [val_main_v5, val_main_v4, val_main_v3, val_main_v2, val_main_v1, val_main_v0, val_main_call0_v0, val_main_call0_v1,
    val_main_call0_cst, val_main_call0_v2, val_main_call0_v3, val_main_call0_cst_0, val_main_call0_v4, val_main_call0_v5]
  rfl

theorem algebraic : Cert.algebraic_Kernel3Ideal_Reference3Ideal := by
  pair_intro
  · run_from Cert.Kernel3Ideal.Value.run_blocks m g
  · run_from Cert.Reference3Ideal.Value.run m' g'
    rw [Cert.Kernel3Ideal.Pt.final m c]
    have e := ref_result (m' (c.tc.loc main_arg0)) (m' (c.tc.loc main_arg1)) (m' (c.tc.loc main_arg2)) (m' (c.tc.loc main_arg3)) (m' (c.tc.loc main_arg4))
    rw [← val_main_v5_eq] at e
    rw [(hagree c).1, (hagree c).2.1, (hagree c).2.2.1, (hagree c).2.2.2.1, (hagree c).2.2.2.2] at e
    exact e

/-- The reference leaves its arguments, and has no counter that could be left raised. -/
theorem frame_ref : Cert.quiescent_Reference3Ideal := fun m ρ _ =>
  (θ_run Cert.Reference3Ideal.defs _ _).mono (fun r h => ⟨fun c => (h c).2, sem_eq_zero_of_no_sems (by decide) r.2⟩)
    (Cert.Reference3Ideal.Value.run (F := Ideal) m ρ)

end Cert.Proof.Ffn

end
-- ==== Proof.Merge.Spec.lean ====
/- The gated sum of the four branches, and the row it is added to. -/
module

public import Idealize.ShloMosaic.Lib.Pointwise
public import proofs.«01_k».proof.Proof.Norm.Spec

@[expose] public section

noncomputable section

namespace Merge

open Idealize.ShloMosaic

/-- One branch's product, times the logistic function of the row's product with the gate's column. -/
def part (h g : Fin 1024 → EReal) (o w : Fin 512 → EReal) : EReal :=
  Ideal.div 1 (1 + Ideal.exp (-(∑ k, h k * g k))) * ∑ d, o d * w d

/-- The four branches' gated products at a column. -/
def mix (h : Fin 1024 → EReal) (oa ob oc od : Fin 512 → EReal) (g : Fin 1024 → Fin 4096 → EReal) (w : Fin 4 → Fin 512 → Fin 1024 → EReal)
    (c : Fin 1024) : EReal :=
  part h (fun k => g k ⟨c.val, by omega⟩) oa (fun d => w 0 d c) + part h (fun k => g k ⟨1024 + c.val, by omega⟩) ob (fun d => w 1 d c)
    + part h (fun k => g k ⟨2048 + c.val, by omega⟩) oc (fun d => w 2 d c) + part h (fun k => g k ⟨3072 + c.val, by omega⟩) od (fun d => w 3 d c)

/-- The row plus the merged branches' product. -/
def add (x h : Fin 1024 → EReal) (oa ob oc od : Fin 512 → EReal) (g : Fin 1024 → Fin 4096 → EReal) (w : Fin 4 → Fin 512 → Fin 1024 → EReal)
    (wo : Fin 1024 → Fin 1024 → EReal) (j : Fin 1024) : EReal :=
  x j + ∑ c, mix h oa ob oc od g w c * wo c j

end Merge

end
-- ==== Proof.Merge.Tile.lean ====
/- One tile of the merge: the two tiles the body leaves, at a row and a column. -/
module

public import proofs.«01_k».proof.Proof.Merge.Spec
public import proofs.«01_k».proof.Proof.Gen.Kernel2Ideal.Value
public import Idealize.ShloMosaic.Lib.Pipeline.ValueKit
public import Idealize.ShloMosaic.Lib.Pointwise

@[expose] public section

set_option maxRecDepth 16384

noncomputable section

namespace Cert.Kernel2Ideal.Pt

open Idealize.ShloMosaic Idealize.ShloMosaic.TcCoe
open Cert.Kernel2Ideal Cert.Kernel2Ideal.Gen
open Merge
open Norm (rms)

theorem three_at (h : FVec Ideal S256x1024 .bf16) (g0 g1 g2 : FVec Ideal S1024x1024 .bf16) (oa ob oc : FVec Ideal S256x512 .bf16)
    (w0 w1 w2 : FVec Ideal S1x512x1024 .bf16) (r : Fin 256) (c : Fin 1024) :
    k0_pay7 (F := Ideal) (k0_pay3 h) (k0_pay4 h g0 oa w0) (k0_pay5 h g1) (k0_pay6 ob) w1 g2 oc w2 (ix2 r c)
      = part (fun k => h (ix2 r k)) (fun k => g0 (ix2 k c)) (fun d => oa (ix2 r d)) (fun d => w0 (ix3 0 d c))
        + part (fun k => h (ix2 r k)) (fun k => g1 (ix2 k c)) (fun d => ob (ix2 r d)) (fun d => w1 (ix3 0 d c))
        + part (fun k => h (ix2 r k)) (fun k => g2 (ix2 k c)) (fun d => oc (ix2 r d)) (fun d => w2 (ix3 0 d c)) := by
  pointwise [k0_pay7, k0_pay3, k0_pay4, k0_pay5, k0_pay6]
  simp only [zero_sub, zero_add]
  rfl

theorem four_at (h : FVec Ideal S256x1024 .bf16) (g : FVec Ideal S1024x1024 .bf16) (o : FVec Ideal S256x512 .bf16)
    (w : FVec Ideal S1x512x1024 .bf16) (s x : FVec Ideal S256x1024 .f32) (wo : FVec Ideal S1024x1024 .bf16) (r : Fin 256) (j : Fin 1024) :
    k0_pay1 (F := Ideal) s (k0_pay8 (k0_pay3 h) g) (k0_pay9 o) (k0_pay10 w) (constant S256x1024 .f32 0x00000000#32) x wo (ix2 r j)
      = x (ix2 r j) + ∑ c : Fin 1024, (s (ix2 r c)
          + part (fun k => h (ix2 r k)) (fun k => g (ix2 k c)) (fun d => o (ix2 r d)) (fun d => w (ix3 0 d c))) * wo (ix2 c j) := by
  pointwise [k0_pay1, k0_pay3, k0_pay8, k0_pay9, k0_pay10]
  simp only [zero_sub]
  rfl

theorem norm_at (s s' : FVec Ideal S256x1024 .f32) (o : FVec Ideal S256x512 .bf16)
    (w : FVec Ideal S512x1024 .bf16) (z x : FVec Ideal S256x1024 .f32) (wo : FVec Ideal S1024x1024 .bf16) (n : FVec Ideal S1x1024 .f32) (r : Fin 256) (j : Fin 1024) :
    k0_pay2 (F := Ideal) s s' o w z x wo n (ix2 r j)
      = rms (fun i => k0_pay1 s s' o w z x wo (ix2 r i)) (fun i => n (ix2 0 i)) j := by
  simp only [k0_pay2]
  generalize k0_pay1 s s' o w z x wo = y
  pointwise
  rfl

/-- A load of a slice of the gate's columns, and one of a branch's matrix, at coordinates. -/
theorem cols_at (z : FVec Ideal S1024x4096 .bf16) (o : ℕ) (hb) (k c : Fin 1024) (h : o + c.val < 4096) :
    View.ld (Val := Elt Ideal) (S := S1024x4096) (e' := .bf16) z (Rect.unit (s := S1024x4096) ![0, o] ![1024, 1024] hb) (ix2 k c)
      = z (ix2 k ⟨o + c.val, h⟩) := by
  refine congrArg z (funext fun a => Fin.ext ?_)
  fin_cases a
  · show 0 + 1 * k.val = k.val
    omega
  · show o + 1 * c.val = o + c.val
    omega

theorem branch_at (z : FVec Ideal S4x512x1024 .bf16) (o : ℕ) (hb) (d : Fin 512) (c : Fin 1024) (h : o < 4) :
    View.ld (Val := Elt Ideal) (S := S4x512x1024) (e' := .bf16) z (Rect.unit (s := S4x512x1024) ![o, 0, 0] ![1, 512, 1024] hb) (ix3 0 d c)
      = z (ix3 ⟨o, h⟩ d c) := by
  refine congrArg z (funext fun a => Fin.ext ?_)
  fin_cases a
  · show o + 1 * 0 = o
    omega
  · show 0 + 1 * d.val = d.val
    omega
  · show 0 + 1 * c.val = c.val
    omega

variable (x : FVec Ideal S256x1024 .f32) (h : FVec Ideal S256x1024 .bf16) (oa ob oc od : FVec Ideal S256x512 .bf16)
  (g : FVec Ideal S1024x4096 .bf16) (w : FVec Ideal S4x512x1024 .bf16) (wo : FVec Ideal S1024x1024 .bf16) (n : FVec Ideal S1x1024 .f32)

/-- The row that the body adds up, at a column. -/
theorem sum_at (r : Fin 256) (j : Fin 1024) :
    k0_pay1 (F := Ideal) (k0_pay13 x h oa ob oc od g w wo n) (k0_pay14 x h oa ob oc od g w wo n) (k0_pay15 x h oa ob oc od g w wo n)
        (k0_pay16 x h oa ob oc od g w wo n) (k0_pay12 x h oa ob oc od g w wo n) x wo (ix2 r j)
      = add (fun i => x (ix2 r i)) (fun k => h (ix2 r k)) (fun d => oa (ix2 r d)) (fun d => ob (ix2 r d)) (fun d => oc (ix2 r d)) (fun d => od (ix2 r d))
          (fun k c => g (ix2 k c)) (fun i d c => w (ix3 i d c)) (fun c i => wo (ix2 c i)) j := by
  have hz : (![0, 0] : Fin S256x1024.rank → Nat) = fun _ => 0 := funext fun a => by fin_cases a <;> rfl
  have hz' : (![0, 0] : Fin S256x512.rank → Nat) = fun _ => 0 := funext fun a => by fin_cases a <;> rfl
  unfold k0_pay13 k0_pay14 k0_pay15 k0_pay16 k0_pay12 k0_pay11
  rw [View.ld_unit_zero hz, View.ld_unit_zero hz', View.ld_unit_zero hz', View.ld_unit_zero hz', View.ld_unit_zero hz', four_at]
  unfold add mix
  have e0 (k c : Fin 1024) : View.ld (Val := Elt Ideal) (S := S1024x4096) (e' := .bf16) g r0_1 (ix2 k c) = g (ix2 k ⟨c.val, by omega⟩) :=
    (cols_at g 0 _ k c (by omega)).trans (congrArg g (congrArg (ix2 k) (Fin.ext (Nat.zero_add _))))
  have e1 (k c : Fin 1024) : View.ld (Val := Elt Ideal) (S := S1024x4096) (e' := .bf16) g r0_4 (ix2 k c) = g (ix2 k ⟨1024 + c.val, by omega⟩) :=
    cols_at g 1024 _ k c _
  have e2 (k c : Fin 1024) : View.ld (Val := Elt Ideal) (S := S1024x4096) (e' := .bf16) g r0_6 (ix2 k c) = g (ix2 k ⟨2048 + c.val, by omega⟩) :=
    cols_at g 2048 _ k c _
  have e3 (k c : Fin 1024) : View.ld (Val := Elt Ideal) (S := S1024x4096) (e' := .bf16) g r0_8 (ix2 k c) = g (ix2 k ⟨3072 + c.val, by omega⟩) :=
    cols_at g 3072 _ k c _
  have f0 (d : Fin 512) (c : Fin 1024) : View.ld (Val := Elt Ideal) (S := S4x512x1024) (e' := .bf16) w r0_3 (ix3 0 d c) = w (ix3 0 d c) :=
    branch_at w 0 _ d c (by omega)
  have f1 (d : Fin 512) (c : Fin 1024) : View.ld (Val := Elt Ideal) (S := S4x512x1024) (e' := .bf16) w r0_5 (ix3 0 d c) = w (ix3 1 d c) :=
    branch_at w 1 _ d c (by omega)
  have f2 (d : Fin 512) (c : Fin 1024) : View.ld (Val := Elt Ideal) (S := S4x512x1024) (e' := .bf16) w r0_7 (ix3 0 d c) = w (ix3 2 d c) :=
    branch_at w 2 _ d c (by omega)
  have f3 (d : Fin 512) (c : Fin 1024) : View.ld (Val := Elt Ideal) (S := S4x512x1024) (e' := .bf16) w r0_9 (ix3 0 d c) = w (ix3 3 d c) :=
    branch_at w 3 _ d c (by omega)
  refine congrArg (x (ix2 r j) + ·) (Finset.sum_congr rfl fun c _ => congrArg (· * wo (ix2 c j)) ?_)
  refine congrArg₂ (· + ·) ((three_at _ _ _ _ _ _ _ _ _ _ r c).trans (congrArg₂ (· + ·) (congrArg₂ (· + ·) ?_ ?_) ?_)) ?_
  · exact congr (congrArg₂ (part _) (funext fun k => e0 k c) rfl) (funext fun d => f0 d c)
  · exact congr (congrArg₂ (part _) (funext fun k => e1 k c) rfl) (funext fun d => f1 d c)
  · exact congr (congrArg₂ (part _) (funext fun k => e2 k c) rfl) (funext fun d => f2 d c)
  · exact congr (congrArg₂ (part _) (funext fun k => e3 k c) rfl) (funext fun d => f3 d c)

theorem tile_x (r : Fin 256) (j : Fin 1024) : out0_10 (F := Ideal) x h oa ob oc od g w wo n (ix2 r j)
    = add (fun i => x (ix2 r i)) (fun k => h (ix2 r k)) (fun d => oa (ix2 r d)) (fun d => ob (ix2 r d)) (fun d => oc (ix2 r d)) (fun d => od (ix2 r d))
          (fun k c => g (ix2 k c)) (fun i d c => w (ix3 i d c)) (fun c i => wo (ix2 c i)) j := by
  have hz : (![0, 0] : Fin S256x1024.rank → Nat) = fun _ => 0 := funext fun a => by fin_cases a <;> rfl
  have hw : (![0, 0] : Fin S1024x1024.rank → Nat) = fun _ => 0 := funext fun a => by fin_cases a <;> rfl
  unfold out0_10
  rw [View.canon_unit_zero hz, View.ld_unit_zero hz, View.ld_unit_zero hw, sum_at]

theorem tile_h (r : Fin 256) (j : Fin 1024) : out0_11 (F := Ideal) x h oa ob oc od g w wo n (ix2 r j)
    = rms (add (fun i => x (ix2 r i)) (fun k => h (ix2 r k)) (fun d => oa (ix2 r d)) (fun d => ob (ix2 r d)) (fun d => oc (ix2 r d)) (fun d => od (ix2 r d))
          (fun k c => g (ix2 k c)) (fun i d c => w (ix3 i d c)) (fun c i => wo (ix2 c i))) (fun i => n (ix2 0 i)) j := by
  have hz : (![0, 0] : Fin S256x1024.rank → Nat) = fun _ => 0 := funext fun a => by fin_cases a <;> rfl
  have hw : (![0, 0] : Fin S1024x1024.rank → Nat) = fun _ => 0 := funext fun a => by fin_cases a <;> rfl
  have hn : (![0, 0] : Fin S1x1024.rank → Nat) = fun _ => 0 := funext fun a => by fin_cases a <;> rfl
  unfold out0_11
  rw [View.canon_unit_zero hz, View.ld_unit_zero hz, View.ld_unit_zero hw, View.ld_unit_zero hn, norm_at]
  exact congrArg (rms · _ j) (funext fun i => sum_at x h oa ob oc od g w wo n r i)

end Cert.Kernel2Ideal.Pt

end
-- ==== Proof.Merge.Claim.lean ====
/- The claim about the merge of the four branches: the kernel's two result arrays are the reference's. -/
module

public import proofs.«01_k».proof.Defs
public import proofs.«01_k».proof.Proof.Merge.Tile
public import proofs.«01_k».proof.Proof.Gen.Reference2Ideal.Run
public import proofs.«01_k».proof.Proof.Gen.Reference2Ideal.Read
public import Idealize.ShloMosaic.Lib.Claim

@[expose] public section

set_option maxRecDepth 16384

noncomputable section

namespace Merge

open Idealize.ShloMosaic
open Norm (rms)

/-- The rows of the first result. -/
def R (x h : (⟨2, ![16384, 1024]⟩ : Shape).Idx → EReal) (oa ob oc od : (⟨2, ![16384, 512]⟩ : Shape).Idx → EReal)
    (g : (⟨2, ![1024, 4096]⟩ : Shape).Idx → EReal) (w : (⟨3, ![4, 512, 1024]⟩ : Shape).Idx → EReal) (wo : (⟨2, ![1024, 1024]⟩ : Shape).Idx → EReal)
    (r : Fin 16384) : Fin 1024 → EReal :=
  add (fun i => x (ix2 r i)) (fun k => h (ix2 r k)) (fun d => oa (ix2 r d)) (fun d => ob (ix2 r d)) (fun d => oc (ix2 r d)) (fun d => od (ix2 r d))
    (fun k c => g (ix2 k c)) (fun i d c => w (ix3 i d c)) (fun c i => wo (ix2 c i))

/-- The first result: the rows plus the merged branches. -/
def X (x h : (⟨2, ![16384, 1024]⟩ : Shape).Idx → EReal) (oa ob oc od : (⟨2, ![16384, 512]⟩ : Shape).Idx → EReal)
    (g : (⟨2, ![1024, 4096]⟩ : Shape).Idx → EReal) (w : (⟨3, ![4, 512, 1024]⟩ : Shape).Idx → EReal) (wo : (⟨2, ![1024, 1024]⟩ : Shape).Idx → EReal) :
    (⟨2, ![16384, 1024]⟩ : Shape).Idx → EReal := fun j => R x h oa ob oc od g w wo (j 0) (j 1)

/-- The second result: those rows, normalized. -/
def N (x h : (⟨2, ![16384, 1024]⟩ : Shape).Idx → EReal) (oa ob oc od : (⟨2, ![16384, 512]⟩ : Shape).Idx → EReal)
    (g : (⟨2, ![1024, 4096]⟩ : Shape).Idx → EReal) (w : (⟨3, ![4, 512, 1024]⟩ : Shape).Idx → EReal) (wo : (⟨2, ![1024, 1024]⟩ : Shape).Idx → EReal)
    (n : (⟨1, ![1024]⟩ : Shape).Idx → EReal) :
    (⟨2, ![16384, 1024]⟩ : Shape).Idx → EReal := fun j => rms (R x h oa ob oc od g w wo (j 0)) (fun k => n (ix1 k)) (j 1)

end Merge

namespace Cert.Kernel2Ideal.Pt

open Idealize.ShloMosaic Idealize.ShloMosaic.TcCoe Idealize.SL.Sem
open Cert.Kernel2Ideal Cert.Kernel2Ideal.Gen
open Merge
open Norm (rms)

variable (m : (ℓ : Loc nD τ sig) → Buf (Elt Ideal) ℓ) (c : Dev nD)

theorem idx : ∀ t : Fin cfg0.N, win0_0.index t = ![t.val, 0] ∧ win0_1.index t = ![t.val, 0] ∧ win0_2.index t = ![t.val, 0] ∧ win0_3.index t = ![t.val, 0] ∧ win0_4.index t = ![t.val, 0] ∧ win0_5.index t = ![t.val, 0] ∧ win0_6.index t = ![0, 0] ∧ win0_7.index t = ![0, 0, 0] ∧ win0_8.index t = ![0, 0] ∧ win0_9.index t = ![0, 0] ∧ win0_10.index t = ![t.val, 0] ∧ win0_11.index t = ![t.val, 0] :=
  (by decide +kernel : ∀ t : Fin grid0.N, _)

theorem V_v0 : V m c main_v0 = truncf (F := Ideal) .bf16 (m ((c : Thread nD τ).loc main_arg2)) bitsLt_bf16_f32 := by
  simp only [V, hostOps0, List.flatten_cons, List.flatten_nil, List.append_nil, List.cons_append, List.nil_append]
  entry_read
  try rfl

theorem V_v1 : V m c main_v1 = truncf (F := Ideal) .bf16 (m ((c : Thread nD τ).loc main_arg3)) bitsLt_bf16_f32 := by
  simp only [V, hostOps0, List.flatten_cons, List.flatten_nil, List.append_nil, List.cons_append, List.nil_append]
  entry_read
  try rfl

theorem V_v2 : V m c main_v2 = truncf (F := Ideal) .bf16 (m ((c : Thread nD τ).loc main_arg4)) bitsLt_bf16_f32 := by
  simp only [V, hostOps0, List.flatten_cons, List.flatten_nil, List.append_nil, List.cons_append, List.nil_append]
  entry_read
  try rfl

theorem V_v3 : V m c main_v3 = truncf (F := Ideal) .bf16 (m ((c : Thread nD τ).loc main_arg5)) bitsLt_bf16_f32 := by
  simp only [V, hostOps0, List.flatten_cons, List.flatten_nil, List.append_nil, List.cons_append, List.nil_append]
  entry_read
  try rfl

theorem V_v4 : V m c main_v4 = truncf (F := Ideal) .bf16 (m ((c : Thread nD τ).loc main_arg1)) bitsLt_bf16_f32 := by
  simp only [V, hostOps0, List.flatten_cons, List.flatten_nil, List.append_nil, List.cons_append, List.nil_append]
  entry_read
  try rfl

theorem V_v5 : V m c main_v5 = truncf (F := Ideal) .bf16 (m ((c : Thread nD τ).loc main_arg6)) bitsLt_bf16_f32 := by
  simp only [V, hostOps0, List.flatten_cons, List.flatten_nil, List.append_nil, List.cons_append, List.nil_append]
  entry_read
  try rfl

theorem V_v6 : V m c main_v6 = truncf (F := Ideal) .bf16 (m ((c : Thread nD τ).loc main_arg7)) bitsLt_bf16_f32 := by
  simp only [V, hostOps0, List.flatten_cons, List.flatten_nil, List.append_nil, List.cons_append, List.nil_append]
  entry_read
  try rfl

theorem V_v7 : V m c main_v7 = truncf (F := Ideal) .bf16 (m ((c : Thread nD τ).loc main_arg8)) bitsLt_bf16_f32 := by
  simp only [V, hostOps0, List.flatten_cons, List.flatten_nil, List.append_nil, List.cons_append, List.nil_append]
  entry_read
  try rfl

theorem V_v8 : V m c main_v8 = shapeCast S1x1024 (m ((c : Thread nD τ).loc main_arg9)) shapeCasts_S1024_S1x1024 := by
  simp only [V, hostOps0, List.flatten_cons, List.flatten_nil, List.append_nil, List.cons_append, List.nil_append]
  entry_read
  try rfl

/-- The row of the arrays that a tile's row is. -/
def row (t : Fin cfg0.N) (r : Fin 256) : Fin 16384 := ⟨t.val * 256 + r.val, by have : t.val < 64 := t.isLt; omega⟩

theorem x_at (t : Fin cfg0.N) (r : Fin 256) (k : Fin 1024) : iblk m c 0 t (ix2 r k) = m ((c : Thread nD τ).loc main_arg0) (ix2 (row t r) k) := by
  blk_ext [iblk, V, idx t, row]

theorem h_at (t : Fin cfg0.N) (r : Fin 256) (k : Fin 1024) : iblk m c 1 t (ix2 r k) = m ((c : Thread nD τ).loc main_arg1) (ix2 (row t r) k) := by
  blk_simp [iblk]
  have e : (win0_1.blk t).view.emb (ix2 r k) = ix2 (row t r) k := by blk_ext [idx t, row]
  rw [e, V_v4]
  pointwise

theorem oa_at (t : Fin cfg0.N) (r : Fin 256) (k : Fin 512) : iblk m c 2 t (ix2 r k) = m ((c : Thread nD τ).loc main_arg2) (ix2 (row t r) k) := by
  blk_simp [iblk]
  have e : (win0_2.blk t).view.emb (ix2 r k) = ix2 (row t r) k := by blk_ext [idx t, row]
  rw [e, V_v0]
  pointwise

theorem ob_at (t : Fin cfg0.N) (r : Fin 256) (k : Fin 512) : iblk m c 3 t (ix2 r k) = m ((c : Thread nD τ).loc main_arg3) (ix2 (row t r) k) := by
  blk_simp [iblk]
  have e : (win0_3.blk t).view.emb (ix2 r k) = ix2 (row t r) k := by blk_ext [idx t, row]
  rw [e, V_v1]
  pointwise

theorem oc_at (t : Fin cfg0.N) (r : Fin 256) (k : Fin 512) : iblk m c 4 t (ix2 r k) = m ((c : Thread nD τ).loc main_arg4) (ix2 (row t r) k) := by
  blk_simp [iblk]
  have e : (win0_4.blk t).view.emb (ix2 r k) = ix2 (row t r) k := by blk_ext [idx t, row]
  rw [e, V_v2]
  pointwise

theorem od_at (t : Fin cfg0.N) (r : Fin 256) (k : Fin 512) : iblk m c 5 t (ix2 r k) = m ((c : Thread nD τ).loc main_arg5) (ix2 (row t r) k) := by
  blk_simp [iblk]
  have e : (win0_5.blk t).view.emb (ix2 r k) = ix2 (row t r) k := by blk_ext [idx t, row]
  rw [e, V_v3]
  pointwise

theorem g_at (t : Fin cfg0.N) (k : Fin 1024) (j : Fin 4096) : iblk m c 6 t (ix2 k j) = m ((c : Thread nD τ).loc main_arg6) (ix2 k j) := by
  blk_simp [iblk]
  have e : (win0_6.blk t).view.emb (ix2 k j) = ix2 k j := by blk_ext [idx t]
  rw [e, V_v5]
  pointwise

theorem wo_at (t : Fin cfg0.N) (k : Fin 1024) (j : Fin 1024) : iblk m c 8 t (ix2 k j) = m ((c : Thread nD τ).loc main_arg8) (ix2 k j) := by
  blk_simp [iblk]
  have e : (win0_8.blk t).view.emb (ix2 k j) = ix2 k j := by blk_ext [idx t]
  rw [e, V_v7]
  pointwise

theorem w_at (t : Fin cfg0.N) (i : Fin 4) (d : Fin 512) (j : Fin 1024) : iblk m c 7 t (ix3 i d j) = m ((c : Thread nD τ).loc main_arg7) (ix3 i d j) := by
  blk_simp [iblk]
  have e : (win0_7.blk t).view.emb (ix3 i d j) = ix3 i d j := by blk_ext [idx t]
  rw [e, V_v6]
  pointwise

theorem n_at (t : Fin cfg0.N) (k : Fin 1024) : iblk m c 9 t (ix2 0 k) = m ((c : Thread nD τ).loc main_arg9) (ix1 k) := by
  blk_simp [iblk]
  have e : (win0_9.blk t).view.emb (ix2 0 k) = ix2 0 k := by blk_ext [idx t]
  rw [e, V_v8]
  pointwise

theorem final_X : (dats m 0 c).arrAt 10 cfg0.N = X (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) := by
  refine (dats m 0 c).arrAt_eq_of_covers 10 _ (by decide +kernel) fun t hf y => ?_
  blk_simp
  rw [after0_10]
  idx_vars y
  rw [show (win0_10.blk t).view.emb (ix2 y0 y1) = ix2 (row t y0) y1 from by blk_ext [idx t, row]]
  refine (tile_x (iblk m c 0 t) (iblk m c 1 t) (iblk m c 2 t) (iblk m c 3 t) (iblk m c 4 t) (iblk m c 5 t) (iblk m c 6 t) (iblk m c 7 t) (iblk m c 8 t) (iblk m c 9 t) y0 y1).trans ?_
  simp only [x_at, h_at, oa_at, ob_at, oc_at, od_at, g_at, w_at, wo_at]
  rfl

theorem final_N : (dats m 0 c).arrAt 11 cfg0.N = N (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) := by
  refine (dats m 0 c).arrAt_eq_of_covers 11 _ (by decide +kernel) fun t hf y => ?_
  blk_simp
  rw [after0_11]
  idx_vars y
  rw [show (win0_11.blk t).view.emb (ix2 y0 y1) = ix2 (row t y0) y1 from by blk_ext [idx t, row]]
  refine (tile_h (iblk m c 0 t) (iblk m c 1 t) (iblk m c 2 t) (iblk m c 3 t) (iblk m c 4 t) (iblk m c 5 t) (iblk m c 6 t) (iblk m c 7 t) (iblk m c 8 t) (iblk m c 9 t) y0 y1).trans ?_
  simp only [x_at, h_at, oa_at, ob_at, oc_at, od_at, g_at, w_at, wo_at, n_at]
  rfl

end Cert.Kernel2Ideal.Pt

namespace Cert.Proof.Merge

open Idealize.ShloMosaic Idealize.ShloMosaic.TcCoe Idealize.SL.Sem
open Cert.Reference2Ideal Cert.Reference2Ideal.Read
open _root_.Merge
open Norm (rms)

variable (x h : FVec Ideal S16384x1024 .f32) (oa ob oc od : FVec Ideal S16384x512 .f32) (g : FVec Ideal S1024x4096 .f32)
  (w : FVec Ideal S4x512x1024 .f32) (wo : FVec Ideal S1024x1024 .f32) (n : FVec Ideal S1024 .f32)

theorem ref_oa (r : Fin 16384) (c : Fin 1024) : val_main_v15 (F := Ideal) h oa ob oc od g w (ix3 r 0 c)
    = part (fun k => h (ix2 r k)) (fun k => g (ix2 k ⟨c.val, by omega⟩)) (fun d => oa (ix2 r d)) (fun d => w (ix3 0 d c)) := by
  pointwise [val_main_v15, val_main_v14, val_main_v13, val_main_cst_0, val_main_v12, val_main_v11, val_main_cst, val_main_v10, val_main_v9, val_main_v8,
    val_main_v0, val_main_v7, val_main_v6, val_main_v5, val_main_v4, val_main_v3, val_main_v2, val_main_v1]
  unfold part
  simp only [mul_comm (w _)]

theorem ref_ob (r : Fin 16384) (c : Fin 1024) : val_main_v15 (F := Ideal) h oa ob oc od g w (ix3 r 1 c)
    = part (fun k => h (ix2 r k)) (fun k => g (ix2 k ⟨1024 + c.val, by omega⟩)) (fun d => ob (ix2 r d)) (fun d => w (ix3 1 d c)) := by
  pointwise [val_main_v15, val_main_v14, val_main_v13, val_main_cst_0, val_main_v12, val_main_v11, val_main_cst, val_main_v10, val_main_v9, val_main_v8,
    val_main_v0, val_main_v7, val_main_v6, val_main_v5, val_main_v4, val_main_v3, val_main_v2, val_main_v1]
  unfold part
  simp only [mul_comm (w _)]

theorem ref_oc (r : Fin 16384) (c : Fin 1024) : val_main_v15 (F := Ideal) h oa ob oc od g w (ix3 r 2 c)
    = part (fun k => h (ix2 r k)) (fun k => g (ix2 k ⟨2048 + c.val, by omega⟩)) (fun d => oc (ix2 r d)) (fun d => w (ix3 2 d c)) := by
  pointwise [val_main_v15, val_main_v14, val_main_v13, val_main_cst_0, val_main_v12, val_main_v11, val_main_cst, val_main_v10, val_main_v9, val_main_v8,
    val_main_v0, val_main_v7, val_main_v6, val_main_v5, val_main_v4, val_main_v3, val_main_v2, val_main_v1]
  unfold part
  simp only [mul_comm (w _)]

theorem ref_od (r : Fin 16384) (c : Fin 1024) : val_main_v15 (F := Ideal) h oa ob oc od g w (ix3 r 3 c)
    = part (fun k => h (ix2 r k)) (fun k => g (ix2 k ⟨3072 + c.val, by omega⟩)) (fun d => od (ix2 r d)) (fun d => w (ix3 3 d c)) := by
  pointwise [val_main_v15, val_main_v14, val_main_v13, val_main_cst_0, val_main_v12, val_main_v11, val_main_cst, val_main_v10, val_main_v9, val_main_v8,
    val_main_v0, val_main_v7, val_main_v6, val_main_v5, val_main_v4, val_main_v3, val_main_v2, val_main_v1]
  unfold part
  simp only [mul_comm (w _)]

theorem ref_mix (r : Fin 16384) (c : Fin 1024) : val_main_v16 (F := Ideal) h oa ob oc od g w (ix2 r c)
    = mix (fun k => h (ix2 r k)) (fun d => oa (ix2 r d)) (fun d => ob (ix2 r d)) (fun d => oc (ix2 r d)) (fun d => od (ix2 r d))
        (fun k c => g (ix2 k c)) (fun i d c => w (ix3 i d c)) c := by
  unfold val_main_v16
  have ea := ref_oa h oa ob oc od g w r c
  have eb := ref_ob h oa ob oc od g w r c
  have ec := ref_oc h oa ob oc od g w r c
  have ed := ref_od h oa ob oc od g w r c
  generalize val_main_v15 (F := Ideal) h oa ob oc od g w = y at ea eb ec ed ⊢
  pointwise [val_main_cst_1]
  rw [Fin.sum_univ_four, ea, eb, ec, ed]
  rfl

theorem ref_x (r : Fin 16384) (j : Fin 1024) : val_main_v18 (F := Ideal) x h oa ob oc od g w wo (ix2 r j) = R x h oa ob oc od g w wo r j := by
  unfold val_main_v18 val_main_v17
  have e := ref_mix h oa ob oc od g w r
  generalize val_main_v16 (F := Ideal) h oa ob oc od g w = y at e ⊢
  pointwise
  simp only [e]
  rfl

theorem ref_X : val_main_v18 (F := Ideal) x h oa ob oc od g w wo = X x h oa ob oc od g w wo := by
  funext j
  idx_vars j
  exact ref_x x h oa ob oc od g w wo j0 j1

theorem ref_N : val_main_v32 (F := Ideal) x h oa ob oc od g w wo n = N x h oa ob oc od g w wo n := by
  funext j
  idx_vars j
  unfold val_main_v32 val_main_v31 val_main_v30 val_main_v29 val_main_v28 val_main_v27 val_main_v26 val_main_v25 val_main_v24 val_main_cst_4
    val_main_v23 val_main_v22 val_main_cst_3 val_main_v21 val_main_v20 val_main_cst_2 val_main_v19
  have e := ref_x x h oa ob oc od g w wo j0
  generalize val_main_v18 (F := Ideal) x h oa ob oc od g w wo = y at e ⊢
  pointwise
  simp only [e]
  rfl

theorem algebraic : Cert.algebraic_Kernel2Ideal_Reference2Ideal := by
  pair_intro
  · run_from Cert.Kernel2Ideal.Value.run_blocks m g
  · run_from Cert.Reference2Ideal.Value.run m' g'
    · rw [Cert.Kernel2Ideal.Pt.final_X m c]
      refine (val_main_v18_eq _ _ _ _ _ _ _ _ _).trans ?_
      obtain ⟨h0, h1, h2, h3, h4, h5, h6, h7, h8, h9⟩ := hagree c
      rw [h2, h3, h4, h5]
      exact ref_X _ _ _ _ _ _ _ _ _
    · rw [Cert.Kernel2Ideal.Pt.final_N m c, val_main_v32_eq]
      obtain ⟨h0, h1, h2, h3, h4, h5, h6, h7, h8, h9⟩ := hagree c
      rw [h0, h1, h2, h3, h4, h5, h6, h7, h8, h9]
      exact ref_N _ _ _ _ _ _ _ _ _ _

/-- The reference leaves its arguments, and has no counter that could be left raised. -/
theorem frame_ref : Cert.quiescent_Reference2Ideal := fun m ρ _ =>
  (θ_run Cert.Reference2Ideal.defs _ _).mono (fun r h => ⟨fun c => (h c).2.2, sem_eq_zero_of_no_sems (by decide) r.2⟩)
    (Cert.Reference2Ideal.Value.run (F := Ideal) m ρ)

end Cert.Proof.Merge

end
-- ==== Proof.Attn.Tile.lean ====
/- The attention kernel's body in two functions of a tile, the normalization and the two heads of a lane group, and the
   body's pieces as these. -/
module

public import proofs.«01_k».proof.Proof.Gen.Kernel7Ideal.Skeleton
public import Idealize.ShloMosaic.Lib.Pointwise

@[expose] public section

set_option maxRecDepth 16384

noncomputable section

namespace Cert.Kernel7Ideal.Pt

open Idealize.ShloMosaic Idealize.ShloMosaic.TcCoe
open Cert.Kernel7Ideal Cert.Kernel7Ideal.Gen

/-- The matrix that averages the lanes of a head. -/
abbrev meanM : FVec Ideal S512x512 .f32 := k0_pay41 k0_pay36 k0_pay37 k0_pay38 k0_pay39 k0_pay40

/-- The head of a lane of a group of two heads. -/
abbrev laneM : IVec S256x128 32 := k0_pay48

/-- The tile's rows, each head divided by its root mean square, times the gain. -/
def normT (a : FVec Ideal S512x512 .f32) (x : FVec Ideal S1x256x512 .f32) (g : FVec Ideal S1x512 .f32) : FVec Ideal S256x512 .f32 :=
  have u : FVec Ideal S256x512 .f32 := shapeCast S256x512 x shapeCasts_S1x256x512_S256x512
  have y : FVec Ideal S256x512 .f32 := mulf u u
  have a' : FVec Ideal S512x512 .bf16 := truncf .bf16 a bitsLt_bf16_f32
  have y1 : FVec Ideal S256x512 .bf16 := truncf .bf16 y bitsLt_bf16_f32
  have z1 : FVec Ideal S256x512 .f32 := subf y (extf .f32 y1 bitsLt_bf16_f32)
  have y2 : FVec Ideal S256x512 .bf16 := truncf .bf16 z1 bitsLt_bf16_f32
  have z2 : FVec Ideal S256x512 .f32 := subf z1 (extf .f32 y2 bitsLt_bf16_f32)
  have y3 : FVec Ideal S256x512 .bf16 := truncf .bf16 z2 bitsLt_bf16_f32
  have c : FVec Ideal S256x512 .f32 := constant S256x512 .f32 0x00000000#32
  have s : FVec Ideal S256x512 .f32 :=
    addf (addf (matmul dot_S256x512_S512x512_S256x512_1_0_0_1_n_n none y1 a' c) (matmul dot_S256x512_S512x512_S256x512_1_0_0_1_n_n none y2 a' c))
      (matmul dot_S256x512_S512x512_S256x512_1_0_0_1_n_n none y3 a' c)
  mulf (mulf u (rsqrt (addf s (broadcast S256x512 (Scalar.ofBits .f32 0x358637BD#32)))))
    (broadcastTo S256x512 (shapeCast S1x512 g shapeCasts_S1x512_S1x512) broadcasts_S1x512_S256x512)

/-- The normalized keys as the scratch holds them. -/
def keyT (x : FVec Ideal S1x256x512 .f32) (g : FVec Ideal S1x512 .f32) : FVec Ideal S256x512 .bf16 :=
  shapeCast S256x512 (truncf .bf16 (normT meanM x g) bitsLt_bf16_f32) shapeCasts_S256x512_S256x512

theorem key0 (x g) : k0_pay4 meanM x g = keyT x g := rfl
theorem key1 (x g) : k0_pay6 meanM x g = keyT x g := rfl
theorem key2 (x g) : k0_pay8 meanM x g = keyT x g := rfl
theorem key3 (x g) : k0_pay14 (k0_pay10 x) (k0_pay11 x) (k0_pay12 meanM) (k0_pay13 x) g = keyT x g := rfl
theorem key4 (x g) : k0_pay24 (k0_pay16 x) (k0_pay18 meanM) (k0_pay21 x) (k0_pay22 x) (k0_pay23 meanM x) g = keyT x g := rfl
theorem key5 (x g) : k0_pay29 (k0_pay26 x) (k0_pay27 meanM x) k0_pay28 g = keyT x g := rfl
theorem key6 (x g) : k0_pay33 (k0_pay31 meanM x) (k0_pay32 g) = keyT x g := rfl
theorem key7 (x g) : k0_pay35 meanM x g = keyT x g := rfl

theorem query (x g) : k0_pay43 k0_pay36 k0_pay37 k0_pay38 k0_pay39 k0_pay40 x g
    = mulf (normT meanM x g) (broadcast S256x512 (Scalar.ofBits .f32 0x3E000000#32)) := rfl

/-- The values as the scratch holds them. -/
def valT (x : FVec Ideal S1x256x512 .f32) : FVec Ideal S256x512 .bf16 :=
  shapeCast S256x512 (truncf .bf16 (shapeCast S256x512 x shapeCasts_S1x256x512_S256x512) bitsLt_bf16_f32) shapeCasts_S256x512_S256x512

theorem val0 (x) : k0_pay5 (F := Ideal) x = valT x := rfl
theorem val1 (x) : k0_pay7 (F := Ideal) x = valT x := rfl
theorem val2 (x) : k0_pay9 (F := Ideal) x = valT x := rfl
theorem val3 (x) : k0_pay15 (F := Ideal) x = valT x := rfl
theorem val4 (x) : k0_pay25 (F := Ideal) x = valT x := rfl
theorem val5 (x) : k0_pay30 (F := Ideal) x = valT x := rfl
theorem val6 (x) : k0_pay34 (F := Ideal) x = valT x := rfl
theorem val7 (x) : k0_pay42 (F := Ideal) x = valT x := rfl

/-- The masked scores of one head, of its lanes of the queries and the group's keys. -/
def scoreT (q : FVec Ideal S256x128 .f32) (k : FVec Ideal S768x128 .bf16) (v : IVec S256x768 1) (b : FVec Ideal S1x256x768 .f32) : FVec Ideal S256x768 .f32 :=
  select v (addf (matmul dot_S256x128_S768x128_S256x768_1_1_0_0_n_n none (truncf .bf16 q bitsLt_bf16_f32 : FVec Ideal S256x128 .bf16) k (constant S256x768 .f32 0x00000000#32))
    (shapeCast S256x768 b shapeCasts_S1x256x768_S256x768)) (broadcast S256x768 (Scalar.ofBits .f32 0xFF800000#32))

/-- The weights of a row of scores. -/
def probT (s : FVec Ideal S256x768 .f32) : FVec Ideal S256x768 .f32 :=
  have e : FVec Ideal S256x768 .f32 := exp (subf s (broadcastTo S256x768
    (shapeCast S256x1 (multiReduction .maximumf [1] S256 s 0xFF800000#32 reduces_S256x768_S256 (.inl rfl) rfl) shapeCasts_S256_S256x1) broadcasts_S256x1_S256x768))
  divf e (broadcastTo S256x768
    (shapeCast S256x1 (multiReduction .add [1] S256 e 0x00000000#32 reduces_S256x768_S256 (.inl rfl) rfl) shapeCasts_S256_S256x1) broadcasts_S256x1_S256x768)

/-- One head's weighted values over the lanes of its group. -/
def headT (s : BitVec 32) (q : FVec Ideal S256x128 .f32) (k w : FVec Ideal S768x128 .bf16) (v : IVec S256x768 1) (b : FVec Ideal S1x256x768 .f32) : FVec Ideal S256x128 .f32 :=
  matmul dot_S256x768_S768x128_S256x128_1_0_0_1_n_n none
    (truncf .bf16 (probT (scoreT (select (cmpi .eq laneM (broadcast S256x128 s)) q (broadcast S256x128 (Scalar.ofBits .f32 0x00000000#32))) k v b)) bitsLt_bf16_f32 : FVec Ideal S256x768 .bf16)
    w (constant S256x128 .f32 0x00000000#32)

/-- The two heads of a group of lanes. -/
def pairT (q : FVec Ideal S256x128 .f32) (k w : FVec Ideal S768x128 .bf16) (v : IVec S256x768 1) (b0 b1 : FVec Ideal S1x256x768 .f32) : FVec Ideal S1x256x128 .bf16 :=
  shapeCast S1x256x128 (truncf .bf16 (select (cmpi .eq laneM (broadcast S256x128 1#32)) (headT 1#32 q k w v b1)
    (select (cmpi .eq laneM (broadcast S256x128 0#32)) (headT 0#32 q k w v b0) (broadcast S256x128 (Scalar.ofBits .f32 0x00000000#32)))) bitsLt_bf16_f32) shapeCasts_S256x128_S1x256x128

section
variable (q : FVec Ideal S256x512 .f32) (k w : FVec Ideal S768x512 .bf16) (v : IVec S256x768 1) (b0 b1 : FVec Ideal S1x256x768 .f32)

theorem pair0 : k0_pay54 w laneM (k0_pay52 k w v laneM k0_pay49 k0_pay50 (k0_pay51 q) b0) (k0_pay53 q k v laneM b1)
    = pairT (extractStridedSlice S256x128 ![0, 0] q slices_S256x512_o0_0_S256x128) (extractStridedSlice S768x128 ![0, 0] k slices_S768x512_o0_0_S768x128)
      (extractStridedSlice S768x128 ![0, 0] w slices_S768x512_o0_0_S768x128) v b0 b1 := rfl

theorem pair1 : k0_pay59 q k w v laneM k0_pay55 (k0_pay56 laneM) (k0_pay57 w) (k0_pay58 q k v laneM b0) b1
    = pairT (extractStridedSlice S256x128 ![0, 128] q slices_S256x512_o0_128_S256x128) (extractStridedSlice S768x128 ![0, 128] k slices_S768x512_o0_128_S768x128)
      (extractStridedSlice S768x128 ![0, 128] w slices_S768x512_o0_128_S768x128) v b0 b1 := rfl

theorem pair2 : k0_pay66 w laneM (k0_pay63 w v laneM k0_pay60 (k0_pay61 q laneM) (k0_pay62 k) b0) (k0_pay64 q k v laneM b1) (k0_pay65 q k v laneM b1)
    = pairT (extractStridedSlice S256x128 ![0, 256] q slices_S256x512_o0_256_S256x128) (extractStridedSlice S768x128 ![0, 256] k slices_S768x512_o0_256_S768x128)
      (extractStridedSlice S768x128 ![0, 256] w slices_S768x512_o0_256_S768x128) v b0 b1 := rfl

theorem pair3 : k0_pay1 q k w v laneM (k0_pay67 q k w v laneM b0) 1#32 b1
    = pairT (extractStridedSlice S256x128 ![0, 384] q slices_S256x512_o0_384_S256x128) (extractStridedSlice S768x128 ![0, 384] k slices_S768x512_o0_384_S768x128)
      (extractStridedSlice S768x128 ![0, 384] w slices_S768x512_o0_384_S768x128) v b0 b1 := rfl
end

end Cert.Kernel7Ideal.Pt

end
-- ==== Proof.Attn.Spec.lean ====
/- Attention over a band of tokens on extended reals: the weights of a row of scores, a row divided by its root mean square,
   and what the proofs use of them. -/
module

public import Idealize.ShloMosaic.PureOps.Ideal
public import Idealize.ShloMosaic.PureOps.Ideal.Laws
public import proofs.«01_k».proof.Proof.Gla.Sums

@[expose] public section

noncomputable section

namespace Attn

open Idealize.ShloMosaic

/-- The largest of the scores. -/
def top {n : ℕ} (S : Fin n → EReal) : EReal := Finset.univ.fold max ⊥ S

/-- The scores' weighted values: each weight the exponential of a score less the largest, over the sum of these. -/
def soft {n : ℕ} (S V : Fin n → EReal) : EReal :=
  ∑ w, Ideal.div (Ideal.exp (S w - top S)) (∑ u, Ideal.exp (S u - top S)) * V w

theorem le_top {n : ℕ} (S : Fin n → EReal) (w : Fin n) : S w ≤ top S :=
  Finset.le_fold_max (S w) |>.2 (.inr ⟨w, Finset.mem_univ _, le_rfl⟩)

theorem top_le {n : ℕ} (S : Fin n → EReal) (M : EReal) (h : ∀ w, S w ≤ M) : top S ≤ M :=
  Finset.fold_max_le M |>.2 ⟨bot_le, fun w _ => h w⟩

theorem exp_zero : Ideal.exp 0 = 1 := by
  have h : Ideal.exp ((0 : ℝ) : EReal) = ((Real.exp 0 : ℝ) : EReal) := rfl
  rw [Real.exp_zero] at h
  exact_mod_cast h

theorem top_mem {n : ℕ} (S : Fin n → EReal) (w : Fin n) : ∃ u, S u = top S := by
  obtain ⟨u, -, hu⟩ := Finset.exists_max_image Finset.univ S ⟨w, Finset.mem_univ _⟩
  exact ⟨u, le_antisymm (le_top S u) (top_le S _ fun v => hu v (Finset.mem_univ _))⟩

/-- The weights' divisor is not zero. -/
theorem den_ne {n : ℕ} (S : Fin n → EReal) (h : ∃ w, S w ≠ ⊥) (h' : ∀ w, S w ≠ ⊤) : ∑ u, Ideal.exp (S u - top S) ≠ 0 := by
  obtain ⟨w, hw⟩ := h
  obtain ⟨u, hu⟩ := top_mem S w
  have hb : S u ≠ ⊥ := fun e => hw (le_bot_iff.1 ((le_top S w).trans (hu ▸ e.le)))
  have e1 : Ideal.exp (S u - top S) = 1 := by
    rw [← hu, EReal.sub_self (h' u) hb, exp_zero]
  have h1 : (1 : EReal) ≤ ∑ u, Ideal.exp (S u - top S) := by
    rw [← e1]
    exact Finset.single_le_sum (f := fun u => Ideal.exp (S u - top S)) (fun v _ => Gla.exp_nonneg _) (Finset.mem_univ u)
  intro e
  rw [e] at h1
  exact absurd h1 (by norm_num)

/-- Scores of `⊥` weigh nothing: the weighted values over a window that holds all other scores are those over the whole. -/
theorem soft_window {n N : ℕ} (e : Fin n → Fin N) (he : Function.Injective e) (T V : Fin N → EReal)
    (hT : ∀ p, p ∉ Set.range e → T p = ⊥) (h : ∃ p, T p ≠ ⊥) (h' : ∀ p, T p ≠ ⊤) :
    soft (fun w => T (e w)) (fun w => V (e w)) = soft T V := by
  have ht : top (fun w => T (e w)) = top T := by
    refine le_antisymm (top_le _ _ fun w => le_top T (e w)) (top_le _ _ fun p => ?_)
    by_cases hp : p ∈ Set.range e
    · obtain ⟨w, rfl⟩ := hp
      exact le_top (fun w => T (e w)) w
    · rw [hT p hp]; exact bot_le
  have hz : ∀ p, p ∉ Set.range e → Ideal.exp (T p - top T) = 0 := fun p hp => by
    rw [hT p hp, sub_eq_add_neg, EReal.bot_add]; rfl
  have hd : ∑ u, Ideal.exp (T (e u) - top T) = ∑ u, Ideal.exp (T u - top T) :=
    Fintype.sum_of_injective e he _ _ hz fun _ => rfl
  unfold soft
  rw [ht, hd]
  refine Fintype.sum_of_injective e he _ _ (fun p hp => ?_) fun _ => rfl
  rw [hz p hp]
  unfold Ideal.div
  rw [if_neg (den_ne T h h'), zero_mul, zero_mul]

/-- A number, not an infinity. -/
def Fin' (x : EReal) : Prop := ∃ r : ℝ, x = r

theorem fin_of_abs {x : EReal} (h : max x (-x) < ⊤) : Fin' x := by
  induction x using EReal.rec with
  | bot => exact absurd h (by simp)
  | top => exact absurd h (by simp)
  | coe r => exact ⟨r, rfl⟩

theorem Fin'.ne_top {x : EReal} (h : Fin' x) : x ≠ ⊤ := by obtain ⟨r, rfl⟩ := h; exact EReal.coe_ne_top r
theorem Fin'.ne_bot {x : EReal} (h : Fin' x) : x ≠ ⊥ := by obtain ⟨r, rfl⟩ := h; exact EReal.coe_ne_bot r
theorem Fin'.mul {x y : EReal} (hx : Fin' x) (hy : Fin' y) : Fin' (x * y) := by
  obtain ⟨r, rfl⟩ := hx; obtain ⟨s, rfl⟩ := hy; exact ⟨r * s, (EReal.coe_mul r s).symm⟩
theorem Fin'.add {x y : EReal} (hx : Fin' x) (hy : Fin' y) : Fin' (x + y) := by
  obtain ⟨r, rfl⟩ := hx; obtain ⟨s, rfl⟩ := hy; exact ⟨r + s, (EReal.coe_add r s).symm⟩
theorem Fin'.sum {n : ℕ} {f : Fin n → EReal} (h : ∀ i, Fin' (f i)) : Fin' (∑ i, f i) := by
  refine Finset.sum_induction f Fin' (fun _ _ => Fin'.add) ⟨0, rfl⟩ fun i _ => h i

/-- A row divided by the root of the mean of its squares, times the gain. -/
def nrm (x g : Fin 64 → EReal) (d : Fin 64) : EReal :=
  x d * Ideal.rsqrt (Ideal.div (∑ k, x k * x k) (Ideal.ofBits .f32 0x42800000#32) + Ideal.ofBits .f32 0x358637BD#32) * g d

theorem c64 : Ideal.ofBits .f32 0x42800000#32 = ((64 : ℝ) : EReal) := by
  simp [Ideal.ofBits, Ideal.ieee, -EReal.coe_mul]; norm_num
theorem c64' : Ideal.ofBits .f32 0x3C800000#32 = ((1 / 64 : ℝ) : EReal) := by
  simp [Ideal.ofBits, Ideal.ieee, -EReal.coe_mul]; norm_num
theorem c8' : Ideal.ofBits .f32 0x3E000000#32 = ((1 / 8 : ℝ) : EReal) := by
  simp [Ideal.ofBits, Ideal.ieee, -EReal.coe_mul]; norm_num
theorem eps_pos : ∃ r : ℝ, 0 < r ∧ Ideal.ofBits .f32 0x358637BD#32 = (r : EReal) := by
  refine ⟨8796093 * 2 ^ (-43 : ℤ), by positivity, ?_⟩
  simp [Ideal.ofBits, Ideal.ieee, -EReal.coe_mul]
theorem neg_inf : Ideal.ofBits .f32 0xFF800000#32 = ⊥ := by
  simp [Ideal.ofBits, Ideal.ieee]

theorem sq_nonneg' (x : EReal) : 0 ≤ x * x := by
  rcases le_total 0 x with h | h
  · exact mul_nonneg h h
  · have h2 := EReal.neg_le_neg_iff.2 h
    rw [neg_zero] at h2
    have := mul_nonneg h2 h2
    rwa [neg_mul_neg] at this

/-- Nonnegative terms: a factor goes out of the sum. -/
theorem sum_mul_nonneg {n : ℕ} (f : Fin n → EReal) (hf : ∀ i, 0 ≤ f i) (c : EReal) : ∑ i, f i * c = (∑ i, f i) * c := by
  have key : ∀ s : Finset (Fin n), ∑ i ∈ s, f i * c = (∑ i ∈ s, f i) * c := by
    intro s
    induction s using Finset.induction_on with
    | empty => simp
    | insert a s ha ih =>
      rw [Finset.sum_insert ha, Finset.sum_insert ha, ih, EReal.right_distrib_of_nonneg (hf a) (Finset.sum_nonneg fun i _ => hf i)]
  exact key _

/-- The mean of a row's squares: each times a sixty-fourth, or their sum by sixty-four. -/
theorem mean_eq (x : Fin 64 → EReal) :
    ∑ k, x k * x k * Ideal.ofBits .f32 0x3C800000#32 = Ideal.div (∑ k, x k * x k) (Ideal.ofBits .f32 0x42800000#32) := by
  rw [sum_mul_nonneg _ fun k => sq_nonneg' (x k), c64, c64']
  unfold Ideal.div
  rw [if_neg (by norm_num), ← EReal.coe_inv]
  norm_num

theorem nrm_fin (x g : Fin 64 → EReal) (hx : ∀ d, Fin' (x d)) (hg : ∀ d, Fin' (g d)) (d : Fin 64) : Fin' (nrm x g d) := by
  unfold nrm
  refine ((hx d).mul ?_).mul (hg d)
  obtain ⟨e, he, hee⟩ := eps_pos
  obtain ⟨s, hs⟩ := Fin'.sum fun k => (hx k).mul (hx k)
  have h0 : (0 : EReal) ≤ ∑ k, x k * x k := Finset.sum_nonneg fun k _ => sq_nonneg' _
  rw [hs] at h0 ⊢
  have hs0 : 0 ≤ s := by exact_mod_cast h0
  have e1 : Ideal.div (s : EReal) (Ideal.ofBits .f32 0x42800000#32) + Ideal.ofBits .f32 0x358637BD#32 = ((s * 64⁻¹ + e : ℝ) : EReal) := by
    rw [c64, hee]
    unfold Ideal.div
    rw [if_neg (by norm_num), ← EReal.coe_inv, ← EReal.coe_mul, ← EReal.coe_add]
  rw [e1]
  have hp : 0 < s * 64⁻¹ + e := by positivity
  refine ⟨(Real.sqrt (s * 64⁻¹ + e))⁻¹, ?_⟩
  show (if s * 64⁻¹ + e < 0 then (⊥ : EReal) else if s * 64⁻¹ + e = 0 then ⊤ else ((Real.sqrt (s * 64⁻¹ + e))⁻¹ : ℝ)) = _
  rw [if_neg (not_lt.2 hp.le), if_neg hp.ne']

/-- Numbers: a factor goes out of the sum of products. -/
theorem scale_out (q k : Fin 64 → EReal) (hq : ∀ d, Fin' (q d)) (hk : ∀ d, Fin' (k d)) :
    ∑ d, q d * Ideal.ofBits .f32 0x3E000000#32 * k d = (∑ d, q d * k d) * Ideal.ofBits .f32 0x3E000000#32 := by
  choose q' hq' using hq
  choose k' hk' using hk
  have cs : ∀ f : Fin 64 → ℝ, ∑ d, ((f d : ℝ) : EReal) = ((∑ d, f d : ℝ) : EReal) := fun f =>
    (map_sum (⟨⟨fun r : ℝ => (r : EReal), EReal.coe_zero⟩, EReal.coe_add⟩ : ℝ →+ EReal) f Finset.univ).symm
  simp only [hq', hk', c8', ← EReal.coe_mul]
  rw [cs, cs, ← EReal.coe_mul, Finset.sum_mul]
  exact congrArg _ (Finset.sum_congr rfl fun d _ => by ring)

end Attn

end
-- ==== Proof.Attn.Cells.lean ====
/- The attention kernel's body, read at an index: the normalized rows, the band's mask, and the two heads of a lane group. -/
module

public import proofs.«01_k».proof.Proof.Attn.Tile
public import proofs.«01_k».proof.Proof.Attn.Spec

@[expose] public section

set_option maxRecDepth 16384

noncomputable section

namespace Cert.Kernel7Ideal.Pt

open Idealize.ShloMosaic Idealize.ShloMosaic.TcCoe
open Cert.Kernel7Ideal Cert.Kernel7Ideal.Gen
open Attn

/-- Lane `d` of head `h`. -/
def lane (h : Fin 8) (d : Fin 64) : Fin 512 := ⟨h.val * 64 + d.val, by omega⟩

theorem rowHead_at (k c : Fin 512) : k0_pay36 (ix2 k c) = BitVec.ofNat 32 (k.val / 64) := by
  pointwise [k0_pay36]
  revert k
  decide +kernel

/-- The head of a column of the averaging matrix. -/
def colHead : IVec S512x512 32 :=
  select (andi k0_pay38 (cmpi .ne k0_pay39 k0_pay40)) (subi k0_pay37 (broadcast S512x512 1#32)) k0_pay37

theorem colHead_at (k c : Fin 512) : colHead (ix2 k c) = BitVec.ofNat 32 (c.val / 64) := by
  pointwise [colHead, k0_pay37, k0_pay38, k0_pay39, k0_pay40]
  revert c
  decide +kernel

theorem mean_at (k c : Fin 512) : meanM (ix2 k c) = if k.val / 64 = c.val / 64 then Ideal.ofBits .f32 0x3C800000#32 else 0 := by
  have e2 : meanM (ix2 k c) = Scalar.select (IntOp.cmpi .eq (k0_pay36 (ix2 k c)) (colHead (ix2 k c))) (Ideal.ofBits .f32 0x3C800000#32) (Ideal.ofBits .f32 0x00000000#32) := rfl
  rw [e2, rowHead_at, colHead_at]
  have e3 : ∀ (a : Fin 8) (b : Fin 8), IntOp.cmpi .eq (BitVec.ofNat 32 a.val) (BitVec.ofNat 32 b.val) = if a.val = b.val then 1#1 else 0#1 := by
    decide +kernel
  rw [e3 ⟨k.val / 64, by omega⟩ ⟨c.val / 64, by omega⟩]
  have hz : Ideal.ofBits .f32 0x00000000#32 = 0 := by simp [Ideal.ofBits, Ideal.ieee]
  by_cases h : k.val / 64 = c.val / 64 <;> simp [h, Scalar.select, hz]

theorem laneHead_at (r : Fin 256) (j : Fin 128) : laneM (ix2 r j) = BitVec.ofNat 32 (j.val / 64) := by
  pointwise [laneM, k0_pay48]
  revert j
  decide +kernel

/-- The normalized rows. -/
theorem norm_at (x : FVec Ideal S1x256x512 .f32) (g : FVec Ideal S1x512 .f32) (r : Fin 256) (hx : ∀ c, Fin' (x (ix3 0 r c))) (h : Fin 8) (d : Fin 64) :
    normT meanM x g (ix2 r (lane h d)) = nrm (fun k => x (ix3 0 r (lane h k))) (fun k => g (ix2 0 (lane h k))) d := by
  pointwise [normT]
  have hs : ∀ c, x (ix3 0 r c) * x (ix3 0 r c) - x (ix3 0 r c) * x (ix3 0 r c) = 0 := fun c =>
    EReal.sub_self ((hx c).mul (hx c)).ne_top ((hx c).mul (hx c)).ne_bot
  simp only [hs, sub_zero, zero_mul, Finset.sum_const_zero, add_zero]
  unfold nrm
  rw [← mean_eq]
  refine congrArg (fun m => x (ix3 0 r (lane h d)) * Ideal.rsqrt (m + Ideal.ofBits .f32 0x358637BD#32) * g (ix2 0 (lane h d))) ?_
  refine (Gla.sum_groups (n := 8) (k := 64) _).trans ?_
  refine (Finset.sum_eq_single h (fun h' _ hne => Finset.sum_eq_zero fun e _ => ?_) (fun hn => absurd (Finset.mem_univ _) hn)).trans ?_
  · refine (congrArg _ ((mean_at _ _).trans (if_neg ?_))).trans (mul_zero _)
    intro e1
    apply hne
    have e2 : (h'.val * 64 + e.val) / 64 = (h.val * 64 + d.val) / 64 := e1
    apply Fin.ext
    omega
  · refine Finset.sum_congr rfl fun e _ => congrArg _ ((mean_at _ _).trans (if_pos ?_))
    show (h.val * 64 + e.val) / 64 = (h.val * 64 + d.val) / 64
    omega

theorem queryChunk_at (r : Fin 256) (w : Fin 768) : k0_pay44 (ix2 r w) = BitVec.ofNat 32 (8 + r.val / 64) := by
  pointwise [k0_pay44]
  revert r
  decide +kernel

/-- The chunk of a place of the window. -/
def keyChunk : IVec S256x768 32 :=
  select (andi k0_pay46 (cmpi .ne (remsi (iota .tc S256x768 32 [1] iota_S256x768_d1_w32) (broadcast S256x768 64#32)) (broadcast S256x768 0#32)))
    (subi k0_pay45 (broadcast S256x768 1#32)) k0_pay45

theorem keyChunk_at (r : Fin 256) (w : Fin 768) : keyChunk (ix2 r w) = BitVec.ofNat 32 (w.val / 64) := by
  pointwise [keyChunk, k0_pay45, k0_pay46]
  revert w
  decide +kernel

/-- The mask of the band: the window's chunk is no later than the row's, no more than eight chunks before it, and not before
    the sequence. -/
abbrev valid (i : BitVec 32) : IVec S256x768 1 :=
  k0_pay47 i k0_pay44 (iota .tc S256x768 32 [1] iota_S256x768_d1_w32) 64#32 k0_pay45 k0_pay46

theorem valid_at (i : Fin 8) (r : Fin 256) (w : Fin 768) :
    valid (BitVec.ofNat 32 i.val) (ix2 r w)
      = if w.val / 64 ≤ 8 + r.val / 64 ∧ r.val / 64 ≤ w.val / 64 ∧ 8 ≤ 4 * i.val + w.val / 64 then 1#1 else 0#1 := by
  have e : valid (BitVec.ofNat 32 i.val) (ix2 r w)
      = IntOp.andi (IntOp.cmpi .sle (keyChunk (ix2 r w)) (k0_pay44 (ix2 r w)))
        (IntOp.cmpi .sge (keyChunk (ix2 r w)) (IntOp.maxsi (IntOp.subi (k0_pay44 (ix2 r w)) 8#32) (Scalar.subi 8#32 (Scalar.muli (BitVec.ofNat 32 i.val) 4#32)))) := rfl
  rw [e, queryChunk_at, keyChunk_at]
  have e3 : ∀ (i : Fin 8) (a : Fin 4) (b : Fin 12),
      IntOp.andi (IntOp.cmpi .sle (BitVec.ofNat 32 b.val) (BitVec.ofNat 32 (8 + a.val)))
        (IntOp.cmpi .sge (BitVec.ofNat 32 b.val) (IntOp.maxsi (IntOp.subi (BitVec.ofNat 32 (8 + a.val)) 8#32) (Scalar.subi 8#32 (Scalar.muli (BitVec.ofNat 32 i.val) 4#32))))
        = if b.val ≤ 8 + a.val ∧ a.val ≤ b.val ∧ 8 ≤ 4 * i.val + b.val then 1#1 else 0#1 := by
    decide +kernel
  exact e3 i ⟨r.val / 64, by omega⟩ ⟨w.val / 64, by omega⟩

theorem head_at (s : Fin 2) (q : FVec Ideal S256x128 .f32) (k w : FVec Ideal S768x128 .bf16) (v : IVec S256x768 1) (b : FVec Ideal S1x256x768 .f32)
    (r : Fin 256) (j : Fin 128) :
    headT (BitVec.ofNat 32 s.val) q k w v b (ix2 r j)
      = soft (fun u => if v (ix2 r u) = 1#1 then (∑ d : Fin 128, (if d.val / 64 = s.val then q (ix2 r d) else 0) * k (ix2 u d)) + b (ix3 0 r u) else ⊥)
        (fun u => w (ix2 u j)) := by
  have e3 : ∀ (s : Fin 2) (d : Fin 128), IntOp.cmpi .eq (BitVec.ofNat 32 (d.val / 64)) (BitVec.ofNat 32 s.val) = if d.val / 64 = s.val then 1#1 else 0#1 := by
    decide +kernel
  have e4 : ∀ d : Fin 128, ∀ x : EReal, Scalar.select (if d.val / 64 = s.val then 1#1 else 0#1) x 0 = if d.val / 64 = s.val then x else 0 := fun d x => by
    by_cases h : d.val / 64 = s.val <;> simp [h, Scalar.select]
  have e5 : ∀ (c : BitVec 1) (x y : EReal), Scalar.select c x y = if c = 1#1 then x else y := fun c x y => by
    by_cases h : c = 1#1 <;> simp [h, Scalar.select]
  pointwise [headT, probT, scoreT, soft, top]
  simp only [laneHead_at, e3, e4, neg_inf, ite_mul, zero_mul]
  simp only [e5]

/-- The two heads of a group: a lane is one of its own head. -/
theorem pair_at (q : FVec Ideal S256x128 .f32) (k w : FVec Ideal S768x128 .bf16) (v : IVec S256x768 1) (b0 b1 : FVec Ideal S1x256x768 .f32)
    (r : Fin 256) (s : Fin 2) (j : Fin 128) (hj : j.val / 64 = s.val) :
    pairT q k w v b0 b1 (ix3 0 r j) = headT (BitVec.ofNat 32 s.val) q k w v (if s = 0 then b0 else b1) (ix2 r j) := by
  pointwise [pairT]
  simp only [laneHead_at, hj]
  fin_cases s <;> rfl

end Cert.Kernel7Ideal.Pt

end
-- ==== Proof.Attn.Point.lean ====
/- A point of the attention kernel's grid: what it leaves in the carried keys and values, and its output block of these. -/
module

public import proofs.«01_k».proof.Proof.Gen.Kernel7Ideal.Value
public import proofs.«01_k».proof.Proof.Attn.Cells
public import Idealize.ShloMosaic.Lib.Pipeline.ValueKit
public import Idealize.ShloMosaic.Lib.Pipeline.ReadBack

@[expose] public section

set_option maxRecDepth 16384

noncomputable section

namespace Cert.Kernel7Ideal.Pt

open Idealize.ShloMosaic Idealize.ShloMosaic.TcCoe Idealize.SL.Sem
open Cert.Kernel7Ideal Cert.Kernel7Ideal.Gen
open Attn

/-- One entry of the output: row `r`, head `h`, feature `d`, of the queries `Q`, the window's keys `K` and values `W`, the
    mask `v` and the biases `B`. -/
def cell (Q : Fin 256 → Fin 512 → EReal) (K W : Fin 768 → Fin 512 → EReal) (v : IVec S256x768 1) (B : Fin 8 → Fin 256 → Fin 768 → EReal)
    (r : Fin 256) (h : Fin 8) (d : Fin 64) : EReal :=
  soft (fun u => if v (ix2 r u) = 1#1 then (∑ e, Q r (lane h e) * K u (lane h e)) + B h r u else ⊥) (fun u => W u (lane h d))

/-- Over the 128 lanes of a group, the terms of one head. -/
theorem sum_half (s : Fin 2) (f : Fin 128 → EReal) (k : Fin 128 → EReal) :
    ∑ j : Fin 128, (if j.val / 64 = s.val then f j else 0) * k j = ∑ e : Fin 64, f ⟨s.val * 64 + e.val, by omega⟩ * k ⟨s.val * 64 + e.val, by omega⟩ := by
  refine (Gla.sum_groups (n := 2) (k := 64) _).trans ?_
  refine (Finset.sum_eq_single s (fun h' _ hne => Finset.sum_eq_zero fun e _ => ?_) (fun hn => absurd (Finset.mem_univ _) hn)).trans ?_
  · rw [if_neg, zero_mul]
    intro e1
    apply hne
    have e2 : (h'.val * 64 + e.val) / 64 = s.val := e1
    apply Fin.ext
    omega
  · refine Finset.sum_congr rfl fun e _ => ?_
    rw [if_pos]
    show (s.val * 64 + e.val) / 64 = s.val
    omega

/-- A group's piece of the output block. -/
theorem group_at (p : Fin 4) (Q : Fin 256 → Fin 512 → EReal) (K W : Fin 768 → Fin 512 → EReal) (v : IVec S256x768 1) (B : Fin 8 → Fin 256 → Fin 768 → EReal)
    (q : FVec Ideal S256x128 .f32) (k w : FVec Ideal S768x128 .bf16) (b0 b1 : FVec Ideal S1x256x768 .f32)
    (hq : ∀ (r : Fin 256) (j : Fin 128), q (ix2 r j) = Q r ⟨128 * p.val + j.val, by omega⟩)
    (hk : ∀ (u : Fin 768) (j : Fin 128), k (ix2 u j) = K u ⟨128 * p.val + j.val, by omega⟩)
    (hw : ∀ (u : Fin 768) (j : Fin 128), w (ix2 u j) = W u ⟨128 * p.val + j.val, by omega⟩)
    (hb0 : ∀ (r : Fin 256) (u : Fin 768), b0 (ix3 0 r u) = B ⟨2 * p.val, by omega⟩ r u)
    (hb1 : ∀ (r : Fin 256) (u : Fin 768), b1 (ix3 0 r u) = B ⟨2 * p.val + 1, by omega⟩ r u)
    (x : S1x256x128.Idx) (r : Fin 256) (h : Fin 8) (d : Fin 64) (h1 : r.val = (x 1).val) (h2 : h.val * 64 + d.val = 128 * p.val + (x 2).val) :
    pairT q k w v b0 b1 x = cell Q K W v B r h d := by
  have hx0 : (x 0).val < 1 := (x 0).isLt
  have hx2 : (x 2).val < 128 := (x 2).isLt
  have hd := d.isLt
  obtain ⟨s, hs⟩ : ∃ s : Fin 2, h.val = 2 * p.val + s.val := ⟨⟨h.val - 2 * p.val, by omega⟩, by show h.val = 2 * p.val + (h.val - 2 * p.val); omega⟩
  have hb : s.val * 64 + d.val < 128 := by omega
  have hx : x = ix3 0 r ⟨s.val * 64 + d.val, hb⟩ := by
    funext a
    refine Fin.ext ?_
    fin_cases a
    · show (x 0).val = 0
      omega
    · exact h1.symm
    · show (x 2).val = s.val * 64 + d.val
      omega
  rw [hx, pair_at _ _ _ _ _ _ _ s _ (by show (s.val * 64 + d.val) / 64 = s.val; omega), head_at]
  unfold cell
  have hl : ∀ (e : Fin 64) (b' : s.val * 64 + e.val < 128) (b : 128 * p.val + (⟨s.val * 64 + e.val, b'⟩ : Fin 128).val < 512),
      (⟨128 * p.val + (⟨s.val * 64 + e.val, b'⟩ : Fin 128).val, b⟩ : Fin 512) = lane h e := fun e b' b => Fin.ext (by
    show 128 * p.val + (s.val * 64 + e.val) = h.val * 64 + e.val
    omega)
  refine congrArg₂ soft (funext fun u => ?_) (funext fun u => ?_)
  · refine congrArg (fun y => if v (ix2 r u) = 1#1 then y else ⊥) ?_
    refine congrArg₂ (· + ·) ?_ ?_
    · rw [sum_half]
      refine Finset.sum_congr rfl fun e _ => ?_
      rw [hq, hk, hl]
    · by_cases h0 : s = 0
      · subst h0
        rw [if_pos rfl, hb0]
        exact congrArg (fun h => B h r u) (Fin.ext hs.symm)
      · rw [if_neg h0, hb1]
        exact congrArg (fun h => B h r u) (Fin.ext (by
          have : s.val ≠ 0 := fun e => h0 (Fin.ext e)
          show 2 * p.val + 1 = h.val
          omega))
  · rw [hw, hl]

/-- The keys as the first point of a sequence leaves them: 512 rows of zeros, then the sequence's rows normalized. -/
def keysA (x : FVec Ideal S1x2048x512 .f32) (g : FVec Ideal S1x512 .f32) : FVec Ideal S2560x512 .bf16 :=
  View.canon (Val := Elt Ideal) (s := S2560x512) (e := .bf16) [
    ⟨Rect.unit (s := S2560x512) ![2304, 0] S256x512.size inb_S2560x512_S256x512_2304_0, k0_pay35 meanM (View.ld (Val := Elt Ideal) (S := S1x2048x512) (e' := .f32) x (Rect.unit (s := S1x2048x512) ![0, 1792, 0] S1x256x512.size inb_S1x2048x512_S1x256x512_0_1792_0)) g⟩,
    ⟨Rect.unit (s := S2560x512) ![2048, 0] S256x512.size inb_S2560x512_S256x512_2048_0, k0_pay33 (k0_pay31 meanM (View.ld (Val := Elt Ideal) (S := S1x2048x512) (e' := .f32) x (Rect.unit (s := S1x2048x512) ![0, 1536, 0] S1x256x512.size inb_S1x2048x512_S1x256x512_0_1536_0))) (k0_pay32 g)⟩,
    ⟨Rect.unit (s := S2560x512) ![1792, 0] S256x512.size inb_S2560x512_S256x512_1792_0, k0_pay29 (k0_pay26 (View.ld (Val := Elt Ideal) (S := S1x2048x512) (e' := .f32) x (Rect.unit (s := S1x2048x512) ![0, 1280, 0] S1x256x512.size inb_S1x2048x512_S1x256x512_0_1280_0))) (k0_pay27 meanM (View.ld (Val := Elt Ideal) (S := S1x2048x512) (e' := .f32) x (Rect.unit (s := S1x2048x512) ![0, 1280, 0] S1x256x512.size inb_S1x2048x512_S1x256x512_0_1280_0))) k0_pay28 g⟩,
    ⟨Rect.unit (s := S2560x512) ![1536, 0] S256x512.size inb_S2560x512_S256x512_1536_0, k0_pay24 (k0_pay16 (View.ld (Val := Elt Ideal) (S := S1x2048x512) (e' := .f32) x (Rect.unit (s := S1x2048x512) ![0, 1024, 0] S1x256x512.size inb_S1x2048x512_S1x256x512_0_1024_0))) (k0_pay18 meanM) (k0_pay21 (View.ld (Val := Elt Ideal) (S := S1x2048x512) (e' := .f32) x (Rect.unit (s := S1x2048x512) ![0, 1024, 0] S1x256x512.size inb_S1x2048x512_S1x256x512_0_1024_0))) (k0_pay22 (View.ld (Val := Elt Ideal) (S := S1x2048x512) (e' := .f32) x (Rect.unit (s := S1x2048x512) ![0, 1024, 0] S1x256x512.size inb_S1x2048x512_S1x256x512_0_1024_0))) (k0_pay23 meanM (View.ld (Val := Elt Ideal) (S := S1x2048x512) (e' := .f32) x (Rect.unit (s := S1x2048x512) ![0, 1024, 0] S1x256x512.size inb_S1x2048x512_S1x256x512_0_1024_0))) g⟩,
    ⟨Rect.unit (s := S2560x512) ![1280, 0] S256x512.size inb_S2560x512_S256x512_1280_0, k0_pay14 (k0_pay10 (View.ld (Val := Elt Ideal) (S := S1x2048x512) (e' := .f32) x (Rect.unit (s := S1x2048x512) ![0, 768, 0] S1x256x512.size inb_S1x2048x512_S1x256x512_0_768_0))) (k0_pay11 (View.ld (Val := Elt Ideal) (S := S1x2048x512) (e' := .f32) x (Rect.unit (s := S1x2048x512) ![0, 768, 0] S1x256x512.size inb_S1x2048x512_S1x256x512_0_768_0))) (k0_pay12 meanM) (k0_pay13 (View.ld (Val := Elt Ideal) (S := S1x2048x512) (e' := .f32) x (Rect.unit (s := S1x2048x512) ![0, 768, 0] S1x256x512.size inb_S1x2048x512_S1x256x512_0_768_0))) g⟩,
    ⟨Rect.unit (s := S2560x512) ![1024, 0] S256x512.size inb_S2560x512_S256x512_1024_0, k0_pay8 meanM (View.ld (Val := Elt Ideal) (S := S1x2048x512) (e' := .f32) x (Rect.unit (s := S1x2048x512) ![0, 512, 0] S1x256x512.size inb_S1x2048x512_S1x256x512_0_512_0)) g⟩,
    ⟨Rect.unit (s := S2560x512) ![768, 0] S256x512.size inb_S2560x512_S256x512_768_0, k0_pay6 meanM (View.ld (Val := Elt Ideal) (S := S1x2048x512) (e' := .f32) x (Rect.unit (s := S1x2048x512) ![0, 256, 0] S1x256x512.size inb_S1x2048x512_S1x256x512_0_256_0)) g⟩,
    ⟨Rect.unit (s := S2560x512) ![512, 0] S256x512.size inb_S2560x512_S256x512_512_0, k0_pay4 meanM (View.ld (Val := Elt Ideal) (S := S1x2048x512) (e' := .f32) x (Rect.unit (s := S1x2048x512) ![0, 0, 0] S1x256x512.size inb_S1x2048x512_S1x256x512_0_0_0)) g⟩,
    ⟨Rect.unit (s := S2560x512) ![0, 0] S512x512.size inb_S2560x512_S512x512_0_0, k0_pay2 (F := Ideal)⟩]

/-- The values as the first point leaves them. -/
def valsA (x : FVec Ideal S1x2048x512 .f32) : FVec Ideal S2560x512 .bf16 :=
  View.canon (Val := Elt Ideal) (s := S2560x512) (e := .bf16) [
    ⟨Rect.unit (s := S2560x512) ![2304, 0] S256x512.size inb_S2560x512_S256x512_2304_0, k0_pay42 (View.ld (Val := Elt Ideal) (S := S1x2048x512) (e' := .f32) x (Rect.unit (s := S1x2048x512) ![0, 1792, 0] S1x256x512.size inb_S1x2048x512_S1x256x512_0_1792_0))⟩,
    ⟨Rect.unit (s := S2560x512) ![2048, 0] S256x512.size inb_S2560x512_S256x512_2048_0, k0_pay34 (View.ld (Val := Elt Ideal) (S := S1x2048x512) (e' := .f32) x (Rect.unit (s := S1x2048x512) ![0, 1536, 0] S1x256x512.size inb_S1x2048x512_S1x256x512_0_1536_0))⟩,
    ⟨Rect.unit (s := S2560x512) ![1792, 0] S256x512.size inb_S2560x512_S256x512_1792_0, k0_pay30 (View.ld (Val := Elt Ideal) (S := S1x2048x512) (e' := .f32) x (Rect.unit (s := S1x2048x512) ![0, 1280, 0] S1x256x512.size inb_S1x2048x512_S1x256x512_0_1280_0))⟩,
    ⟨Rect.unit (s := S2560x512) ![1536, 0] S256x512.size inb_S2560x512_S256x512_1536_0, k0_pay25 (View.ld (Val := Elt Ideal) (S := S1x2048x512) (e' := .f32) x (Rect.unit (s := S1x2048x512) ![0, 1024, 0] S1x256x512.size inb_S1x2048x512_S1x256x512_0_1024_0))⟩,
    ⟨Rect.unit (s := S2560x512) ![1280, 0] S256x512.size inb_S2560x512_S256x512_1280_0, k0_pay15 (View.ld (Val := Elt Ideal) (S := S1x2048x512) (e' := .f32) x (Rect.unit (s := S1x2048x512) ![0, 768, 0] S1x256x512.size inb_S1x2048x512_S1x256x512_0_768_0))⟩,
    ⟨Rect.unit (s := S2560x512) ![1024, 0] S256x512.size inb_S2560x512_S256x512_1024_0, k0_pay9 (View.ld (Val := Elt Ideal) (S := S1x2048x512) (e' := .f32) x (Rect.unit (s := S1x2048x512) ![0, 512, 0] S1x256x512.size inb_S1x2048x512_S1x256x512_0_512_0))⟩,
    ⟨Rect.unit (s := S2560x512) ![768, 0] S256x512.size inb_S2560x512_S256x512_768_0, k0_pay7 (View.ld (Val := Elt Ideal) (S := S1x2048x512) (e' := .f32) x (Rect.unit (s := S1x2048x512) ![0, 256, 0] S1x256x512.size inb_S1x2048x512_S1x256x512_0_256_0))⟩,
    ⟨Rect.unit (s := S2560x512) ![512, 0] S256x512.size inb_S2560x512_S256x512_512_0, k0_pay5 (View.ld (Val := Elt Ideal) (S := S1x2048x512) (e' := .f32) x (Rect.unit (s := S1x2048x512) ![0, 0, 0] S1x256x512.size inb_S1x2048x512_S1x256x512_0_0_0))⟩,
    ⟨Rect.unit (s := S2560x512) ![0, 0] S512x512.size inb_S2560x512_S512x512_0_0, k0_pay3 (F := Ideal)⟩]

variable (m : (ℓ : Loc nD τ sig) → Buf (Elt Ideal) ℓ) (c : Dev nD)

theorem scrA (t : Fin cfg0.N) (h0 : t.val % 8 = 0) :
    (outsAt0 m c t.val t.isLt).2 = (keysA (iblk m c 1 t) (iblk m c 4 t), valsA (iblk m c 2 t)) := by
  rw [outsAt0_A m c t h0]
  refine Prod.ext ?_ ?_
  · frame_out
  · frame_out

/-- A later point leaves them as they were. -/
theorem scrB (t : Fin cfg0.N) (h0 : ¬ t.val % 8 = 0) :
    (outsAt0 m c t.val t.isLt).2 = (outsAt0 m c (t.val - 1) (Nat.lt_of_le_of_lt (Nat.sub_le _ _) t.isLt)).2 := by
  rw [outsAt0_B m c t h0]
  rfl

end Cert.Kernel7Ideal.Pt

end
-- ==== Proof.Attn.Out.lean ====
/- The output block of a point of the attention kernel, of its blocks and the carried keys and values. -/
module

public import proofs.«01_k».proof.Proof.Attn.Point

@[expose] public section

set_option maxRecDepth 16384

noncomputable section

namespace Cert.Kernel7Ideal.Pt

open Idealize.ShloMosaic Idealize.ShloMosaic.TcCoe Idealize.SL.Sem
open Cert.Kernel7Ideal Cert.Kernel7Ideal.Gen
open Attn

theorem coord : ∀ t : Fin cfg0.N, (grid0.coords t 0).val = t.val / 8 ∧ (grid0.coords t 1).val = t.val % 8 :=
  (by decide +kernel : ∀ t : Fin grid0.N, _)

/-- The window's rows of the scratch. -/
def win (t : Fin cfg0.N) (K : FVec Ideal S2560x512 .bf16) (u : Fin 768) (c : Fin 512) : EReal :=
  K (ix2 ⟨256 * (t.val % 8) + u.val, by omega⟩ c)

/-- The window, as the kernel loads it. -/
abbrev kW (t : Fin cfg0.N) (K : FVec Ideal S2560x512 .bf16) (hb : ∀ a, k0_off1 (grid0.coords t) a + S768x512.size a ≤ S2560x512.size a) : FVec Ideal S768x512 .bf16 :=
  View.ld (Val := Elt Ideal) (S := S2560x512) (e' := .bf16) K (Rect.unit (s := S2560x512) (k0_off1 (grid0.coords t)) S768x512.size hb)

theorem win_at (t : Fin cfg0.N) (K : FVec Ideal S2560x512 .bf16) (hb) (u : Fin 768) (c : Fin 512) :
    kW t K hb (ix2 u c) = win t K u c := by
  unfold win
  refine congrArg K (funext fun a => Fin.ext ?_)
  have e := k0_off1_eq (grid0.coords t)
  have e2 := (coord t).2
  fin_cases a
  · show k0_off1 (grid0.coords t) 0 + 1 * u.val = 256 * (t.val % 8) + u.val
    rw [e]
    show 256 * (grid0.coords t 1).val + 1 * u.val = _
    rw [e2]
    omega
  · show k0_off1 (grid0.coords t) 1 + 1 * c.val = c.val
    rw [e]
    show 0 + 1 * c.val = c.val
    omega

section
variable (t : Fin cfg0.N) (x0 : FVec Ideal S1x256x512 .f32) (g : FVec Ideal S1x512 .f32) (K V : FVec Ideal S2560x512 .bf16) (b : FVec Ideal S8x256x768 .f32)

/-- The output block's entries, of the point's blocks and the scratch. -/
def tile (r : Fin 256) (h : Fin 8) (d : Fin 64) : EReal :=
  cell (fun r c => normT meanM x0 g (ix2 r c) * Ideal.ofBits .f32 0x3E000000#32) (win t K) (win t V) (valid (BitVec.ofNat 32 (grid0.coords t 1).val)) (fun h r u => b (ix3 h r u)) r h d

/-- The queries, normalized and scaled. -/
abbrev qT : FVec Ideal S256x512 .f32 := k0_pay43 k0_pay36 k0_pay37 k0_pay38 k0_pay39 k0_pay40 x0 g

theorem qT_at (r : Fin 256) (c : Fin 512) : qT x0 g (ix2 r c) = normT meanM x0 g (ix2 r c) * Ideal.ofBits .f32 0x3E000000#32 := by
  refine (congrFun (query x0 g) _).trans ?_
  rfl

/-- One head's biases, as the kernel loads them. -/
abbrev bias (n : ℕ) (hb : ∀ a, ![n, 0, 0] a + S1x256x768.size a ≤ S8x256x768.size a) : FVec Ideal S1x256x768 .f32 :=
  View.ld (Val := Elt Ideal) (S := S8x256x768) (e' := .f32) b (Rect.unit (s := S8x256x768) ![n, 0, 0] S1x256x768.size hb)

theorem bias_at (n : ℕ) (hb) (hn : n < 8) (r : Fin 256) (u : Fin 768) : bias b n hb (ix3 0 r u) = b (ix3 ⟨n, hn⟩ r u) := by
  refine congrArg b (funext fun a => Fin.ext ?_)
  fin_cases a
  · rfl
  · show 0 + 1 * r.val = r.val
    omega
  · show 0 + 1 * u.val = u.val
    omega

/-- A group's lanes. -/
theorem slice_at {n : ℕ} {e : FTy} (o : ℕ) (ho : o + 128 ≤ 512) (q : FVec Ideal ⟨2, ![n, 512]⟩ e) (hs) (r : Fin n) (j : Fin 128) (y : EReal)
    (hy : q (ix2 r ⟨o + j.val, by omega⟩) = y) :
    extractStridedSlice ⟨2, ![n, 128]⟩ ![0, o] q hs (ix2 r j) = y := by
  subst hy
  refine congrArg q (funext fun a => Fin.ext ?_)
  fin_cases a
  · show 0 + r.val = r.val
    omega
  · rfl

variable (hb : ∀ a, k0_off1 (grid0.coords t) a + S768x512.size a ≤ S2560x512.size a) (hb' : ∀ a, k0_off1 (grid0.coords t) a + S768x512.size a ≤ S2560x512.size a)
  (x : S1x256x128.Idx) (r : Fin 256) (h : Fin 8) (d : Fin 64) (h1 : r.val = (x 1).val)
include h1

theorem piece0 (h2 : h.val * 64 + d.val = 0 + (x 2).val) (i0) (i1) :
    k0_pay54 (kW t V hb') laneM (k0_pay52 (kW t K hb) (kW t V hb') (valid (BitVec.ofNat 32 (grid0.coords t 1).val)) laneM k0_pay49 k0_pay50 (k0_pay51 (qT x0 g)) (bias b 0 i0))
      (k0_pay53 (qT x0 g) (kW t K hb) (valid (BitVec.ofNat 32 (grid0.coords t 1).val)) laneM (bias b 1 i1)) x = tile t x0 g K V b r h d := by
  refine (congrFun (pair0 _ _ _ _ _ _) x).trans ?_
  refine group_at 0 _ _ _ _ _ _ _ _ _ _ (fun r j => ?_) (fun u j => ?_) (fun u j => ?_) (fun r u => bias_at b 0 _ (by decide) r u) (fun r u => bias_at b 1 _ (by decide) r u) x r h d h1 h2
  · exact slice_at 0 (by decide) (qT x0 g) _ r j _ (qT_at x0 g r _)
  · exact slice_at 0 (by decide) (kW t K hb) _ u j _ (win_at t K hb u _)
  · exact slice_at 0 (by decide) (kW t V hb') _ u j _ (win_at t V hb' u _)

theorem piece1 (h2 : h.val * 64 + d.val = 128 + (x 2).val) (i0) (i1) :
    k0_pay59 (qT x0 g) (kW t K hb) (kW t V hb') (valid (BitVec.ofNat 32 (grid0.coords t 1).val)) laneM k0_pay55 (k0_pay56 laneM) (k0_pay57 (kW t V hb')) (k0_pay58 (qT x0 g) (kW t K hb) (valid (BitVec.ofNat 32 (grid0.coords t 1).val)) laneM (bias b 2 i0)) (bias b 3 i1) x = tile t x0 g K V b r h d := by
  refine (congrFun (pair1 _ _ _ _ _ _) x).trans ?_
  refine group_at 1 _ _ _ _ _ _ _ _ _ _ (fun r j => ?_) (fun u j => ?_) (fun u j => ?_) (fun r u => bias_at b 2 _ (by decide) r u) (fun r u => bias_at b 3 _ (by decide) r u) x r h d h1 h2
  · exact slice_at 128 (by decide) (qT x0 g) _ r j _ (qT_at x0 g r _)
  · exact slice_at 128 (by decide) (kW t K hb) _ u j _ (win_at t K hb u _)
  · exact slice_at 128 (by decide) (kW t V hb') _ u j _ (win_at t V hb' u _)

theorem piece2 (h2 : h.val * 64 + d.val = 256 + (x 2).val) (i0) (i1) :
    k0_pay66 (kW t V hb') laneM (k0_pay63 (kW t V hb') (valid (BitVec.ofNat 32 (grid0.coords t 1).val)) laneM k0_pay60 (k0_pay61 (qT x0 g) laneM) (k0_pay62 (kW t K hb)) (bias b 4 i0)) (k0_pay64 (qT x0 g) (kW t K hb) (valid (BitVec.ofNat 32 (grid0.coords t 1).val)) laneM (bias b 5 i1)) (k0_pay65 (qT x0 g) (kW t K hb) (valid (BitVec.ofNat 32 (grid0.coords t 1).val)) laneM (bias b 5 i1)) x = tile t x0 g K V b r h d := by
  refine (congrFun (pair2 _ _ _ _ _ _) x).trans ?_
  refine group_at 2 _ _ _ _ _ _ _ _ _ _ (fun r j => ?_) (fun u j => ?_) (fun u j => ?_) (fun r u => bias_at b 4 _ (by decide) r u) (fun r u => bias_at b 5 _ (by decide) r u) x r h d h1 h2
  · exact slice_at 256 (by decide) (qT x0 g) _ r j _ (qT_at x0 g r _)
  · exact slice_at 256 (by decide) (kW t K hb) _ u j _ (win_at t K hb u _)
  · exact slice_at 256 (by decide) (kW t V hb') _ u j _ (win_at t V hb' u _)

theorem piece3 (h2 : h.val * 64 + d.val = 384 + (x 2).val) (i0) (i1) :
    k0_pay1 (qT x0 g) (kW t K hb) (kW t V hb') (valid (BitVec.ofNat 32 (grid0.coords t 1).val)) laneM (k0_pay67 (qT x0 g) (kW t K hb) (kW t V hb') (valid (BitVec.ofNat 32 (grid0.coords t 1).val)) laneM (bias b 6 i0)) 1#32 (bias b 7 i1) x = tile t x0 g K V b r h d := by
  refine (congrFun (pair3 _ _ _ _ _ _) x).trans ?_
  refine group_at 3 _ _ _ _ _ _ _ _ _ _ (fun r j => ?_) (fun u j => ?_) (fun u j => ?_) (fun r u => bias_at b 6 _ (by decide) r u) (fun r u => bias_at b 7 _ (by decide) r u) x r h d h1 h2
  · exact slice_at 384 (by decide) (qT x0 g) _ r j _ (qT_at x0 g r _)
  · exact slice_at 384 (by decide) (kW t K hb) _ u j _ (win_at t K hb u _)
  · exact slice_at 384 (by decide) (kW t V hb') _ u j _ (win_at t V hb' u _)

end

variable (m : (ℓ : Loc nD τ sig) → Buf (Elt Ideal) ℓ) (c : Dev nD)

/-- A later point's output block. -/
theorem oB (t : Fin cfg0.N) (h0 : ¬ t.val % 8 = 0) (r : Fin 256) (h : Fin 8) (d : Fin 64) :
    (outsAt0 m c t.val t.isLt).1 (ix3 0 r (lane h d))
      = tile t (iblk m c 0 t) (iblk m c 3 t) (outsAt0 m c t.val t.isLt).2.1 (outsAt0 m c t.val t.isLt).2.2 (iblk m c 5 t) r h d := by
  rw [scrB m c t h0, outsAt0_B m c t h0]
  frame_out
  simp only [read_unread_whole]
  canon_tiles x hx
  · exact piece3 t _ _ _ _ _ _ _ x r h d hx1 hx2 _ _
  · exact piece2 t _ _ _ _ _ _ _ x r h d hx1 hx2 _ _
  · exact piece1 t _ _ _ _ _ _ _ x r h d hx1 hx2 _ _
  · exact piece0 t _ _ _ _ _ _ _ x r h d hx1 (hx2.trans (Nat.zero_add _).symm) _ _

/-- The first point's output block. -/
theorem oA (t : Fin cfg0.N) (h0 : t.val % 8 = 0) (r : Fin 256) (h : Fin 8) (d : Fin 64) :
    (outsAt0 m c t.val t.isLt).1 (ix3 0 r (lane h d))
      = tile t (iblk m c 0 t) (iblk m c 3 t) (outsAt0 m c t.val t.isLt).2.1 (outsAt0 m c t.val t.isLt).2.2 (iblk m c 5 t) r h d := by
  rw [scrA m c t h0, outsAt0_A m c t h0]
  frame_out
  generalize hK : keysA (iblk m c 1 t) (iblk m c 4 t) = KS
  generalize hV : valsA (iblk m c 2 t) = VS
  unfold keysA at hK
  unfold valsA at hV
  simp only [hK, hV, read_unread_whole]
  canon_tiles x hx
  · exact piece3 t _ _ _ _ _ _ _ x r h d hx1 hx2 _ _
  · exact piece2 t _ _ _ _ _ _ _ x r h d hx1 hx2 _ _
  · exact piece1 t _ _ _ _ _ _ _ x r h d hx1 hx2 _ _
  · exact piece0 t _ _ _ _ _ _ _ x r h d hx1 (hx2.trans (Nat.zero_add _).symm) _ _

theorem o_at (t : Fin cfg0.N) (r : Fin 256) (h : Fin 8) (d : Fin 64) :
    (outsAt0 m c t.val t.isLt).1 (ix3 0 r (lane h d))
      = tile t (iblk m c 0 t) (iblk m c 3 t) (outsAt0 m c t.val t.isLt).2.1 (outsAt0 m c t.val t.isLt).2.2 (iblk m c 5 t) r h d := by
  by_cases h0 : t.val % 8 = 0
  · exact oA m c t h0 r h d
  · exact oB m c t h0 r h d

end Cert.Kernel7Ideal.Pt

end
-- ==== Proof.Attn.Keys.lean ====
/- What the carried keys and values hold: 512 rows of zeros, then the sequence's keys normalized and its values. -/
module

public import proofs.«01_k».proof.Proof.Attn.Out

@[expose] public section

set_option maxRecDepth 16384

noncomputable section

namespace Cert.Kernel7Ideal.Pt

open Idealize.ShloMosaic Idealize.ShloMosaic.TcCoe Idealize.SL.Sem
open Cert.Kernel7Ideal Cert.Kernel7Ideal.Gen
open Attn

theorem keyT_at (x : FVec Ideal S1x256x512 .f32) (g : FVec Ideal S1x512 .f32) (r : Fin 256) (c : Fin 512) :
    keyT x g (ix2 r c) = normT meanM x g (ix2 r c) := by
  unfold keyT
  generalize normT meanM x g = n
  pointwise []

theorem valT_at (x : FVec Ideal S1x256x512 .f32) (r : Fin 256) (c : Fin 512) : valT x (ix2 r c) = x (ix3 0 r c) := by
  unfold valT
  pointwise []

/-- 256 rows of a sequence. -/
abbrev rows (x : FVec Ideal S1x2048x512 .f32) (o : ℕ) (hb : ∀ a, ![0, o, 0] a + S1x256x512.size a ≤ S1x2048x512.size a) : FVec Ideal S1x256x512 .f32 :=
  View.ld (Val := Elt Ideal) (S := S1x2048x512) (e' := .f32) x (Rect.unit (s := S1x2048x512) ![0, o, 0] S1x256x512.size hb)

theorem rows_at (x : FVec Ideal S1x2048x512 .f32) (o : ℕ) (hb) (r : Fin 256) (c : Fin 512) (s : Fin 2048) (hs : s.val = o + r.val) :
    rows x o hb (ix3 0 r c) = x (ix3 0 s c) := by
  refine congrArg x (funext fun a => Fin.ext ?_)
  fin_cases a
  · rfl
  · show o + 1 * r.val = s.val
    omega
  · show 0 + 1 * c.val = c.val
    omega

theorem keyRow (x : FVec Ideal S1x2048x512 .f32) (g : FVec Ideal S1x512 .f32) (hx : ∀ s c, Fin' (x (ix3 0 s c))) (o : ℕ) (hb) (y : S256x512.Idx) (s : Fin 2048) (h : Fin 8) (d : Fin 64)
    (h0 : s.val = o + (y 0).val) (h1 : (lane h d).val = (y 1).val) :
    keyT (rows x o hb) g y = nrm (fun k => x (ix3 0 s (lane h k))) (fun k => g (ix2 0 (lane h k))) d := by
  obtain ⟨r, hr⟩ : ∃ r : Fin 256, r.val = (y 0).val := ⟨⟨(y 0).val, (y 0).isLt⟩, rfl⟩
  have hy : y = ix2 r (lane h d) := by
    funext a
    refine Fin.ext ?_
    fin_cases a
    · exact hr.symm
    · exact h1.symm
  rw [hy, keyT_at]
  have e : ∀ c, rows x o hb (ix3 0 r c) = x (ix3 0 s c) := fun c => rows_at x o hb r c s (by omega)
  rw [norm_at _ _ _ (fun c => by rw [e]; exact hx s c)]
  simp only [e]

theorem valRow (x : FVec Ideal S1x2048x512 .f32) (o : ℕ) (hb) (y : S256x512.Idx) (s : Fin 2048) (c : Fin 512)
    (h0 : s.val = o + (y 0).val) (h1 : c.val = (y 1).val) : valT (rows x o hb) y = x (ix3 0 s c) := by
  obtain ⟨r, hr⟩ : ∃ r : Fin 256, r.val = (y 0).val := ⟨⟨(y 0).val, (y 0).isLt⟩, rfl⟩
  have hy : y = ix2 r c := by
    funext a
    refine Fin.ext ?_
    fin_cases a
    · exact hr.symm
    · exact h1.symm
  rw [hy, valT_at]
  exact rows_at x o hb r c s (by omega)

/-- A row lies in the piece of its 256 rows. -/
theorem rowIn (o n : ℕ) (inb : ∀ a, ![o, 0] a + ![n, 512] a ≤ S2560x512.size a) (p : Fin 2560) (c : Fin 512) (h : o ≤ p.val) (h' : p.val < o + n) :
    (ix2 p c : S2560x512.Idx) ∈ (Rect.unit (s := S2560x512) ![o, 0] ![n, 512] inb).set := by
  refine Rect.mem_set_unit.mpr fun a => ?_
  fin_cases a
  · exact ⟨h, h'⟩
  · exact ⟨Nat.zero_le _, lt_of_lt_of_eq c.isLt (Nat.zero_add _).symm⟩

theorem rowCover (L : List (View.Piece (Elt Ideal) S2560x512 .bf16)) (p : Fin 2560) (c : Fin 512)
    (hL : ∃ p0 p1 p2 p3 p4 p5 p6 p7 p8, L = [⟨Rect.unit (s := S2560x512) ![2304, 0] S256x512.size inb_S2560x512_S256x512_2304_0, p0⟩, ⟨Rect.unit (s := S2560x512) ![2048, 0] S256x512.size inb_S2560x512_S256x512_2048_0, p1⟩, ⟨Rect.unit (s := S2560x512) ![1792, 0] S256x512.size inb_S2560x512_S256x512_1792_0, p2⟩, ⟨Rect.unit (s := S2560x512) ![1536, 0] S256x512.size inb_S2560x512_S256x512_1536_0, p3⟩, ⟨Rect.unit (s := S2560x512) ![1280, 0] S256x512.size inb_S2560x512_S256x512_1280_0, p4⟩, ⟨Rect.unit (s := S2560x512) ![1024, 0] S256x512.size inb_S2560x512_S256x512_1024_0, p5⟩, ⟨Rect.unit (s := S2560x512) ![768, 0] S256x512.size inb_S2560x512_S256x512_768_0, p6⟩, ⟨Rect.unit (s := S2560x512) ![512, 0] S256x512.size inb_S2560x512_S256x512_512_0, p7⟩,
      ⟨Rect.unit (s := S2560x512) ![0, 0] S512x512.size inb_S2560x512_S512x512_0_0, p8⟩]) : ∃ q ∈ L, (ix2 p c : S2560x512.Idx) ∈ q.fst.set := by
  obtain ⟨p0, p1, p2, p3, p4, p5, p6, p7, p8, rfl⟩ := hL
  have hp := p.isLt
  by_cases h0 : 2304 ≤ p.val
  · exact ⟨_, List.Mem.head _, rowIn 2304 256 inb_S2560x512_S256x512_2304_0 p c h0 (by omega)⟩
  by_cases h1 : 2048 ≤ p.val
  · exact ⟨_, List.Mem.tail _ (List.Mem.head _), rowIn 2048 256 inb_S2560x512_S256x512_2048_0 p c h1 (by omega)⟩
  by_cases h2 : 1792 ≤ p.val
  · exact ⟨_, List.Mem.tail _ (List.Mem.tail _ (List.Mem.head _)), rowIn 1792 256 inb_S2560x512_S256x512_1792_0 p c h2 (by omega)⟩
  by_cases h3 : 1536 ≤ p.val
  · exact ⟨_, List.Mem.tail _ (List.Mem.tail _ (List.Mem.tail _ (List.Mem.head _))), rowIn 1536 256 inb_S2560x512_S256x512_1536_0 p c h3 (by omega)⟩
  by_cases h4 : 1280 ≤ p.val
  · exact ⟨_, List.Mem.tail _ (List.Mem.tail _ (List.Mem.tail _ (List.Mem.tail _ (List.Mem.head _)))), rowIn 1280 256 inb_S2560x512_S256x512_1280_0 p c h4 (by omega)⟩
  by_cases h5 : 1024 ≤ p.val
  · exact ⟨_, List.Mem.tail _ (List.Mem.tail _ (List.Mem.tail _ (List.Mem.tail _ (List.Mem.tail _ (List.Mem.head _))))), rowIn 1024 256 inb_S2560x512_S256x512_1024_0 p c h5 (by omega)⟩
  by_cases h6 : 768 ≤ p.val
  · exact ⟨_, List.Mem.tail _ (List.Mem.tail _ (List.Mem.tail _ (List.Mem.tail _ (List.Mem.tail _ (List.Mem.tail _ (List.Mem.head _)))))), rowIn 768 256 inb_S2560x512_S256x512_768_0 p c h6 (by omega)⟩
  by_cases h7 : 512 ≤ p.val
  · exact ⟨_, List.Mem.tail _ (List.Mem.tail _ (List.Mem.tail _ (List.Mem.tail _ (List.Mem.tail _ (List.Mem.tail _ (List.Mem.tail _ (List.Mem.head _))))))), rowIn 512 256 inb_S2560x512_S256x512_512_0 p c h7 (by omega)⟩
  exact ⟨_, List.Mem.tail _ (List.Mem.tail _ (List.Mem.tail _ (List.Mem.tail _ (List.Mem.tail _ (List.Mem.tail _ (List.Mem.tail _ (List.Mem.tail _ (List.Mem.head _)))))))), rowIn 0 512 inb_S2560x512_S512x512_0_0 p c (by omega) (by omega)⟩

theorem keysA_at (x : FVec Ideal S1x2048x512 .f32) (g : FVec Ideal S1x512 .f32) (hx : ∀ s c, Fin' (x (ix3 0 s c))) (s : Fin 2048) (h : Fin 8) (d : Fin 64)
    (p : Fin 2560) (hp : p.val = 512 + s.val) :
    keysA x g (ix2 p (lane h d)) = nrm (fun k => x (ix3 0 s (lane h k))) (fun k => g (ix2 0 (lane h k))) d := by
  have hs := s.isLt
  unfold keysA
  canon_tiles y hy using (rowCover _ p (lane h d) ⟨_, _, _, _, _, _, _, _, _, rfl⟩)
  · refine (congrFun (key7 _ _) y).trans (keyRow x g hx 1792 _ y s h d ?_ hy1)
    have e : p.val = 2304 + (y 0).val := hy0
    omega
  · refine (congrFun (key6 _ _) y).trans (keyRow x g hx 1536 _ y s h d ?_ hy1)
    have e : p.val = 2048 + (y 0).val := hy0
    omega
  · refine (congrFun (key5 _ _) y).trans (keyRow x g hx 1280 _ y s h d ?_ hy1)
    have e : p.val = 1792 + (y 0).val := hy0
    omega
  · refine (congrFun (key4 _ _) y).trans (keyRow x g hx 1024 _ y s h d ?_ hy1)
    have e : p.val = 1536 + (y 0).val := hy0
    omega
  · refine (congrFun (key3 _ _) y).trans (keyRow x g hx 768 _ y s h d ?_ hy1)
    have e : p.val = 1280 + (y 0).val := hy0
    omega
  · refine (congrFun (key2 _ _) y).trans (keyRow x g hx 512 _ y s h d ?_ hy1)
    have e : p.val = 1024 + (y 0).val := hy0
    omega
  · refine (congrFun (key1 _ _) y).trans (keyRow x g hx 256 _ y s h d ?_ hy1)
    have e : p.val = 768 + (y 0).val := hy0
    omega
  · refine (congrFun (key0 _ _) y).trans (keyRow x g hx 0 _ y s h d ?_ hy1)
    have e : p.val = 512 + (y 0).val := hy0
    omega
  · exfalso
    have e : p.val = (y 0).val := hy0
    omega

theorem valsA_at (x : FVec Ideal S1x2048x512 .f32) (s : Fin 2048) (c : Fin 512) (p : Fin 2560) (hp : p.val = 512 + s.val) :
    valsA x (ix2 p c) = x (ix3 0 s c) := by
  have hs := s.isLt
  unfold valsA
  canon_tiles y hy using (rowCover _ p c ⟨_, _, _, _, _, _, _, _, _, rfl⟩)
  · refine (congrFun (val7 _) y).trans (valRow x 1792 _ y s c ?_ hy1)
    have e : p.val = 2304 + (y 0).val := hy0
    omega
  · refine (congrFun (val6 _) y).trans (valRow x 1536 _ y s c ?_ hy1)
    have e : p.val = 2048 + (y 0).val := hy0
    omega
  · refine (congrFun (val5 _) y).trans (valRow x 1280 _ y s c ?_ hy1)
    have e : p.val = 1792 + (y 0).val := hy0
    omega
  · refine (congrFun (val4 _) y).trans (valRow x 1024 _ y s c ?_ hy1)
    have e : p.val = 1536 + (y 0).val := hy0
    omega
  · refine (congrFun (val3 _) y).trans (valRow x 768 _ y s c ?_ hy1)
    have e : p.val = 1280 + (y 0).val := hy0
    omega
  · refine (congrFun (val2 _) y).trans (valRow x 512 _ y s c ?_ hy1)
    have e : p.val = 1024 + (y 0).val := hy0
    omega
  · refine (congrFun (val1 _) y).trans (valRow x 256 _ y s c ?_ hy1)
    have e : p.val = 768 + (y 0).val := hy0
    omega
  · refine (congrFun (val0 _) y).trans (valRow x 0 _ y s c ?_ hy1)
    have e : p.val = 512 + (y 0).val := hy0
    omega
  · exfalso
    have e : p.val = (y 0).val := hy0
    omega

end Cert.Kernel7Ideal.Pt

end
-- ==== Proof.Attn.Whole.lean ====
/- The attention over the whole sequence, token by token, and the window of it that a tile of queries can see. -/
module

public import proofs.«01_k».proof.Proof.Attn.Spec
public import Idealize.ShloMosaic.Lib.ValueIdx
public import Idealize.ShloMosaic.PureOps

@[expose] public section

set_option maxRecDepth 16384

noncomputable section

namespace Attn

open Idealize.ShloMosaic

theorem maxsi_comm (x y : BitVec 32) : IntOp.maxsi x y = IntOp.maxsi y x := by
  unfold IntOp.maxsi
  simp only [BitVec.slt_eq_decide, decide_eq_true_eq]
  split_ifs with h1 h2 h2
  · omega
  · rfl
  · rfl
  · exact BitVec.eq_of_toInt_eq (by omega)

theorem minsi_comm (x y : BitVec 32) : IntOp.minsi x y = IntOp.minsi y x := by
  unfold IntOp.minsi
  simp only [BitVec.slt_eq_decide, decide_eq_true_eq]
  split_ifs with h1 h2 h2
  · omega
  · rfl
  · rfl
  · exact BitVec.eq_of_toInt_eq (by omega)

/-- The column of the biases for a distance, as a word: the distance clipped and moved up, wrapped if negative. -/
def relW (x : BitVec 32) : BitVec 32 :=
  have y := IntOp.addi (IntOp.minsi (IntOp.maxsi x 4294967168#32) 128#32) 128#32
  Scalar.select (IntOp.cmpi .slt y 0#32) (IntOp.addi y 257#32) y

/-- The column of the biases for a distance. -/
def rel (x : BitVec 32) : Fin 257 := ⟨min (relW x).toInt.toNat 256, by omega⟩

/-- The distance of a key from a query inside the window is their distance in the sequence. -/
theorem dist_eq (i : Fin 8) (r : Fin 256) (w : Fin 768) (s t : Fin 2048) (hs : s.val + 512 = 256 * i.val + w.val) (ht : t.val = 256 * i.val + r.val) :
    BitVec.ofNat 32 w.val - 512#32 - BitVec.ofNat 32 r.val = BitVec.ofNat 32 s.val - BitVec.ofNat 32 t.val := by
  apply BitVec.eq_of_toNat_eq
  simp only [BitVec.toNat_sub, BitVec.toNat_ofNat]
  omega

/-- Whether a query sees a key: the key's chunk is the query's or one of the eight before it. -/
def sees (t s : Fin 2048) : Prop := s.val / 64 ≤ t.val / 64 ∧ t.val / 64 ≤ s.val / 64 + 8

instance (t s : Fin 2048) : Decidable (sees t s) := inferInstanceAs (Decidable (_ ∧ _))

/-- The softmax over a tile's window is the softmax over the sequence: what the window leaves out is masked, and so is what it has
    before the sequence. -/
theorem window (i : Fin 8) (r : Fin 256) (t : Fin 2048) (ht : t.val = 256 * i.val + r.val) (F : Fin 2048 → EReal) (hF : ∀ s, Fin' (F s))
    (T : Fin 768 → EReal) (V : Fin 2560 → EReal)
    (hT : ∀ (w : Fin 768) (s : Fin 2048), s.val + 512 = 256 * i.val + w.val → T w = if sees t s then F s else ⊥)
    (hT' : ∀ w : Fin 768, 256 * i.val + w.val < 512 → T w = ⊥) :
    soft T (fun w => V ⟨256 * i.val + w.val, by omega⟩) = soft (fun s : Fin 2048 => if sees t s then F s else ⊥) (fun s => V ⟨512 + s.val, by omega⟩) := by
  have hr := r.isLt
  let P : Fin 2560 → EReal := fun p => if h : 512 ≤ p.val then (if sees t ⟨p.val - 512, by omega⟩ then F ⟨p.val - 512, by omega⟩ else ⊥) else ⊥
  have hne : ∀ p, P p ≠ ⊤ := fun p => by
    show (dite _ _ _) ≠ ⊤
    split_ifs
    · exact (hF _).ne_top
    · exact bot_ne_top
    · exact bot_ne_top
  have hself : ∃ p, P p ≠ ⊥ := by
    refine ⟨⟨512 + t.val, by omega⟩, ?_⟩
    show (dite _ _ _) ≠ ⊥
    rw [dif_pos (show 512 ≤ 512 + t.val by omega), if_pos (by unfold sees; show (512 + t.val - 512) / 64 ≤ _ ∧ _ ≤ (512 + t.val - 512) / 64 + 8; omega)]
    exact (hF _).ne_bot
  have h1 := soft_window (fun w : Fin 768 => (⟨256 * i.val + w.val, by omega⟩ : Fin 2560))
    (fun a b e => Fin.ext (by have := congrArg Fin.val e; simp only at this; omega)) P V (fun p hp => by
      show (dite _ _ _) = ⊥
      split_ifs with h2 h3
      · exfalso
        unfold sees at h3
        simp only at h3
        refine hp ⟨⟨p.val - 256 * i.val, by omega⟩, Fin.ext ?_⟩
        show 256 * i.val + (p.val - 256 * i.val) = p.val
        omega
      · rfl
      · rfl) hself hne
  have h2 := soft_window (fun s : Fin 2048 => (⟨512 + s.val, by omega⟩ : Fin 2560))
    (fun a b e => Fin.ext (by have := congrArg Fin.val e; simp only at this; omega)) P V (fun p hp => by
      show (dite _ _ _) = ⊥
      rw [dif_neg]
      intro h3
      refine hp ⟨⟨p.val - 512, by omega⟩, Fin.ext ?_⟩
      show 512 + (p.val - 512) = p.val
      omega) hself hne
  have e1 : T = fun w : Fin 768 => P ⟨256 * i.val + w.val, by omega⟩ := funext fun w => by
    show _ = dite _ _ _
    split_ifs with h3 h4
    · rw [hT w ⟨256 * i.val + w.val - 512, by omega⟩ (by show 256 * i.val + w.val - 512 + 512 = _; simp only at h3; omega), if_pos h4]
    · rw [hT w ⟨256 * i.val + w.val - 512, by omega⟩ (by show 256 * i.val + w.val - 512 + 512 = _; simp only at h3; omega), if_neg h4]
    · exact hT' w (by simp only at h3; omega)
  have e2 : (fun s : Fin 2048 => if sees t s then F s else ⊥) = fun s : Fin 2048 => P ⟨512 + s.val, by omega⟩ := funext fun s => by
    show _ = dite _ _ _
    have e3 : (⟨512 + s.val - 512, by omega⟩ : Fin 2048) = s := Fin.ext (by show 512 + s.val - 512 = s.val; omega)
    rw [dif_pos (show 512 ≤ 512 + s.val by omega), e3]
  rw [e1, e2, h1, h2]

/-- The score of a key for a query: their product, scaled, and the bias of their distance. -/
def score (Z : (⟨3, ![8, 2048, 1536]⟩ : Shape).Idx → EReal) (G H : (⟨1, ![64]⟩ : Shape).Idx → EReal) (E : (⟨2, ![8, 257]⟩ : Shape).Idx → EReal)
    (b h : Fin 8) (t s : Fin 2048) : EReal :=
  (∑ e, nrm (fun k => Z (ix3 b t ⟨h.val * 64 + k.val, by omega⟩)) (fun k => G (ix1 k)) e
      * nrm (fun k => Z (ix3 b s ⟨512 + (h.val * 64 + k.val), by omega⟩)) (fun k => H (ix1 k)) e) * Ideal.ofBits .f32 0x3E000000#32
    + E (ix2 h (rel (BitVec.ofNat 32 s.val - BitVec.ofNat 32 t.val)))

/-- The attention's result for a query, a head and a feature. -/
def res (Z : (⟨3, ![8, 2048, 1536]⟩ : Shape).Idx → EReal) (G H : (⟨1, ![64]⟩ : Shape).Idx → EReal) (E : (⟨2, ![8, 257]⟩ : Shape).Idx → EReal)
    (b : Fin 8) (t : Fin 2048) (h : Fin 8) (d : Fin 64) : EReal :=
  soft (fun s : Fin 2048 => if sees t s then score Z G H E b h t s else ⊥) (fun s => Z (ix3 b s ⟨1024 + (h.val * 64 + d.val), by omega⟩))

/-- The dimension numbers of the take of one bias per pair of a query and a key. -/
abbrev biasDims (R W : Nat) (wf : GatherDims.WF ⟨2, ![8, 257]⟩ ⟨3, ![R, W, 1]⟩ ⟨3, ![8, R, W]⟩ [0] [1] [] [1] [] 2 ![8, 1]) :
    GatherDims ⟨2, ![8, 257]⟩ ⟨3, ![R, W, 1]⟩ ⟨3, ![8, R, W]⟩ where
  offsetDims := [0]
  collapsedSliceDims := [1]
  operandBatchingDims := []
  startIndicesBatchingDims := []
  startIndexMap := [1]
  indexVectorDim := 2
  sliceSizes := ![8, 1]
  wf := wf

/-- The take of the biases, read at an index. -/
theorem bias_apply {R W : Nat} (wf : GatherDims.WF ⟨2, ![8, 257]⟩ ⟨3, ![R, W, 1]⟩ ⟨3, ![8, R, W]⟩ [0] [1] [] [1] [] 2 ![8, 1])
    (x : (⟨2, ![8, 257]⟩ : Shape).Idx → EReal) (idx : IVec ⟨3, ![R, W, 1]⟩ 32) (h : Fin 8) (r : Fin R) (u : Fin W) :
    Host.gather (biasDims R W wf) x idx (ix3 h r u) = x (ix2 h ⟨min (idx (ix3 r u (0 : Fin 1))).toInt.toNat 256, by omega⟩) := by
  unfold Host.gather
  congr 1
  funext a
  refine Fin.ext ?_
  have hb : ∀ a, (biasDims R W wf).batchCoord (ix3 h r u) a = 0 := fun a =>
    GatherDims.batchCoord_eq_zero _ _ _ List.not_mem_nil
  match a with
  | ⟨0, _⟩ =>
    show (biasDims R W wf).start (ix3 h r u) idx 0 + (biasDims R W wf).batchCoord (ix3 h r u) 0 + (biasDims R W wf).offCoord (ix3 h r u) 0 = h.val
    rw [hb]
    unfold GatherDims.start
    rw [dif_neg (show (0 : Fin 2) ∉ (biasDims R W wf).startIndexMap from by simp)]
    unfold GatherDims.offCoord
    rw [dif_pos (((biasDims R W wf).mem_sKept 0).2 ⟨by simp, List.not_mem_nil⟩)]
    simp only [Nat.zero_add]
    rfl
  | ⟨1, _⟩ =>
    show (biasDims R W wf).start (ix3 h r u) idx 1 + (biasDims R W wf).batchCoord (ix3 h r u) 1 + (biasDims R W wf).offCoord (ix3 h r u) 1 = _
    rw [hb, GatherDims.offCoord_eq_zero _ _ _ (fun h => ((GatherDims.mem_sKept _ _).mp h).1 (List.mem_singleton.mpr rfl))]
    simp only [Nat.add_zero]
    unfold GatherDims.start
    rw [dif_pos (show (1 : Fin 2) ∈ (biasDims R W wf).startIndexMap from List.mem_singleton.mpr rfl)]
    have hsi : (biasDims R W wf).siIdx (ix3 h r u) ⟨List.idxOf (1 : Fin 2) (biasDims R W wf).startIndexMap,
        List.idxOf_lt_length_iff.2 (List.mem_singleton.mpr rfl)⟩ = ix3 r u (0 : Fin 1) := by
      funext b; refine Fin.ext ?_
      match b with
      | ⟨0, _⟩ => rfl
      | ⟨1, _⟩ => rfl
      | ⟨2, _⟩ => rfl
    rw [hsi]
    rfl

end Attn

end
-- ==== Proof.Attn.Blocks.lean ====
/- The blocks of a point of the attention kernel's grid, entry by entry, out of the arrays it is given. -/
module

public import proofs.«01_k».proof.Proof.Attn.Keys
public import proofs.«01_k».proof.Proof.Attn.Whole

@[expose] public section

set_option maxRecDepth 16384

noncomputable section

namespace Cert.Kernel7Ideal.Pt

open Idealize.ShloMosaic Idealize.ShloMosaic.TcCoe Idealize.SL.Sem
open Cert.Kernel7Ideal Cert.Kernel7Ideal.Gen
open Attn

variable (m : (ℓ : Loc nD τ sig) → Buf (Elt Ideal) ℓ) (c : Dev nD)

/-- The projections. -/
abbrev aZ : FVec Ideal S8x2048x1536 .f32 := m ((c : Thread nD τ).loc main_arg0)
/-- The queries' gains. -/
abbrev aG : FVec Ideal S64 .f32 := m ((c : Thread nD τ).loc main_arg1)
/-- The keys' gains. -/
abbrev aH : FVec Ideal S64 .f32 := m ((c : Thread nD τ).loc main_arg2)
/-- The biases. -/
abbrev aE : FVec Ideal S8x257 .f32 := m ((c : Thread nD τ).loc main_arg3)

theorem idx : ∀ t : Fin cfg0.N, win0_0.index t = ![t.val / 8, t.val % 8, 0] ∧ win0_1.index t = ![t.val / 8, 0, 1] ∧ win0_2.index t = ![t.val / 8, 0, 2] ∧ win0_3.index t = ![0, 0] ∧ win0_4.index t = ![0, 0] ∧ win0_5.index t = ![0, 0, 0] ∧ win0_6.index t = ![t.val / 8, t.val % 8, 0] :=
  (by decide +kernel : ∀ t : Fin grid0.N, _)

/-- The gains, once per head. -/
abbrev gains (g : FVec Ideal S64 .f32) : FVec Ideal S1x512 .f32 :=
  broadcastInDim S1x512 ![1] bcast_S512_S1x512_1 (shapeCast S512 (broadcastInDim S8x64 ![0, 1] bcast_S1x64_S8x64_0_1 (shapeCast S1x64 g shapeCasts_S64_S1x64)) shapeCasts_S8x64_S512)

theorem V_v22 : V m c main_v22 = gains (aG m c) := by
  simp only [V, hostOps0, hostOps0_1, hostOps0_2, List.flatten_cons, List.flatten_nil, List.append_nil, List.cons_append, List.nil_append]
  entry_read
  try rfl

theorem V_v26 : V m c main_v26 = gains (aH m c) := by
  simp only [V, hostOps0, hostOps0_1, hostOps0_2, List.flatten_cons, List.flatten_nil, List.append_nil, List.cons_append, List.nil_append]
  entry_read
  try rfl

theorem gains_at (g : FVec Ideal S64 .f32) (h : Fin 8) (d : Fin 64) : gains g (ix2 0 (lane h d)) = g (ix1 d) := by
  pointwise [lane]

/-- The distances inside a window, as the kernel's host program builds them. -/
abbrev dists : IVec S256x768 32 :=
  subi (broadcastInDim S256x768 ![0, 1] bcast_S1x768_S256x768_0_1 (subi (broadcastInDim S1x768 ![1] bcast_S768_S1x768_1 (iotaInDim S768 32 0)) (broadcastInDim S1x768 ![] bcast_S_S1x768 (constantI S_ 32 512#32))))
    (broadcastInDim S256x768 ![0, 1] bcast_S256x1_S256x768_0_1 (broadcastInDim S256x1 ![0] bcast_S256_S256x1_0 (iotaInDim S256 32 0)))

/-- … clipped and moved up, … -/
abbrev cols : IVec S256x768 32 :=
  addi (minsi (broadcastInDim S256x768 ![] bcast_S_S256x768 (constantI S_ 32 128#32)) (maxsi (broadcastInDim S256x768 ![] bcast_S_S256x768 (constantI S_ 32 4294967168#32)) dists))
    (broadcastInDim S256x768 ![] bcast_S_S256x768 (constantI S_ 32 128#32))

/-- … and wrapped. -/
abbrev wraps : IVec S256x768x1 32 :=
  broadcastInDim S256x768x1 ![0, 1] bcast_S256x768_S256x768x1_0_1
    (select (cmpi .slt cols (broadcastInDim S256x768 ![] bcast_S_S256x768 (constantI S_ 32 0#32))) (addi cols (broadcastInDim S256x768 ![] bcast_S_S256x768 (constantI S_ 32 257#32))) cols)

theorem V_v18 : V m c main_v18 = Host.gather gather_S8x257_S256x768x1_S8x256x768_0_1_n_n_1_2_81 (aE m c) wraps := by
  simp only [V, hostOps0, hostOps0_1, hostOps0_2, List.flatten_cons, List.flatten_nil, List.append_nil, List.cons_append, List.nil_append]
  entry_read
  try rfl

theorem wraps_at (r : Fin 256) (w : Fin 768) : wraps (ix3 r w (0 : Fin 1)) = relW (BitVec.ofNat 32 w.val - 512#32 - BitVec.ofNat 32 r.val) := by
  unfold relW
  rw [minsi_comm, maxsi_comm]
  pointwise []
  try rfl

theorem row_lt (t : Fin cfg0.N) (r : Fin 256) : 256 * (t.val % 8) + r.val < 2048 := by omega
theorem seq_lt (t : Fin cfg0.N) : t.val / 8 < 8 := by have : t.val < 64 := t.isLt; omega

theorem q_at (t : Fin cfg0.N) (r : Fin 256) (k : Fin 512) : iblk m c 0 t (ix3 0 r k) = aZ m c (ix3 ⟨t.val / 8, seq_lt t⟩ ⟨256 * (t.val % 8) + r.val, row_lt t r⟩ ⟨k.val, by omega⟩) := by
  blk_ext [iblk, V, idx t]

theorem k_at (t : Fin cfg0.N) (s : Fin 2048) (k : Fin 512) : iblk m c 1 t (ix3 0 s k) = aZ m c (ix3 ⟨t.val / 8, seq_lt t⟩ s ⟨512 + k.val, by omega⟩) := by
  blk_ext [iblk, V, idx t]

theorem v_at (t : Fin cfg0.N) (s : Fin 2048) (k : Fin 512) : iblk m c 2 t (ix3 0 s k) = aZ m c (ix3 ⟨t.val / 8, seq_lt t⟩ s ⟨1024 + k.val, by omega⟩) := by
  blk_ext [iblk, V, idx t]

theorem g_at (t : Fin cfg0.N) (h : Fin 8) (d : Fin 64) : iblk m c 3 t (ix2 0 (lane h d)) = aG m c (ix1 d) := by
  rw [← gains_at (aG m c) h d, ← V_v22 m c]
  blk_simp [iblk]
  have e : (win0_3.blk t).view.emb (ix2 0 (lane h d)) = ix2 0 (lane h d) := by blk_ext [idx t]
  rw [e]

theorem h_at (t : Fin cfg0.N) (h : Fin 8) (d : Fin 64) : iblk m c 4 t (ix2 0 (lane h d)) = aH m c (ix1 d) := by
  rw [← gains_at (aH m c) h d, ← V_v26 m c]
  blk_simp [iblk]
  have e : (win0_4.blk t).view.emb (ix2 0 (lane h d)) = ix2 0 (lane h d) := by blk_ext [idx t]
  rw [e]

theorem b_at (t : Fin cfg0.N) (h : Fin 8) (r : Fin 256) (w : Fin 768) :
    iblk m c 5 t (ix3 h r w) = aE m c (ix2 h (rel (BitVec.ofNat 32 w.val - 512#32 - BitVec.ofNat 32 r.val))) := by
  blk_simp [iblk]
  have e : (win0_5.blk t).view.emb (ix3 h r w) = ix3 h r w := by blk_ext [idx t]
  rw [e, V_v18]
  refine (bias_apply gather_S8x257_S256x768x1_S8x256x768_0_1_n_n_1_2_81_wf (aE m c) wraps h r w).trans ?_
  refine congrArg (fun j => aE m c (ix2 h j)) (Fin.ext ?_)
  show min (wraps (ix3 r w (0 : Fin 1))).toInt.toNat 256 = _
  rw [wraps_at]
  rfl

end Cert.Kernel7Ideal.Pt

end
-- ==== Proof.Attn.States.lean ====
/- The attention kernel's carried keys and values at every point, its output blocks, and the result array of these. -/
module

public import proofs.«01_k».proof.Proof.Attn.Blocks

@[expose] public section

set_option maxRecDepth 16384

noncomputable section

namespace Attn

open Idealize.ShloMosaic

/-- What the attention needs of its arrays: the queries and keys, the gains and the biases are real numbers. -/
structure Real' (Z : (⟨3, ![8, 2048, 1536]⟩ : Shape).Idx → EReal) (G H : (⟨1, ![64]⟩ : Shape).Idx → EReal) (E : (⟨2, ![8, 257]⟩ : Shape).Idx → EReal) : Prop where
  z : ∀ (b : Fin 8) (s : Fin 2048) (k : Fin 1536), k.val < 1024 → Fin' (Z (ix3 b s k))
  g : ∀ k : Fin 64, Fin' (G (ix1 k))
  h : ∀ k : Fin 64, Fin' (H (ix1 k))
  e : ∀ (h : Fin 8) (k : Fin 257), Fin' (E (ix2 h k))

theorem score_fin {Z : (⟨3, ![8, 2048, 1536]⟩ : Shape).Idx → EReal} {G H : (⟨1, ![64]⟩ : Shape).Idx → EReal} {E : (⟨2, ![8, 257]⟩ : Shape).Idx → EReal}
    (hr : Real' Z G H E) (b h : Fin 8) (t s : Fin 2048) : Fin' (score Z G H E b h t s) := by
  unfold score
  refine ((Fin'.sum fun e => ?_).mul ⟨_, c8'⟩).add (hr.e _ _)
  exact (nrm_fin _ _ (fun d => hr.z _ _ _ (by show h.val * 64 + d.val < 1024; omega)) (fun d => hr.g d) e).mul
    (nrm_fin _ _ (fun d => hr.z _ _ _ (by show 512 + (h.val * 64 + d.val) < 1024; omega)) (fun d => hr.h d) e)

/-- The result at every index. -/
def G7 (Z : (⟨3, ![8, 2048, 1536]⟩ : Shape).Idx → EReal) (G H : (⟨1, ![64]⟩ : Shape).Idx → EReal) (E : (⟨2, ![8, 257]⟩ : Shape).Idx → EReal) :
    (⟨3, ![8, 2048, 512]⟩ : Shape).Idx → EReal := fun j =>
  have h : (j 2).val < 512 := (j 2).isLt
  res Z G H E (j 0) (j 1) ⟨(j 2).val / 64, by omega⟩ ⟨(j 2).val % 64, Nat.mod_lt _ (by decide)⟩

theorem G7_at (Z : (⟨3, ![8, 2048, 1536]⟩ : Shape).Idx → EReal) (G H : (⟨1, ![64]⟩ : Shape).Idx → EReal) (E : (⟨2, ![8, 257]⟩ : Shape).Idx → EReal)
    (b : Fin 8) (t : Fin 2048) (h : Fin 8) (d : Fin 64) (k : Fin 512) (hk : k.val = h.val * 64 + d.val) : G7 Z G H E (ix3 b t k) = res Z G H E b t h d := by
  unfold G7
  have h1 : (⟨k.val / 64, by omega⟩ : Fin 8) = h := Fin.ext (by show k.val / 64 = h.val; omega)
  have h2 : (⟨k.val % 64, Nat.mod_lt _ (by decide)⟩ : Fin 64) = d := Fin.ext (by show k.val % 64 = d.val; omega)
  exact congrArg₂ (res Z G H E b t) h1 h2

end Attn

namespace Cert.Kernel7Ideal.Pt

open Idealize.ShloMosaic Idealize.ShloMosaic.TcCoe Idealize.SL.Sem
open Cert.Kernel7Ideal Cert.Kernel7Ideal.Gen
open Attn

variable (m : (ℓ : Loc nD τ sig) → Buf (Elt Ideal) ℓ) (c : Dev nD)

/-- The carried keys and values are a sequence's, 512 rows down. -/
def Holds (b : Fin 8) (st : FVec Ideal S2560x512 .bf16 × FVec Ideal S2560x512 .bf16) : Prop :=
  (∀ (s : Fin 2048) (h : Fin 8) (d : Fin 64) (p : Fin 2560), p.val = 512 + s.val →
    st.1 (ix2 p (lane h d)) = nrm (fun k => aZ m c (ix3 b s ⟨512 + (h.val * 64 + k.val), by omega⟩)) (fun k => aH m c (ix1 k)) d)
  ∧ ∀ (s : Fin 2048) (k : Fin 512) (p : Fin 2560), p.val = 512 + s.val → st.2 (ix2 p k) = aZ m c (ix3 b s ⟨1024 + k.val, by omega⟩)

variable (hr : Real' (aZ m c) (aG m c) (aH m c) (aE m c))
include hr

theorem holds_of (b : Fin 8) (x : FVec Ideal S1x2048x512 .f32) (g : FVec Ideal S1x512 .f32) (y : FVec Ideal S1x2048x512 .f32)
    (hx : ∀ s k, x (ix3 0 s k) = aZ m c (ix3 b s ⟨512 + k.val, by omega⟩)) (hg : ∀ h d, g (ix2 0 (lane h d)) = aH m c (ix1 d))
    (hy : ∀ s k, y (ix3 0 s k) = aZ m c (ix3 b s ⟨1024 + k.val, by omega⟩)) : Holds m c b (keysA x g, valsA y) := by
  refine ⟨fun s h d p hp => ?_, fun s k p hp => ?_⟩
  · dsimp only
    rw [keysA_at x g (fun s k => by rw [hx]; exact hr.z _ _ _ (by show 512 + k.val < 1024; omega)) s h d p hp]
    exact congrArg₂ (fun x g => nrm x g d) (funext fun k => hx s (lane h k)) (funext fun k => hg h k)
  · dsimp only
    rw [valsA_at y s k p hp, hy]

theorem holdsA (t : Fin cfg0.N) (h0 : t.val % 8 = 0) (b : Fin 8) (hb : b.val = t.val / 8) : Holds m c b (outsAt0 m c t.val t.isLt).2 := by
  obtain rfl : b = ⟨t.val / 8, seq_lt t⟩ := Fin.ext hb
  rw [scrA m c t h0]
  exact holds_of m c hr _ _ _ _ (k_at m c t) (h_at m c t) (v_at m c t)

/-- What the scratch holds leaving each point. -/
theorem carried : ∀ (n : ℕ) (hn : n < cfg0.N) (b : Fin 8), b.val = n / 8 → Holds m c b (outsAt0 m c n hn).2 := by
  intro n
  induction n with
  | zero =>
    intro hn b hb
    exact holdsA m c hr ⟨0, hn⟩ rfl b hb
  | succ n ih =>
    intro hn b hb
    by_cases h0 : (n + 1) % 8 = 0
    · exact holdsA m c hr ⟨n + 1, hn⟩ h0 b hb
    · have e := scrB m c ⟨n + 1, hn⟩ h0
      have hp := ih (by omega) b (by omega)
      exact e ▸ hp

/-- The output block of a point. -/
theorem block_at (t : Fin cfg0.N) (r : Fin 256) (h : Fin 8) (d : Fin 64) :
    (outsAt0 m c t.val t.isLt).1 (ix3 0 r (lane h d))
      = res (aZ m c) (aG m c) (aH m c) (aE m c) ⟨t.val / 8, seq_lt t⟩ ⟨256 * (t.val % 8) + r.val, row_lt t r⟩ h d := by
  obtain ⟨hK, hV⟩ := carried m c hr t.val t.isLt ⟨t.val / 8, seq_lt t⟩ rfl
  rw [o_at]
  generalize (outsAt0 m c t.val t.isLt).2 = st at hK hV ⊢
  unfold tile cell res
  rw [(coord t).2]
  have hi : t.val % 8 < 8 := Nat.mod_lt _ (by decide)
  have hv := fun w => valid_at ⟨t.val % 8, hi⟩ r w
  simp only at hv
  have hQ : ∀ e, normT meanM (iblk m c 0 t) (iblk m c 3 t) (ix2 r (lane h e))
      = nrm (fun k => aZ m c (ix3 ⟨t.val / 8, seq_lt t⟩ ⟨256 * (t.val % 8) + r.val, row_lt t r⟩ ⟨h.val * 64 + k.val, by omega⟩)) (fun k => aG m c (ix1 k)) e := fun e => by
    rw [norm_at _ _ _ (fun k => by rw [q_at]; exact hr.z _ _ _ (by show k.val < 1024; omega))]
    simp only [q_at, g_at]
    rfl
  have hw := window ⟨t.val % 8, hi⟩ r ⟨256 * (t.val % 8) + r.val, row_lt t r⟩ rfl
    (score (aZ m c) (aG m c) (aH m c) (aE m c) ⟨t.val / 8, seq_lt t⟩ h ⟨256 * (t.val % 8) + r.val, row_lt t r⟩) (fun s => score_fin hr _ _ _ s)
    (fun u => if valid (BitVec.ofNat 32 (t.val % 8)) (ix2 r u) = 1#1 then
      (∑ e, normT meanM (iblk m c 0 t) (iblk m c 3 t) (ix2 r (lane h e)) * Ideal.ofBits .f32 0x3E000000#32 * win t st.1 u (lane h e)) + iblk m c 5 t (ix3 h r u) else ⊥)
    (fun p => st.2 (ix2 p (lane h d)))
    (fun w s hs => by
      simp only at hs
      have hc : (w.val / 64 ≤ 8 + r.val / 64 ∧ r.val / 64 ≤ w.val / 64 ∧ 8 ≤ 4 * (t.val % 8) + w.val / 64) ↔ sees ⟨256 * (t.val % 8) + r.val, row_lt t r⟩ s := by
        unfold sees
        simp only
        omega
      rw [hv w]
      by_cases hx : sees ⟨256 * (t.val % 8) + r.val, row_lt t r⟩ s
      · rw [if_pos (hc.2 hx), if_pos rfl, if_pos hx]
        unfold score
        rw [b_at, dist_eq ⟨t.val % 8, hi⟩ r w s ⟨256 * (t.val % 8) + r.val, row_lt t r⟩ hs rfl]
        refine congrArg (· + _) ?_
        rw [← scale_out _ _ (fun e => nrm_fin _ _ (fun d => hr.z _ _ _ (by show h.val * 64 + d.val < 1024; omega)) (fun d => hr.g d) e)
          (fun e => nrm_fin _ _ (fun d => hr.z _ _ _ (by show 512 + (h.val * 64 + d.val) < 1024; omega)) (fun d => hr.h d) e)]
        refine Finset.sum_congr rfl fun e _ => ?_
        rw [hQ, win, hK s h e _ (by show 256 * (t.val % 8) + w.val = _; omega)]
      · rw [if_neg (fun h => hx (hc.1 h)), if_neg hx]
        exact if_neg (by decide))
    (fun w hw => by
      simp only at hw
      show (if valid (BitVec.ofNat 32 (t.val % 8)) (ix2 r w) = 1#1 then _ else _) = _
      have hn : ¬ (w.val / 64 ≤ 8 + r.val / 64 ∧ r.val / 64 ≤ w.val / 64 ∧ 8 ≤ 4 * (t.val % 8) + w.val / 64) := by omega
      rw [hv w, if_neg hn]
      exact if_neg (by decide))
  refine hw.trans ?_
  refine congrArg (soft _) (funext fun s => ?_)
  exact hV s (lane h d) _ rfl

theorem final : (dats m 0 c).arrAt 6 cfg0.N = G7 (aZ m c) (aG m c) (aH m c) (aE m c) := by
  refine (dats m 0 c).arrAt_eq_of_covers 6 _ (by decide +kernel) fun t hf y => ?_
  blk_simp
  rw [after0_6]
  have ht : t.val < 64 := t.isLt
  have hy0 : (y 0).val < 1 := (y 0).isLt
  have hy1 : (y 1).val < 256 := (y 1).isLt
  have hy2 : (y 2).val < 512 := (y 2).isLt
  obtain ⟨r, hr1⟩ : ∃ r : Fin 256, (y 1).val = r.val := ⟨⟨(y 1).val, hy1⟩, rfl⟩
  obtain ⟨h, d, he⟩ : ∃ (h : Fin 8) (d : Fin 64), (y 2).val = h.val * 64 + d.val :=
    ⟨⟨(y 2).val / 64, by omega⟩, ⟨(y 2).val % 64, by omega⟩, by show (y 2).val = (y 2).val / 64 * 64 + (y 2).val % 64; omega⟩
  obtain rfl : y = ix3 0 r (lane h d) := by
    funext a
    refine Fin.ext ?_
    fin_cases a
    · show (y 0).val = 0
      omega
    · exact hr1
    · exact he
  rw [show (win0_6.blk t).view.emb (ix3 0 r (lane h d)) = ix3 (⟨t.val / 8, seq_lt t⟩ : Fin 8) ⟨256 * (t.val % 8) + r.val, row_lt t r⟩ (lane h d) from ?_]
  · rw [G7_at _ _ _ _ _ _ h d _ rfl]
    exact block_at m c hr t r h d
  · blk_ext [idx t]

end Cert.Kernel7Ideal.Pt

end
-- ==== Proof.Attn.Ref.lean ====
/- The reference's reading: its result array is the attention over the whole sequence. -/
module

public import proofs.«01_k».proof.Proof.Attn.States
public import proofs.«01_k».proof.Proof.Gen.Reference7Ideal.Read
public import Idealize.ShloMosaic.Lib.Claim

@[expose] public section

set_option maxRecDepth 16384

noncomputable section

namespace Attn.Ref

open Idealize.ShloMosaic Idealize.ShloMosaic.TcCoe Idealize.SL.Sem
open Cert.Reference7Ideal Cert.Reference7Ideal.Read
open Attn

variable (Z : FVec Ideal S8x2048x1536 .f32) (G H : FVec Ideal S64 .f32) (E : FVec Ideal S8x257 .f32)

/-- A head's queries, before they are normed. -/
theorem q_raw (b : Fin 8) (t : Fin 2048) (h : Fin 8) (d : Fin 64) :
    val_main_v1 (F := Ideal) Z (ix4 b t h d) = Z (ix3 b t ⟨h.val * 64 + d.val, by omega⟩) := by
  pointwise [val_main_v1, val_main_v0]

theorem k_raw (b : Fin 8) (t : Fin 2048) (h : Fin 8) (d : Fin 64) :
    val_main_v16 (F := Ideal) Z (ix4 b t h d) = Z (ix3 b t ⟨512 + (h.val * 64 + d.val), by omega⟩) := by
  pointwise [val_main_v16, val_main_v15]

theorem v_raw (b : Fin 8) (t : Fin 2048) (h : Fin 8) (d : Fin 64) :
    val_main_v31 (F := Ideal) Z (ix4 b t h d) = Z (ix3 b t ⟨1024 + (h.val * 64 + d.val), by omega⟩) := by
  pointwise [val_main_v31, val_main_v30]

theorem q_at (b : Fin 8) (t : Fin 2048) (h : Fin 8) (d : Fin 64) :
    val_main_v14 (F := Ideal) Z G (ix4 b t h d) = nrm (fun k => Z (ix3 b t ⟨h.val * 64 + k.val, by omega⟩)) (fun k => G (ix1 k)) d := by
  unfold val_main_v14 val_main_v13 val_main_v12 val_main_v11 val_main_v10 val_main_v9 val_main_v8 val_main_v7 val_main_cst_1 val_main_v6 val_main_v5
    val_main_cst_0 val_main_v4 val_main_v3 val_main_cst val_main_v2
  have e := fun d => q_raw Z b t h d
  generalize val_main_v1 (F := Ideal) Z = y at e ⊢
  pointwise
  simp only [e]
  rfl

theorem k_at (b : Fin 8) (t : Fin 2048) (h : Fin 8) (d : Fin 64) :
    val_main_v29 (F := Ideal) Z H (ix4 b t h d) = nrm (fun k => Z (ix3 b t ⟨512 + (h.val * 64 + k.val), by omega⟩)) (fun k => H (ix1 k)) d := by
  unfold val_main_v29 val_main_v28 val_main_v27 val_main_v26 val_main_v25 val_main_v24 val_main_v23 val_main_v22 val_main_cst_4 val_main_v21 val_main_v20
    val_main_cst_3 val_main_v19 val_main_v18 val_main_cst_2 val_main_v17
  have e := fun d => k_raw Z b t h d
  generalize val_main_v16 (F := Ideal) Z = y at e ⊢
  pointwise
  simp only [e]
  rfl

/-- The products of queries and keys, scaled. -/
theorem qk_at (b h : Fin 8) (t s : Fin 2048) : val_main_v46 (F := Ideal) Z G H (ix4 b h t s)
    = (∑ e, nrm (fun k => Z (ix3 b t ⟨h.val * 64 + k.val, by omega⟩)) (fun k => G (ix1 k)) e
      * nrm (fun k => Z (ix3 b s ⟨512 + (h.val * 64 + k.val), by omega⟩)) (fun k => H (ix1 k)) e) * Ideal.ofBits .f32 0x3E000000#32 := by
  unfold val_main_v46 val_main_v45 val_main_cst_7 val_main_v44
  have e1 := fun d => q_at Z G b t h d
  have e2 := fun d => k_at Z H b s h d
  generalize val_main_v14 (F := Ideal) Z G = y at e1 ⊢
  generalize val_main_v29 (F := Ideal) Z H = y at e2 ⊢
  pointwise
  simp only [e1, e2]

/-- The column of the biases for a pair. -/
theorem idx_at (t s : Fin 2048) : val_main_v52 (F := Ideal) (ix3 t s 0) = relW (BitVec.ofNat 32 s.val - BitVec.ofNat 32 t.val) := by
  rw [val_main_v52_apply]
  rfl

theorem bias_at (h : Fin 8) (t s : Fin 2048) :
    val_main_v53 (F := Ideal) E (ix3 h t s) = E (ix2 h (rel (BitVec.ofNat 32 s.val - BitVec.ofNat 32 t.val))) := by
  unfold val_main_v53
  have e := idx_at t s
  generalize val_main_v52 (F := Ideal) = y at e ⊢
  refine (bias_apply _ E y h t s).trans (congrArg (fun k => E (ix2 h k)) (Fin.ext ?_))
  show min (y (ix3 t s 0)).toInt.toNat 256 = _
  rw [e]
  rfl

/-- The mask, over the chunks. -/
theorem chunks : ∀ a b : Fin 32, IntOp.andi (IntOp.cmpi .sge (BitVec.ofNat 32 a.val - BitVec.ofNat 32 b.val) 0#32)
      (IntOp.cmpi .sle (BitVec.ofNat 32 a.val - BitVec.ofNat 32 b.val) 8#32)
    = if b.val ≤ a.val ∧ a.val ≤ b.val + 8 then 1#1 else 0#1 := by decide +kernel

theorem chunk_at (i : Fin 2048) : val_main_v60 (F := Ideal) (ix1 i) = BitVec.ofNat 32 (i.val / 64) := by
  rw [val_main_v60_apply]
  rfl

theorem mask_at (t s : Fin 2048) : val_main_v70 (F := Ideal) (ix2 t s) = if sees t s then 1#1 else 0#1 := by
  have e : val_main_v65 (F := Ideal) (ix2 t s) = BitVec.ofNat 32 (t.val / 64) - BitVec.ofNat 32 (s.val / 64) := by
    unfold val_main_v65 val_main_v64 val_main_v63 val_main_v62 val_main_v61
    have e1 := chunk_at t
    have e2 := chunk_at s
    generalize val_main_v60 (F := Ideal) = y at e1 e2 ⊢
    pointwise
    rw [e1, e2]
    rfl
  unfold val_main_v70 val_main_v69 val_main_v68 val_main_c_11 val_main_v67 val_main_v66 val_main_c_10
  generalize val_main_v65 (F := Ideal) = y at e ⊢
  pointwise
  rw [e]
  exact chunks ⟨t.val / 64, by omega⟩ ⟨s.val / 64, by omega⟩

/-- The masked scores. -/
theorem score_at (b h : Fin 8) (t s : Fin 2048) :
    val_main_v71 (F := Ideal) Z G H E (ix4 b h t s) = if sees t s then score Z G H E b h t s else ⊥ := by
  unfold val_main_v71 val_main_call0_v2 val_main_call0_v1 val_main_call0_v0 val_main_cst_12 val_main_v56 val_main_v55 val_main_v54
  have e1 := qk_at Z G H b h t s
  have e2 := bias_at E h t s
  have e3 := mask_at t s
  generalize val_main_v46 (F := Ideal) Z G H = y at e1 ⊢
  generalize val_main_v53 (F := Ideal) E = y at e2 ⊢
  generalize val_main_v70 (F := Ideal) = y at e3 ⊢
  pointwise
  rw [e1, e2, e3]
  by_cases hx : sees t s
  · rw [if_pos hx, if_pos hx]
    rfl
  · rw [if_neg hx, if_neg hx]
    exact neg_inf

/-- The largest entry of each row. -/
theorem rowmax {N : ℕ} (y : FVec Ideal ⟨4, ![8, 8, 2048, N]⟩ .f32) (c : FVec Ideal S_ .f32) (hh : (⟨4, ![8, 8, 2048, N]⟩ : Shape).ReducesTo [3] S8x8x2048) (hu : 0 < S_.numel)
    (b h : Fin 8) (t : Fin 2048) : Host.reduce FloatOps.maximumf y c hh hu (ix3 b h t)
      = Finset.univ.fold max (c (Shape.Idx.first (by decide))) fun k : Fin N => y (ix4 b h t k) := by
  simp only [pointwise]

/-- The largest of a query's masked scores. -/
theorem top_at (b h : Fin 8) (t : Fin 2048) :
    val_main_v74 (F := Ideal) Z G H E (ix3 b h t) = top fun s : Fin 2048 => if sees t s then score Z G H E b h t s else ⊥ := by
  have e1 : val_main_v72 (F := Ideal) Z G H E (ix3 b h t) = top fun s : Fin 2048 => if sees t s then score Z G H E b h t s else ⊥ := by
    unfold val_main_v72 top
    have e := score_at Z G H E b h t
    have e0 : val_main_cst_13 (F := Ideal) (Shape.Idx.first (by decide)) = ⊥ := neg_inf
    generalize val_main_v71 (F := Ideal) Z G H E = y at e ⊢
    generalize val_main_cst_13 (F := Ideal) = c at e0 ⊢
    refine (rowmax y c _ _ b h t).trans ?_
    rw [e0]
    exact congrArg (fun f => Finset.univ.fold max ⊥ f) (funext e)
  have e2 : val_main_v73 (F := Ideal) (ix3 b h t) = ⊥ := by
    rw [val_main_v73_apply]
    exact neg_inf
  rw [val_main_v74_apply, e1, e2]
  exact max_eq_right bot_le

/-- The exponentials. -/
theorem exp_at (b h : Fin 8) (t s : Fin 2048) : val_main_v78 (F := Ideal) Z G H E (ix4 b h t s)
    = Ideal.exp ((if sees t s then score Z G H E b h t s else ⊥) - top fun s : Fin 2048 => if sees t s then score Z G H E b h t s else ⊥) := by
  unfold val_main_v78 val_main_v77 val_main_v76 val_main_v75
  have e1 := score_at Z G H E b h t s
  have e2 := top_at Z G H E b h t
  generalize val_main_v71 (F := Ideal) Z G H E = y at e1 ⊢
  generalize val_main_v74 (F := Ideal) Z G H E = z at e2 ⊢
  pointwise
  rw [e1, e2]

/-- The weights. -/
theorem weight_at (b h : Fin 8) (t s : Fin 2048) : val_main_v82 (F := Ideal) Z G H E (ix4 b h t s)
    = Ideal.div (Ideal.exp ((if sees t s then score Z G H E b h t s else ⊥) - top fun s : Fin 2048 => if sees t s then score Z G H E b h t s else ⊥))
      (∑ u : Fin 2048, Ideal.exp ((if sees t u then score Z G H E b h t u else ⊥) - top fun s : Fin 2048 => if sees t s then score Z G H E b h t s else ⊥)) := by
  unfold val_main_v82 val_main_v81 val_main_v80 val_main_v79 val_main_cst_15
  have e := exp_at Z G H E b h t
  generalize val_main_v78 (F := Ideal) Z G H E = y at e ⊢
  pointwise
  simp only [e]

theorem ref_at (b : Fin 8) (t : Fin 2048) (h : Fin 8) (d : Fin 64) :
    val_main_v84 (F := Ideal) Z G H E (ix4 b t h d) = res Z G H E b t h d := by
  unfold val_main_v84 val_main_v83
  have e1 := v_raw Z b
  have e2 := weight_at Z G H E b h t
  generalize val_main_v31 (F := Ideal) Z = y at e1 ⊢
  generalize val_main_v82 (F := Ideal) Z G H E = z at e2 ⊢
  pointwise
  simp only [e1, e2]
  unfold res soft
  exact Finset.sum_congr rfl fun s _ => mul_comm _ _

theorem ref_G7 : val_main_v86 (F := Ideal) Z G H E = G7 Z G H E := by
  funext j
  idx_vars j
  unfold val_main_v86 val_main_v85
  have e := ref_at Z G H E j0 j1 ⟨j2.val / 64, by omega⟩ ⟨j2.val % 64, by omega⟩
  generalize val_main_v84 (F := Ideal) Z G H E = y at e ⊢
  pointwise
  exact e

end Attn.Ref

end
-- ==== Proof.Attn.Claim.lean ====
/- The claim about the attention: from real numbers, the kernel's result array is the reference's. -/
module

public import proofs.«01_k».proof.Defs
public import proofs.«01_k».proof.Proof.Attn.Ref
public import proofs.«01_k».proof.Proof.Gen.Reference7Ideal.Run
public import proofs.«01_k».proof.Proof.Gen.Pre_finite_scores
public import Idealize.ShloMosaic.Lib.Claim

@[expose] public section

set_option maxRecDepth 16384

noncomputable section

namespace Cert.Proof.Attn

open Idealize.ShloMosaic Idealize.ShloMosaic.TcCoe Idealize.SL.Sem
open Cert.Reference7Ideal Cert.Reference7Ideal.Read
open _root_.Attn

/-- A number whose absolute value compares below the infinity is a real number. -/
theorem fin_of_cmp {x : EReal} (h : Ideal.cmp .olt (max x (-x)) (Ideal.ofBits .f32 0x7F800000#32) = 1#1) : Fin' x := by
  have e : Ideal.ofBits .f32 0x7F800000#32 = ⊤ := by simp [Ideal.ofBits, Ideal.ieee]
  rw [e] at h
  refine fin_of_abs ?_
  by_contra hx
  have hd : decide (max x (-x) < ⊤) = false := decide_eq_false hx
  have h' : BitVec.ofBool (decide (max x (-x) < ⊤)) = 1#1 := h
  rw [hd] at h'
  exact absurd h' (by decide)

/-- What the predicate's ones say. -/
theorem real_of (Z : FVec Ideal S8x2048x1536 .f32) (G H : FVec Ideal S64 .f32) (E : FVec Ideal S8x257 .f32)
    (h : (Cert.Pre_finite_scores.fn (F := Ideal) Z G H E).1 = (fun _ => 1#1) ∧ (Cert.Pre_finite_scores.fn (F := Ideal) Z G H E).2.1 = (fun _ => 1#1)
      ∧ (Cert.Pre_finite_scores.fn (F := Ideal) Z G H E).2.2.1 = (fun _ => 1#1) ∧ (Cert.Pre_finite_scores.fn (F := Ideal) Z G H E).2.2.2 = (fun _ => 1#1)) :
    Real' Z G H E := by
  obtain ⟨h0, h1, h2, h3⟩ := h
  refine ⟨fun b s k hk => ?_, fun k => ?_, fun k => ?_, fun a k => ?_⟩
  · have e := congrFun h0 (ix3 b s ⟨k.val, hk⟩)
    refine fin_of_cmp (Eq.trans ?_ e)
    unfold Cert.Pre_finite_scores.fn
    pointwise
    rfl
  · have e := congrFun h1 (ix1 k)
    refine fin_of_cmp (Eq.trans ?_ e)
    unfold Cert.Pre_finite_scores.fn
    pointwise
    rfl
  · have e := congrFun h2 (ix1 k)
    refine fin_of_cmp (Eq.trans ?_ e)
    unfold Cert.Pre_finite_scores.fn
    pointwise
    rfl
  · have e := congrFun h3 (ix2 a k)
    refine fin_of_cmp (Eq.trans ?_ e)
    unfold Cert.Pre_finite_scores.fn
    pointwise
    rfl

theorem algebraic : Cert.algebraic_Kernel7Ideal_Reference7Ideal_pre_finite_scores := by
  intro m g m' g' hpre hagree
  refine ⟨fun c => G7 (Cert.Kernel7Ideal.Pt.aZ m c) (Cert.Kernel7Ideal.Pt.aG m c) (Cert.Kernel7Ideal.Pt.aH m c) (Cert.Kernel7Ideal.Pt.aE m c), ?_, ?_⟩
  · refine (θ_run Cert.Kernel7Ideal.defs _ _).mono (fun r h c => ⟨(h c).1.trans ?_, (h c).2⟩) (Cert.Kernel7Ideal.Value.run_blocks (F := Ideal) m g)
    exact Cert.Kernel7Ideal.Pt.final m c (real_of _ _ _ _ (hpre c))
  · refine (θ_run Cert.Reference7Ideal.defs _ _).mono (fun r h c => ⟨(h c).1.trans ?_, (h c).2⟩) (Cert.Reference7Ideal.Value.run (F := Ideal) m' g')
    rw [val_main_v86_eq]
    refine (Ref.ref_G7 _ _ _ _).trans ?_
    rw [(hagree c).1, (hagree c).2.1, (hagree c).2.2.1, (hagree c).2.2.2]

/-- The reference leaves its arguments, and has no counter that could be left raised. -/
theorem frame_ref : Cert.quiescent_Reference7Ideal := fun m ρ _ =>
  (θ_run Cert.Reference7Ideal.defs _ _).mono (fun r h => ⟨fun c => (h c).2, sem_eq_zero_of_no_sems (by decide) r.2⟩)
    (Cert.Reference7Ideal.Value.run (F := Ideal) m ρ)

/-- The same from real numbers. -/
theorem frame_ref_pre : Cert.quiescent_Reference7Ideal_pre_finite_scores := fun m ρ _ =>
  (θ_run Cert.Reference7Ideal.defs _ _).mono (fun r h => ⟨fun c => (h c).2, sem_eq_zero_of_no_sems (by decide) r.2⟩)
    (Cert.Reference7Ideal.Value.run (F := Ideal) m ρ)

end Cert.Proof.Attn

end
-- ==== Proof.Router.Spec.lean ====
/- The choice of two experts of eight on extended reals, the gates of the two, a token's place in an expert's list, and what the
   proofs use of them. -/
module

public import proofs.«01_k».proof.Proof.Attn.Spec
public import proofs.«01_k».proof.Proof.Norm.Spec

@[expose] public section

noncomputable section

namespace Router

open Idealize.ShloMosaic
open Attn

/-- The two experts in front: no expert has more than the first, and of those with as much it has the least number; the second
    is that of the others. -/
structure Chosen (l : Fin 8 → EReal) (a b : Fin 8) : Prop where
  ne : b ≠ a
  max1 : ∀ f, l f ≤ l a
  min1 : ∀ f, l f = l a → a ≤ f
  max2 : ∀ f, f ≠ a → l f ≤ l b
  min2 : ∀ f, f ≠ a → l f = l b → b ≤ f

/-- Among some experts, one is in front. -/
theorem exists_front (s : Finset (Fin 8)) (hs : s.Nonempty) (l : Fin 8 → EReal) :
    ∃ a ∈ s, (∀ f ∈ s, l f ≤ l a) ∧ ∀ f ∈ s, l f = l a → a ≤ f := by
  obtain ⟨x, hx, hm⟩ := Finset.exists_max_image s l hs
  have hne : (s.filter fun f => l f = l x).Nonempty := ⟨x, Finset.mem_filter.2 ⟨hx, rfl⟩⟩
  have h1 := Finset.mem_filter.1 (Finset.min'_mem _ hne)
  refine ⟨_, h1.1, fun f hf => (hm f hf).trans h1.2.ge, fun f hf he => Finset.min'_le _ _ (Finset.mem_filter.2 ⟨hf, he.trans h1.2⟩)⟩

theorem exists_chosen (l : Fin 8 → EReal) : ∃ p : Fin 8 × Fin 8, Chosen l p.1 p.2 := by
  obtain ⟨a, -, ha, ha'⟩ := exists_front Finset.univ ⟨0, Finset.mem_univ _⟩ l
  have hne : (Finset.univ.erase a).Nonempty := by
    refine Finset.card_pos.1 ?_
    rw [Finset.card_erase_of_mem (Finset.mem_univ _)]
    decide
  obtain ⟨b, hb, hb1, hb2⟩ := exists_front (Finset.univ.erase a) hne l
  exact ⟨(a, b), (Finset.mem_erase.1 hb).1, fun f => ha f (Finset.mem_univ _), fun f => ha' f (Finset.mem_univ _),
    fun f hf => hb1 f (Finset.mem_erase.2 ⟨hf, Finset.mem_univ _⟩), fun f hf => hb2 f (Finset.mem_erase.2 ⟨hf, Finset.mem_univ _⟩)⟩

/-- The first and the second expert. -/
def pick (l : Fin 8 → EReal) (k : Fin 2) : Fin 8 :=
  if k = 0 then (Classical.choose (exists_chosen l)).1 else (Classical.choose (exists_chosen l)).2

theorem chosen_pick (l : Fin 8 → EReal) : Chosen l (pick l 0) (pick l 1) := by
  have h := Classical.choose_spec (exists_chosen l)
  unfold pick
  rw [if_pos rfl, if_neg (by decide)]
  exact h

/-- One at the chosen expert, zero at the others. -/
def hit (l : Fin 8 → EReal) (k : Fin 2) (e : Fin 8) : EReal := if e = pick l k then 1 else 0

/-- One at either chosen expert. -/
def both (l : Fin 8 → EReal) (e : Fin 8) : EReal := hit l 0 e + hit l 1 e

/-- The gate of the first or the second expert: the two logits' softmax. -/
def gate (l : Fin 8 → EReal) (k : Fin 2) : EReal :=
  if k = 0 then Ideal.div 1 (1 + Ideal.exp (l (pick l 1) - l (pick l 0)))
  else Ideal.div (Ideal.exp (l (pick l 1) - l (pick l 0))) (1 + Ideal.exp (l (pick l 1) - l (pick l 0)))

/-- How many of the first `N` tokens chose the expert. -/
def upto (L : Fin 16384 → Fin 8 → EReal) (N : ℕ) (e : Fin 8) : EReal := ∑ n : Fin 16384, if n.val < N then both (L n) e else 0

/-- How many earlier tokens chose the same expert. -/
def place (L : Fin 16384 → Fin 8 → EReal) (k : Fin 2) (n : Fin 16384) : EReal := ∑ e, hit (L n) k e * upto L n.val e

theorem upto_zero (L : Fin 16384 → Fin 8 → EReal) (e : Fin 8) : upto L 0 e = 0 :=
  Finset.sum_eq_zero fun n _ => if_neg (Nat.not_lt_zero _)

theorem upto_all (L : Fin 16384 → Fin 8 → EReal) (e : Fin 8) : upto L 16384 e = ∑ n, both (L n) e :=
  Finset.sum_congr rfl fun n _ => if_pos n.isLt

/-- A sum over the tokens, tile by tile. -/
theorem sum_64 (f : Fin 16384 → EReal) : ∑ n, f n = ∑ a : Fin 64, ∑ q : Fin 256, f ⟨256 * a.val + q.val, by omega⟩ := by
  refine (Gla.sum_groups (n := 64) (k := 256) f).trans ?_
  refine Finset.sum_congr rfl fun a _ => Finset.sum_congr rfl fun q _ => congrArg f (Fin.ext ?_)
  show a.val * 256 + q.val = 256 * a.val + q.val
  omega

/-- The tokens before a tile's row: those before the tile, and the tile's before the row. -/
theorem upto_row (L : Fin 16384 → Fin 8 → EReal) (t : Fin 64) (r : ℕ) (hr : r ≤ 256) (e : Fin 8) :
    upto L (256 * t.val + r) e
      = (∑ q : Fin 256, if q.val < r then both (L ⟨256 * t.val + q.val, by omega⟩) e else 0) + upto L (256 * t.val) e := by
  unfold upto
  rw [sum_64 (fun n => if n.val < 256 * t.val + r then both (L n) e else 0), sum_64 (fun n => if n.val < 256 * t.val then both (L n) e else 0)]
  have h : ∑ q : Fin 256, (if q.val < r then both (L ⟨256 * t.val + q.val, by omega⟩) e else 0)
      = ∑ a : Fin 64, if a = t then ∑ q : Fin 256, (if q.val < r then both (L ⟨256 * a.val + q.val, by omega⟩) e else 0) else 0 := by
    rw [Finset.sum_ite_eq' Finset.univ t, if_pos (Finset.mem_univ _)]
  rw [h, ← Finset.sum_add_distrib]
  refine Finset.sum_congr rfl fun a _ => ?_
  rcases lt_trichotomy a.val t.val with h1 | h1 | h1
  · rw [if_neg (fun h => by rw [h] at h1; exact lt_irrefl _ h1), zero_add]
    refine Finset.sum_congr rfl fun q _ => ?_
    rw [if_pos (by show 256 * a.val + q.val < _; omega), if_pos (by show 256 * a.val + q.val < _; omega)]
  · obtain rfl : a = t := Fin.ext h1
    rw [if_pos rfl]
    have h0 : ∑ q : Fin 256, (if 256 * a.val + q.val < 256 * a.val then both (L ⟨256 * a.val + q.val, by omega⟩) e else 0) = 0 :=
      Finset.sum_eq_zero fun q _ => if_neg (by omega)
    refine Eq.trans ?_ (congrArg (_ + ·) h0.symm)
    rw [add_zero]
    refine Finset.sum_congr rfl fun q _ => ?_
    by_cases hq : q.val < r
    · rw [if_pos (by show 256 * a.val + q.val < _; omega), if_pos hq]
    · rw [if_neg (by show ¬ 256 * a.val + q.val < _; omega), if_neg hq]
  · rw [if_neg (fun h => by rw [h] at h1; exact lt_irrefl _ h1), zero_add]
    refine Finset.sum_congr rfl fun q _ => ?_
    rw [if_neg (by show ¬ 256 * a.val + q.val < _; omega), if_neg (by show ¬ 256 * a.val + q.val < _; omega)]

/-! ## A choice by maxima and least numbers -/

theorem toInt_minsi (x y : BitVec 32) : (IntOp.minsi x y).toInt = min x.toInt y.toInt := by
  unfold IntOp.minsi
  simp only [BitVec.slt]
  by_cases h : x.toInt < y.toInt
  · simp [h, h.le]
  · simp [h, not_lt.1 h]

/-- The least of eight words. -/
theorem fold_least (v : Fin 8 → BitVec 32) (i x : BitVec 32) (a : Fin 8) (ha : v a = x) (hi : x.toInt ≤ i.toInt) (h : ∀ e, x.toInt ≤ (v e).toInt) :
    Finset.univ.fold IntOp.minsi i v = x := by
  have h1 : ∀ s : Finset (Fin 8), x.toInt ≤ (s.fold IntOp.minsi i v).toInt ∧ ∀ e ∈ s, (s.fold IntOp.minsi i v).toInt ≤ (v e).toInt := by
    intro s
    induction s using Finset.induction_on with
    | empty => exact ⟨hi, fun e he => absurd he (Finset.notMem_empty _)⟩
    | insert b s hb ih =>
      rw [Finset.fold_insert hb, toInt_minsi]
      refine ⟨le_min (h b) ih.1, fun e he => ?_⟩
      rcases Finset.mem_insert.1 he with rfl | he
      · exact min_le_left _ _
      · exact (min_le_right _ _).trans (ih.2 e he)
  have h2 := h1 Finset.univ
  exact BitVec.eq_of_toInt_eq (le_antisymm (ha ▸ h2.2 a (Finset.mem_univ _)) h2.1)

theorem num_le : ∀ a e : Fin 8, a ≤ e → (BitVec.ofNat 32 a.val).toInt ≤ (BitVec.ofNat 32 e.val).toInt := by decide
theorem num_lt : ∀ a e : Fin 8, IntOp.cmpi .slt (BitVec.ofNat 32 a.val) (BitVec.ofNat 32 e.val) = BitVec.ofBool (decide (a < e)) := by decide
theorem num_le8 : ∀ a : Fin 8, (BitVec.ofNat 32 a.val).toInt ≤ (8#32).toInt := by decide
theorem num_le_max : ∀ a : Fin 8, (BitVec.ofNat 32 a.val).toInt ≤ (2147483647#32).toInt := by decide
theorem num_eq : ∀ a e : Fin 8, IntOp.cmpi .eq (BitVec.ofNat 32 e.val) (BitVec.ofNat 32 a.val) = 1#1 ↔ e = a := by decide

theorem toInt_small (n : ℕ) (h : n < 16384) : (BitVec.ofNat 32 n).toInt = (n : ℤ) := by
  have e : (BitVec.ofNat 32 n).toNat = n := by rw [BitVec.toNat_ofNat]; exact Nat.mod_eq_of_lt (by omega)
  rw [BitVec.toInt_eq_toNat_of_lt (by rw [e]; omega), e]

/-- Numbers of tokens compare as words. -/
theorem before_num (q r : ℕ) (hq : q < 16384) (hr : r < 16384) : IntOp.cmpi .slt (BitVec.ofNat 32 q) (BitVec.ofNat 32 r) = 1#1 ↔ q < r := by
  show BitVec.ofBool ((BitVec.ofNat 32 q).slt (BitVec.ofNat 32 r)) = 1#1 ↔ _
  rw [BitVec.slt, toInt_small q hq, toInt_small r hr]
  by_cases h : q < r
  · simp [h]
  · simp [h]

theorem cmp_eq (x y : EReal) : Ideal.cmp .oeq x y = 1#1 ↔ x = y := by
  show BitVec.ofBool (decide (x = y)) = 1#1 ↔ _
  by_cases h : x = y
  · simp [h]
  · simp [h]

theorem cmp_gt (x y : EReal) : Ideal.cmp .ogt x y = 1#1 ↔ y < x := by
  show BitVec.ofBool (decide (y < x)) = 1#1 ↔ _
  by_cases h : y < x
  · simp [h]
  · simp [h]

/-- The number of the least of the experts where a row has its largest. -/
theorem least_at (l : Fin 8 → EReal) (a : Fin 8) (M : EReal) (ha : l a = M) (h : ∀ f, l f = M → a ≤ f) :
    Finset.univ.fold IntOp.minsi 2147483647#32 (fun e : Fin 8 => if l e = M then BitVec.ofNat 32 e.val else 8#32) = BitVec.ofNat 32 a.val := by
  refine fold_least _ _ _ a (if_pos ha) (num_le_max a) fun e => ?_
  by_cases he : l e = M
  · rw [if_pos he]
    exact num_le a e (h e he)
  · rw [if_neg he]
    exact num_le8 a

theorem top_eq (l : Fin 8 → EReal) (a : Fin 8) (h : ∀ f, l f ≤ l a) : Finset.univ.fold max ⊥ l = l a :=
  le_antisymm (top_le l _ h) (le_top l a)

/-- The first choice. -/
theorem first_max (l : Fin 8 → EReal) : Finset.univ.fold max ⊥ l = l (pick l 0) := top_eq l _ (chosen_pick l).max1

theorem first_num (l : Fin 8 → EReal) :
    Finset.univ.fold IntOp.minsi 2147483647#32 (fun e : Fin 8 => if l e = l (pick l 0) then BitVec.ofNat 32 e.val else 8#32)
      = BitVec.ofNat 32 (pick l 0).val :=
  least_at l _ _ rfl (chosen_pick l).min1

/-- The row without the first choice. -/
def rest (l : Fin 8 → EReal) (e : Fin 8) : EReal :=
  if IntOp.cmpi .eq (BitVec.ofNat 32 e.val) (BitVec.ofNat 32 (pick l 0).val) = 1#1 then ⊥ else l e

theorem rest_ne (l : Fin 8 → EReal) (e : Fin 8) (h : e ≠ pick l 0) : rest l e = l e := if_neg fun hc => h ((num_eq _ _).1 hc)
theorem rest_eq (l : Fin 8 → EReal) : rest l (pick l 0) = ⊥ := if_pos ((num_eq _ _).2 rfl)

theorem second_max (l : Fin 8 → EReal) : Finset.univ.fold max ⊥ (rest l) = l (pick l 1) := by
  have h := chosen_pick l
  rw [← rest_ne l _ h.ne]
  refine top_eq (rest l) _ fun f => ?_
  rw [rest_ne l _ h.ne]
  by_cases hf : f = pick l 0
  · rw [hf, rest_eq]; exact bot_le
  · rw [rest_ne l f hf]; exact h.max2 f hf

theorem second_num (l : Fin 8 → EReal) (hl : ∀ e, Fin' (l e)) :
    Finset.univ.fold IntOp.minsi 2147483647#32 (fun e : Fin 8 => if rest l e = l (pick l 1) then BitVec.ofNat 32 e.val else 8#32)
      = BitVec.ofNat 32 (pick l 1).val := by
  have h := chosen_pick l
  refine least_at (rest l) _ _ (rest_ne l _ h.ne) fun f hf => ?_
  by_cases h0 : f = pick l 0
  · rw [h0, rest_eq] at hf
    exact absurd hf.symm (hl _).ne_bot
  · rw [rest_ne l f h0] at hf
    exact h.min2 f h0 hf

theorem hit_num (l : Fin 8 → EReal) (k : Fin 2) (e : Fin 8) :
    (if IntOp.cmpi .eq (BitVec.ofNat 32 e.val) (BitVec.ofNat 32 (pick l k).val) = 1#1 then (1 : EReal) else 0) = hit l k e := by
  unfold hit
  by_cases h : e = pick l k
  · rw [if_pos h, if_pos ((num_eq _ _).2 h)]
  · rw [if_neg h, if_neg fun hc => h ((num_eq _ _).1 hc)]

/-! ## A choice by counting the experts ahead -/

/-- How many experts are ahead of one. -/
def ahead (l : Fin 8 → EReal) (e : Fin 8) : EReal := ∑ f, if l e < l f ∨ (l f = l e ∧ f < e) then 1 else 0

theorem ahead_first (l : Fin 8 → EReal) : ahead l (pick l 0) = 0 := by
  have h := chosen_pick l
  refine Finset.sum_eq_zero fun f _ => if_neg ?_
  rintro (h1 | ⟨h1, h2⟩)
  · exact absurd (h.max1 f) (not_le.2 h1)
  · exact absurd (h.min1 f h1) (not_le.2 h2)

/-- The first is ahead of every other. -/
theorem first_ahead (l : Fin 8 → EReal) (e : Fin 8) (he : e ≠ pick l 0) : l e < l (pick l 0) ∨ (l (pick l 0) = l e ∧ pick l 0 < e) := by
  have h := chosen_pick l
  rcases lt_or_eq_of_le (h.max1 e) with h1 | h1
  · exact .inl h1
  · exact .inr ⟨h1.symm, lt_of_le_of_ne (h.min1 e h1) he.symm⟩

theorem second_ahead (l : Fin 8 → EReal) (e : Fin 8) (he : e ≠ pick l 0) (he1 : e ≠ pick l 1) : l e < l (pick l 1) ∨ (l (pick l 1) = l e ∧ pick l 1 < e) := by
  have h := chosen_pick l
  rcases lt_or_eq_of_le (h.max2 e he) with h1 | h1
  · exact .inl h1
  · exact .inr ⟨h1.symm, lt_of_le_of_ne (h.min2 e he h1) he1.symm⟩

theorem ahead_second (l : Fin 8 → EReal) : ahead l (pick l 1) = 1 := by
  have h := chosen_pick l
  refine (Finset.sum_eq_single (pick l 0) (fun f _ hf => if_neg ?_) (fun hn => absurd (Finset.mem_univ _) hn)).trans (if_pos (first_ahead l _ h.ne))
  rintro (h1 | ⟨h1, h2⟩)
  · exact absurd (h.max2 f hf) (not_le.2 h1)
  · exact absurd (h.min2 f hf h1) (not_le.2 h2)

theorem ahead_other (l : Fin 8 → EReal) (e : Fin 8) (he : e ≠ pick l 0) (he1 : e ≠ pick l 1) : 2 ≤ ahead l e := by
  have h := chosen_pick l
  have h2 : ∑ f ∈ {pick l 0, pick l 1}, (if l e < l f ∨ (l f = l e ∧ f < e) then (1 : EReal) else 0) = 2 := by
    rw [Finset.sum_pair h.ne.symm, if_pos (first_ahead l e he), if_pos (second_ahead l e he he1)]
    norm_num
  rw [← h2]
  refine Finset.sum_le_sum_of_subset_of_nonneg (Finset.subset_univ _) fun f _ _ => ?_
  split_ifs
  · exact zero_le_one
  · exact le_rfl

/-- The expert with `k` ahead of it is the choice. -/
theorem hit_ahead (l : Fin 8 → EReal) (k : Fin 2) (e : Fin 8) :
    (if ahead l e = (((k.val : ℕ) : ℝ) : EReal) then (1 : EReal) else 0) = hit l k e := by
  have h := chosen_pick l
  have h12 : (1 : EReal) < 2 := by norm_num
  have key : ahead l e = (((k.val : ℕ) : ℝ) : EReal) ↔ e = pick l k := by
    by_cases h0 : e = pick l 0
    · subst h0
      rw [ahead_first]
      fin_cases k
      · simp
      · simpa using h.ne.symm
    by_cases h1 : e = pick l 1
    · subst h1
      rw [ahead_second]
      fin_cases k
      · simpa using h.ne
      · simp
    · have h2 := ahead_other l e h0 h1
      fin_cases k
      · refine ⟨fun hc => ?_, fun hc => absurd hc h0⟩
        have hc' : ahead l e = 0 := by simpa using hc
        rw [hc'] at h2
        exact absurd h2 (by norm_num)
      · refine ⟨fun hc => ?_, fun hc => absurd hc h1⟩
        have hc' : ahead l e = 1 := by simpa using hc
        rw [hc'] at h2
        exact absurd h2 (not_le.2 h12)
  unfold hit
  by_cases hk : e = pick l k
  · rw [if_pos hk, if_pos (key.2 hk)]
  · rw [if_neg hk, if_neg fun hc => hk (key.1 hc)]

/-- The sum over the experts, of which one is the choice. -/
theorem sum_hit (l g : Fin 8 → EReal) (k : Fin 2) : ∑ e, hit l k e * g e = g (pick l k) := by
  refine (Finset.sum_eq_single (pick l k) (fun f _ hf => ?_) (fun hn => absurd (Finset.mem_univ _) hn)).trans ?_
  · unfold hit
    rw [if_neg hf, zero_mul]
  · unfold hit
    rw [if_pos rfl, one_mul]

/-- An expert's number, as a real number and back. -/
theorem num_toInt : ∀ e : Fin 8, (BitVec.ofNat 32 e.val).toInt = (e.val : ℤ) := by decide
theorem num_toInt2 : ∀ e : Fin 2, (BitVec.ofNat 32 e.val).toInt = (e.val : ℤ) := by decide

theorem num_back (e : Fin 8) : Ideal.fptosi 32 (((BitVec.ofNat 32 e.val).toInt : ℝ) : EReal) = BitVec.ofNat 32 e.val := by
  rw [num_toInt]
  unfold Ideal.fptosi
  rw [Ideal.toIntClamped_coe, if_pos (by positivity), Int.cast_natCast, Int.floor_natCast]
  revert e
  decide

/-- The two logits' softmax, by their largest. -/
theorem gate_eq (l : Fin 8 → EReal) (hl : ∀ e, Fin' (l e)) (k : Fin 2) :
    Ideal.div (Ideal.exp (l (pick l k) - Finset.univ.fold max ⊥ (fun q : Fin 2 => l (pick l q))))
      (∑ q : Fin 2, Ideal.exp (l (pick l q) - Finset.univ.fold max ⊥ (fun q : Fin 2 => l (pick l q)))) = gate l k := by
  have h : Finset.univ.fold max ⊥ (fun q : Fin 2 => l (pick l q)) = l (pick l 0) :=
    le_antisymm (top_le (fun q : Fin 2 => l (pick l q)) _ fun q => (chosen_pick l).max1 _) (le_top (fun q : Fin 2 => l (pick l q)) 0)
  have e1 : Ideal.exp (l (pick l 0) - l (pick l 0)) = 1 := by rw [EReal.sub_self (hl _).ne_top (hl _).ne_bot, exp_zero]
  rw [h, Fin.sum_univ_two, e1]
  unfold gate
  fin_cases k
  · show Ideal.div (Ideal.exp (l (pick l 0) - l (pick l 0))) _ = if (0 : Fin 2) = 0 then _ else _
    rw [if_pos rfl, e1]
  · show _ = if (1 : Fin 2) = 0 then _ else _
    rw [if_neg (by decide)]
    rfl

/-! ## The logits are real numbers -/

theorem eq_top_or_bot {x : EReal} (h : ¬ Fin' x) : x = ⊤ ∨ x = ⊥ := by
  induction x using EReal.rec with
  | bot => exact Or.inr rfl
  | top => exact Or.inl rfl
  | coe r => exact absurd ⟨r, rfl⟩ h

theorem c1024 : Ideal.ofBits .f32 0x44800000#32 = ((1024 : ℝ) : EReal) := by
  simp [Ideal.ofBits, Ideal.ieee, -EReal.coe_mul]; norm_num

/-- A normed entry is a real number whatever the row holds: a row with an infinite entry has an infinite mean of squares, and is
    multiplied by zero. -/
theorem rms_fin (x g : Fin 1024 → EReal) (hg : ∀ d, Fin' (g d)) (d : Fin 1024) : Fin' (Norm.rms x g d) := by
  unfold Norm.rms
  refine Fin'.mul ?_ (hg d)
  by_cases hx : ∀ d, Fin' (x d)
  swap
  · obtain ⟨i, hi⟩ := not_forall.1 hx
    have hi' : x i * x i = ⊤ := by
      rcases eq_top_or_bot hi with h | h <;> rw [h] <;> rfl
    have hs : ∑ k, x k * x k = ⊤ := by
      refine top_unique (hi' ▸ ?_)
      exact Finset.single_le_sum (f := fun k => x k * x k) (fun k _ => sq_nonneg' _) (Finset.mem_univ i)
    obtain ⟨e, he, hee⟩ := eps_pos
    have e1 : Ideal.div (⊤ : EReal) (Ideal.ofBits .f32 0x44800000#32) + Ideal.ofBits .f32 0x358637BD#32 = ⊤ := by
      rw [c1024, hee]
      unfold Ideal.div
      rw [if_neg (by norm_num), ← EReal.coe_inv, EReal.top_mul_coe_of_pos (by norm_num), EReal.top_add_coe]
    rw [hs, e1]
    exact ⟨0, mul_zero (x d)⟩
  refine (hx d).mul ?_
  obtain ⟨e, he, hee⟩ := eps_pos
  obtain ⟨s, hs⟩ := Fin'.sum fun k => (hx k).mul (hx k)
  have h0 : (0 : EReal) ≤ ∑ k, x k * x k := Finset.sum_nonneg fun k _ => sq_nonneg' _
  rw [hs] at h0 ⊢
  have hs0 : 0 ≤ s := by exact_mod_cast h0
  have e1 : Ideal.div (s : EReal) (Ideal.ofBits .f32 0x44800000#32) + Ideal.ofBits .f32 0x358637BD#32 = ((s * 1024⁻¹ + e : ℝ) : EReal) := by
    rw [c1024, hee]
    unfold Ideal.div
    rw [if_neg (by norm_num), ← EReal.coe_inv, ← EReal.coe_mul, ← EReal.coe_add]
  rw [e1]
  have hp : 0 < s * 1024⁻¹ + e := by positivity
  refine ⟨(Real.sqrt (s * 1024⁻¹ + e))⁻¹, ?_⟩
  show (if s * 1024⁻¹ + e < 0 then (⊥ : EReal) else if s * 1024⁻¹ + e = 0 then ⊤ else ((Real.sqrt (s * 1024⁻¹ + e))⁻¹ : ℝ)) = _
  rw [if_neg (not_lt.2 hp.le), if_neg hp.ne']

/-- A token's logits: the normed token against the router's columns. -/
def logits (X : (⟨2, ![16384, 1024]⟩ : Shape).Idx → EReal) (W : (⟨1, ![1024]⟩ : Shape).Idx → EReal) (R : (⟨2, ![1024, 8]⟩ : Shape).Idx → EReal)
    (n : Fin 16384) (e : Fin 8) : EReal :=
  ∑ k : Fin 1024, Norm.rms (fun k => X (ix2 n k)) (fun k => W (ix1 k)) k * R (ix2 k e)

/-- The weights are real numbers. -/
structure Real' (W : (⟨1, ![1024]⟩ : Shape).Idx → EReal) (R : (⟨2, ![1024, 8]⟩ : Shape).Idx → EReal) : Prop where
  w : ∀ k, Fin' (W (ix1 k))
  r : ∀ k e, Fin' (R (ix2 k e))

theorem logits_fin {X : (⟨2, ![16384, 1024]⟩ : Shape).Idx → EReal} {W : (⟨1, ![1024]⟩ : Shape).Idx → EReal} {R : (⟨2, ![1024, 8]⟩ : Shape).Idx → EReal}
    (h : Real' W R) (n : Fin 16384) (e : Fin 8) : Fin' (logits X W R n e) :=
  Fin'.sum fun k => (rms_fin _ _ (fun d => h.w d) k).mul (h.r k e)

end Router

end
-- ==== Proof.Router.Tile.lean ====
/- The router kernel's stretches of operations on a tile of tokens, entry by entry. -/
module

public import proofs.«01_k».proof.Proof.Gen.Kernel8Ideal.Skeleton
public import proofs.«01_k».proof.Proof.Router.Spec
public import Idealize.ShloMosaic.Lib.Pointwise

@[expose] public section

set_option maxRecDepth 16384

noncomputable section

namespace Cert.Kernel8Ideal.Pt

open Idealize.ShloMosaic Idealize.ShloMosaic.TcCoe Idealize.SL.Sem
open Cert.Kernel8Ideal Cert.Kernel8Ideal.Gen
open Attn Router

section
variable (x : FVec Ideal S256x1024 .f32) (w : FVec Ideal S1x1024 .f32) (R : FVec Ideal S8x1024 .f32)

/-- The tile's logits. -/
def tl (r : Fin 256) (e : Fin 8) : EReal := ∑ k : Fin 1024, Norm.rms (fun k => x (ix2 r k)) (fun k => w (ix2 0 k)) k * R (ix2 e k)

theorem logit_at (e : Fin 8) (r : Fin 256) : k0_pay6 (F := Ideal) x w R (ix2 e r) = tl x w R r e := by
  unfold tl
  refine Eq.trans ?_ (Finset.sum_congr rfl fun k _ => mul_comm (R (ix2 e k)) (Norm.rms (fun k => x (ix2 r k)) (fun k => w (ix2 0 k)) k))
  pointwise [k0_pay6, Norm.rms]

theorem first_max_at (r : Fin 256) : k0_pay7 (F := Ideal) x w R (ix2 0 r) = tl x w R r (pick (tl x w R r) 0) := by
  unfold k0_pay7
  have e := fun e => logit_at x w R e r
  generalize k0_pay6 (F := Ideal) x w R = y at e ⊢
  refine Eq.trans ?_ (first_max _)
  rw [← neg_inf]
  pointwise
  simp only [e]

theorem first_num_at (r : Fin 256) : k0_pay8 (F := Ideal) x w R (ix2 0 r) = BitVec.ofNat 32 (pick (tl x w R r) 0).val := by
  unfold k0_pay8
  have e := fun e => logit_at x w R e r
  have e1 := first_max_at x w R r
  generalize k0_pay6 (F := Ideal) x w R = y at e ⊢
  generalize k0_pay7 (F := Ideal) x w R = z at e1 ⊢
  refine Eq.trans ?_ (first_num _)
  pointwise
  simp only [e, e1]

theorem rest_at (e : Fin 8) (r : Fin 256) : k0_pay9 (F := Ideal) x w R (ix2 e r) = rest (tl x w R r) e := by
  unfold k0_pay9
  have e0 := logit_at x w R e r
  have e1 := first_num_at x w R r
  generalize k0_pay6 (F := Ideal) x w R = y at e0 ⊢
  generalize k0_pay8 (F := Ideal) x w R = z at e1 ⊢
  unfold rest
  rw [← neg_inf]
  pointwise
  rw [e0, e1]
  rfl

theorem second_max_at (r : Fin 256) : k0_pay10 (F := Ideal) x w R (ix2 0 r) = tl x w R r (pick (tl x w R r) 1) := by
  unfold k0_pay10
  have e := fun e => rest_at x w R e r
  generalize k0_pay9 (F := Ideal) x w R = y at e ⊢
  refine Eq.trans ?_ (second_max _)
  rw [← neg_inf]
  pointwise
  simp only [e]

theorem second_num_at (r : Fin 256) (hl : ∀ e, Fin' (tl x w R r e)) :
    k0_pay12 (k0_pay11 (F := Ideal) x w R) (ix2 0 r) = BitVec.ofNat 32 (pick (tl x w R r) 1).val := by
  unfold k0_pay12 k0_pay11
  have e := fun e => rest_at x w R e r
  have e1 := second_max_at x w R r
  generalize k0_pay9 (F := Ideal) x w R = y at e ⊢
  generalize k0_pay10 (F := Ideal) x w R = z at e1 ⊢
  refine Eq.trans ?_ (second_num _ hl)
  pointwise
  simp only [e, e1]

theorem one_bits : Ideal.ofBits .f32 0x3F800000#32 = 1 := by pointwise
theorem zero_bits : Ideal.ofBits .f32 0x00000000#32 = 0 := by pointwise

theorem gate0_at (r : Fin 256) : k0_pay14 (k0_pay7 (F := Ideal) x w R) (k0_pay10 (F := Ideal) x w R) (ix2 0 r) = gate (tl x w R r) 0 := by
  have e1 := first_max_at x w R r
  have e2 := second_max_at x w R r
  generalize k0_pay7 (F := Ideal) x w R = y at e1 ⊢
  generalize k0_pay10 (F := Ideal) x w R = z at e2 ⊢
  unfold gate
  rw [if_pos rfl, ← one_bits, ← e1, ← e2]
  pointwise [k0_pay14, k0_pay13]

theorem gate1_at (r : Fin 256) : k0_pay15 (k0_pay7 (F := Ideal) x w R) (k0_pay10 (F := Ideal) x w R) (ix2 0 r) = gate (tl x w R r) 1 := by
  have e1 := first_max_at x w R r
  have e2 := second_max_at x w R r
  generalize k0_pay7 (F := Ideal) x w R = y at e1 ⊢
  generalize k0_pay10 (F := Ideal) x w R = z at e2 ⊢
  unfold gate
  rw [if_neg (by decide), ← one_bits, ← e1, ← e2]
  pointwise [k0_pay15, k0_pay13]

end

/-- The numbers of the experts, down the rows. -/
abbrev nums : IVec S8x256 32 := iota .tc S8x256 32 [0] iota_S8x256_d0_w32

section
variable (L : Fin 256 → Fin 8 → EReal) (i1 : IVec S1x256 32) (v39 : IVec S8x256 32)
  (h1 : ∀ r, i1 (ix2 0 r) = BitVec.ofNat 32 (pick (L r) 0).val) (h2 : ∀ r, k0_pay12 v39 (ix2 0 r) = BitVec.ofNat 32 (pick (L r) 1).val)

include h1 in
theorem hit0_at (e : Fin 8) (r : Fin 256) : k0_pay16 (F := Ideal) nums i1 (ix2 e r) = hit (L r) 0 e := by
  rw [← hit_num, ← h1 r]
  pointwise [k0_pay16]
  rfl

include h2 in
theorem hit1_at (e : Fin 8) (r : Fin 256) : k0_pay17 (F := Ideal) nums v39 (ix2 e r) = hit (L r) 1 e := by
  unfold k0_pay17
  rw [← hit_num, ← h2 r]
  generalize k0_pay12 v39 = y
  pointwise
  rfl

include h1 h2 in
/-- How many of the tile's earlier tokens chose an expert. -/
theorem tile_at (e : Fin 8) (r : Fin 256) : k0_pay18 (F := Ideal) nums i1 v39 (ix2 e r) = ∑ q : Fin 256, if q.val < r.val then both (L q) e else 0 := by
  have e0 := fun r => hit0_at L i1 h1 e r
  have e1 := fun r => hit1_at L v39 h2 e r
  unfold k0_pay18
  generalize k0_pay16 (F := Ideal) nums i1 = y at e0 ⊢
  generalize k0_pay17 (F := Ideal) nums v39 = z at e1 ⊢
  have h : ∀ q : Fin 256, (if q.val < r.val then both (L q) e else 0)
      = Scalar.select (IntOp.cmpi .slt (BitVec.ofNat 32 q.val) (BitVec.ofNat 32 r.val)) (y (ix2 e q) + z (ix2 e q)) 0 := by
    intro q
    show _ = if IntOp.cmpi .slt (BitVec.ofNat 32 q.val) (BitVec.ofNat 32 r.val) = 1#1 then y (ix2 e q) + z (ix2 e q) else 0
    rw [e0, e1]
    by_cases hq : q.val < r.val
    · rw [if_pos hq, if_pos ((before_num q.val r.val (by omega) (by omega)).2 hq)]; rfl
    · rw [if_neg hq, if_neg (fun hc => hq ((before_num q.val r.val (by omega) (by omega)).1 hc))]
  simp only [h]
  pointwise

/-- A row of places: over the tile's counts and the carried ones. -/
theorem row0_at (v v74 : FVec Ideal S8x256 .f32) (c : FVec Ideal S8x1 .f32) (r : Fin 256) :
    k0_pay2 v v74 c (ix2 0 r) = Ideal.fptosi 32 (∑ e : Fin 8, v (ix2 e r) * (v74 (ix2 e r) + c (ix2 e 0))) := by
  pointwise [k0_pay2, k0_pay1]
  rfl

theorem row1_at (v v74 : FVec Ideal S8x256 .f32) (c : FVec Ideal S8x1 .f32) (r : Fin 256) :
    k0_pay3 v v74 c (ix2 0 r) = Ideal.fptosi 32 (∑ e : Fin 8, v (ix2 e r) * (v74 (ix2 e r) + c (ix2 e 0))) := by
  pointwise [k0_pay3, k0_pay1]
  rfl

/-- The carried counts, after the tile. -/
theorem carry_at (v u : FVec Ideal S8x256 .f32) (c : FVec Ideal S8x128 .f32) (e : Fin 8) (l : Fin 128) :
    k0_pay4 v u c (ix2 e l) = c (ix2 e l) + ∑ r : Fin 256, (v (ix2 e r) + u (ix2 e r)) := by
  pointwise [k0_pay4]

theorem zeros_at (e : Fin 8) (l : Fin 128) : k0_pay5 (F := Ideal) (ix2 e l) = 0 := by
  rw [← zero_bits]
  pointwise [k0_pay5]

end

end Cert.Kernel8Ideal.Pt

end
-- ==== Proof.Router.Point.lean ====
/- A point of the router kernel's grid: its four output blocks and the carried counts, of its blocks and the counts it is handed. -/
module

public import proofs.«01_k».proof.Proof.Gen.Kernel8Ideal.Value
public import proofs.«01_k».proof.Proof.Router.Tile
public import Idealize.ShloMosaic.Lib.Pipeline.ValueKit
public import Idealize.ShloMosaic.Lib.Pipeline.ReadBack

@[expose] public section

set_option maxRecDepth 16384

noncomputable section

namespace Cert.Kernel8Ideal.Pt

open Idealize.ShloMosaic Idealize.ShloMosaic.TcCoe Idealize.SL.Sem
open Cert.Kernel8Ideal Cert.Kernel8Ideal.Gen
open Attn Router

variable (m : (ℓ : Loc nD τ sig) → Buf (Elt Ideal) ℓ) (c : Dev nD)

/-- The tile's first and second choices, and its counts of earlier tokens. -/
abbrev hA (t : Fin cfg0.N) : FVec Ideal S8x256 .f32 := k0_pay16 (F := Ideal) nums (k0_pay8 (F := Ideal) (iblk m c 0 t) (iblk m c 1 t) (iblk m c 2 t))
abbrev hB (t : Fin cfg0.N) : FVec Ideal S8x256 .f32 := k0_pay17 (F := Ideal) nums (k0_pay11 (F := Ideal) (iblk m c 0 t) (iblk m c 1 t) (iblk m c 2 t))
abbrev hC (t : Fin cfg0.N) : FVec Ideal S8x256 .f32 := k0_pay18 (F := Ideal) nums (k0_pay8 (F := Ideal) (iblk m c 0 t) (iblk m c 1 t) (iblk m c 2 t)) (k0_pay11 (F := Ideal) (iblk m c 0 t) (iblk m c 1 t) (iblk m c 2 t))

/-- The counts a point is handed. -/
def held (t : Fin cfg0.N) : FVec Ideal S8x128 .f32 :=
  if t.val % 64 = 0 then k0_pay5 (F := Ideal) else (outsAt0 m c (t.val - 1) (Nat.lt_of_le_of_lt (Nat.sub_le _ _) t.isLt)).2.2.2.2

/-- The carried counts. -/
theorem carry_out (t : Fin cfg0.N) : (outsAt0 m c t.val t.isLt).2.2.2.2 = k0_pay4 (hA m c t) (hB m c t) (held m c t) := by
  unfold held
  by_cases h0 : t.val % 64 = 0
  · rw [outsAt0_A m c t h0, if_pos h0]
    frame_out
  · rw [outsAt0_B m c t h0, if_neg h0]
    frame_out
    simp only [read_unread_whole]

theorem cnt_out (t : Fin cfg0.N) : (outsAt0 m c t.val t.isLt).2.2.2.1 = k0_pay4 (hA m c t) (hB m c t) (held m c t) := by
  unfold held
  by_cases h0 : t.val % 64 = 0
  · rw [outsAt0_A m c t h0, if_pos h0]
    frame_out
  · rw [outsAt0_B m c t h0, if_neg h0]
    frame_out
    simp only [read_unread_whole]

theorem at0 {k : Fin 2} {r : Fin 256} {x : S1x256.Idx} (h0 : ((ix2 k r : S2x256.Idx) 0).val = (x 0).val) (h1 : ((ix2 k r : S2x256.Idx) 1).val = (x 1).val) : k = 0 ∧ x = ix2 0 r := by
  have hx : (x 0).val < 1 := (x 0).isLt
  have e0 : k.val = (x 0).val := h0
  have e1 : r.val = (x 1).val := h1
  refine ⟨Fin.ext (by show k.val = 0; omega), funext fun a => Fin.ext ?_⟩
  fin_cases a
  · show (x 0).val = 0
    omega
  · exact e1.symm

theorem at1 {k : Fin 2} {r : Fin 256} {x : S1x256.Idx} (h0 : ((ix2 k r : S2x256.Idx) 0).val = 1 + (x 0).val) (h1 : ((ix2 k r : S2x256.Idx) 1).val = (x 1).val) : k = 1 ∧ x = ix2 0 r := by
  have hx : (x 0).val < 1 := (x 0).isLt
  have e0 : k.val = 1 + (x 0).val := h0
  have e1 : r.val = (x 1).val := h1
  refine ⟨Fin.ext (by show k.val = 1; omega), funext fun a => Fin.ext ?_⟩
  fin_cases a
  · show (x 0).val = 0
    omega
  · exact e1.symm

theorem idx_out (t : Fin cfg0.N) (k : Fin 2) (r : Fin 256) : (outsAt0 m c t.val t.isLt).1 (ix2 k r)
    = if k = 0 then k0_pay8 (F := Ideal) (iblk m c 0 t) (iblk m c 1 t) (iblk m c 2 t) (ix2 0 r)
      else k0_pay12 (k0_pay11 (F := Ideal) (iblk m c 0 t) (iblk m c 1 t) (iblk m c 2 t)) (ix2 0 r) := by
  by_cases h0 : t.val % 64 = 0
  · rw [outsAt0_A m c t h0]
    frame_out
    canon_tiles x hx
    · obtain ⟨rfl, rfl⟩ := at1 hx0 hx1
      rfl
    · obtain ⟨rfl, rfl⟩ := at0 (hx0.trans (by omega)) hx1
      rfl
  · rw [outsAt0_B m c t h0]
    frame_out
    canon_tiles x hx
    · obtain ⟨rfl, rfl⟩ := at1 hx0 hx1
      rfl
    · obtain ⟨rfl, rfl⟩ := at0 (hx0.trans (by omega)) hx1
      rfl

theorem gate_out (t : Fin cfg0.N) (k : Fin 2) (r : Fin 256) : (outsAt0 m c t.val t.isLt).2.1 (ix2 k r)
    = if k = 0 then k0_pay14 (k0_pay7 (F := Ideal) (iblk m c 0 t) (iblk m c 1 t) (iblk m c 2 t)) (k0_pay10 (F := Ideal) (iblk m c 0 t) (iblk m c 1 t) (iblk m c 2 t)) (ix2 0 r)
      else k0_pay15 (k0_pay7 (F := Ideal) (iblk m c 0 t) (iblk m c 1 t) (iblk m c 2 t)) (k0_pay10 (F := Ideal) (iblk m c 0 t) (iblk m c 1 t) (iblk m c 2 t)) (ix2 0 r) := by
  by_cases h0 : t.val % 64 = 0
  · rw [outsAt0_A m c t h0]
    frame_out
    canon_tiles x hx
    · obtain ⟨rfl, rfl⟩ := at1 hx0 hx1
      rfl
    · obtain ⟨rfl, rfl⟩ := at0 (hx0.trans (by omega)) hx1
      rfl
  · rw [outsAt0_B m c t h0]
    frame_out
    canon_tiles x hx
    · obtain ⟨rfl, rfl⟩ := at1 hx0 hx1
      rfl
    · obtain ⟨rfl, rfl⟩ := at0 (hx0.trans (by omega)) hx1
      rfl

/-- The first column of the counts, as the kernel loads it. -/
abbrev col (C : FVec Ideal S8x128 .f32) : FVec Ideal S8x1 .f32 :=
  View.ld (Val := Elt Ideal) (S := S8x128) (e' := .f32) C (Rect.unit (s := S8x128) ![0, 0] S8x1.size inb_S8x128_S8x1_0_0)

theorem col_at (C : FVec Ideal S8x128 .f32) (e : Fin 8) : col C (ix2 e 0) = C (ix2 e 0) := by
  refine congrArg C (funext fun a => Fin.ext ?_)
  fin_cases a
  · show 0 + 1 * e.val = e.val
    omega
  · rfl

theorem rank_out (t : Fin cfg0.N) (k : Fin 2) (r : Fin 256) : (outsAt0 m c t.val t.isLt).2.2.1 (ix2 k r)
    = if k = 0 then k0_pay2 (hA m c t) (hC m c t) (col (held m c t)) (ix2 0 r)
      else k0_pay3 (hB m c t) (hC m c t) (col (held m c t)) (ix2 0 r) := by
  unfold held
  by_cases h0 : t.val % 64 = 0
  · rw [outsAt0_A m c t h0, if_pos h0]
    frame_out
    have e := View.readCov_fill (Val := Elt Ideal) (View.whole cc0_scratch0) inb_S8x128_S8x128_0_0 (k0_pay5 (F := Ideal)) []
      (Rect.unit (s := S8x128) ![0, 0] S8x1.size inb_S8x128_S8x1_0_0) (by decide)
    canon_tiles x hx
    · obtain ⟨rfl, rfl⟩ := at1 hx0 hx1
      exact congrArg (fun y => k0_pay3 (hB m c t) (hC m c t) y (ix2 0 r)) e
    · obtain ⟨rfl, rfl⟩ := at0 (hx0.trans (by omega)) hx1
      exact congrArg (fun y => k0_pay2 (hA m c t) (hC m c t) y (ix2 0 r)) e
  · rw [outsAt0_B m c t h0, if_neg h0]
    frame_out
    simp only [read_unread_whole]
    canon_tiles x hx
    · obtain ⟨rfl, rfl⟩ := at1 hx0 hx1
      rfl
    · obtain ⟨rfl, rfl⟩ := at0 (hx0.trans (by omega)) hx1
      rfl

end Cert.Kernel8Ideal.Pt

end
-- ==== Proof.Router.States.lean ====
/- The router kernel's carried counts at every point, its output blocks, and the four result arrays of these. -/
module

public import proofs.«01_k».proof.Proof.Router.Point

@[expose] public section

set_option maxRecDepth 16384

noncomputable section

namespace Router

open Idealize.ShloMosaic

/-- The four results at every index: the experts, the gates, the places and the counts. -/
def Gi (L : Fin 16384 → Fin 8 → EReal) : (⟨2, ![2, 16384]⟩ : Shape).Idx → BitVec 32 := fun j => BitVec.ofNat 32 (pick (L (j 1)) (j 0)).val
def Gg (L : Fin 16384 → Fin 8 → EReal) : (⟨2, ![2, 16384]⟩ : Shape).Idx → EReal := fun j => gate (L (j 1)) (j 0)
def Gr (L : Fin 16384 → Fin 8 → EReal) : (⟨2, ![2, 16384]⟩ : Shape).Idx → BitVec 32 := fun j => Ideal.fptosi 32 (place L (j 0) (j 1))
def Gc (L : Fin 16384 → Fin 8 → EReal) : (⟨2, ![8, 128]⟩ : Shape).Idx → EReal := fun j => ∑ n, both (L n) (j 0)

end Router

namespace Cert.Kernel8Ideal.Pt

open Idealize.ShloMosaic Idealize.ShloMosaic.TcCoe Idealize.SL.Sem
open Cert.Kernel8Ideal Cert.Kernel8Ideal.Gen
open Attn Router

variable (m : (ℓ : Loc nD τ sig) → Buf (Elt Ideal) ℓ) (c : Dev nD)

/-- The tokens, the gain and the router's matrix. -/
abbrev aX : FVec Ideal S16384x1024 .f32 := m ((c : Thread nD τ).loc main_arg0)
abbrev aW : FVec Ideal S1024 .f32 := m ((c : Thread nD τ).loc main_arg1)
abbrev aR : FVec Ideal S1024x8 .f32 := m ((c : Thread nD τ).loc main_arg2)

/-- The logits of every token. -/
abbrev lg : Fin 16384 → Fin 8 → EReal := logits (aX m c) (aW m c) (aR m c)

theorem idx : ∀ t : Fin cfg0.N, win0_0.index t = ![t.val, 0] ∧ win0_1.index t = ![0, 0] ∧ win0_2.index t = ![0, 0] ∧ win0_3.index t = ![0, t.val]
    ∧ win0_4.index t = ![0, t.val] ∧ win0_5.index t = ![0, t.val] ∧ win0_6.index t = ![0, 0] :=
  (by decide +kernel : ∀ t : Fin grid0.N, _)

theorem row_lt (t : Fin cfg0.N) (r : Fin 256) : 256 * t.val + r.val < 16384 := by have : t.val < 64 := t.isLt; omega

/-- The token of a tile's row. -/
abbrev tok (t : Fin cfg0.N) (r : Fin 256) : Fin 16384 := ⟨256 * t.val + r.val, row_lt t r⟩

theorem x_at (t : Fin cfg0.N) (r : Fin 256) (k : Fin 1024) : iblk m c 0 t (ix2 r k) = aX m c (ix2 (tok t r) k) := by
  blk_ext [iblk, V, idx t]

theorem V_v0 : V m c main_v0 = shapeCast S1x1024 (aW m c) shapeCasts_S1024_S1x1024 := by
  simp only [V, hostOps0, List.flatten_cons, List.flatten_nil, List.append_nil, List.cons_append, List.nil_append]
  entry_read
  try rfl

theorem V_v1 : V m c main_v1 = transpose S8x1024 [1, 0] (aR m c) transposes_S1024x8_S8x1024_1_0 := by
  simp only [V, hostOps0, List.flatten_cons, List.flatten_nil, List.append_nil, List.cons_append, List.nil_append]
  entry_read
  try rfl

theorem w_at (t : Fin cfg0.N) (k : Fin 1024) : iblk m c 1 t (ix2 0 k) = aW m c (ix1 k) := by
  blk_simp [iblk]
  have e : (win0_1.blk t).view.emb (ix2 0 k) = ix2 0 k := by blk_ext [idx t]
  rw [e, V_v0]
  pointwise

theorem r_at (t : Fin cfg0.N) (e : Fin 8) (k : Fin 1024) : iblk m c 2 t (ix2 e k) = aR m c (ix2 k e) := by
  blk_simp [iblk]
  have h : (win0_2.blk t).view.emb (ix2 e k) = ix2 e k := by blk_ext [idx t]
  rw [h, V_v1]
  pointwise

theorem tl_eq (t : Fin cfg0.N) (r : Fin 256) : tl (iblk m c 0 t) (iblk m c 1 t) (iblk m c 2 t) r = lg m c (tok t r) := by
  funext e
  unfold tl lg logits
  simp only [x_at, w_at, r_at]

variable (hr : Real' (aW m c) (aR m c))
include hr

theorem num0 (t : Fin cfg0.N) (r : Fin 256) :
    k0_pay8 (F := Ideal) (iblk m c 0 t) (iblk m c 1 t) (iblk m c 2 t) (ix2 0 r) = BitVec.ofNat 32 (pick (lg m c (tok t r)) 0).val := by
  rw [first_num_at, tl_eq]

theorem num1 (t : Fin cfg0.N) (r : Fin 256) :
    k0_pay12 (k0_pay11 (F := Ideal) (iblk m c 0 t) (iblk m c 1 t) (iblk m c 2 t)) (ix2 0 r) = BitVec.ofNat 32 (pick (lg m c (tok t r)) 1).val := by
  rw [second_num_at _ _ _ _ (fun e => by rw [tl_eq]; exact logits_fin hr _ _), tl_eq]

theorem hA_at (t : Fin cfg0.N) (e : Fin 8) (r : Fin 256) : hA m c t (ix2 e r) = hit (lg m c (tok t r)) 0 e :=
  hit0_at (fun r => lg m c (tok t r)) _ (num0 m c hr t) e r

theorem hB_at (t : Fin cfg0.N) (e : Fin 8) (r : Fin 256) : hB m c t (ix2 e r) = hit (lg m c (tok t r)) 1 e :=
  hit1_at (fun r => lg m c (tok t r)) _ (num1 m c hr t) e r

theorem hC_at (t : Fin cfg0.N) (e : Fin 8) (r : Fin 256) : hC m c t (ix2 e r) = ∑ q : Fin 256, if q.val < r.val then both (lg m c (tok t q)) e else 0 :=
  tile_at (fun r => lg m c (tok t r)) _ _ (num0 m c hr t) (num1 m c hr t) e r

/-- A point adds its tile's choices. -/
theorem step (t : Fin cfg0.N) (C : FVec Ideal S8x128 .f32) (e : Fin 8) (l : Fin 128) (hC : C (ix2 e l) = upto (lg m c) (256 * t.val) e) :
    k0_pay4 (hA m c t) (hB m c t) C (ix2 e l) = upto (lg m c) (256 * t.val + 256) e := by
  rw [carry_at, hC, add_comm, upto_row (lg m c) ⟨t.val, t.isLt⟩ 256 le_rfl e]
  refine congrArg (· + _) (Finset.sum_congr rfl fun q _ => ?_)
  rw [hA_at m c hr, hB_at m c hr, if_pos q.isLt]
  rfl

/-- The counts a point is handed: of the tokens before its tile. -/
theorem held_at : ∀ (n : ℕ) (hn : n < cfg0.N) (e : Fin 8) (l : Fin 128), held m c ⟨n, hn⟩ (ix2 e l) = upto (lg m c) (256 * n) e := by
  intro n
  induction n with
  | zero =>
    intro hn e l
    unfold held
    rw [if_pos (by show 0 % 64 = 0; rfl), zeros_at]
    exact (upto_zero _ _).symm
  | succ n ih =>
    intro hn e l
    have hN : n + 1 < 64 := hn
    unfold held
    rw [if_neg (by show ¬ (n + 1) % 64 = 0; omega)]
    have h := carry_out m c ⟨n, by omega⟩
    refine (congrFun h (ix2 e l)).trans ?_
    exact step m c hr ⟨n, by omega⟩ _ e l (ih (by omega) e l)

theorem rank_at (t : Fin cfg0.N) (k : Fin 2) (r : Fin 256) : (outsAt0 m c t.val t.isLt).2.2.1 (ix2 k r) = Ideal.fptosi 32 (place (lg m c) k (tok t r)) := by
  have hp : ∀ e, hC m c t (ix2 e r) + col (held m c t) (ix2 e 0) = upto (lg m c) (256 * t.val + r.val) e := fun e => by
    rw [hC_at m c hr, col_at, upto_row (lg m c) ⟨t.val, t.isLt⟩ r.val r.isLt.le e]
    exact congrArg (_ + ·) (held_at m c hr t.val t.isLt e 0)
  rw [rank_out]
  unfold place
  fin_cases k
  · refine (if_pos rfl).trans ?_
    rw [row0_at]
    refine congrArg _ (Finset.sum_congr rfl fun e _ => ?_)
    rw [hp, hA_at m c hr]
    rfl
  · refine (if_neg (by decide)).trans ?_
    rw [row1_at]
    refine congrArg _ (Finset.sum_congr rfl fun e _ => ?_)
    rw [hp, hB_at m c hr]
    rfl

theorem idx_at (t : Fin cfg0.N) (k : Fin 2) (r : Fin 256) : (outsAt0 m c t.val t.isLt).1 (ix2 k r) = BitVec.ofNat 32 (pick (lg m c (tok t r)) k).val := by
  rw [idx_out]
  fin_cases k
  · exact (if_pos rfl).trans (num0 m c hr t r)
  · exact (if_neg (by decide)).trans (num1 m c hr t r)

omit hr in
theorem gate_at (t : Fin cfg0.N) (k : Fin 2) (r : Fin 256) : (outsAt0 m c t.val t.isLt).2.1 (ix2 k r) = gate (lg m c (tok t r)) k := by
  rw [gate_out, gate0_at, gate1_at, tl_eq]
  fin_cases k
  · exact if_pos rfl
  · exact if_neg (by decide)

omit hr in
/-- An index of a tile's two rows. -/
theorem pair_ix (y : S2x256.Idx) : ∃ (k : Fin 2) (r : Fin 256), y = ix2 k r := ⟨y 0, y 1, by
  funext a
  fin_cases a <;> rfl⟩

theorem final3 : (dats m 0 c).arrAt 3 cfg0.N = Gi (lg m c) := by
  refine (dats m 0 c).arrAt_eq_of_covers 3 _ (by decide +kernel) fun t hf y => ?_
  blk_simp
  rw [after0_3]
  obtain ⟨k, r, rfl⟩ := pair_ix y
  rw [show (win0_3.blk t).view.emb (ix2 k r) = ix2 k (tok t r) from by blk_ext [idx t]]
  exact idx_at m c hr t k r

theorem final4 : (dats m 0 c).arrAt 4 cfg0.N = Gg (lg m c) := by
  refine (dats m 0 c).arrAt_eq_of_covers 4 _ (by decide +kernel) fun t hf y => ?_
  blk_simp
  rw [after0_4]
  obtain ⟨k, r, rfl⟩ := pair_ix y
  rw [show (win0_4.blk t).view.emb (ix2 k r) = ix2 k (tok t r) from by blk_ext [idx t]]
  exact gate_at m c t k r

theorem final5 : (dats m 0 c).arrAt 5 cfg0.N = Gr (lg m c) := by
  refine (dats m 0 c).arrAt_eq_of_covers 5 _ (by decide +kernel) fun t hf y => ?_
  blk_simp
  rw [after0_5]
  obtain ⟨k, r, rfl⟩ := pair_ix y
  rw [show (win0_5.blk t).view.emb (ix2 k r) = ix2 k (tok t r) from by blk_ext [idx t]]
  exact rank_at m c hr t k r

omit hr in
theorem last : ∀ t : Fin cfg0.N, (cfg0.win 6).flush t = true → t.val = 63 := (by decide +kernel : ∀ t : Fin grid0.N, _)

theorem final6 : (dats m 0 c).arrAt 6 cfg0.N = Gc (lg m c) := by
  refine (dats m 0 c).arrAt_eq_of_covers 6 _ (by decide +kernel) fun t hf y => ?_
  have ht := last t hf
  blk_simp
  rw [after0_6]
  obtain ⟨e, l, rfl⟩ : ∃ (e : Fin 8) (l : Fin 128), y = ix2 e l := ⟨y 0, y 1, by
    funext a
    fin_cases a <;> rfl⟩
  rw [show (win0_6.blk t).view.emb (ix2 e l) = ix2 e l from by blk_ext [idx t], cnt_out, step m c hr t _ e l (held_at m c hr t.val t.isLt e l), ht]
  exact upto_all _ _

end Cert.Kernel8Ideal.Pt

end
-- ==== Proof.Router.Ref.lean ====
/- The reference's reading: its result arrays are the choices, the gates, the places and the counts of all tokens. -/
module

public import proofs.«01_k».proof.Proof.Router.States
public import proofs.«01_k».proof.Proof.Gen.Reference8Ideal.Read
public import Idealize.ShloMosaic.Lib.Claim

@[expose] public section

set_option maxRecDepth 16384

noncomputable section

namespace Router.Ref

open Idealize.ShloMosaic Idealize.ShloMosaic.TcCoe Idealize.SL.Sem
open Cert.Reference8Ideal Cert.Reference8Ideal.Read
open Attn Router

variable (X : FVec Ideal S16384x1024 .f32) (W : FVec Ideal S1024 .f32) (R : FVec Ideal S1024x8 .f32)

theorem logit_at (n : Fin 16384) (e : Fin 8) : val_main_v13 (F := Ideal) X W R (ix2 n e) = logits X W R n e := by
  unfold val_main_v13 val_main_v12 val_main_v11 val_main_v10 val_main_v9 val_main_v8 val_main_v7 val_main_v6 val_main_v5 val_main_cst_1 val_main_v4
    val_main_v3 val_main_cst_0 val_main_v2 val_main_v1 val_main_cst val_main_v0 logits
  pointwise [Norm.rms]

/-- One of two comparisons, the second with a third. -/
theorem either (p q r : Prop) [Decidable p] [Decidable q] [Decidable r] [Decidable (p ∨ (q ∧ r))] (b : BitVec 1) (hb : b = BitVec.ofBool (decide r)) :
    Scalar.select (IntOp.ori (BitVec.ofBool (decide p)) (IntOp.andi (BitVec.ofBool (decide q)) b)) (1 : EReal) 0 = if p ∨ (q ∧ r) then 1 else 0 := by
  subst hb
  show (if IntOp.ori (BitVec.ofBool (decide p)) (IntOp.andi (BitVec.ofBool (decide q)) (BitVec.ofBool (decide r))) = 1#1 then (1 : EReal) else 0) = _
  refine if_congr ?_ rfl rfl
  by_cases hp : p <;> by_cases hq : q <;> by_cases hr : r <;> simp [hp, hq, hr, IntOp.ori, IntOp.andi]

/-- Ahead: more, or as much and of a smaller number. -/
theorem ahead_at (n : Fin 16384) (e f : Fin 8) : val_main_v32 (F := Ideal) X W R (ix3 n e f)
    = if logits X W R n e < logits X W R n f ∨ (logits X W R n f = logits X W R n e ∧ f < e) then 1 else 0 := by
  unfold val_main_v32 val_main_v31 val_main_v30 val_main_v29 val_main_v28 val_main_v27 val_main_v26 val_main_v25 val_main_v24 val_main_v23 val_main_v22
    val_main_v21 val_main_v20 val_main_v19 val_main_v18 val_main_v17 val_main_v16 val_main_v15 val_main_v14 val_main_call0_v0 val_main_call0_v1 val_main_cst_2 val_main_cst_3
  have e0 := logit_at X W R n e
  have e1 := logit_at X W R n f
  generalize val_main_v13 (F := Ideal) X W R = y at e0 e1 ⊢
  simp only [id_eq]
  pointwise
  rw [e0, e1]
  have h2 : IntOp.cmpi .slt (BitVec.ofNat 32 f.val) (BitVec.ofNat 32 e.val) = BitVec.ofBool (decide (f < e)) := by
    exact num_lt f e
  exact either _ _ (f < e) _ h2

theorem place_at (n : Fin 16384) (e : Fin 8) : val_main_v33 (F := Ideal) X W R (ix2 n e) = ahead (logits X W R n) e := by
  unfold val_main_v33 val_main_cst_4 ahead
  have h := fun f => ahead_at X W R n e f
  generalize val_main_v32 (F := Ideal) X W R = y at h ⊢
  pointwise
  simp only [h]

theorem hit_at (k : Fin 2) (n : Fin 16384) (e : Fin 8) : val_main_v40 (F := Ideal) X W R (ix3 k n e) = hit (logits X W R n) k e := by
  rw [← hit_ahead]
  unfold val_main_v40 val_main_v39 val_main_v38 val_main_v37 val_main_v36 val_main_v35 val_main_v34 val_main_call1_v0 val_main_call1_v1 val_main_cst_5 val_main_cst_6
  have h := place_at X W R n e
  have h2 : (((BitVec.ofNat 32 k.val).toInt : ℝ) : EReal) = (((k.val : ℕ) : ℝ) : EReal) := by rw [num_toInt2]; norm_num
  rw [← h2]
  generalize val_main_v33 (F := Ideal) X W R = y at h ⊢
  pointwise
  rw [h]
  rfl

theorem idx_at (k : Fin 2) (n : Fin 16384) : val_main_v47 (F := Ideal) X W R (ix2 k n) = BitVec.ofNat 32 (pick (logits X W R n) k).val := by
  rw [← num_back, ← sum_hit (logits X W R n) (fun e => (((BitVec.ofNat 32 e.val).toInt : ℝ) : EReal)) k]
  unfold val_main_v47 val_main_v46 val_main_v45 val_main_v44 val_main_v43 val_main_v42 val_main_v41 val_main_v14 val_main_cst_7
  have h := fun e => hit_at X W R k n e
  generalize val_main_v40 (F := Ideal) X W R = y at h ⊢
  simp only [id_eq]
  pointwise
  simp only [h]
  rfl

theorem val_at (k : Fin 2) (n : Fin 16384) : val_main_v52 (F := Ideal) X W R (ix2 k n) = logits X W R n (pick (logits X W R n) k) := by
  rw [← sum_hit (logits X W R n) (logits X W R n) k]
  unfold val_main_v52 val_main_v51 val_main_v50 val_main_v49 val_main_v48 val_main_cst_8
  have h := fun e => hit_at X W R k n e
  have h1 := fun e => logit_at X W R n e
  generalize val_main_v40 (F := Ideal) X W R = y at h ⊢
  generalize val_main_v13 (F := Ideal) X W R = z at h1 ⊢
  simp only [id_eq]
  pointwise
  simp only [h, h1]

/-- The larger of two rows. -/
theorem colmax {N : ℕ} (y : FVec Ideal (⟨2, ![2, N]⟩ : Shape) .f32) (c : FVec Ideal S_ .f32) (hh : Shape.ReducesTo (⟨2, ![2, N]⟩ : Shape) [0] (⟨1, ![N]⟩ : Shape)) (hu : 0 < S_.numel) (n : Fin N) :
    Host.reduce FloatOps.maximumf y c hh hu (ix1 n) = Finset.univ.fold max (c (Shape.Idx.first (by decide))) fun k : Fin 2 => y (ix2 k n) := by
  simp only [pointwise]

theorem max_at (n : Fin 16384) : val_main_v55 (F := Ideal) X W R (ix1 n) = Finset.univ.fold max ⊥ (fun q : Fin 2 => logits X W R n (pick (logits X W R n) q)) := by
  have h := fun k => val_at X W R k n
  have e : val_main_v53 (F := Ideal) X W R (ix1 n) = Finset.univ.fold max ⊥ (fun q : Fin 2 => logits X W R n (pick (logits X W R n) q)) := by
    unfold val_main_v53
    generalize val_main_v52 (F := Ideal) X W R = y at h ⊢
    refine (colmax y _ _ _ n).trans ?_
    simp only [h]
    refine congrArg (fun b => Finset.univ.fold max b _) ?_
    exact neg_inf
  unfold val_main_v55 val_main_v54 val_main_cst_10
  generalize val_main_v53 (F := Ideal) X W R = y at e ⊢
  refine Eq.trans ?_ e
  pointwise
  rw [neg_inf]
  exact max_eq_right bot_le

theorem gate_at (hr : Real' W R) (k : Fin 2) (n : Fin 16384) : val_main_v63 (F := Ideal) X W R (ix2 k n) = gate (logits X W R n) k := by
  rw [← gate_eq _ (fun e => logits_fin hr n e) k]
  unfold val_main_v63 val_main_v62 val_main_v61 val_main_v60 val_main_v59 val_main_v58 val_main_v57 val_main_v56 val_main_cst_11
  have h := fun k => val_at X W R k n
  have h1 := max_at X W R n
  generalize val_main_v52 (F := Ideal) X W R = y at h ⊢
  generalize val_main_v55 (F := Ideal) X W R = z at h1 ⊢
  pointwise
  simp only [h, h1]
  try rfl

theorem both_at (n : Fin 16384) (e : Fin 8) : val_main_v65 (F := Ideal) X W R (ix2 n e) = both (logits X W R n) e := by
  unfold val_main_v65 val_main_v64 val_main_cst_12 both
  have h := fun k => hit_at X W R k n e
  generalize val_main_v40 (F := Ideal) X W R = y at h ⊢
  rw [← h, ← h, ← Fin.sum_univ_two (fun k => y (ix3 k n e))]
  simp only [id_eq]
  pointwise

theorem upto_at (n : Fin 16384) (e : Fin 8) : val_main_v73 (F := Ideal) X W R (ix2 n e) = upto (logits X W R) n.val e := by
  unfold val_main_v73 val_main_v72 val_main_v71 val_main_v70 val_main_v69 val_main_v68 val_main_v67 val_main_v66 val_main_call2_v0 val_main_call2_v1 val_main_cst_13 val_main_cst_14 upto
  have h := fun n => both_at X W R n e
  generalize val_main_v65 (F := Ideal) X W R = y at h ⊢
  have e1 : ∀ q : Fin 16384, (if q.val < n.val then both (logits X W R q) e else 0)
      = Scalar.select (IntOp.cmpi .slt (BitVec.ofNat 32 q.val) (BitVec.ofNat 32 n.val)) (y (ix2 q e)) 0 := by
    intro q
    show _ = if IntOp.cmpi .slt (BitVec.ofNat 32 q.val) (BitVec.ofNat 32 n.val) = 1#1 then y (ix2 q e) else 0
    rw [h]
    by_cases hq : q.val < n.val
    · rw [if_pos hq, if_pos ((before_num q.val n.val q.isLt n.isLt).2 hq)]
    · rw [if_neg hq, if_neg (fun hc => hq ((before_num q.val n.val q.isLt n.isLt).1 hc))]
  simp only [e1]
  pointwise

theorem rank_at (k : Fin 2) (n : Fin 16384) : val_main_v79 (F := Ideal) X W R (ix2 k n) = Ideal.fptosi 32 (place (logits X W R) k n) := by
  unfold val_main_v79 val_main_v78 val_main_v77 val_main_v76 val_main_v75 val_main_v74 val_main_cst_15 place
  have h := fun e => hit_at X W R k n e
  have h1 := fun e => upto_at X W R n e
  generalize val_main_v40 (F := Ideal) X W R = y at h ⊢
  generalize val_main_v73 (F := Ideal) X W R = z at h1 ⊢
  simp only [id_eq]
  pointwise
  simp only [h, h1]
  rfl

theorem cnt_at (e : Fin 8) (l : Fin 128) : val_main_v82 (F := Ideal) X W R (ix2 e l) = ∑ n, both (logits X W R n) e := by
  unfold val_main_v82 val_main_v81 val_main_v80 val_main_cst_16
  have h := fun n => both_at X W R n e
  generalize val_main_v65 (F := Ideal) X W R = y at h ⊢
  pointwise
  simp only [h]

theorem pair_ix (y : S2x16384.Idx) : ∃ (k : Fin 2) (r : Fin 16384), y = ix2 k r := ⟨y 0, y 1, by
  funext a
  fin_cases a <;> rfl⟩

theorem ref_i : val_main_v47 (F := Ideal) X W R = Gi (logits X W R) := funext fun j => by
  obtain ⟨k, r, rfl⟩ := pair_ix j
  exact idx_at X W R k r

theorem ref_g (hr : Real' W R) : val_main_v63 (F := Ideal) X W R = Gg (logits X W R) := funext fun j => by
  obtain ⟨k, r, rfl⟩ := pair_ix j
  exact gate_at X W R hr k r

theorem ref_r : val_main_v79 (F := Ideal) X W R = Gr (logits X W R) := funext fun j => by
  obtain ⟨k, r, rfl⟩ := pair_ix j
  exact rank_at X W R k r

theorem ref_c : val_main_v82 (F := Ideal) X W R = Gc (logits X W R) := funext fun j => by
  obtain ⟨e, l, rfl⟩ : ∃ (e : Fin 8) (l : Fin 128), j = ix2 e l := ⟨j 0, j 1, by
    funext a
    fin_cases a <;> rfl⟩
  exact cnt_at X W R e l

end Router.Ref

end
-- ==== Proof.Router.Claim.lean ====
/- The claim about the router: with real weights, the kernel's four result arrays are the reference's. -/
module

public import proofs.«01_k».proof.Defs
public import proofs.«01_k».proof.Proof.Router.Ref
public import proofs.«01_k».proof.Proof.Gen.Reference8Ideal.Run
public import proofs.«01_k».proof.Proof.Gen.Pre_finite_router
public import proofs.«01_k».proof.Proof.Attn.Claim
public import Idealize.ShloMosaic.Lib.Claim

@[expose] public section

set_option maxRecDepth 16384

noncomputable section

namespace Cert.Proof.Router

open Idealize.ShloMosaic Idealize.ShloMosaic.TcCoe Idealize.SL.Sem
open Cert.Reference8Ideal Cert.Reference8Ideal.Read
open _root_.Router _root_.Attn

/-- What the predicate's ones say. -/
theorem real_of (X : FVec Ideal S16384x1024 .f32) (W : FVec Ideal S1024 .f32) (R : FVec Ideal S1024x8 .f32)
    (h : (Cert.Pre_finite_router.fn (F := Ideal) X W R).1 = (fun _ => 1#1) ∧ (Cert.Pre_finite_router.fn (F := Ideal) X W R).2 = (fun _ => 1#1)) :
    Real' W R := by
  obtain ⟨h1, h2⟩ := h
  refine ⟨fun k => ?_, fun k e => ?_⟩
  · have e := congrFun h1 (ix1 k)
    refine Cert.Proof.Attn.fin_of_cmp (Eq.trans ?_ e)
    unfold Cert.Pre_finite_router.fn
    pointwise
    rfl
  · have e := congrFun h2 (ix2 k e)
    refine Cert.Proof.Attn.fin_of_cmp (Eq.trans ?_ e)
    unfold Cert.Pre_finite_router.fn
    pointwise
    rfl

theorem algebraic : Cert.algebraic_Kernel8Ideal_Reference8Ideal_pre_finite_router := by
  intro m g m' g' hpre hagree
  refine ⟨fun c => Gi (Cert.Kernel8Ideal.Pt.lg m c), fun c => Gg (Cert.Kernel8Ideal.Pt.lg m c), fun c => Gr (Cert.Kernel8Ideal.Pt.lg m c),
    fun c => Gc (Cert.Kernel8Ideal.Pt.lg m c), ?_, ?_⟩
  · refine (θ_run Cert.Kernel8Ideal.defs _ _).mono (fun r h c => ?_) (Cert.Kernel8Ideal.Value.run_blocks (F := Ideal) m g)
    have hr := real_of _ _ _ (hpre c)
    exact ⟨(h c).1.trans (Cert.Kernel8Ideal.Pt.final3 m c hr), (h c).2.1.trans (Cert.Kernel8Ideal.Pt.final4 m c hr),
      (h c).2.2.1.trans (Cert.Kernel8Ideal.Pt.final5 m c hr), (h c).2.2.2.1.trans (Cert.Kernel8Ideal.Pt.final6 m c hr), (h c).2.2.2.2⟩
  · refine (θ_run Cert.Reference8Ideal.defs _ _).mono (fun r h c => ?_) (Cert.Reference8Ideal.Value.run (F := Ideal) m' g')
    have hr := real_of _ _ _ (hpre c)
    obtain ⟨e0, e1, e2⟩ := hagree c
    have hl : logits (m' ((c.tc : Thread nD τ).loc main_arg0)) (m' ((c.tc : Thread nD τ).loc main_arg1)) (m' ((c.tc : Thread nD τ).loc main_arg2)) = Cert.Kernel8Ideal.Pt.lg m c := by
      rw [e0, e1, e2]
    refine ⟨(h c).1.trans ?_, (h c).2.1.trans ?_, (h c).2.2.1.trans ?_, (h c).2.2.2.1.trans ?_, (h c).2.2.2.2⟩
    · rw [val_main_v47_eq]
      exact (Ref.ref_i _ _ _).trans (congrArg Gi hl)
    · rw [val_main_v63_eq]
      refine (Ref.ref_g _ _ _ ?_).trans (congrArg Gg hl)
      rw [e1, e2]
      exact hr
    · rw [val_main_v79_eq]
      exact (Ref.ref_r _ _ _).trans (congrArg Gr hl)
    · rw [val_main_v82_eq]
      exact (Ref.ref_c _ _ _).trans (congrArg Gc hl)

/-- The reference leaves its arguments, and has no counter that could be left raised. -/
theorem frame_ref : Cert.quiescent_Reference8Ideal := fun m ρ _ =>
  (θ_run Cert.Reference8Ideal.defs _ _).mono (fun r h => ⟨fun c => (h c).2.2.2.2, sem_eq_zero_of_no_sems (by decide) r.2⟩)
    (Cert.Reference8Ideal.Value.run (F := Ideal) m ρ)

/-- The same with real weights. -/
theorem frame_ref_pre : Cert.quiescent_Reference8Ideal_pre_finite_router := fun m ρ _ =>
  (θ_run Cert.Reference8Ideal.defs _ _).mono (fun r h => ⟨fun c => (h c).2.2.2.2, sem_eq_zero_of_no_sems (by decide) r.2⟩)
    (Cert.Reference8Ideal.Value.run (F := Ideal) m ρ)

end Cert.Proof.Router

end
-- ==== Proof.Up.Run.lean ====
/- The first two products of the experts and their activation, at the ideal instance: the call runs for every table of experts
   that names experts, and leaves its arguments as they were. Each point either writes the block of its group
   (the group lies before the number of groups in use) or writes zeros (it does not). -/
module

public import proofs.«01_k».proof.Proof.Gen.Kernel5Ideal.Launch
public import proofs.«01_k».proof.Proof.Gen.Kernel5Ideal.Skeleton
public import Idealize.ShloMosaic.Lib.Pipeline.FrameBody
public import Idealize.ShloMosaic.Lib.Ring
public import Idealize.ShloMosaic.Lib.Tactic
public import Idealize.ShloMosaic.Lib.WordCmp
public import Idealize.ShloMosaic.Lib.Claim

@[expose] public section

set_option maxRecDepth 16384

noncomputable section

namespace Cert.Kernel5Ideal.Fr

open Cert.Kernel5Ideal Cert.Kernel5Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## Up to the call -/

/-- A core's buffers when the call is entered: after the casts of the arguments. -/
abbrev V (c : Dev nD) (b : Ref sig .tc) : Buf (Elt F) ((c : Thread nD τ).loc b) := StableHlo.after hostOps0 (fun b => m (c, b)) b

theorem hostOps0_fresh : (hostOps0 : List (HloOp τ sig (Elt F))).Forall fun op => op.fresh = ∅ := by
  simp only [List.Forall]; repeat' constructor

set_option maxHeartbeats 800000 in
theorem hmain (𝒱₀ : Variants) : Pipeline.HMainP (Ix := Unit) (Name := ℕ) (U := UR sig nD τ) (Lvl := ℕ) pcfgs 0 defs₀ 𝒱₀ m (main (F := F)) (V m) :=
  Pipeline.hmainP_prefix pcfgs 0 defs₀ 𝒱₀ m main hostOps0 hostOps0_sub hostOps0_fresh main_chain

theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.Forall, StableHlo.unary_writes, Finset.mem_singleton]
    repeat' apply And.intro
    all_goals exact StableHlo.devRef_ne_of_ne (by decide)))

theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.Forall, StableHlo.unary_writes, Finset.mem_singleton]
    repeat' apply And.intro
    all_goals exact StableHlo.devRef_ne_of_ne (by decide)))

theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.Forall, StableHlo.unary_writes, Finset.mem_singleton]
    repeat' apply And.intro
    all_goals exact StableHlo.devRef_ne_of_ne (by decide)))

theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, List.Forall, StableHlo.unary_writes, Finset.mem_singleton]
    repeat' apply And.intro
    all_goals exact StableHlo.devRef_ne_of_ne (by decide)))

theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, List.Forall, StableHlo.unary_writes, Finset.mem_singleton]
    repeat' apply And.intro
    all_goals exact StableHlo.devRef_ne_of_ne (by decide)))

/-! ## The two tables: each group's expert, and the number of groups in use -/

def tbl : pre0.Contents (Elt F) := fun j => V m (0 : Dev nD) (pre0.ref j)
theorem V_pre (c : Dev nD) (j : Fin 2) : V m c (pre0.ref j) = tbl m j := by
  obtain rfl : c = 0 := Subsingleton.elim _ _; rfl
/-- Every group's word names an expert. -/
abbrev Ok : Prop := ok0 (F := F) (tbl m)
abbrev adm (hO : Ok m) : (pcfg0 (F := F)).Adm := ⟨tbl m, hO⟩
abbrev cfgM (hO : Ok m) : Pipeline.Cfg sig Λ₀ := cfg0 (adm m hO)

abbrev tbM0_0 : Memref sig .tc .smem S136 .i32 := Memref.whole main_arg0
abbrev htbM0_0 : tbM0_0.IsWhole := Memref.isWhole_whole _
abbrev tbM0_1 : Memref sig .tc .smem S1 .i32 := Memref.whole main_arg1
abbrev htbM0_1 : tbM0_1.IsWhole := Memref.isWhole_whole _

/-- A table's buffer, and half of its ownership: the body only reads it. -/
abbrev TbBuf0 (c : Dev nD) {S : Shape} {e : EltTy} (M : Memref sig .tc .smem S e) : Type := Buf (Elt F) (M.view.loc (c : Thread nD τ))
abbrev tbPt0 (c : Dev nD) {S : Shape} {e : EltTy} (M : Memref sig .tc .smem S e) (f : TbBuf0 (F := F) c M) : sProp 𝕄 :=
  M.view.loc (c : Thread nD τ) ↦{fullShare.right} f

theorem PhiT0_eq (c : Dev nD) : (Pipeline.ΦT pre0 (tbl m) c : sProp 𝕄) = iprop(tbPt0 c tbM0_0 (tbl m 0) ∗ tbPt0 c tbM0_1 (tbl m 1)) := by
  unfold Pipeline.ΦT Pipeline.prefHeld
  rw [show (Finset.univ : Finset (Fin 2)) = insert (0 : Fin 2) {(1 : Fin 2)} from by decide,
    bigSep_insert (by decide), bigSep_singleton]
  rfl

/-! ## The windows' blocks -/

/-- Window `w`'s block at point `t`, read off its array as the call finds it. -/
def iblk (hO : Ok m) (c : Dev nD) (w : Fin (cfgM m hO).W) (t : Fin (cfgM m hO).N) : (((cfgM m hO).win w).xblock ((cfgM m hO).grid.coords t)).Idx → Elt F ((cfgM m hO).win w).elt :=
  (((cfgM m hO).win w).blk t).view.read (Elt F) (V m c (Pipeline.arrRef spec0 w))

theorem before0_0_of (hO : Ok m) {c : Dev nD} (dat : Dat τ (Elt F) Unit ℕ (UR sig nD τ) ℕ (cfgM m hO) c) (hA : dat.A 0 = V m c (Pipeline.arrRef spec0 0))
    (hafter : ∀ t, dat.after 0 t = iblk m hO c 0 t) (t : Fin (cfgM m hO).N) (d) : dat.before 0 t d = iblk m hO c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

theorem before0_1_of (hO : Ok m) {c : Dev nD} (dat : Dat τ (Elt F) Unit ℕ (UR sig nD τ) ℕ (cfgM m hO) c) (hA : dat.A 1 = V m c (Pipeline.arrRef spec0 1))
    (hafter : ∀ t, dat.after 1 t = iblk m hO c 1 t) (t : Fin (cfgM m hO).N) (d) : dat.before 1 t d = iblk m hO c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

theorem before0_2_of (hO : Ok m) {c : Dev nD} (dat : Dat τ (Elt F) Unit ℕ (UR sig nD τ) ℕ (cfgM m hO) c) (hA : dat.A 2 = V m c (Pipeline.arrRef spec0 2))
    (hafter : ∀ t, dat.after 2 t = iblk m hO c 2 t) (t : Fin (cfgM m hO).N) (d) : dat.before 2 t d = iblk m hO c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-! ## A group is in use or it is not -/

/-- The word that holds the number of groups in use, as the body loads it. -/
abbrev word (c : Dev nD) (x : TbBuf0 (F := F) c tbM0_1) : BitVec 32 :=
  tbM0_1.view.readAt (Elt F) (Rect.unit (s := S1) ![0] S1.size inb_S1_S1_0).toLoadRect x (Shape.Idx.first (numel1_S1.symm ▸ Nat.one_pos))

abbrev cond0_0 (i : grid0.Coords) (v : BitVec 32) : Prop := (Scalar.cmpi .ne (Scalar.extui (Scalar.cmpi .slt (BitVec.ofNat 32 (i 1).val) v)) 0#32) = 1#1
abbrev cond0_1 (i : grid0.Coords) (v : BitVec 32) : Prop := (Scalar.cmpi .ne (Scalar.extui (Scalar.cmpi .sge (BitVec.ofNat 32 (i 1).val) v)) 0#32) = 1#1

theorem used_iff (i : grid0.Coords) (v : BitVec 32) : cond0_0 i v ↔ (BitVec.ofNat 32 (i 1).val).slt v = true := by
  unfold cond0_0
  cases h : (BitVec.ofNat 32 (i 1).val).slt v <;> simp [Scalar.cmpi, Scalar.extui, IntOp.cmpi, h]

theorem unused_iff (i : grid0.Coords) (v : BitVec 32) : cond0_1 i v ↔ ¬cond0_0 i v := by
  rw [used_iff]
  unfold cond0_1
  have e : (v.sle (BitVec.ofNat 32 (i 1).val)) = !(BitVec.ofNat 32 (i 1).val).slt v := by
    rw [BitVec.sle_eq_not_slt]
  cases h : (BitVec.ofNat 32 (i 1).val).slt v <;> simp [Scalar.cmpi, Scalar.extui, IntOp.cmpi, h, e]

/-- So every point stores into the result's block. -/
theorem never_idle (pf : pre0.Contents (Elt F)) (i : grid0.Coords) : idle0 pf 3 i = false := by
  show (!(k0_cond1 i (pf.atD 1 ![0]) == 1#1) && !(k0_cond2 i (pf.atD 1 ![0]) == 1#1)) = false
  by_cases h : cond0_0 i (pf.atD 1 ![0])
  · rw [show k0_cond1 i (pf.atD 1 ![0]) = 1#1 from h]; rfl
  · rw [show k0_cond2 i (pf.atD 1 ![0]) = 1#1 from (unused_iff i _).mpr h]; simp

/-! ## What a point leaves -/

abbrev rIn : Rect S256x1024 := Rect.unit (s := S256x1024) ![0, 0] S256x1024.size inb_S256x1024_S256x1024_0_0
abbrev rW : Rect S1x1024x512 := Rect.unit (s := S1x1024x512) ![0, 0, 0] S1x1024x512.size inb_S1x1024x512_S1x1024x512_0_0_0
abbrev rOut : Rect S256x512 := Rect.unit (s := S256x512) ![0, 0] S256x512.size inb_S256x512_S256x512_0_0

/-- The block of a group in use. -/
def full (x0 : Vec F S256x1024 .bf16) (x1 : Vec F S1x1024x512 .bf16) (x2 : Vec F S1x1024x512 .bf16) : Vec F S256x512 .bf16 := View.canon [⟨rOut, k0_pay1 (View.ld x0 rIn) (View.ld x1 rW) (View.ld x2 rW)⟩]
/-- The block of a group not in use. -/
def zero : Vec F S256x512 .bf16 := View.canon [⟨rOut, k0_pay2 (F := F)⟩]

theorem cover (p0 : Vec F S256x512 .bf16) (y : S256x512.Idx) :
    ∃ pc ∈ ([⟨rOut, p0⟩] : List (View.Piece (Elt F) S256x512 .bf16)), y ∈ pc.1.set :=
  View.cover_of_tiled [⟨rOut, p0⟩] S256x512.size (by rfl) y

set_option maxHeartbeats 1000000 in
/-- The body at a group in use. -/
theorem body_used (c : Dev nD) (E : Set ℕ) (i : grid0.Coords) (arg4 : Memref sig .tc .vmem S256x1024 .bf16) (harg4 : arg4.IsWhole) (arg5 : Memref sig .tc .vmem S1x1024x512 .bf16) (harg5 : arg5.IsWhole) (arg6 : Memref sig .tc .vmem S1x1024x512 .bf16) (harg6 : arg6.IsWhole) (arg7 : Memref sig .tc .vmem S256x512 .bf16) (harg7 : arg7.IsWhole)
    (x0 : Vec F S256x1024 .bf16) (x1 : Vec F S1x1024x512 .bf16) (x2 : Vec F S1x1024x512 .bf16) (xt0 : TbBuf0 (F := F) c tbM0_0) (xt1 : TbBuf0 (F := F) c tbM0_1) (hc0 : cond0_0 i (word c xt1)) (hc1 : ¬cond0_1 i (word c xt1)) (K : PUnit → sProp 𝕄) :
    iprop(owns (c : Thread nD τ) arg4 fullShare x0 ∗ owns (c : Thread nD τ) arg5 fullShare x1 ∗ owns (c : Thread nD τ) arg6 fullShare x2 ∗ (∃ d, owns (c : Thread nD τ) arg7 fullShare d) ∗ tbPt0 c tbM0_0 xt0 ∗ tbPt0 c tbM0_1 xt1
        ∗ (iprop(owns (c : Thread nD τ) arg4 fullShare x0 ∗ owns (c : Thread nD τ) arg5 fullShare x1 ∗ owns (c : Thread nD τ) arg6 fullShare x2 ∗ owns (c : Thread nD τ) arg7 fullShare (full x0 x1 x2) ∗ tbPt0 c tbM0_0 xt0 ∗ tbPt0 c tbM0_1 xt1) -∗ K ⟨⟩))
      ⊢ wp frame (wpE (defs₀ (F := F)) Variants.none c none) E (cc0_expert_up i tbM0_0 htbM0_0 tbM0_1 htbM0_1 arg4 harg4 arg5 harg5 arg6 harg6 arg7 harg7) K := by
  simp only [cc0_expert_up_eq_skeleton]; unfold cc0_expert_up_skel
  unfold owns
  iintro ⟨⟨%f0, %hf0, H0⟩, ⟨%f1, %hf1, H1⟩, ⟨%f2, %hf2, H2⟩, ⟨%dO, %fO, -, HO⟩, HT0, HT1, Hk⟩
  subst hf0 hf1 hf2
  sl_exec (disch := first | sl_exact hc0 | sl_exact hc1)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [HO]
  · iexists _; isplitr
    swap; · iexact HO
    ipureintro
    refine (View.read_writes_eq_canon _ _ _ (cover _)).trans ?_
    rfl
  isplitl [HT0]; · iexact HT0
  iexact HT1

set_option maxHeartbeats 1000000 in
/-- The body at a group not in use. -/
theorem body_unused (c : Dev nD) (E : Set ℕ) (i : grid0.Coords) (arg4 : Memref sig .tc .vmem S256x1024 .bf16) (harg4 : arg4.IsWhole) (arg5 : Memref sig .tc .vmem S1x1024x512 .bf16) (harg5 : arg5.IsWhole) (arg6 : Memref sig .tc .vmem S1x1024x512 .bf16) (harg6 : arg6.IsWhole) (arg7 : Memref sig .tc .vmem S256x512 .bf16) (harg7 : arg7.IsWhole)
    (x0 : Vec F S256x1024 .bf16) (x1 : Vec F S1x1024x512 .bf16) (x2 : Vec F S1x1024x512 .bf16) (xt0 : TbBuf0 (F := F) c tbM0_0) (xt1 : TbBuf0 (F := F) c tbM0_1) (hc0 : ¬cond0_0 i (word c xt1)) (hc1 : cond0_1 i (word c xt1)) (K : PUnit → sProp 𝕄) :
    iprop(owns (c : Thread nD τ) arg4 fullShare x0 ∗ owns (c : Thread nD τ) arg5 fullShare x1 ∗ owns (c : Thread nD τ) arg6 fullShare x2 ∗ (∃ d, owns (c : Thread nD τ) arg7 fullShare d) ∗ tbPt0 c tbM0_0 xt0 ∗ tbPt0 c tbM0_1 xt1
        ∗ (iprop(owns (c : Thread nD τ) arg4 fullShare x0 ∗ owns (c : Thread nD τ) arg5 fullShare x1 ∗ owns (c : Thread nD τ) arg6 fullShare x2 ∗ owns (c : Thread nD τ) arg7 fullShare (zero (F := F)) ∗ tbPt0 c tbM0_0 xt0 ∗ tbPt0 c tbM0_1 xt1) -∗ K ⟨⟩))
      ⊢ wp frame (wpE (defs₀ (F := F)) Variants.none c none) E (cc0_expert_up i tbM0_0 htbM0_0 tbM0_1 htbM0_1 arg4 harg4 arg5 harg5 arg6 harg6 arg7 harg7) K := by
  simp only [cc0_expert_up_eq_skeleton]; unfold cc0_expert_up_skel
  unfold owns
  iintro ⟨⟨%f0, %hf0, H0⟩, ⟨%f1, %hf1, H1⟩, ⟨%f2, %hf2, H2⟩, ⟨%dO, %fO, -, HO⟩, HT0, HT1, Hk⟩
  subst hf0 hf1 hf2
  sl_exec (disch := first | sl_exact hc0 | sl_exact hc1)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [HO]
  · iexists _; isplitr
    swap; · iexact HO
    ipureintro
    refine (View.read_writes_eq_canon _ _ _ (cover _)).trans ?_
    rfl
  isplitl [HT0]; · iexact HT0
  iexact HT1

/-! ## The proof data -/

/-- What point `t` leaves in the result's block. -/
def outsAt0 (hO : Ok m) (c : Dev nD) (t : Fin (cfgM m hO).N) : Vec F S256x512 .bf16 :=
  open Classical in if cond0_0 (grid0.coords t) (word c (tbl m 1)) then full (iblk m hO c 0 t) (iblk m hO c 1 t) (iblk m hO c 2 t) else zero

def dats (hO : Ok m) (_ : Fin 1) (c : Dev nD) : Dat τ (Elt F) Unit ℕ (UR sig nD τ) ℕ (cfgM m hO) c where
  A w := V m c (Pipeline.arrRef spec0 w)
  after w t := match w with
    | ⟨0, _⟩ => iblk m hO c 0 t
    | ⟨1, _⟩ => iblk m hO c 1 t
    | ⟨2, _⟩ => iblk m hO c 2 t
    | ⟨3, _⟩ => (outsAt0 m hO c t)
  Φ _ := iprop(Pipeline.ΦA spec0 c ∗ Pipeline.ΦT pre0 (tbl m) c)
  q _ := fullShare
  owed _ := 0

theorem A_eq (hO : Ok m) (c : Dev nD) (w : Fin (cfgM m hO).W) : (dats m hO 0 c).A w = V m c (Pipeline.arrRef spec0 w) := by
  dsimp only [dats]

theorem after0_0 (hO : Ok m) (c : Dev nD) (t : Fin (cfgM m hO).N) : (dats m hO 0 c).after 0 t = iblk m hO c 0 t := by dsimp only [dats]; try rfl
theorem after0_1 (hO : Ok m) (c : Dev nD) (t : Fin (cfgM m hO).N) : (dats m hO 0 c).after 1 t = iblk m hO c 1 t := by dsimp only [dats]; try rfl
theorem after0_2 (hO : Ok m) (c : Dev nD) (t : Fin (cfgM m hO).N) : (dats m hO 0 c).after 2 t = iblk m hO c 2 t := by dsimp only [dats]; try rfl
theorem after0_3 (hO : Ok m) (c : Dev nD) (t : Fin (cfgM m hO).N) : (dats m hO 0 c).after 3 t = (outsAt0 m hO c t) := by dsimp only [dats]; try rfl

theorem before0_0 (hO : Ok m) (c : Dev nD) (t : Fin (cfgM m hO).N) (d) : (dats m hO 0 c).before 0 t d = iblk m hO c 0 t :=
  before0_0_of m hO (dats m hO 0 c) (A_eq m hO c 0) (after0_0 m hO c) t d
theorem before0_1 (hO : Ok m) (c : Dev nD) (t : Fin (cfgM m hO).N) (d) : (dats m hO 0 c).before 1 t d = iblk m hO c 1 t :=
  before0_1_of m hO (dats m hO 0 c) (A_eq m hO c 1) (after0_1 m hO c) t d
theorem before0_2 (hO : Ok m) (c : Dev nD) (t : Fin (cfgM m hO).N) (d) : (dats m hO 0 c).before 2 t d = iblk m hO c 2 t :=
  before0_2_of m hO (dats m hO 0 c) (A_eq m hO c 2) (after0_2 m hO c) t d

/-! ## The body at every point -/

abbrev ms0_0 (hO : Ok m) (t : Fin (cfgM m hO).N) : Memref sig .tc .vmem S256x1024 .bf16 := spec0_0.stage ((cfgM m hO).slots t 0)
abbrev ms0_1 (hO : Ok m) (t : Fin (cfgM m hO).N) : Memref sig .tc .vmem S1x1024x512 .bf16 := spec0_1.stage ((cfgM m hO).slots t 1)
abbrev ms0_2 (hO : Ok m) (t : Fin (cfgM m hO).N) : Memref sig .tc .vmem S1x1024x512 .bf16 := spec0_2.stage ((cfgM m hO).slots t 2)
abbrev ms0_3 (hO : Ok m) (t : Fin (cfgM m hO).N) : Memref sig .tc .vmem S256x512 .bf16 := spec0_3.stage ((cfgM m hO).slots t 3)

abbrev bodyAt0 (a : (pcfg0 (F := F)).Adm) (t : Fin (cfg0 a).N) : Prog (TpuEff nD τ sig (Elt F) Λ₀ .tc) PUnit :=
  cc0_expert_up (grid0.coords t) (Memref.whole main_arg0) (Memref.isWhole_whole _) (Memref.whole main_arg1) (Memref.isWhole_whole _) (spec0_0.stage ((cfg0 a).slots t 0)) (hstage0_0 (((cfg0 a).slots t 0).cast nbuf0_0)) (spec0_1.stage ((cfg0 a).slots t 1)) (hstage0_1 (((cfg0 a).slots t 1).cast nbuf0_1)) (spec0_2.stage ((cfg0 a).slots t 2)) (hstage0_2 (((cfg0 a).slots t 2).cast nbuf0_2)) (spec0_3.stage ((cfg0 a).slots t 3)) (hstage0_3 (((cfg0 a).slots t 3).cast nbuf0_3))

def bodyPre (hO : Ok m) (c : Dev nD) (t : Fin (cfgM m hO).N) : sProp 𝕄 :=
  iprop((dats m hO 0 c).Φ t.castSucc ∗ (dats m hO 0 c).owesAt () t.castSucc
    ∗ (∃ d, owns (c : Thread nD τ) (ms0_0 m hO t) fullShare ((dats m hO 0 c).before 0 t d))
    ∗ (∃ d, owns (c : Thread nD τ) (ms0_1 m hO t) fullShare ((dats m hO 0 c).before 1 t d))
    ∗ (∃ d, owns (c : Thread nD τ) (ms0_2 m hO t) fullShare ((dats m hO 0 c).before 2 t d))
    ∗ (∃ d, owns (c : Thread nD τ) (ms0_3 m hO t) fullShare ((dats m hO 0 c).before 3 t d)))

def bodyPost (hO : Ok m) (c : Dev nD) (t : Fin (cfgM m hO).N) : sProp 𝕄 :=
  iprop((dats m hO 0 c).Φ t.succ ∗ (dats m hO 0 c).owesAt () t.succ
    ∗ owns (c : Thread nD τ) (ms0_0 m hO t) fullShare ((dats m hO 0 c).after 0 t)
    ∗ owns (c : Thread nD τ) (ms0_1 m hO t) fullShare ((dats m hO 0 c).after 1 t)
    ∗ owns (c : Thread nD τ) (ms0_2 m hO t) fullShare ((dats m hO 0 c).after 2 t)
    ∗ (dats m hO 0 c).leavesExact 3 t)

theorem live (a : (pcfg0 (F := F)).Adm) (i : grid0.Coords) : (cfg0 a).idle 3 i = false := by
  exact never_idle a.1 i

set_option maxHeartbeats 1600000 in
theorem sound_body (hO : Ok m) (c : Dev nD) (t : Fin (cfgM m hO).N) :
    bodyPre m hO c t ⊢ wp frame (wpE (defs₀ (F := F)) Variants.none c none) Set.univ (bodyAt0 (adm m hO) t) (fun _ => bodyPost m hO c t) := by
  unfold bodyPre bodyPost bodyAt0
  simp only [before0_0, before0_1, before0_2]
  rw [show (dats m hO 0 c).Φ t.succ = (dats m hO 0 c).Φ t.castSucc from rfl,
    show (dats m hO 0 c).owesAt () t.succ = (dats m hO 0 c).owesAt () t.castSucc from rfl,
    after0_0, after0_1, after0_2,
    show (dats m hO 0 c).leavesExact 3 t = owns (c : Thread nD τ) (ms0_3 m hO t) fullShare ((dats m hO 0 c).after 3 t) from by
      unfold Dat.leavesExact; rw [live (adm m hO) (grid0.coords t)]; try rfl,
    after0_3]
  rw [show (dats m hO 0 c).Φ t.castSucc = iprop(Pipeline.ΦA spec0 c ∗ Pipeline.ΦT pre0 (tbl m) c) from rfl, PhiT0_eq]
  by_cases h0 : cond0_0 (grid0.coords t) (word c (tbl m 1))

  · rw [show outsAt0 m hO c t = _ from if_pos h0]
    iintro ⟨⟨HΦ, ⟨HT0, HT1⟩⟩, Ho, ⟨%d0, H0⟩, ⟨%d1, H1⟩, ⟨%d2, H2⟩, ⟨%d3, H3⟩⟩
    iapply (body_used c Set.univ (grid0.coords t) _ _ _ _ _ _ _ _ (iblk m hO c 0 t) (iblk m hO c 1 t) (iblk m hO c 2 t) (tbl m 0) (tbl m 1) h0 (fun h => (unused_iff _ _).mp h h0) _)
    isplitl [H0]; · iexact H0
    isplitl [H1]; · iexact H1
    isplitl [H2]; · iexact H2
    isplitl [H3]; · iexists _; iexact H3
    isplitl [HT0]; · iexact HT0
    isplitl [HT1]; · iexact HT1
    iintro ⟨H0, H1, H2, H3, HT0, HT1⟩
    isplitl [HΦ HT0 HT1]
    · isplitl [HΦ]; · iexact HΦ
      isplitl [HT0]; · iexact HT0
      iexact HT1
    isplitl [Ho]; · iexact Ho
    isplitl [H0]; · iexact H0
    isplitl [H1]; · iexact H1
    isplitl [H2]; · iexact H2
    iexact H3

  · rw [show outsAt0 m hO c t = _ from if_neg h0]
    iintro ⟨⟨HΦ, ⟨HT0, HT1⟩⟩, Ho, ⟨%d0, H0⟩, ⟨%d1, H1⟩, ⟨%d2, H2⟩, ⟨%d3, H3⟩⟩
    iapply (body_unused c Set.univ (grid0.coords t) _ _ _ _ _ _ _ _ (iblk m hO c 0 t) (iblk m hO c 1 t) (iblk m hO c 2 t) (tbl m 0) (tbl m 1) h0 ((unused_iff _ _).mpr h0) _)
    isplitl [H0]; · iexact H0
    isplitl [H1]; · iexact H1
    isplitl [H2]; · iexact H2
    isplitl [H3]; · iexists _; iexact H3
    isplitl [HT0]; · iexact HT0
    isplitl [HT1]; · iexact HT1
    iintro ⟨H0, H1, H2, H3, HT0, HT1⟩
    isplitl [HΦ HT0 HT1]
    · isplitl [HΦ]; · iexact HΦ
      isplitl [HT0]; · iexact HT0
      iexact HT1
    isplitl [Ho]; · iexact Ho
    isplitl [H0]; · iexact H0
    isplitl [H1]; · iexact H1
    isplitl [H2]; · iexact H2
    iexact H3

theorem defs₀_row (hO : Ok m) (t : Fin (cfgM m hO).N) :
    defs₀ (F := F) .tc (cfgM m hO).body ((cfgM m hO).bodyArgs t ((cfgM m hO).slots t)) = bodyAt0 (adm m hO) t := by
  unfold defs₀; rw [Defs.onTc_tc]

set_option maxHeartbeats 3200000 in
theorem body_obligation (hO : Ok m) (c : Dev nD) : BodyObligation (dats (F := F) m hO 0 c) (defs₀ (F := F)) Variants.none () Set.univ := fun t => by
  rw [bigSep_W0, bigSep_W0, defs₀_row m hO]
  exact triple_restated (sound_body m hO c t) rfl .rfl fun _ => .rfl

/-! ## The run -/

set_option backward.isDefEq.respectTransparency.types false in
theorem run_main_quiescent (hO : Ok m) : θ_run defs (onTc (τ := τ) (main (F := F))) (s₀ m ρ) (fun r => (Pipeline.FramePost (Pipeline.pin pcfgs fun _ => adm m hO) (dats m hO) 0 (V m)) r ∧ r.2.sem = fun _ => 0) :=
  Pipeline.θ_run_frameP (Q' := _) pcfgs (fun _ => adm m hO) (dats m hO) (0 : Fin 1) launch0 defs₀ Variants.none m ρ main
    (hbody := fun c => (body_obligation m hO c).loose) (hshare := fun c => (dats m hO 0 c).share_full fun _ => rfl)
    (howed := fun _ _ => rfl) (V := V m) (hmain := hmain m Variants.none) (hA := A_eq m hO) (hpf := V_pre m)
    (hΦ := fun _ _ => rfl)

theorem run_main (hO : Ok m) : θ_run defs (onTc (τ := τ) (main (F := F))) (s₀ m ρ) (Pipeline.FramePost (Pipeline.pin pcfgs fun _ => adm m hO) (dats m hO) 0 (V m)) :=
  (θ_run defs _ _).mono (fun _ h => h.1) (run_main_quiescent m ρ hO)

/-- The result is what the points wrote back, and the arguments end as they began. -/
theorem run_blocks (hO : Ok m) : θ_run defs (onTc (τ := τ) (main (F := F))) ⟨m, fun _ => 0, ρ⟩ (fun r => ∀ c : Dev nD,
      r.2.mem ((c.tc : Thread nD τ).loc main_v3) = (dats m hO 0 c).arrAt 3 (cfgM m hO).N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c => ⟨(h c).1 3,
      ((h c).2 main_arg0 (by decide : main_arg0 ∈ Pipeline.restRefs sig spec0)).trans (V_main_arg0 m c),
      ((h c).2 main_arg1 (by decide : main_arg1 ∈ Pipeline.restRefs sig spec0)).trans (V_main_arg1 m c),
      ((h c).2 main_arg2 (by decide : main_arg2 ∈ Pipeline.restRefs sig spec0)).trans (V_main_arg2 m c),
      ((h c).2 main_arg3 (by decide : main_arg3 ∈ Pipeline.restRefs sig spec0)).trans (V_main_arg3 m c),
      ((h c).2 main_arg4 (by decide : main_arg4 ∈ Pipeline.restRefs sig spec0)).trans (V_main_arg4 m c)⟩) (run_main m ρ hO)

theorem frame (hO : Ok m) : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  θ_run_and ((θ_run defs _ _).mono (fun _ h c => (h c).2) (run_blocks m ρ hO)) ((θ_run defs _ _).mono (fun _ h => h.2) (run_main_quiescent m ρ hO))

end Cert.Kernel5Ideal.Fr

end
-- ==== Proof.Experts.Words.lean ====
/- Shared by the two expert calls: a word that names an expert, and the take of each group's expert. -/
module

public import Idealize.ShloMosaic.Lib.ValueIdx
public import Idealize.ShloMosaic.Lib.Pipeline.ValueKit
public import Idealize.ShloMosaic.Lib.StableHlo.Predicate
public import Idealize.ShloMosaic.PureOps

@[expose] public section

set_option maxRecDepth 16384

noncomputable section

namespace Experts

open Idealize.ShloMosaic

/-- A word that is at least 0 and below 8, read signed, is below 8. -/
theorem word_lt (v : BitVec 32) (e : IntOp.andi (IntOp.cmpi .sge v 0#32) (IntOp.cmpi .slt v 8#32) = 1#1) : v.toNat < 8 := by
  have andi_ofBool (p q : Bool) : IntOp.andi (BitVec.ofBool p) (BitVec.ofBool q) = BitVec.ofBool (p && q) := by
    cases p <;> cases q <;> decide
  have ofBool_eq_one (p : Bool) : (BitVec.ofBool p = 1#1) ↔ p = true := by cases p <;> decide
  simp only [IntOp.cmpi, andi_ofBool, ofBool_eq_one, Bool.and_eq_true, BitVec.sle_eq_decide, BitVec.slt_eq_decide,
    decide_eq_true_eq, BitVec.toInt_eq_toNat_cond, BitVec.toNat_ofNat, Nat.reducePow, Nat.reduceMod] at e
  omega

/-- The clamp of a word that names an expert is the word. -/
theorem clamp (v : BitVec 32) (h : v.toNat < 8) : min v.toInt.toNat 7 = v.toNat := by
  rw [StableHlo.Predicate.toInt_eq_toNat_of_lt (by omega)]
  simp only [Int.toNat_natCast]
  omega

/-- The dimension numbers of the take of whole matrices out of a stack of them. -/
abbrev takeDims (E R C n : Nat)
    (wf : GatherDims.WF ⟨3, ![E, R, C]⟩ ⟨2, ![n, 1]⟩ ⟨3, ![n, R, C]⟩ [1, 2] [0] [] [0] [] 1 ![1, R, C]) :
    GatherDims ⟨3, ![E, R, C]⟩ ⟨2, ![n, 1]⟩ ⟨3, ![n, R, C]⟩ where
  offsetDims := [1, 2]
  collapsedSliceDims := [0]
  operandBatchingDims := []
  startIndicesBatchingDims := []
  startIndexMap := [0]
  indexVectorDim := 1
  sliceSizes := ![1, R, C]
  wf := wf

/-- The take, read at an index: the matrix that the word names, clamped into the stack. -/
theorem take_apply {α : Type} {E R C n w : Nat} (hE : 0 < E)
    (wf : GatherDims.WF ⟨3, ![E, R, C]⟩ ⟨2, ![n, 1]⟩ ⟨3, ![n, R, C]⟩ [1, 2] [0] [] [0] [] 1 ![1, R, C])
    (x : (⟨3, ![E, R, C]⟩ : Shape).Idx → α) (idx : IVec ⟨2, ![n, 1]⟩ w) (g : Fin n) (r : Fin R) (c : Fin C) :
    Host.gather (takeDims E R C n wf) x idx (ix3 g r c) = x (ix3 ⟨min (idx (ix2 g (0 : Fin 1))).toInt.toNat (E - 1), by omega⟩ r c) := by
  unfold Host.gather
  congr 1
  funext a
  refine Fin.ext ?_
  have hb : ∀ a, (takeDims E R C n wf).batchCoord (ix3 g r c) a = 0 := fun a =>
    GatherDims.batchCoord_eq_zero _ _ _ List.not_mem_nil
  match a with
  | ⟨0, _⟩ =>
    show (takeDims E R C n wf).start (ix3 g r c) idx 0 + (takeDims E R C n wf).batchCoord (ix3 g r c) 0 + (takeDims E R C n wf).offCoord (ix3 g r c) 0 = _
    rw [hb, GatherDims.offCoord_eq_zero _ _ _ (fun h => ((GatherDims.mem_sKept _ _).mp h).1 (List.mem_singleton.mpr rfl))]
    simp only [Nat.add_zero]
    unfold GatherDims.start
    rw [dif_pos (show (0 : Fin 3) ∈ (takeDims E R C n wf).startIndexMap from List.mem_singleton.mpr rfl)]
    have hsi : (takeDims E R C n wf).siIdx (ix3 g r c) ⟨List.idxOf (0 : Fin 3) (takeDims E R C n wf).startIndexMap,
        List.idxOf_lt_length_iff.2 (List.mem_singleton.mpr rfl)⟩ = ix2 g (0 : Fin 1) := by
      funext b; refine Fin.ext ?_
      match b with
      | ⟨0, _⟩ => rfl
      | ⟨1, _⟩ => rfl
    rw [hsi]
    rfl
  | ⟨1, _⟩ =>
    show (takeDims E R C n wf).start (ix3 g r c) idx 1 + (takeDims E R C n wf).batchCoord (ix3 g r c) 1 + (takeDims E R C n wf).offCoord (ix3 g r c) 1 = r.val
    rw [hb]
    unfold GatherDims.start
    rw [dif_neg (show (1 : Fin 3) ∉ (takeDims E R C n wf).startIndexMap from by simp)]
    unfold GatherDims.offCoord
    rw [dif_pos (((takeDims E R C n wf).mem_sKept 1).2 ⟨by simp, List.not_mem_nil⟩)]
    simp only [Nat.zero_add]
    rfl
  | ⟨2, _⟩ =>
    show (takeDims E R C n wf).start (ix3 g r c) idx 2 + (takeDims E R C n wf).batchCoord (ix3 g r c) 2 + (takeDims E R C n wf).offCoord (ix3 g r c) 2 = c.val
    rw [hb]
    unfold GatherDims.start
    rw [dif_neg (show (2 : Fin 3) ∉ (takeDims E R C n wf).startIndexMap from by simp)]
    unfold GatherDims.offCoord
    rw [dif_pos (((takeDims E R C n wf).mem_sKept 2).2 ⟨by simp, List.not_mem_nil⟩)]
    simp only [Nat.zero_add]
    rfl

end Experts

end
-- ==== Proof.Up.Table.lean ====
/- The precondition of the call puts every block that a word of the table names inside the weights. -/
module

public import proofs.«01_k».proof.Defs
public import proofs.«01_k».proof.Proof.Up.Frame
public import proofs.«01_k».proof.Proof.Up.Run
public import proofs.«01_k».proof.Proof.Experts.Words
public import proofs.«01_k».proof.Proof.Gen.Pre_experts_exist

@[expose] public section

set_option maxRecDepth 16384

noncomputable section

/-! ### Kernel5 -/

namespace Cert.Kernel5.Fr

open Cert.Kernel5 Cert.Kernel5.Gen
open Idealize.ShloMosaic Idealize.ShloMosaic.TcCoe

section
variable {F : FTy → Type} [FloatOps F] (m : (ℓ : Loc nD τ sig) → Buf (Elt F) ℓ)

/-- The word of a group in the table of experts. -/
abbrev expert (g : Fin 136) : BitVec 32 := (m (((0 : Dev nD) : Thread nD τ).loc main_arg0) : (⟨S136, .i32⟩ : BufTy).Contents (Elt F)) (ix1 g)

theorem ix1_eq (i : grid0.Coords) : cc0_transform_1 k0_off1_inb numel1_S1 (tbl m) i = ![(expert m (i 1)).toNat, 0, (i 0).val] := by
  have e : (tbl m).at 0 (Rect.unit (s := S136) ![(Scalar.indexCast (BitVec.ofNat 32 (i 1).val)).toNat] S1.size (k0_off1_inb i)) numel1_S1 = expert m (i 1) := by
    show V m 0 main_arg0 _ = _
    rw [V_main_arg0]
    unfold expert
    congr 1
    refine funext fun (a : Fin 1) => ?_
    obtain rfl : a = (0 : Fin 1) := Subsingleton.elim _ _
    refine Fin.ext ?_
    show (Scalar.indexCast (BitVec.ofNat 32 (i 1).val)).toNat + 1 * 0 = (i 1).val
    have h : (i 1).val < 136 := (i 1).isLt
    simp [Scalar.indexCast]
    omega
  unfold cc0_transform_1
  simp only [e]
  have h : (i 0).val < 7 := (i 0).isLt
  rw [show (BitVec.ofNat 32 (i 0).val).toNat = (i 0).val from by simp; omega]
  rfl

theorem ix2_eq (i : grid0.Coords) : cc0_transform_2 k0_off1_inb numel1_S1 (tbl m) i = ![(expert m (i 1)).toNat, 0, (i 0).val] := by
  have e : (tbl m).at 0 (Rect.unit (s := S136) ![(Scalar.indexCast (BitVec.ofNat 32 (i 1).val)).toNat] S1.size (k0_off1_inb i)) numel1_S1 = expert m (i 1) := by
    show V m 0 main_arg0 _ = _
    rw [V_main_arg0]
    unfold expert
    congr 1
    refine funext fun (a : Fin 1) => ?_
    obtain rfl : a = (0 : Fin 1) := Subsingleton.elim _ _
    refine Fin.ext ?_
    show (Scalar.indexCast (BitVec.ofNat 32 (i 1).val)).toNat + 1 * 0 = (i 1).val
    have h : (i 1).val < 136 := (i 1).isLt
    simp [Scalar.indexCast]
    omega
  unfold cc0_transform_2
  simp only [e]
  have h : (i 0).val < 7 := (i 0).isLt
  rw [show (BitVec.ofNat 32 (i 0).val).toNat = (i 0).val from by simp; omega]
  rfl

/-- Where every group's word names an expert, every block lies inside the weights. -/
theorem ok_of_lt (h : ∀ g, (expert m g).toNat < 8) : Ok m :=
  ⟨fun i => by
    refine ⟨fun a => ?_, .inr (.inr ⟨by decide, rfl, ?_, rfl⟩)⟩
    fin_cases a
    · show (cc0_transform_1 k0_off1_inb numel1_S1 (tbl m) i 0 + 1) * 1 ≤ 8
      rw [ix1_eq]; exact (Nat.mul_one _).le.trans (h (i 1))
    · show (cc0_transform_1 k0_off1_inb numel1_S1 (tbl m) i 1 + 1) * 1024 ≤ 1024
      rw [ix1_eq]; exact (by decide : (0 + 1) * 1024 ≤ 1024)
    · show (cc0_transform_1 k0_off1_inb numel1_S1 (tbl m) i 2 + 1) * 512 ≤ 3584
      rw [ix1_eq]
      have h : (i 0).val < 7 := (i 0).isLt
      show ((i 0).val + 1) * 512 ≤ 3584
      omega
    show cc0_transform_1 k0_off1_inb numel1_S1 (tbl m) i 1 * 1024 = 0
    rw [ix1_eq]; exact Nat.zero_mul _,
  fun i => by
    refine ⟨fun a => ?_, .inr (.inr ⟨by decide, rfl, ?_, rfl⟩)⟩
    fin_cases a
    · show (cc0_transform_2 k0_off1_inb numel1_S1 (tbl m) i 0 + 1) * 1 ≤ 8
      rw [ix2_eq]; exact (Nat.mul_one _).le.trans (h (i 1))
    · show (cc0_transform_2 k0_off1_inb numel1_S1 (tbl m) i 1 + 1) * 1024 ≤ 1024
      rw [ix2_eq]; exact (by decide : (0 + 1) * 1024 ≤ 1024)
    · show (cc0_transform_2 k0_off1_inb numel1_S1 (tbl m) i 2 + 1) * 512 ≤ 3584
      rw [ix2_eq]
      have h : (i 0).val < 7 := (i 0).isLt
      show ((i 0).val + 1) * 512 ≤ 3584
      omega
    show cc0_transform_2 k0_off1_inb numel1_S1 (tbl m) i 1 * 1024 = 0
    rw [ix2_eq]; exact Nat.zero_mul _⟩

end

variable (m : (ℓ : Loc nD τ sig) → Buf (Elt Bits) ℓ)

theorem expert_lt (h : Cert.Pre_Kernel5 m) (g : Fin 136) : (expert m g).toNat < 8 := by
  have e := congrFun (h 0) (ix1 g)
  simp only [Pre_experts_exist.fn, andi, cmpi, broadcastInDim, constantI] at e
  exact Experts.word_lt _ e

theorem ok_of_pre (h : Cert.Pre_Kernel5 m) : Ok m := ok_of_lt m (expert_lt m h)

end Cert.Kernel5.Fr

/-! ### Kernel5Ideal -/

namespace Cert.Kernel5Ideal.Fr

open Cert.Kernel5Ideal Cert.Kernel5Ideal.Gen
open Idealize.ShloMosaic Idealize.ShloMosaic.TcCoe

section
variable {F : FTy → Type} [FloatOps F] (m : (ℓ : Loc nD τ sig) → Buf (Elt F) ℓ)

/-- The word of a group in the table of experts. -/
abbrev expert (g : Fin 136) : BitVec 32 := (m (((0 : Dev nD) : Thread nD τ).loc main_arg0) : (⟨S136, .i32⟩ : BufTy).Contents (Elt F)) (ix1 g)

theorem ix1_eq (i : grid0.Coords) : cc0_transform_1 k0_off1_inb numel1_S1 (tbl m) i = ![(expert m (i 1)).toNat, 0, (i 0).val] := by
  have e : (tbl m).at 0 (Rect.unit (s := S136) ![(Scalar.indexCast (BitVec.ofNat 32 (i 1).val)).toNat] S1.size (k0_off1_inb i)) numel1_S1 = expert m (i 1) := by
    show V m 0 main_arg0 _ = _
    rw [V_main_arg0]
    unfold expert
    congr 1
    refine funext fun (a : Fin 1) => ?_
    obtain rfl : a = (0 : Fin 1) := Subsingleton.elim _ _
    refine Fin.ext ?_
    show (Scalar.indexCast (BitVec.ofNat 32 (i 1).val)).toNat + 1 * 0 = (i 1).val
    have h : (i 1).val < 136 := (i 1).isLt
    simp [Scalar.indexCast]
    omega
  unfold cc0_transform_1
  simp only [e]
  have h : (i 0).val < 7 := (i 0).isLt
  rw [show (BitVec.ofNat 32 (i 0).val).toNat = (i 0).val from by simp; omega]
  rfl

theorem ix2_eq (i : grid0.Coords) : cc0_transform_2 k0_off1_inb numel1_S1 (tbl m) i = ![(expert m (i 1)).toNat, 0, (i 0).val] := by
  have e : (tbl m).at 0 (Rect.unit (s := S136) ![(Scalar.indexCast (BitVec.ofNat 32 (i 1).val)).toNat] S1.size (k0_off1_inb i)) numel1_S1 = expert m (i 1) := by
    show V m 0 main_arg0 _ = _
    rw [V_main_arg0]
    unfold expert
    congr 1
    refine funext fun (a : Fin 1) => ?_
    obtain rfl : a = (0 : Fin 1) := Subsingleton.elim _ _
    refine Fin.ext ?_
    show (Scalar.indexCast (BitVec.ofNat 32 (i 1).val)).toNat + 1 * 0 = (i 1).val
    have h : (i 1).val < 136 := (i 1).isLt
    simp [Scalar.indexCast]
    omega
  unfold cc0_transform_2
  simp only [e]
  have h : (i 0).val < 7 := (i 0).isLt
  rw [show (BitVec.ofNat 32 (i 0).val).toNat = (i 0).val from by simp; omega]
  rfl

/-- Where every group's word names an expert, every block lies inside the weights. -/
theorem ok_of_lt (h : ∀ g, (expert m g).toNat < 8) : Ok m :=
  ⟨fun i => by
    refine ⟨fun a => ?_, .inr (.inr ⟨by decide, rfl, ?_, rfl⟩)⟩
    fin_cases a
    · show (cc0_transform_1 k0_off1_inb numel1_S1 (tbl m) i 0 + 1) * 1 ≤ 8
      rw [ix1_eq]; exact (Nat.mul_one _).le.trans (h (i 1))
    · show (cc0_transform_1 k0_off1_inb numel1_S1 (tbl m) i 1 + 1) * 1024 ≤ 1024
      rw [ix1_eq]; exact (by decide : (0 + 1) * 1024 ≤ 1024)
    · show (cc0_transform_1 k0_off1_inb numel1_S1 (tbl m) i 2 + 1) * 512 ≤ 3584
      rw [ix1_eq]
      have h : (i 0).val < 7 := (i 0).isLt
      show ((i 0).val + 1) * 512 ≤ 3584
      omega
    show cc0_transform_1 k0_off1_inb numel1_S1 (tbl m) i 1 * 1024 = 0
    rw [ix1_eq]; exact Nat.zero_mul _,
  fun i => by
    refine ⟨fun a => ?_, .inr (.inr ⟨by decide, rfl, ?_, rfl⟩)⟩
    fin_cases a
    · show (cc0_transform_2 k0_off1_inb numel1_S1 (tbl m) i 0 + 1) * 1 ≤ 8
      rw [ix2_eq]; exact (Nat.mul_one _).le.trans (h (i 1))
    · show (cc0_transform_2 k0_off1_inb numel1_S1 (tbl m) i 1 + 1) * 1024 ≤ 1024
      rw [ix2_eq]; exact (by decide : (0 + 1) * 1024 ≤ 1024)
    · show (cc0_transform_2 k0_off1_inb numel1_S1 (tbl m) i 2 + 1) * 512 ≤ 3584
      rw [ix2_eq]
      have h : (i 0).val < 7 := (i 0).isLt
      show ((i 0).val + 1) * 512 ≤ 3584
      omega
    show cc0_transform_2 k0_off1_inb numel1_S1 (tbl m) i 1 * 1024 = 0
    rw [ix2_eq]; exact Nat.zero_mul _⟩

end

variable (m : (ℓ : Loc nD τ sig) → Buf (Elt Ideal) ℓ)

theorem expert_lt (h : Cert.Pre_Kernel5Ideal m) (g : Fin 136) : (expert m g).toNat < 8 := by
  have e := congrFun (h 0) (ix1 g)
  simp only [Pre_experts_exist.fn, andi, cmpi, broadcastInDim, constantI] at e
  exact Experts.word_lt _ e

theorem ok_of_pre (h : Cert.Pre_Kernel5Ideal m) : Ok m := ok_of_lt m (expert_lt m h)

end Cert.Kernel5Ideal.Fr

end
-- ==== Proof.Up.Claim.lean ====
/- The claim about the experts' hidden values: the kernel's result array is the reference's. -/
module

public import proofs.«01_k».proof.Defs
public import proofs.«01_k».proof.Proof.Up.Table
public import proofs.«01_k».proof.Proof.Ffn.Spec
public import proofs.«01_k».proof.Proof.Gen.Reference5Ideal.Run
public import proofs.«01_k».proof.Proof.Gen.Reference5Ideal.Read
public import Idealize.ShloMosaic.Lib.Pipeline.ValueKit
public import Idealize.ShloMosaic.Lib.Pipeline.ReadBack
public import Idealize.ShloMosaic.Lib.Claim

@[expose] public section

set_option maxRecDepth 16384

noncomputable section

namespace Up

open Idealize.ShloMosaic

/-- The group that a row is in. -/
def group (r : Fin 34816) : Fin 136 := ⟨r.val / 256, by omega⟩

/-- An entry of the result in a group `g`: in use, the hidden value of the row by the two matrices of the group's expert; else 0. -/
def entry (e : (⟨1, ![136]⟩ : Shape).Idx → BitVec 32) (n : (⟨1, ![1]⟩ : Shape).Idx → BitVec 32)
    (x : (⟨2, ![34816, 1024]⟩ : Shape).Idx → EReal) (a b : (⟨3, ![8, 1024, 3584]⟩ : Shape).Idx → EReal)
    (g : Fin 136) (r : Fin 34816) (j : Fin 3584) : EReal :=
  if (BitVec.ofNat 32 g.val).slt (n (ix1 (0 : Fin 1))) = true then
    Ffn.hid (fun k : Fin 1024 => x (ix2 r k)) (fun k => a (ix3 (⟨min (e (ix1 g)).toInt.toNat 7, by omega⟩ : Fin 8) k j))
      (fun k => b (ix3 (⟨min (e (ix1 g)).toInt.toNat 7, by omega⟩ : Fin 8) k j))
  else 0

/-- The result. -/
def G (e : (⟨1, ![136]⟩ : Shape).Idx → BitVec 32) (n : (⟨1, ![1]⟩ : Shape).Idx → BitVec 32)
    (x : (⟨2, ![34816, 1024]⟩ : Shape).Idx → EReal) (a b : (⟨3, ![8, 1024, 3584]⟩ : Shape).Idx → EReal) :
    (⟨2, ![34816, 3584]⟩ : Shape).Idx → EReal := fun i => entry e n x a b (group (i 0)) (i 0) (i 1)

/-- The hidden value of a row of zeros. -/
theorem hid_zero {K : ℕ} (a b : Fin K → EReal) : Ffn.hid (fun _ => 0) a b = 0 := by
  unfold Ffn.hid Ffn.sw
  simp only [zero_mul, Finset.sum_const_zero]

end Up

namespace Cert.Kernel5Ideal.Fr

open Idealize.ShloMosaic Idealize.ShloMosaic.TcCoe Idealize.SL.Sem
open Cert.Kernel5Ideal Cert.Kernel5Ideal.Gen
open Up

variable (m : (ℓ : Loc nD τ sig) → Buf (Elt Ideal) ℓ) (hO : Ok m)

theorem V_v0 (c : Dev nD) : V m c main_v0 = truncf (F := Ideal) .bf16 (m ((c : Thread nD τ).loc main_arg2)) bitsLt_bf16_f32 := by
  simp only [V, hostOps0, List.flatten_cons, List.flatten_nil, List.append_nil, List.cons_append, List.nil_append]
  entry_read
  try rfl

theorem V_v1 (c : Dev nD) : V m c main_v1 = truncf (F := Ideal) .bf16 (m ((c : Thread nD τ).loc main_arg3)) bitsLt_bf16_f32 := by
  simp only [V, hostOps0, List.flatten_cons, List.flatten_nil, List.append_nil, List.cons_append, List.nil_append]
  entry_read
  try rfl

theorem V_v2 (c : Dev nD) : V m c main_v2 = truncf (F := Ideal) .bf16 (m ((c : Thread nD τ).loc main_arg4)) bitsLt_bf16_f32 := by
  simp only [V, hostOps0, List.flatten_cons, List.flatten_nil, List.append_nil, List.cons_append, List.nil_append]
  entry_read
  try rfl

theorem coords0_at : ∀ t : Fin grid0.N, (grid0.coords t 0).val = t.val / 136 := by decide +kernel
theorem coords1_at : ∀ t : Fin grid0.N, (grid0.coords t 1).val = t.val % 136 := by decide +kernel
theorem ix0_at : ∀ t : Fin grid0.N, cc0_transform_0 (grid0.coords t) = ![t.val % 136, 0] := by decide +kernel
theorem ix3_at : ∀ t : Fin grid0.N, cc0_transform_3 (grid0.coords t) = ![t.val % 136, t.val / 136] := by decide +kernel

/-- The group of a point. -/
def grp (t : Fin (cfgM m hO).N) : Fin 136 := ⟨t.val % 136, by omega⟩

/-- The row of the arrays that a block's row is. -/
def row (t : Fin (cfgM m hO).N) (r : Fin 256) : Fin 34816 := ⟨t.val % 136 * 256 + r.val, by omega⟩

/-- The column of the hidden values that a block's column is. -/
def col (t : Fin (cfgM m hO).N) (j : Fin 512) : Fin 3584 := ⟨t.val / 136 * 512 + j.val, by have : t.val < 952 := t.isLt; omega⟩

theorem emb0 (t : Fin (cfgM m hO).N) (r : Fin 256) (k : Fin 1024) :
    (((cfgM m hO).win 0).blk t).view.emb (ix2 r k) = (ix2 (row m hO t r) k : S34816x1024.Idx) := by
  refine funext fun (a : Fin 2) => Fin.ext ?_
  show cc0_transform_0 (grid0.coords t) a * S256x1024.size a + 1 * ((ix2 r k : S256x1024.Idx) a).val = _
  rw [ix0_at]
  fin_cases a
  · show t.val % 136 * 256 + 1 * r.val = t.val % 136 * 256 + r.val; omega
  · show 0 * 1024 + 1 * k.val = k.val; omega

theorem emb1 (h : ∀ g, (expert m g).toNat < 8) (t : Fin (cfgM m hO).N) (k : Fin 1024) (j : Fin 512) :
    (((cfgM m hO).win 1).blk t).view.emb (ix3 (0 : Fin 1) k j)
      = (ix3 (⟨min (expert m (grp m hO t)).toInt.toNat 7, by omega⟩ : Fin 8) k (col m hO t j) : S8x1024x3584.Idx) := by
  refine funext fun (a : Fin 3) => Fin.ext ?_
  show cc0_transform_1 k0_off1_inb numel1_S1 (tbl m) (grid0.coords t) a * S1x1024x512.size a + 1 * ((ix3 (0 : Fin 1) k j : S1x1024x512.Idx) a).val = _
  rw [ix1_eq, show grid0.coords t 1 = grp m hO t from Fin.ext (coords1_at t), coords0_at]
  fin_cases a
  · show (expert m (grp m hO t)).toNat * 1 + 1 * 0 = min (expert m (grp m hO t)).toInt.toNat 7
    rw [Experts.clamp _ (h _)]; omega
  · show 0 * 1024 + 1 * k.val = k.val; omega
  · show t.val / 136 * 512 + 1 * j.val = t.val / 136 * 512 + j.val; omega

theorem emb2 (h : ∀ g, (expert m g).toNat < 8) (t : Fin (cfgM m hO).N) (k : Fin 1024) (j : Fin 512) :
    (((cfgM m hO).win 2).blk t).view.emb (ix3 (0 : Fin 1) k j)
      = (ix3 (⟨min (expert m (grp m hO t)).toInt.toNat 7, by omega⟩ : Fin 8) k (col m hO t j) : S8x1024x3584.Idx) := by
  refine funext fun (a : Fin 3) => Fin.ext ?_
  show cc0_transform_2 k0_off1_inb numel1_S1 (tbl m) (grid0.coords t) a * S1x1024x512.size a + 1 * ((ix3 (0 : Fin 1) k j : S1x1024x512.Idx) a).val = _
  rw [ix2_eq, show grid0.coords t 1 = grp m hO t from Fin.ext (coords1_at t), coords0_at]
  fin_cases a
  · show (expert m (grp m hO t)).toNat * 1 + 1 * 0 = min (expert m (grp m hO t)).toInt.toNat 7
    rw [Experts.clamp _ (h _)]; omega
  · show 0 * 1024 + 1 * k.val = k.val; omega
  · show t.val / 136 * 512 + 1 * j.val = t.val / 136 * 512 + j.val; omega

theorem emb3 (t : Fin (cfgM m hO).N) (r : Fin 256) (j : Fin 512) :
    (((cfgM m hO).win 3).blk t).view.emb (ix2 r j) = (ix2 (row m hO t r) (col m hO t j) : S34816x3584.Idx) := by
  refine funext fun (a : Fin 2) => Fin.ext ?_
  show cc0_transform_3 (grid0.coords t) a * S256x512.size a + 1 * ((ix2 r j : S256x512.Idx) a).val = _
  rw [ix3_at]
  fin_cases a
  · show t.val % 136 * 256 + 1 * r.val = t.val % 136 * 256 + r.val; omega
  · show t.val / 136 * 512 + 1 * j.val = t.val / 136 * 512 + j.val; omega

theorem x_at (c : Dev nD) (t : Fin (cfgM m hO).N) (r : Fin 256) (k : Fin 1024) :
    iblk m hO c 0 t (ix2 r k) = m ((c : Thread nD τ).loc main_arg2) (ix2 (row m hO t r) k) := by
  show V m c main_v0 ((((cfgM m hO).win 0).blk t).view.emb (ix2 r k)) = _
  rw [emb0, V_v0]
  rfl

theorem a_at (h : ∀ g, (expert m g).toNat < 8) (c : Dev nD) (t : Fin (cfgM m hO).N) (k : Fin 1024) (j : Fin 512) :
    iblk m hO c 1 t (ix3 (0 : Fin 1) k j)
      = m ((c : Thread nD τ).loc main_arg3) (ix3 (⟨min (expert m (grp m hO t)).toInt.toNat 7, by omega⟩ : Fin 8) k (col m hO t j)) := by
  show V m c main_v1 ((((cfgM m hO).win 1).blk t).view.emb (ix3 (0 : Fin 1) k j)) = _
  rw [emb1 m hO h, V_v1]
  rfl

theorem b_at (h : ∀ g, (expert m g).toNat < 8) (c : Dev nD) (t : Fin (cfgM m hO).N) (k : Fin 1024) (j : Fin 512) :
    iblk m hO c 2 t (ix3 (0 : Fin 1) k j)
      = m ((c : Thread nD τ).loc main_arg4) (ix3 (⟨min (expert m (grp m hO t)).toInt.toNat 7, by omega⟩ : Fin 8) k (col m hO t j)) := by
  show V m c main_v2 ((((cfgM m hO).win 2).blk t).view.emb (ix3 (0 : Fin 1) k j)) = _
  rw [emb2 m hO h, V_v2]
  rfl

theorem word_eq (c : Dev nD) : word c (tbl m 1) = m (((0 : Dev nD) : Thread nD τ).loc main_arg1) (ix1 (0 : Fin 1)) := by
  show V m 0 main_arg1 _ = _
  rw [V_main_arg1]
  congr 1
  refine funext fun (a : Fin 1) => Fin.ext ?_
  obtain rfl : a = (0 : Fin 1) := Subsingleton.elim _ _
  rfl

theorem flush (t : Fin (cfgM m hO).N) : ((cfgM m hO).win 3).flush t = true :=
  (fun t => (Pipeline.Window.flushOf_reads cc0_transform_3 reads0_3 hreads0_3 1 (by decide) (by decide) (Pipeline.Window.sep_of_coord cc0_transform_3 1 0 (fun _ => rfl) (by decide)) (P := 1) (m := 0) (by decide) rfl t).mpr (Nat.mod_one _) : ∀ t : Fin grid0.N, Pipeline.Window.flushOf grid0 true cc0_transform_3 t = true) t

/-- A block of the hidden values, read at a row and a column. -/
theorem full_at (x : Vec Ideal S256x1024 .bf16) (a b : Vec Ideal S1x1024x512 .bf16) (r : Fin 256) (j : Fin 512) :
    full (F := Ideal) x a b (ix2 r j)
      = Ffn.hid (fun k : Fin 1024 => x (ix2 r k)) (fun k => a (ix3 (0 : Fin 1) k j)) (fun k => b (ix3 (0 : Fin 1) k j)) := by
  unfold full
  rw [View.canon_unit_zero (by funext a; fin_cases a <;> rfl), View.ld_unit_zero (by funext a; fin_cases a <;> rfl),
    View.ld_unit_zero (by funext a; fin_cases a <;> rfl), View.ld_unit_zero (by funext a; fin_cases a <;> rfl)]
  simp only [k0_pay1]
  pointwise
  simp only [zero_sub]
  rfl

theorem zero_at (r : Fin 256) (j : Fin 512) : zero (F := Ideal) (ix2 r j) = (0 : EReal) := by
  unfold zero
  rw [View.canon_unit_zero (by funext a; fin_cases a <;> rfl)]
  simp only [k0_pay2]
  pointwise

theorem final (h : ∀ g, (expert m g).toNat < 8) (c : Dev nD) : (dats m hO 0 c).arrAt 3 (cfgM m hO).N
    = G (m ((c : Thread nD τ).loc main_arg0)) (m ((c : Thread nD τ).loc main_arg1)) (m ((c : Thread nD τ).loc main_arg2)) (m ((c : Thread nD τ).loc main_arg3)) (m ((c : Thread nD τ).loc main_arg4)) := by
  refine (dats m hO 0 c).arrAt_eq_of_emb 3 _ (fun t hf y => ?_) fun i => ?_
  · obtain rfl : c = 0 := Subsingleton.elim _ _
    show (dats m hO 0 0).after 3 t y = _
    rw [after0_3]
    revert y
    refine fun (y : S256x512.Idx) => ?_
    obtain ⟨r, j, rfl⟩ : ∃ r j, y = ix2 r j := ⟨y 0, y 1, by funext a; fin_cases a <;> rfl⟩
    rw [emb3]
    have eg : group (row m hO t r) = grp m hO t := Fin.ext (by show (t.val % 136 * 256 + r.val) / 256 = t.val % 136; omega)
    refine Eq.trans ?_ (congrArg (fun g => entry (m (((0 : Dev nD) : Thread nD τ).loc main_arg0)) (m (((0 : Dev nD) : Thread nD τ).loc main_arg1))
      (m (((0 : Dev nD) : Thread nD τ).loc main_arg2)) (m (((0 : Dev nD) : Thread nD τ).loc main_arg3))
      (m (((0 : Dev nD) : Thread nD τ).loc main_arg4)) g (row m hO t r) (col m hO t j)) eg).symm
    unfold outsAt0 entry
    by_cases h0 : cond0_0 (grid0.coords t) (word 0 (tbl m 1))
    · rw [if_pos h0]
      refine (full_at _ _ _ _ _).trans ?_
      rw [used_iff, word_eq, show grid0.coords t 1 = grp m hO t from Fin.ext (coords1_at t)] at h0
      rw [if_pos h0]
      refine Eq.trans (congrArg (fun q => Ffn.hid q _ _) (funext fun k => x_at m hO 0 t r k)) ?_
      exact congrArg₂ (Ffn.hid _) (funext fun k => a_at m hO h 0 t k j) (funext fun k => b_at m hO h 0 t k j)
    · rw [if_neg h0]
      refine (zero_at _ _).trans ?_
      rw [used_iff, word_eq, show grid0.coords t 1 = grp m hO t from Fin.ext (coords1_at t)] at h0
      rw [if_neg h0]
  · revert i
    refine fun (i : S34816x3584.Idx) => ?_
    have h0 : (i 0).val < 34816 := (i 0).isLt
    have h1 : (i 1).val < 3584 := (i 1).isLt
    obtain ⟨t, ht⟩ : ∃ t : Fin (cfgM m hO).N, t.val = (i 1).val / 512 * 136 + (i 0).val / 256 :=
      ⟨(⟨(i 1).val / 512 * 136 + (i 0).val / 256, by omega⟩ : Fin 952), rfl⟩
    refine ⟨t, flush m hO t, ?_⟩
    have e : ((((cfgM m hO).win 3).blk t).view.emb (ix2 (⟨(i 0).val % 256, by omega⟩ : Fin 256) (⟨(i 1).val % 512, by omega⟩ : Fin 512)) : S34816x3584.Idx) = i := by
      refine (emb3 m hO t _ _).trans ?_
      funext a
      fin_cases a
      · refine Fin.ext ?_
        show t.val % 136 * 256 + (i 0).val % 256 = (i 0).val
        omega
      · refine Fin.ext ?_
        show t.val / 136 * 512 + (i 1).val % 512 = (i 1).val
        omega
    have hm := View.emb_mem_set (((cfgM m hO).win 3).blk t).view (ix2 (⟨(i 0).val % 256, by omega⟩ : Fin 256) (⟨(i 1).val % 512, by omega⟩ : Fin 512))
    exact (congrArg (fun q => q ∈ (((cfgM m hO).win 3).blk t).view.set) e).mp hm

end Cert.Kernel5Ideal.Fr

namespace Cert.Proof.Up

open Idealize.ShloMosaic Idealize.ShloMosaic.TcCoe Idealize.SL.Sem
open Cert.Reference5Ideal Cert.Reference5Ideal.Gen Cert.Reference5Ideal.Read
open _root_.Up

/-- The number of groups in use, as the reference reads it. -/
theorem count_at (n : IVec S1 32) (i : S_.Idx) : val_main_v2 (F := Ideal) n i = n (ix1 (0 : Fin 1)) := by
  unfold val_main_v2 shapeCast
  congr 1
  refine funext fun (a : Fin 1) => ?_
  obtain rfl : a = (0 : Fin 1) := Subsingleton.elim _ _
  exact Fin.ext (Nat.lt_one_iff.mp (Fin.isLt _))

/-- A row of the reference's grouped rows. -/
theorem rows_at (n : IVec S1 32) (x : FVec Ideal S34816x1024 .f32) (g : Fin 136) (r : Fin 256) (k : Fin 1024) :
    val_main_v6 (F := Ideal) n x (ix3 g r k)
      = if (BitVec.ofNat 32 g.val).slt (n (ix1 (0 : Fin 1))) = true then x (ix2 (⟨g.val * 256 + r.val, by omega⟩ : Fin 34816) k) else (0 : EReal) := by
  rw [val_main_v6_apply, val_main_call0_v1_apply, val_main_v5_apply, val_main_v4_apply, val_main_v3_apply, count_at, val_main_v0_apply,
    val_main_call0_v2_apply, val_main_call0_v0_apply, val_main_cst_apply, val_main_v1_apply]
  have e : idx_main_v0 (ix3 g r k) = ix2 (⟨g.val * 256 + r.val, by omega⟩ : Fin 34816) k := by
    funext a
    refine Fin.ext ?_
    match a with
    | ⟨0, _⟩ => show ((g.val * 256 + r.val) * 1024 + k.val) / 1024 = g.val * 256 + r.val; omega
    | ⟨1, _⟩ => show ((g.val * 256 + r.val) * 1024 + k.val) % 1024 = k.val; omega
  rw [e]
  show Scalar.select (BitVec.ofBool ((BitVec.ofNat 32 g.val).slt (n (ix1 (0 : Fin 1))))) _ (Ideal.ofBits .f32 0x00000000#32) = _
  cases (BitVec.ofNat 32 g.val).slt (n (ix1 (0 : Fin 1)))
  · simp [Scalar.select]
  · simp [Scalar.select]

/-- The first matrix that the reference takes for a group. -/
theorem taken_at (e : IVec S136 32) (w : FVec Ideal S8x1024x3584 .f32) (g : Fin 136) (k : Fin 1024) (j : Fin 3584) :
    val_main_v7 (F := Ideal) e w (ix3 g k j) = w (ix3 (⟨min (e (ix1 g)).toInt.toNat 7, by omega⟩ : Fin 8) k j) := by
  unfold val_main_v7
  refine (Experts.take_apply (E := 8) (R := 1024) (C := 3584) (n := 136) (by decide) gather_S8x1024x3584_S136x1_S136x1024x3584_12_0_n_n_0_1_110243584.wf w _ g k j).trans ?_
  have e1 : val_main_call1_v0 (F := Ideal) e (ix2 g (0 : Fin 1)) = e (ix1 g) := by
    rw [val_main_call1_v0_apply]
    congr 1
    refine funext fun (a : Fin 1) => ?_
    obtain rfl : a = (0 : Fin 1) := Subsingleton.elim _ _
    rfl
  simp only [e1]

/-- The second matrix that the reference takes for a group. -/
theorem taken2_at (e : IVec S136 32) (w : FVec Ideal S8x1024x3584 .f32) (g : Fin 136) (k : Fin 1024) (j : Fin 3584) :
    val_main_v9 (F := Ideal) e w (ix3 g k j) = w (ix3 (⟨min (e (ix1 g)).toInt.toNat 7, by omega⟩ : Fin 8) k j) := by
  unfold val_main_v9
  refine (Experts.take_apply (E := 8) (R := 1024) (C := 3584) (n := 136) (by decide) gather_S8x1024x3584_S136x1_S136x1024x3584_12_0_n_n_0_1_110243584.wf w _ g k j).trans ?_
  have e1 : val_main_call2_v0 (F := Ideal) e (ix2 g (0 : Fin 1)) = e (ix1 g) := by
    rw [val_main_call2_v0_apply]
    congr 1
    refine funext fun (a : Fin 1) => ?_
    obtain rfl : a = (0 : Fin 1) := Subsingleton.elim _ _
    rfl
  simp only [e1]

/-- The reference's result array. -/
theorem ref_result (e : IVec S136 32) (n : IVec S1 32) (x : FVec Ideal S34816x1024 .f32) (a b : FVec Ideal S8x1024x3584 .f32) :
    val_main_v14 (F := Ideal) e n x a b = G e n x a b := by
  refine funext fun (i : S34816x3584.Idx) => ?_
  obtain ⟨r, j, rfl⟩ : ∃ r j, i = ix2 r j := ⟨i 0, i 1, by funext a; fin_cases a <;> rfl⟩
  rw [val_main_v14_apply]
  have hi : idx_main_v14 (ix2 r j) = (ix3 (group r) (⟨r.val % 256, by omega⟩ : Fin 256) j) := by
    funext a
    refine Fin.ext ?_
    match a with
    | ⟨0, _⟩ => show (r.val * 3584 + j.val) / (256 * 3584) = r.val / 256; omega
    | ⟨1, _⟩ => show (r.val * 3584 + j.val) / 3584 % 256 = r.val % 256; omega
    | ⟨2, _⟩ => show (r.val * 3584 + j.val) % 3584 = j.val; omega
  rw [hi]
  have hl (k : Fin 1024) : lidx_main_v8 (ix3 (group r) (⟨r.val % 256, by omega⟩ : Fin 256) j) k = ix3 (group r) (⟨r.val % 256, by omega⟩ : Fin 256) k := by
    funext a; fin_cases a <;> rfl
  have hr (k : Fin 1024) : ridx_main_v8 (ix3 (group r) (⟨r.val % 256, by omega⟩ : Fin 256) j) k = ix3 (group r) k j := by
    funext a; fin_cases a <;> rfl
  have hl' (k : Fin 1024) : lidx_main_v10 (ix3 (group r) (⟨r.val % 256, by omega⟩ : Fin 256) j) k = ix3 (group r) (⟨r.val % 256, by omega⟩ : Fin 256) k := by
    funext a; fin_cases a <;> rfl
  have hr' (k : Fin 1024) : ridx_main_v10 (ix3 (group r) (⟨r.val % 256, by omega⟩ : Fin 256) j) k = ix3 (group r) k j := by
    funext a; fin_cases a <;> rfl
  have hrow : (⟨(group r).val * 256 + r.val % 256, by have := (group r).isLt; omega⟩ : Fin 34816) = r := Fin.ext (by show r.val / 256 * 256 + r.val % 256 = r.val; omega)
  have h8 := val_main_v8_apply e n x a (ix3 (group r) (⟨r.val % 256, by omega⟩ : Fin 256) j)
  have h10 := val_main_v10_apply e n x b (ix3 (group r) (⟨r.val % 256, by omega⟩ : Fin 256) j)
  simp only [hl, hr, hl', hr', rows_at, taken_at, taken2_at, hrow] at h8 h10
  have h13 : val_main_v13 (F := Ideal) e n x a b (ix3 (group r) (⟨r.val % 256, by omega⟩ : Fin 256) j)
      = Ffn.sw (val_main_v8 (F := Ideal) e n x a (ix3 (group r) (⟨r.val % 256, by omega⟩ : Fin 256) j)) * val_main_v10 (F := Ideal) e n x b (ix3 (group r) (⟨r.val % 256, by omega⟩ : Fin 256) j) := by
    generalize (ix3 (group r) (⟨r.val % 256, by omega⟩ : Fin 256) j) = i
    rw [val_main_v13_apply, val_main_v12_apply, val_main_v11_apply, val_main_call3_v5_apply, val_main_call3_v4_apply, val_main_call3_cst_0_apply,
      val_main_call3_v3_apply, val_main_call3_v2_apply, val_main_call3_cst_apply, val_main_call3_v1_apply, val_main_call3_v0_apply]
    generalize val_main_v8 (F := Ideal) e n x a i = p
    generalize val_main_v10 (F := Ideal) e n x b i = q
    show (p * Ideal.div (Ideal.ofBits .f32 0x3F800000#32) (Ideal.ofBits .f32 0x3F800000#32 + Ideal.exp (-p))) * q = _
    rw [show Ideal.ofBits .f32 0x3F800000#32 = 1 from by pointwise]
    rfl
  rw [h13, h8, h10]
  show _ = entry e n x a b (group r) r j
  unfold entry
  split
  · rfl
  · exact hid_zero _ _

theorem algebraic : Cert.algebraic_Kernel5Ideal_Reference5Ideal := by
  intro m g m' g' hpre hagree
  refine ⟨fun c => G (m (c.tc.loc Cert.Kernel5Ideal.main_arg0)) (m (c.tc.loc Cert.Kernel5Ideal.main_arg1)) (m (c.tc.loc Cert.Kernel5Ideal.main_arg2))
    (m (c.tc.loc Cert.Kernel5Ideal.main_arg3)) (m (c.tc.loc Cert.Kernel5Ideal.main_arg4)), ?_, ?_⟩
  · refine (θ_run Cert.Kernel5Ideal.defs _ _).mono (fun r h c => ⟨(h c).1.trans ?_, (h c).2⟩)
      (Cert.Kernel5Ideal.Fr.run_blocks (F := Ideal) m g (Cert.Kernel5Ideal.Fr.ok_of_pre m hpre))
    exact Cert.Kernel5Ideal.Fr.final m (Cert.Kernel5Ideal.Fr.ok_of_pre m hpre) (Cert.Kernel5Ideal.Fr.expert_lt m hpre) c
  · refine (θ_run Cert.Reference5Ideal.defs _ _).mono (fun r h c => ⟨(h c).1.trans ?_, (h c).2⟩)
      (Cert.Reference5Ideal.Value.run (F := Ideal) m' g')
    have e := ref_result (m' (c.tc.loc main_arg0)) (m' (c.tc.loc main_arg1)) (m' (c.tc.loc main_arg2)) (m' (c.tc.loc main_arg3)) (m' (c.tc.loc main_arg4))
    rw [← val_main_v14_eq] at e
    refine e.trans ?_
    rw [(hagree c).1, (hagree c).2.1, (hagree c).2.2.1, (hagree c).2.2.2.1, (hagree c).2.2.2.2]

/-- The reference leaves its arguments, and has no counter that could be left raised. -/
theorem frame_ref : Cert.quiescent_Reference5Ideal := fun m ρ _ =>
  (θ_run Cert.Reference5Ideal.defs _ _).mono (fun r h => ⟨fun c => (h c).2, sem_eq_zero_of_no_sems (by decide) r.2⟩)
    (Cert.Reference5Ideal.Value.run (F := Ideal) m ρ)

/-- The same from memories in range. -/
theorem frame_ref_pre : Cert.quiescent_Reference5Ideal_pre_experts_exist := fun m ρ _ =>
  (θ_run Cert.Reference5Ideal.defs _ _).mono (fun r h => ⟨fun c => (h c).2, sem_eq_zero_of_no_sems (by decide) r.2⟩)
    (Cert.Reference5Ideal.Value.run (F := Ideal) m ρ)

end Cert.Proof.Up

end
-- ==== Proof.Down.Run.lean ====
/- The last product of the experts, at the ideal instance: the call runs for every table of experts
   that names experts, and leaves its arguments as they were. Each point either writes the block of its group
   (the group lies before the number of groups in use) or writes zeros (it does not). -/
module

public import proofs.«01_k».proof.Proof.Gen.Kernel6Ideal.Launch
public import proofs.«01_k».proof.Proof.Gen.Kernel6Ideal.Skeleton
public import Idealize.ShloMosaic.Lib.Pipeline.FrameBody
public import Idealize.ShloMosaic.Lib.Ring
public import Idealize.ShloMosaic.Lib.Tactic
public import Idealize.ShloMosaic.Lib.WordCmp
public import Idealize.ShloMosaic.Lib.Claim

@[expose] public section

set_option maxRecDepth 16384

noncomputable section

namespace Cert.Kernel6Ideal.Fr

open Cert.Kernel6Ideal Cert.Kernel6Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## Up to the call -/

/-- A core's buffers when the call is entered: after the casts of the arguments. -/
abbrev V (c : Dev nD) (b : Ref sig .tc) : Buf (Elt F) ((c : Thread nD τ).loc b) := StableHlo.after hostOps0 (fun b => m (c, b)) b

theorem hostOps0_fresh : (hostOps0 : List (HloOp τ sig (Elt F))).Forall fun op => op.fresh = ∅ := by
  simp only [List.Forall]; repeat' constructor

set_option maxHeartbeats 800000 in
theorem hmain (𝒱₀ : Variants) : Pipeline.HMainP (Ix := Unit) (Name := ℕ) (U := UR sig nD τ) (Lvl := ℕ) pcfgs 0 defs₀ 𝒱₀ m (main (F := F)) (V m) :=
  Pipeline.hmainP_prefix pcfgs 0 defs₀ 𝒱₀ m main hostOps0 hostOps0_sub hostOps0_fresh main_chain

theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.Forall, StableHlo.unary_writes, Finset.mem_singleton]
    repeat' apply And.intro
    all_goals exact StableHlo.devRef_ne_of_ne (by decide)))

theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.Forall, StableHlo.unary_writes, Finset.mem_singleton]
    repeat' apply And.intro
    all_goals exact StableHlo.devRef_ne_of_ne (by decide)))

theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.Forall, StableHlo.unary_writes, Finset.mem_singleton]
    repeat' apply And.intro
    all_goals exact StableHlo.devRef_ne_of_ne (by decide)))

theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, List.Forall, StableHlo.unary_writes, Finset.mem_singleton]
    repeat' apply And.intro
    all_goals exact StableHlo.devRef_ne_of_ne (by decide)))

/-! ## The two tables: each group's expert, and the number of groups in use -/

def tbl : pre0.Contents (Elt F) := fun j => V m (0 : Dev nD) (pre0.ref j)
theorem V_pre (c : Dev nD) (j : Fin 2) : V m c (pre0.ref j) = tbl m j := by
  obtain rfl : c = 0 := Subsingleton.elim _ _; rfl
/-- Every group's word names an expert. -/
abbrev Ok : Prop := ok0 (F := F) (tbl m)
abbrev adm (hO : Ok m) : (pcfg0 (F := F)).Adm := ⟨tbl m, hO⟩
abbrev cfgM (hO : Ok m) : Pipeline.Cfg sig Λ₀ := cfg0 (adm m hO)

abbrev tbM0_0 : Memref sig .tc .smem S136 .i32 := Memref.whole main_arg0
abbrev htbM0_0 : tbM0_0.IsWhole := Memref.isWhole_whole _
abbrev tbM0_1 : Memref sig .tc .smem S1 .i32 := Memref.whole main_arg1
abbrev htbM0_1 : tbM0_1.IsWhole := Memref.isWhole_whole _

/-- A table's buffer, and half of its ownership: the body only reads it. -/
abbrev TbBuf0 (c : Dev nD) {S : Shape} {e : EltTy} (M : Memref sig .tc .smem S e) : Type := Buf (Elt F) (M.view.loc (c : Thread nD τ))
abbrev tbPt0 (c : Dev nD) {S : Shape} {e : EltTy} (M : Memref sig .tc .smem S e) (f : TbBuf0 (F := F) c M) : sProp 𝕄 :=
  M.view.loc (c : Thread nD τ) ↦{fullShare.right} f

theorem PhiT0_eq (c : Dev nD) : (Pipeline.ΦT pre0 (tbl m) c : sProp 𝕄) = iprop(tbPt0 c tbM0_0 (tbl m 0) ∗ tbPt0 c tbM0_1 (tbl m 1)) := by
  unfold Pipeline.ΦT Pipeline.prefHeld
  rw [show (Finset.univ : Finset (Fin 2)) = insert (0 : Fin 2) {(1 : Fin 2)} from by decide,
    bigSep_insert (by decide), bigSep_singleton]
  rfl

/-! ## The windows' blocks -/

/-- Window `w`'s block at point `t`, read off its array as the call finds it. -/
def iblk (hO : Ok m) (c : Dev nD) (w : Fin (cfgM m hO).W) (t : Fin (cfgM m hO).N) : (((cfgM m hO).win w).xblock ((cfgM m hO).grid.coords t)).Idx → Elt F ((cfgM m hO).win w).elt :=
  (((cfgM m hO).win w).blk t).view.read (Elt F) (V m c (Pipeline.arrRef spec0 w))

theorem before0_0_of (hO : Ok m) {c : Dev nD} (dat : Dat τ (Elt F) Unit ℕ (UR sig nD τ) ℕ (cfgM m hO) c) (hA : dat.A 0 = V m c (Pipeline.arrRef spec0 0))
    (hafter : ∀ t, dat.after 0 t = iblk m hO c 0 t) (t : Fin (cfgM m hO).N) (d) : dat.before 0 t d = iblk m hO c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

theorem before0_1_of (hO : Ok m) {c : Dev nD} (dat : Dat τ (Elt F) Unit ℕ (UR sig nD τ) ℕ (cfgM m hO) c) (hA : dat.A 1 = V m c (Pipeline.arrRef spec0 1))
    (hafter : ∀ t, dat.after 1 t = iblk m hO c 1 t) (t : Fin (cfgM m hO).N) (d) : dat.before 1 t d = iblk m hO c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-! ## A group is in use or it is not -/

/-- The word that holds the number of groups in use, as the body loads it. -/
abbrev word (c : Dev nD) (x : TbBuf0 (F := F) c tbM0_1) : BitVec 32 :=
  tbM0_1.view.readAt (Elt F) (Rect.unit (s := S1) ![0] S1.size inb_S1_S1_0).toLoadRect x (Shape.Idx.first (numel1_S1.symm ▸ Nat.one_pos))

abbrev cond0_0 (i : grid0.Coords) (v : BitVec 32) : Prop := (Scalar.cmpi .ne (Scalar.extui (Scalar.cmpi .slt (BitVec.ofNat 32 (i 0).val) v)) 0#32) = 1#1
abbrev cond0_1 (i : grid0.Coords) (v : BitVec 32) : Prop := (Scalar.cmpi .ne (Scalar.extui (Scalar.cmpi .sge (BitVec.ofNat 32 (i 0).val) v)) 0#32) = 1#1

theorem used_iff (i : grid0.Coords) (v : BitVec 32) : cond0_0 i v ↔ (BitVec.ofNat 32 (i 0).val).slt v = true := by
  unfold cond0_0
  cases h : (BitVec.ofNat 32 (i 0).val).slt v <;> simp [Scalar.cmpi, Scalar.extui, IntOp.cmpi, h]

theorem unused_iff (i : grid0.Coords) (v : BitVec 32) : cond0_1 i v ↔ ¬cond0_0 i v := by
  rw [used_iff]
  unfold cond0_1
  have e : (v.sle (BitVec.ofNat 32 (i 0).val)) = !(BitVec.ofNat 32 (i 0).val).slt v := by
    rw [BitVec.sle_eq_not_slt]
  cases h : (BitVec.ofNat 32 (i 0).val).slt v <;> simp [Scalar.cmpi, Scalar.extui, IntOp.cmpi, h, e]

/-- So every point stores into the result's block. -/
theorem never_idle (pf : pre0.Contents (Elt F)) (i : grid0.Coords) : idle0 pf 2 i = false := by
  show (!(k0_cond1 i (pf.atD 1 ![0]) == 1#1) && !(k0_cond2 i (pf.atD 1 ![0]) == 1#1)) = false
  by_cases h : cond0_0 i (pf.atD 1 ![0])
  · rw [show k0_cond1 i (pf.atD 1 ![0]) = 1#1 from h]; rfl
  · rw [show k0_cond2 i (pf.atD 1 ![0]) = 1#1 from (unused_iff i _).mpr h]; simp

/-! ## What a point leaves -/

abbrev rIn : Rect S256x3584 := Rect.unit (s := S256x3584) ![0, 0] S256x3584.size inb_S256x3584_S256x3584_0_0
abbrev rW : Rect S1x3584x1024 := Rect.unit (s := S1x3584x1024) ![0, 0, 0] S1x3584x1024.size inb_S1x3584x1024_S1x3584x1024_0_0_0
abbrev rOut : Rect S256x1024 := Rect.unit (s := S256x1024) ![0, 0] S256x1024.size inb_S256x1024_S256x1024_0_0

/-- The block of a group in use. -/
def full (x0 : Vec F S256x3584 .bf16) (x1 : Vec F S1x3584x1024 .bf16) : Vec F S256x1024 .f32 := View.canon [⟨rOut, k0_pay1 (View.ld x0 rIn) (View.ld x1 rW)⟩]
/-- The block of a group not in use. -/
def zero : Vec F S256x1024 .f32 := View.canon [⟨rOut, k0_pay2 (F := F)⟩]

theorem cover (p0 : Vec F S256x1024 .f32) (y : S256x1024.Idx) :
    ∃ pc ∈ ([⟨rOut, p0⟩] : List (View.Piece (Elt F) S256x1024 .f32)), y ∈ pc.1.set :=
  View.cover_of_tiled [⟨rOut, p0⟩] S256x1024.size (by rfl) y

set_option maxHeartbeats 1000000 in
/-- The body at a group in use. -/
theorem body_used (c : Dev nD) (E : Set ℕ) (i : grid0.Coords) (arg3 : Memref sig .tc .vmem S256x3584 .bf16) (harg3 : arg3.IsWhole) (arg4 : Memref sig .tc .vmem S1x3584x1024 .bf16) (harg4 : arg4.IsWhole) (arg5 : Memref sig .tc .vmem S256x1024 .f32) (harg5 : arg5.IsWhole)
    (x0 : Vec F S256x3584 .bf16) (x1 : Vec F S1x3584x1024 .bf16) (xt0 : TbBuf0 (F := F) c tbM0_0) (xt1 : TbBuf0 (F := F) c tbM0_1) (hc0 : cond0_0 i (word c xt1)) (hc1 : ¬cond0_1 i (word c xt1)) (K : PUnit → sProp 𝕄) :
    iprop(owns (c : Thread nD τ) arg3 fullShare x0 ∗ owns (c : Thread nD τ) arg4 fullShare x1 ∗ (∃ d, owns (c : Thread nD τ) arg5 fullShare d) ∗ tbPt0 c tbM0_0 xt0 ∗ tbPt0 c tbM0_1 xt1
        ∗ (iprop(owns (c : Thread nD τ) arg3 fullShare x0 ∗ owns (c : Thread nD τ) arg4 fullShare x1 ∗ owns (c : Thread nD τ) arg5 fullShare (full x0 x1) ∗ tbPt0 c tbM0_0 xt0 ∗ tbPt0 c tbM0_1 xt1) -∗ K ⟨⟩))
      ⊢ wp frame (wpE (defs₀ (F := F)) Variants.none c none) E (cc0_expert_down i tbM0_0 htbM0_0 tbM0_1 htbM0_1 arg3 harg3 arg4 harg4 arg5 harg5) K := by
  simp only [cc0_expert_down_eq_skeleton]; unfold cc0_expert_down_skel
  unfold owns
  iintro ⟨⟨%f0, %hf0, H0⟩, ⟨%f1, %hf1, H1⟩, ⟨%dO, %fO, -, HO⟩, HT0, HT1, Hk⟩
  subst hf0 hf1
  sl_exec (disch := first | sl_exact hc0 | sl_exact hc1)
  sl_step
  iapply Hk
  isplitl [H0]
  · iexists f0; isplitr; · ipureintro; rfl
    iexact H0
  isplitl [H1]
  · iexists f1; isplitr; · ipureintro; rfl
    iexact H1
  isplitl [HO]
  · iexists _; isplitr
    swap; · iexact HO
    ipureintro
    refine (View.read_writes_eq_canon _ _ _ (cover _)).trans ?_
    rfl
  isplitl [HT0]; · iexact HT0
  iexact HT1

set_option maxHeartbeats 1000000 in
/-- The body at a group not in use. -/
theorem body_unused (c : Dev nD) (E : Set ℕ) (i : grid0.Coords) (arg3 : Memref sig .tc .vmem S256x3584 .bf16) (harg3 : arg3.IsWhole) (arg4 : Memref sig .tc .vmem S1x3584x1024 .bf16) (harg4 : arg4.IsWhole) (arg5 : Memref sig .tc .vmem S256x1024 .f32) (harg5 : arg5.IsWhole)
    (x0 : Vec F S256x3584 .bf16) (x1 : Vec F S1x3584x1024 .bf16) (xt0 : TbBuf0 (F := F) c tbM0_0) (xt1 : TbBuf0 (F := F) c tbM0_1) (hc0 : ¬cond0_0 i (word c xt1)) (hc1 : cond0_1 i (word c xt1)) (K : PUnit → sProp 𝕄) :
    iprop(owns (c : Thread nD τ) arg3 fullShare x0 ∗ owns (c : Thread nD τ) arg4 fullShare x1 ∗ (∃ d, owns (c : Thread nD τ) arg5 fullShare d) ∗ tbPt0 c tbM0_0 xt0 ∗ tbPt0 c tbM0_1 xt1
        ∗ (iprop(owns (c : Thread nD τ) arg3 fullShare x0 ∗ owns (c : Thread nD τ) arg4 fullShare x1 ∗ owns (c : Thread nD τ) arg5 fullShare (zero (F := F)) ∗ tbPt0 c tbM0_0 xt0 ∗ tbPt0 c tbM0_1 xt1) -∗ K ⟨⟩))
      ⊢ wp frame (wpE (defs₀ (F := F)) Variants.none c none) E (cc0_expert_down i tbM0_0 htbM0_0 tbM0_1 htbM0_1 arg3 harg3 arg4 harg4 arg5 harg5) K := by
  simp only [cc0_expert_down_eq_skeleton]; unfold cc0_expert_down_skel
  unfold owns
  iintro ⟨⟨%f0, %hf0, H0⟩, ⟨%f1, %hf1, H1⟩, ⟨%dO, %fO, -, HO⟩, HT0, HT1, Hk⟩
  subst hf0 hf1
  sl_exec (disch := first | sl_exact hc0 | sl_exact hc1)
  sl_step
  iapply Hk
  isplitl [H0]
  · iexists f0; isplitr; · ipureintro; rfl
    iexact H0
  isplitl [H1]
  · iexists f1; isplitr; · ipureintro; rfl
    iexact H1
  isplitl [HO]
  · iexists _; isplitr
    swap; · iexact HO
    ipureintro
    refine (View.read_writes_eq_canon _ _ _ (cover _)).trans ?_
    rfl
  isplitl [HT0]; · iexact HT0
  iexact HT1

/-! ## The proof data -/

/-- What point `t` leaves in the result's block. -/
def outsAt0 (hO : Ok m) (c : Dev nD) (t : Fin (cfgM m hO).N) : Vec F S256x1024 .f32 :=
  open Classical in if cond0_0 (grid0.coords t) (word c (tbl m 1)) then full (iblk m hO c 0 t) (iblk m hO c 1 t) else zero

def dats (hO : Ok m) (_ : Fin 1) (c : Dev nD) : Dat τ (Elt F) Unit ℕ (UR sig nD τ) ℕ (cfgM m hO) c where
  A w := V m c (Pipeline.arrRef spec0 w)
  after w t := match w with
    | ⟨0, _⟩ => iblk m hO c 0 t
    | ⟨1, _⟩ => iblk m hO c 1 t
    | ⟨2, _⟩ => (outsAt0 m hO c t)
  Φ _ := iprop(Pipeline.ΦA spec0 c ∗ Pipeline.ΦT pre0 (tbl m) c)
  q _ := fullShare
  owed _ := 0

theorem A_eq (hO : Ok m) (c : Dev nD) (w : Fin (cfgM m hO).W) : (dats m hO 0 c).A w = V m c (Pipeline.arrRef spec0 w) := by
  dsimp only [dats]

theorem after0_0 (hO : Ok m) (c : Dev nD) (t : Fin (cfgM m hO).N) : (dats m hO 0 c).after 0 t = iblk m hO c 0 t := by dsimp only [dats]; try rfl
theorem after0_1 (hO : Ok m) (c : Dev nD) (t : Fin (cfgM m hO).N) : (dats m hO 0 c).after 1 t = iblk m hO c 1 t := by dsimp only [dats]; try rfl
theorem after0_2 (hO : Ok m) (c : Dev nD) (t : Fin (cfgM m hO).N) : (dats m hO 0 c).after 2 t = (outsAt0 m hO c t) := by dsimp only [dats]; try rfl

theorem before0_0 (hO : Ok m) (c : Dev nD) (t : Fin (cfgM m hO).N) (d) : (dats m hO 0 c).before 0 t d = iblk m hO c 0 t :=
  before0_0_of m hO (dats m hO 0 c) (A_eq m hO c 0) (after0_0 m hO c) t d
theorem before0_1 (hO : Ok m) (c : Dev nD) (t : Fin (cfgM m hO).N) (d) : (dats m hO 0 c).before 1 t d = iblk m hO c 1 t :=
  before0_1_of m hO (dats m hO 0 c) (A_eq m hO c 1) (after0_1 m hO c) t d

/-! ## The body at every point -/

abbrev ms0_0 (hO : Ok m) (t : Fin (cfgM m hO).N) : Memref sig .tc .vmem S256x3584 .bf16 := spec0_0.stage ((cfgM m hO).slots t 0)
abbrev ms0_1 (hO : Ok m) (t : Fin (cfgM m hO).N) : Memref sig .tc .vmem S1x3584x1024 .bf16 := spec0_1.stage ((cfgM m hO).slots t 1)
abbrev ms0_2 (hO : Ok m) (t : Fin (cfgM m hO).N) : Memref sig .tc .vmem S256x1024 .f32 := spec0_2.stage ((cfgM m hO).slots t 2)

abbrev bodyAt0 (a : (pcfg0 (F := F)).Adm) (t : Fin (cfg0 a).N) : Prog (TpuEff nD τ sig (Elt F) Λ₀ .tc) PUnit :=
  cc0_expert_down (grid0.coords t) (Memref.whole main_arg0) (Memref.isWhole_whole _) (Memref.whole main_arg1) (Memref.isWhole_whole _) (spec0_0.stage ((cfg0 a).slots t 0)) (hstage0_0 (((cfg0 a).slots t 0).cast nbuf0_0)) (spec0_1.stage ((cfg0 a).slots t 1)) (hstage0_1 (((cfg0 a).slots t 1).cast nbuf0_1)) (spec0_2.stage ((cfg0 a).slots t 2)) (hstage0_2 (((cfg0 a).slots t 2).cast nbuf0_2))

def bodyPre (hO : Ok m) (c : Dev nD) (t : Fin (cfgM m hO).N) : sProp 𝕄 :=
  iprop((dats m hO 0 c).Φ t.castSucc ∗ (dats m hO 0 c).owesAt () t.castSucc
    ∗ (∃ d, owns (c : Thread nD τ) (ms0_0 m hO t) fullShare ((dats m hO 0 c).before 0 t d))
    ∗ (∃ d, owns (c : Thread nD τ) (ms0_1 m hO t) fullShare ((dats m hO 0 c).before 1 t d))
    ∗ (∃ d, owns (c : Thread nD τ) (ms0_2 m hO t) fullShare ((dats m hO 0 c).before 2 t d)))

def bodyPost (hO : Ok m) (c : Dev nD) (t : Fin (cfgM m hO).N) : sProp 𝕄 :=
  iprop((dats m hO 0 c).Φ t.succ ∗ (dats m hO 0 c).owesAt () t.succ
    ∗ owns (c : Thread nD τ) (ms0_0 m hO t) fullShare ((dats m hO 0 c).after 0 t)
    ∗ owns (c : Thread nD τ) (ms0_1 m hO t) fullShare ((dats m hO 0 c).after 1 t)
    ∗ (dats m hO 0 c).leavesExact 2 t)

theorem live (a : (pcfg0 (F := F)).Adm) (i : grid0.Coords) : (cfg0 a).idle 2 i = false := by
  exact never_idle a.1 i

set_option maxHeartbeats 1600000 in
theorem sound_body (hO : Ok m) (c : Dev nD) (t : Fin (cfgM m hO).N) :
    bodyPre m hO c t ⊢ wp frame (wpE (defs₀ (F := F)) Variants.none c none) Set.univ (bodyAt0 (adm m hO) t) (fun _ => bodyPost m hO c t) := by
  unfold bodyPre bodyPost bodyAt0
  simp only [before0_0, before0_1]
  rw [show (dats m hO 0 c).Φ t.succ = (dats m hO 0 c).Φ t.castSucc from rfl,
    show (dats m hO 0 c).owesAt () t.succ = (dats m hO 0 c).owesAt () t.castSucc from rfl,
    after0_0, after0_1,
    show (dats m hO 0 c).leavesExact 2 t = owns (c : Thread nD τ) (ms0_2 m hO t) fullShare ((dats m hO 0 c).after 2 t) from by
      unfold Dat.leavesExact; rw [live (adm m hO) (grid0.coords t)]; try rfl,
    after0_2]
  rw [show (dats m hO 0 c).Φ t.castSucc = iprop(Pipeline.ΦA spec0 c ∗ Pipeline.ΦT pre0 (tbl m) c) from rfl, PhiT0_eq]
  by_cases h0 : cond0_0 (grid0.coords t) (word c (tbl m 1))

  · rw [show outsAt0 m hO c t = _ from if_pos h0]
    iintro ⟨⟨HΦ, ⟨HT0, HT1⟩⟩, Ho, ⟨%d0, H0⟩, ⟨%d1, H1⟩, ⟨%d2, H2⟩⟩
    iapply (body_used c Set.univ (grid0.coords t) _ _ _ _ _ _ (iblk m hO c 0 t) (iblk m hO c 1 t) (tbl m 0) (tbl m 1) h0 (fun h => (unused_iff _ _).mp h h0) _)
    isplitl [H0]; · iexact H0
    isplitl [H1]; · iexact H1
    isplitl [H2]; · iexists _; iexact H2
    isplitl [HT0]; · iexact HT0
    isplitl [HT1]; · iexact HT1
    iintro ⟨H0, H1, H2, HT0, HT1⟩
    isplitl [HΦ HT0 HT1]
    · isplitl [HΦ]; · iexact HΦ
      isplitl [HT0]; · iexact HT0
      iexact HT1
    isplitl [Ho]; · iexact Ho
    isplitl [H0]; · iexact H0
    isplitl [H1]; · iexact H1
    iexact H2

  · rw [show outsAt0 m hO c t = _ from if_neg h0]
    iintro ⟨⟨HΦ, ⟨HT0, HT1⟩⟩, Ho, ⟨%d0, H0⟩, ⟨%d1, H1⟩, ⟨%d2, H2⟩⟩
    iapply (body_unused c Set.univ (grid0.coords t) _ _ _ _ _ _ (iblk m hO c 0 t) (iblk m hO c 1 t) (tbl m 0) (tbl m 1) h0 ((unused_iff _ _).mpr h0) _)
    isplitl [H0]; · iexact H0
    isplitl [H1]; · iexact H1
    isplitl [H2]; · iexists _; iexact H2
    isplitl [HT0]; · iexact HT0
    isplitl [HT1]; · iexact HT1
    iintro ⟨H0, H1, H2, HT0, HT1⟩
    isplitl [HΦ HT0 HT1]
    · isplitl [HΦ]; · iexact HΦ
      isplitl [HT0]; · iexact HT0
      iexact HT1
    isplitl [Ho]; · iexact Ho
    isplitl [H0]; · iexact H0
    isplitl [H1]; · iexact H1
    iexact H2

theorem defs₀_row (hO : Ok m) (t : Fin (cfgM m hO).N) :
    defs₀ (F := F) .tc (cfgM m hO).body ((cfgM m hO).bodyArgs t ((cfgM m hO).slots t)) = bodyAt0 (adm m hO) t := by
  unfold defs₀; rw [Defs.onTc_tc]

set_option maxHeartbeats 3200000 in
theorem body_obligation (hO : Ok m) (c : Dev nD) : BodyObligation (dats (F := F) m hO 0 c) (defs₀ (F := F)) Variants.none () Set.univ := fun t => by
  rw [bigSep_W0, bigSep_W0, defs₀_row m hO]
  exact triple_restated (sound_body m hO c t) rfl .rfl fun _ => .rfl

/-! ## The run -/

set_option backward.isDefEq.respectTransparency.types false in
theorem run_main_quiescent (hO : Ok m) : θ_run defs (onTc (τ := τ) (main (F := F))) (s₀ m ρ) (fun r => (Pipeline.FramePost (Pipeline.pin pcfgs fun _ => adm m hO) (dats m hO) 0 (V m)) r ∧ r.2.sem = fun _ => 0) :=
  Pipeline.θ_run_frameP (Q' := _) pcfgs (fun _ => adm m hO) (dats m hO) (0 : Fin 1) launch0 defs₀ Variants.none m ρ main
    (hbody := fun c => (body_obligation m hO c).loose) (hshare := fun c => (dats m hO 0 c).share_full fun _ => rfl)
    (howed := fun _ _ => rfl) (V := V m) (hmain := hmain m Variants.none) (hA := A_eq m hO) (hpf := V_pre m)
    (hΦ := fun _ _ => rfl)

theorem run_main (hO : Ok m) : θ_run defs (onTc (τ := τ) (main (F := F))) (s₀ m ρ) (Pipeline.FramePost (Pipeline.pin pcfgs fun _ => adm m hO) (dats m hO) 0 (V m)) :=
  (θ_run defs _ _).mono (fun _ h => h.1) (run_main_quiescent m ρ hO)

/-- The result is what the points wrote back, and the arguments end as they began. -/
theorem run_blocks (hO : Ok m) : θ_run defs (onTc (τ := τ) (main (F := F))) ⟨m, fun _ => 0, ρ⟩ (fun r => ∀ c : Dev nD,
      r.2.mem ((c.tc : Thread nD τ).loc main_v2) = (dats m hO 0 c).arrAt 2 (cfgM m hO).N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c => ⟨(h c).1 2,
      ((h c).2 main_arg0 (by decide : main_arg0 ∈ Pipeline.restRefs sig spec0)).trans (V_main_arg0 m c),
      ((h c).2 main_arg1 (by decide : main_arg1 ∈ Pipeline.restRefs sig spec0)).trans (V_main_arg1 m c),
      ((h c).2 main_arg2 (by decide : main_arg2 ∈ Pipeline.restRefs sig spec0)).trans (V_main_arg2 m c),
      ((h c).2 main_arg3 (by decide : main_arg3 ∈ Pipeline.restRefs sig spec0)).trans (V_main_arg3 m c)⟩) (run_main m ρ hO)

theorem frame (hO : Ok m) : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  θ_run_and ((θ_run defs _ _).mono (fun _ h c => (h c).2) (run_blocks m ρ hO)) ((θ_run defs _ _).mono (fun _ h => h.2) (run_main_quiescent m ρ hO))

end Cert.Kernel6Ideal.Fr

end
-- ==== Proof.Down.Table.lean ====
/- The precondition of the call puts every block that a word of the table names inside the weights. -/
module

public import proofs.«01_k».proof.Defs
public import proofs.«01_k».proof.Proof.Down.Frame
public import proofs.«01_k».proof.Proof.Down.Run
public import proofs.«01_k».proof.Proof.Experts.Words
public import proofs.«01_k».proof.Proof.Gen.Pre_experts_exist_down

@[expose] public section

set_option maxRecDepth 16384

noncomputable section

/-! ### Kernel6 -/

namespace Cert.Kernel6.Fr

open Cert.Kernel6 Cert.Kernel6.Gen
open Idealize.ShloMosaic Idealize.ShloMosaic.TcCoe

section
variable {F : FTy → Type} [FloatOps F] (m : (ℓ : Loc nD τ sig) → Buf (Elt F) ℓ)

/-- The word of a group in the table of experts. -/
abbrev expert (g : Fin 136) : BitVec 32 := (m (((0 : Dev nD) : Thread nD τ).loc main_arg0) : (⟨S136, .i32⟩ : BufTy).Contents (Elt F)) (ix1 g)

theorem ix1_eq (i : grid0.Coords) : cc0_transform_1 k0_off1_inb numel1_S1 (tbl m) i = ![(expert m (i 0)).toNat, 0, 0] := by
  have e : (tbl m).at 0 (Rect.unit (s := S136) ![(Scalar.indexCast (BitVec.ofNat 32 (i 0).val)).toNat] S1.size (k0_off1_inb i)) numel1_S1 = expert m (i 0) := by
    show V m 0 main_arg0 _ = _
    rw [V_main_arg0]
    unfold expert
    congr 1
    refine funext fun (a : Fin 1) => ?_
    obtain rfl : a = (0 : Fin 1) := Subsingleton.elim _ _
    refine Fin.ext ?_
    show (Scalar.indexCast (BitVec.ofNat 32 (i 0).val)).toNat + 1 * 0 = (i 0).val
    have h : (i 0).val < 136 := (i 0).isLt
    simp [Scalar.indexCast]
    omega
  unfold cc0_transform_1
  simp only [e]

  rfl

/-- Where every group's word names an expert, every block lies inside the weights. -/
theorem ok_of_lt (h : ∀ g, (expert m g).toNat < 8) : Ok m :=
  fun i => by
    refine ⟨fun a => ?_, .inr (.inr ⟨by decide, rfl, ?_, rfl⟩)⟩
    fin_cases a
    · show (cc0_transform_1 k0_off1_inb numel1_S1 (tbl m) i 0 + 1) * 1 ≤ 8
      rw [ix1_eq]; exact (Nat.mul_one _).le.trans (h (i 0))
    · show (cc0_transform_1 k0_off1_inb numel1_S1 (tbl m) i 1 + 1) * 3584 ≤ 3584
      rw [ix1_eq]; exact (by decide : (0 + 1) * 3584 ≤ 3584)
    · show (cc0_transform_1 k0_off1_inb numel1_S1 (tbl m) i 2 + 1) * 1024 ≤ 1024
      rw [ix1_eq]; exact (by decide : (0 + 1) * 1024 ≤ 1024)
    show cc0_transform_1 k0_off1_inb numel1_S1 (tbl m) i 1 * 3584 = 0
    rw [ix1_eq]; exact Nat.zero_mul _

end

variable (m : (ℓ : Loc nD τ sig) → Buf (Elt Bits) ℓ)

theorem expert_lt (h : Cert.Pre_Kernel6 m) (g : Fin 136) : (expert m g).toNat < 8 := by
  have e := congrFun (h 0) (ix1 g)
  simp only [Pre_experts_exist_down.fn, andi, cmpi, broadcastInDim, constantI] at e
  exact Experts.word_lt _ e

theorem ok_of_pre (h : Cert.Pre_Kernel6 m) : Ok m := ok_of_lt m (expert_lt m h)

end Cert.Kernel6.Fr

/-! ### Kernel6Ideal -/

namespace Cert.Kernel6Ideal.Fr

open Cert.Kernel6Ideal Cert.Kernel6Ideal.Gen
open Idealize.ShloMosaic Idealize.ShloMosaic.TcCoe

section
variable {F : FTy → Type} [FloatOps F] (m : (ℓ : Loc nD τ sig) → Buf (Elt F) ℓ)

/-- The word of a group in the table of experts. -/
abbrev expert (g : Fin 136) : BitVec 32 := (m (((0 : Dev nD) : Thread nD τ).loc main_arg0) : (⟨S136, .i32⟩ : BufTy).Contents (Elt F)) (ix1 g)

theorem ix1_eq (i : grid0.Coords) : cc0_transform_1 k0_off1_inb numel1_S1 (tbl m) i = ![(expert m (i 0)).toNat, 0, 0] := by
  have e : (tbl m).at 0 (Rect.unit (s := S136) ![(Scalar.indexCast (BitVec.ofNat 32 (i 0).val)).toNat] S1.size (k0_off1_inb i)) numel1_S1 = expert m (i 0) := by
    show V m 0 main_arg0 _ = _
    rw [V_main_arg0]
    unfold expert
    congr 1
    refine funext fun (a : Fin 1) => ?_
    obtain rfl : a = (0 : Fin 1) := Subsingleton.elim _ _
    refine Fin.ext ?_
    show (Scalar.indexCast (BitVec.ofNat 32 (i 0).val)).toNat + 1 * 0 = (i 0).val
    have h : (i 0).val < 136 := (i 0).isLt
    simp [Scalar.indexCast]
    omega
  unfold cc0_transform_1
  simp only [e]

  rfl

/-- Where every group's word names an expert, every block lies inside the weights. -/
theorem ok_of_lt (h : ∀ g, (expert m g).toNat < 8) : Ok m :=
  fun i => by
    refine ⟨fun a => ?_, .inr (.inr ⟨by decide, rfl, ?_, rfl⟩)⟩
    fin_cases a
    · show (cc0_transform_1 k0_off1_inb numel1_S1 (tbl m) i 0 + 1) * 1 ≤ 8
      rw [ix1_eq]; exact (Nat.mul_one _).le.trans (h (i 0))
    · show (cc0_transform_1 k0_off1_inb numel1_S1 (tbl m) i 1 + 1) * 3584 ≤ 3584
      rw [ix1_eq]; exact (by decide : (0 + 1) * 3584 ≤ 3584)
    · show (cc0_transform_1 k0_off1_inb numel1_S1 (tbl m) i 2 + 1) * 1024 ≤ 1024
      rw [ix1_eq]; exact (by decide : (0 + 1) * 1024 ≤ 1024)
    show cc0_transform_1 k0_off1_inb numel1_S1 (tbl m) i 1 * 3584 = 0
    rw [ix1_eq]; exact Nat.zero_mul _

end

variable (m : (ℓ : Loc nD τ sig) → Buf (Elt Ideal) ℓ)

theorem expert_lt (h : Cert.Pre_Kernel6Ideal m) (g : Fin 136) : (expert m g).toNat < 8 := by
  have e := congrFun (h 0) (ix1 g)
  simp only [Pre_experts_exist_down.fn, andi, cmpi, broadcastInDim, constantI] at e
  exact Experts.word_lt _ e

theorem ok_of_pre (h : Cert.Pre_Kernel6Ideal m) : Ok m := ok_of_lt m (expert_lt m h)

end Cert.Kernel6Ideal.Fr

end
-- ==== Proof.Down.Claim.lean ====
/- The claim about the experts' last product: the kernel's result array is the reference's. -/
module

public import proofs.«01_k».proof.Defs
public import proofs.«01_k».proof.Proof.Down.Table
public import proofs.«01_k».proof.Proof.Gen.Reference6Ideal.Run
public import proofs.«01_k».proof.Proof.Gen.Reference6Ideal.Read
public import Idealize.ShloMosaic.Lib.Pipeline.ValueKit
public import Idealize.ShloMosaic.Lib.Pipeline.ReadBack
public import Idealize.ShloMosaic.Lib.Claim

@[expose] public section

set_option maxRecDepth 16384

noncomputable section

namespace Down

open Idealize.ShloMosaic

/-- The group that a row is in. -/
def group (r : Fin 34816) : Fin 136 := ⟨r.val / 256, by omega⟩

/-- An entry of the result in a group `g`: in use, the row times the matrix of the group's expert; else 0. -/
def entry (e : (⟨1, ![136]⟩ : Shape).Idx → BitVec 32) (n : (⟨1, ![1]⟩ : Shape).Idx → BitVec 32)
    (x : (⟨2, ![34816, 3584]⟩ : Shape).Idx → EReal) (w : (⟨3, ![8, 3584, 1024]⟩ : Shape).Idx → EReal)
    (g : Fin 136) (r : Fin 34816) (j : Fin 1024) : EReal :=
  if (BitVec.ofNat 32 g.val).slt (n (ix1 (0 : Fin 1))) = true then
    ∑ k : Fin 3584, x (ix2 r k) * w (ix3 (⟨min (e (ix1 g)).toInt.toNat 7, by omega⟩ : Fin 8) k j)
  else 0

/-- The result. -/
def G (e : (⟨1, ![136]⟩ : Shape).Idx → BitVec 32) (n : (⟨1, ![1]⟩ : Shape).Idx → BitVec 32)
    (x : (⟨2, ![34816, 3584]⟩ : Shape).Idx → EReal) (w : (⟨3, ![8, 3584, 1024]⟩ : Shape).Idx → EReal) :
    (⟨2, ![34816, 1024]⟩ : Shape).Idx → EReal := fun i => entry e n x w (group (i 0)) (i 0) (i 1)

end Down

namespace Cert.Kernel6Ideal.Fr

open Idealize.ShloMosaic Idealize.ShloMosaic.TcCoe Idealize.SL.Sem
open Cert.Kernel6Ideal Cert.Kernel6Ideal.Gen
open Down

variable (m : (ℓ : Loc nD τ sig) → Buf (Elt Ideal) ℓ) (hO : Ok m)

theorem V_v0 (c : Dev nD) : V m c main_v0 = truncf (F := Ideal) .bf16 (m ((c : Thread nD τ).loc main_arg2)) bitsLt_bf16_f32 := by
  simp only [V, hostOps0, List.flatten_cons, List.flatten_nil, List.append_nil, List.cons_append, List.nil_append]
  entry_read
  try rfl

theorem V_v1 (c : Dev nD) : V m c main_v1 = truncf (F := Ideal) .bf16 (m ((c : Thread nD τ).loc main_arg3)) bitsLt_bf16_f32 := by
  simp only [V, hostOps0, List.flatten_cons, List.flatten_nil, List.append_nil, List.cons_append, List.nil_append]
  entry_read
  try rfl

theorem coords_at : ∀ t : Fin grid0.N, (grid0.coords t 0).val = t.val := by decide +kernel
theorem ix0_at : ∀ t : Fin grid0.N, cc0_transform_0 (grid0.coords t) = ![t.val, 0] := by decide +kernel
theorem ix2_at : ∀ t : Fin grid0.N, cc0_transform_2 (grid0.coords t) = ![t.val, 0] := by decide +kernel

/-- The group of a point. -/
def grp (t : Fin (cfgM m hO).N) : Fin 136 := ⟨t.val, t.isLt⟩

/-- The row of the arrays that a block's row is. -/
def row (t : Fin (cfgM m hO).N) (r : Fin 256) : Fin 34816 := ⟨t.val * 256 + r.val, by have : t.val < 136 := t.isLt; omega⟩

theorem emb0 (t : Fin (cfgM m hO).N) (r : Fin 256) (k : Fin 3584) :
    (((cfgM m hO).win 0).blk t).view.emb (ix2 r k) = (ix2 (row m hO t r) k : S34816x3584.Idx) := by
  refine funext fun (a : Fin 2) => Fin.ext ?_
  show cc0_transform_0 (grid0.coords t) a * S256x3584.size a + 1 * ((ix2 r k : S256x3584.Idx) a).val = _
  rw [ix0_at]
  fin_cases a
  · show t.val * 256 + 1 * r.val = t.val * 256 + r.val; omega
  · show 0 * 3584 + 1 * k.val = k.val; omega

theorem emb1 (h : ∀ g, (expert m g).toNat < 8) (t : Fin (cfgM m hO).N) (k : Fin 3584) (j : Fin 1024) :
    (((cfgM m hO).win 1).blk t).view.emb (ix3 (0 : Fin 1) k j)
      = (ix3 (⟨min (expert m (grp m hO t)).toInt.toNat 7, by omega⟩ : Fin 8) k j : S8x3584x1024.Idx) := by
  refine funext fun (a : Fin 3) => Fin.ext ?_
  show cc0_transform_1 k0_off1_inb numel1_S1 (tbl m) (grid0.coords t) a * S1x3584x1024.size a + 1 * ((ix3 (0 : Fin 1) k j : S1x3584x1024.Idx) a).val = _
  rw [ix1_eq, show grid0.coords t 0 = grp m hO t from Fin.ext (coords_at t)]
  fin_cases a
  · show (expert m (grp m hO t)).toNat * 1 + 1 * 0 = min (expert m (grp m hO t)).toInt.toNat 7
    rw [Experts.clamp _ (h _)]; omega
  · show 0 * 3584 + 1 * k.val = k.val; omega
  · show 0 * 1024 + 1 * j.val = j.val; omega

theorem emb2 (t : Fin (cfgM m hO).N) (r : Fin 256) (k : Fin 1024) :
    (((cfgM m hO).win 2).blk t).view.emb (ix2 r k) = (ix2 (row m hO t r) k : S34816x1024.Idx) := by
  refine funext fun (a : Fin 2) => Fin.ext ?_
  show cc0_transform_2 (grid0.coords t) a * S256x1024.size a + 1 * ((ix2 r k : S256x1024.Idx) a).val = _
  rw [ix2_at]
  fin_cases a
  · show t.val * 256 + 1 * r.val = t.val * 256 + r.val; omega
  · show 0 * 1024 + 1 * k.val = k.val; omega

theorem x_at (c : Dev nD) (t : Fin (cfgM m hO).N) (r : Fin 256) (k : Fin 3584) :
    iblk m hO c 0 t (ix2 r k) = m ((c : Thread nD τ).loc main_arg2) (ix2 (row m hO t r) k) := by
  show V m c main_v0 ((((cfgM m hO).win 0).blk t).view.emb (ix2 r k)) = _
  rw [emb0, V_v0]
  rfl

theorem w_at (h : ∀ g, (expert m g).toNat < 8) (c : Dev nD) (t : Fin (cfgM m hO).N) (k : Fin 3584) (j : Fin 1024) :
    iblk m hO c 1 t (ix3 (0 : Fin 1) k j)
      = m ((c : Thread nD τ).loc main_arg3) (ix3 (⟨min (expert m (grp m hO t)).toInt.toNat 7, by omega⟩ : Fin 8) k j) := by
  show V m c main_v1 ((((cfgM m hO).win 1).blk t).view.emb (ix3 (0 : Fin 1) k j)) = _
  rw [emb1 m hO h, V_v1]
  rfl

theorem word_eq (c : Dev nD) : word c (tbl m 1) = m (((0 : Dev nD) : Thread nD τ).loc main_arg1) (ix1 (0 : Fin 1)) := by
  show V m 0 main_arg1 _ = _
  rw [V_main_arg1]
  congr 1
  refine funext fun (a : Fin 1) => Fin.ext ?_
  obtain rfl : a = (0 : Fin 1) := Subsingleton.elim _ _
  rfl

theorem flush (t : Fin (cfgM m hO).N) : ((cfgM m hO).win 2).flush t = true :=
  (fun t => (Pipeline.Window.flushOf_reads cc0_transform_2 reads0_2 hreads0_2 0 (by decide) (by decide) (Pipeline.Window.sep_of_coord cc0_transform_2 0 0 (fun _ => rfl) (by decide)) (P := 1) (m := 0) (by decide) rfl t).mpr (Nat.mod_one _) : ∀ t : Fin grid0.N, Pipeline.Window.flushOf grid0 true cc0_transform_2 t = true) t

/-- A block of the product, read at a row and a column. -/
theorem full_at (x : Vec Ideal S256x3584 .bf16) (w : Vec Ideal S1x3584x1024 .bf16) (r : Fin 256) (j : Fin 1024) :
    full (F := Ideal) x w (ix2 r j) = ∑ k : Fin 3584, x (ix2 r k) * w (ix3 (0 : Fin 1) k j) := by
  unfold full
  rw [View.canon_unit_zero (by funext a; fin_cases a <;> rfl), View.ld_unit_zero (by funext a; fin_cases a <;> rfl), View.ld_unit_zero (by funext a; fin_cases a <;> rfl)]
  simp only [k0_pay1]
  pointwise

theorem zero_at (r : Fin 256) (j : Fin 1024) : zero (F := Ideal) (ix2 r j) = (0 : EReal) := by
  unfold zero
  rw [View.canon_unit_zero (by funext a; fin_cases a <;> rfl)]
  simp only [k0_pay2]
  pointwise

theorem final (h : ∀ g, (expert m g).toNat < 8) (c : Dev nD) : (dats m hO 0 c).arrAt 2 (cfgM m hO).N
    = G (m ((c : Thread nD τ).loc main_arg0)) (m ((c : Thread nD τ).loc main_arg1)) (m ((c : Thread nD τ).loc main_arg2)) (m ((c : Thread nD τ).loc main_arg3)) := by
  refine (dats m hO 0 c).arrAt_eq_of_emb 2 _ (fun t hf y => ?_) fun i => ?_
  · obtain rfl : c = 0 := Subsingleton.elim _ _
    show (dats m hO 0 0).after 2 t y = _
    rw [after0_2]
    revert y
    refine fun (y : S256x1024.Idx) => ?_
    obtain ⟨r, j, rfl⟩ : ∃ r j, y = ix2 r j := ⟨y 0, y 1, by funext a; fin_cases a <;> rfl⟩
    rw [emb2]
    have eg : group (row m hO t r) = grp m hO t := Fin.ext (by show (t.val * 256 + r.val) / 256 = t.val; omega)
    refine Eq.trans ?_ (congrArg (fun g => entry (m (((0 : Dev nD) : Thread nD τ).loc main_arg0)) (m (((0 : Dev nD) : Thread nD τ).loc main_arg1))
      (m (((0 : Dev nD) : Thread nD τ).loc main_arg2)) (m (((0 : Dev nD) : Thread nD τ).loc main_arg3)) g (row m hO t r) j) eg).symm
    unfold outsAt0 entry
    by_cases h0 : cond0_0 (grid0.coords t) (word 0 (tbl m 1))
    · rw [if_pos h0]
      refine (full_at _ _ _ _).trans ?_
      rw [used_iff, word_eq, show grid0.coords t 0 = grp m hO t from Fin.ext (coords_at t)] at h0
      rw [if_pos h0]
      exact Finset.sum_congr rfl fun k _ => congrArg₂ (· * ·) (x_at m hO 0 t r k) (w_at m hO h 0 t k j)
    · rw [if_neg h0]
      refine (zero_at _ _).trans ?_
      rw [used_iff, word_eq, show grid0.coords t 0 = grp m hO t from Fin.ext (coords_at t)] at h0
      rw [if_neg h0]
  · revert i
    refine fun (i : S34816x1024.Idx) => ?_
    have h0 : (i 0).val < 34816 := (i 0).isLt
    obtain ⟨t, ht⟩ : ∃ t : Fin (cfgM m hO).N, t.val = (i 0).val / 256 := ⟨(⟨(i 0).val / 256, by omega⟩ : Fin 136), rfl⟩
    refine ⟨t, flush m hO t, ?_⟩
    have e : ((((cfgM m hO).win 2).blk t).view.emb (ix2 (⟨(i 0).val % 256, by omega⟩ : Fin 256) (i 1)) : S34816x1024.Idx) = i := by
      refine (emb2 m hO t _ _).trans ?_
      funext a
      fin_cases a
      · refine Fin.ext ?_
        show t.val * 256 + (i 0).val % 256 = (i 0).val
        omega
      · rfl
    have hm := View.emb_mem_set (((cfgM m hO).win 2).blk t).view (ix2 (⟨(i 0).val % 256, by omega⟩ : Fin 256) (i 1))
    exact (congrArg (fun q => q ∈ (((cfgM m hO).win 2).blk t).view.set) e).mp hm

end Cert.Kernel6Ideal.Fr

namespace Cert.Proof.Down

open Idealize.ShloMosaic Idealize.ShloMosaic.TcCoe Idealize.SL.Sem
open Cert.Reference6Ideal Cert.Reference6Ideal.Gen Cert.Reference6Ideal.Read
open _root_.Down

/-- The number of groups in use, as the reference reads it. -/
theorem count_at (n : IVec S1 32) (i : S_.Idx) : val_main_v2 (F := Ideal) n i = n (ix1 (0 : Fin 1)) := by
  unfold val_main_v2 shapeCast
  congr 1
  refine funext fun (a : Fin 1) => ?_
  obtain rfl : a = (0 : Fin 1) := Subsingleton.elim _ _
  exact Fin.ext (Nat.lt_one_iff.mp (Fin.isLt _))

/-- A row of the reference's grouped rows. -/
theorem rows_at (n : IVec S1 32) (x : FVec Ideal S34816x3584 .f32) (g : Fin 136) (r : Fin 256) (k : Fin 3584) :
    val_main_v6 (F := Ideal) n x (ix3 g r k)
      = if (BitVec.ofNat 32 g.val).slt (n (ix1 (0 : Fin 1))) = true then x (ix2 (⟨g.val * 256 + r.val, by omega⟩ : Fin 34816) k) else (0 : EReal) := by
  rw [val_main_v6_apply, val_main_call0_v1_apply, val_main_v5_apply, val_main_v4_apply, val_main_v3_apply, count_at, val_main_v0_apply,
    val_main_call0_v2_apply, val_main_call0_v0_apply, val_main_cst_apply, val_main_v1_apply]
  have e : idx_main_v0 (ix3 g r k) = ix2 (⟨g.val * 256 + r.val, by omega⟩ : Fin 34816) k := by
    funext a
    refine Fin.ext ?_
    match a with
    | ⟨0, _⟩ => show ((g.val * 256 + r.val) * 3584 + k.val) / 3584 = g.val * 256 + r.val; omega
    | ⟨1, _⟩ => show ((g.val * 256 + r.val) * 3584 + k.val) % 3584 = k.val; omega
  rw [e]
  show Scalar.select (BitVec.ofBool ((BitVec.ofNat 32 g.val).slt (n (ix1 (0 : Fin 1))))) _ (Ideal.ofBits .f32 0x00000000#32) = _
  cases (BitVec.ofNat 32 g.val).slt (n (ix1 (0 : Fin 1)))
  · simp [Scalar.select]
  · simp [Scalar.select]

/-- The matrix that the reference takes for a group. -/
theorem taken_at (e : IVec S136 32) (w : FVec Ideal S8x3584x1024 .f32) (g : Fin 136) (k : Fin 3584) (j : Fin 1024) :
    val_main_v7 (F := Ideal) e w (ix3 g k j) = w (ix3 (⟨min (e (ix1 g)).toInt.toNat 7, by omega⟩ : Fin 8) k j) := by
  unfold val_main_v7
  refine (Experts.take_apply (E := 8) (R := 3584) (C := 1024) (n := 136) (by decide) gather_S8x3584x1024_S136x1_S136x3584x1024_12_0_n_n_0_1_135841024.wf w _ g k j).trans ?_
  have e1 : val_main_call1_v0 (F := Ideal) e (ix2 g (0 : Fin 1)) = e (ix1 g) := by
    rw [val_main_call1_v0_apply]
    congr 1
    refine funext fun (a : Fin 1) => ?_
    obtain rfl : a = (0 : Fin 1) := Subsingleton.elim _ _
    rfl
  simp only [e1]

/-- The reference's result array. -/
theorem ref_result (e : IVec S136 32) (n : IVec S1 32) (x : FVec Ideal S34816x3584 .f32) (w : FVec Ideal S8x3584x1024 .f32) :
    val_main_v9 (F := Ideal) e n x w = G e n x w := by
  refine funext fun (i : S34816x1024.Idx) => ?_
  obtain ⟨r, j, rfl⟩ : ∃ r j, i = ix2 r j := ⟨i 0, i 1, by funext a; fin_cases a <;> rfl⟩
  rw [val_main_v9_apply, val_main_v8_apply]
  have hi : idx_main_v9 (ix2 r j) = ix3 (group r) (⟨r.val % 256, by omega⟩ : Fin 256) j := by
    funext a
    refine Fin.ext ?_
    match a with
    | ⟨0, _⟩ => show (r.val * 1024 + j.val) / (256 * 1024) = r.val / 256; omega
    | ⟨1, _⟩ => show (r.val * 1024 + j.val) / 1024 % 256 = r.val % 256; omega
    | ⟨2, _⟩ => show (r.val * 1024 + j.val) % 1024 = j.val; omega
  rw [hi]
  have hl (k : Fin 3584) : lidx_main_v8 (ix3 (group r) (⟨r.val % 256, by omega⟩ : Fin 256) j) k = ix3 (group r) (⟨r.val % 256, by omega⟩ : Fin 256) k := by
    funext a; fin_cases a <;> rfl
  have hr (k : Fin 3584) : ridx_main_v8 (ix3 (group r) (⟨r.val % 256, by omega⟩ : Fin 256) j) k = ix3 (group r) k j := by
    funext a; fin_cases a <;> rfl
  have hrow : (⟨(group r).val * 256 + r.val % 256, by have := (group r).isLt; omega⟩ : Fin 34816) = r := Fin.ext (by show r.val / 256 * 256 + r.val % 256 = r.val; omega)
  simp only [hl, hr, rows_at, taken_at, hrow]
  show _ = entry e n x w (group r) r j
  unfold entry
  split
  · rfl
  · simp only [zero_mul, Finset.sum_const_zero]

theorem algebraic : Cert.algebraic_Kernel6Ideal_Reference6Ideal := by
  intro m g m' g' hpre hagree
  refine ⟨fun c => G (m (c.tc.loc Cert.Kernel6Ideal.main_arg0)) (m (c.tc.loc Cert.Kernel6Ideal.main_arg1)) (m (c.tc.loc Cert.Kernel6Ideal.main_arg2))
    (m (c.tc.loc Cert.Kernel6Ideal.main_arg3)), ?_, ?_⟩
  · refine (θ_run Cert.Kernel6Ideal.defs _ _).mono (fun r h c => ⟨(h c).1.trans ?_, (h c).2⟩)
      (Cert.Kernel6Ideal.Fr.run_blocks (F := Ideal) m g (Cert.Kernel6Ideal.Fr.ok_of_pre m hpre))
    exact Cert.Kernel6Ideal.Fr.final m (Cert.Kernel6Ideal.Fr.ok_of_pre m hpre) (Cert.Kernel6Ideal.Fr.expert_lt m hpre) c
  · refine (θ_run Cert.Reference6Ideal.defs _ _).mono (fun r h c => ⟨(h c).1.trans ?_, (h c).2⟩)
      (Cert.Reference6Ideal.Value.run (F := Ideal) m' g')
    have e := ref_result (m' (c.tc.loc main_arg0)) (m' (c.tc.loc main_arg1)) (m' (c.tc.loc main_arg2)) (m' (c.tc.loc main_arg3))
    rw [← val_main_v9_eq] at e
    refine e.trans ?_
    rw [(hagree c).1, (hagree c).2.1, (hagree c).2.2.1, (hagree c).2.2.2]

/-- The reference leaves its arguments, and has no counter that could be left raised. -/
theorem frame_ref : Cert.quiescent_Reference6Ideal := fun m ρ _ =>
  (θ_run Cert.Reference6Ideal.defs _ _).mono (fun r h => ⟨fun c => (h c).2, sem_eq_zero_of_no_sems (by decide) r.2⟩)
    (Cert.Reference6Ideal.Value.run (F := Ideal) m ρ)

/-- The same from memories in range. -/
theorem frame_ref_pre : Cert.quiescent_Reference6Ideal_pre_experts_exist_down := fun m ρ _ =>
  (θ_run Cert.Reference6Ideal.defs _ _).mono (fun r h => ⟨fun c => (h c).2, sem_eq_zero_of_no_sems (by decide) r.2⟩)
    (Cert.Reference6Ideal.Value.run (F := Ideal) m ρ)

end Cert.Proof.Down

end
-- ==== Proof.lean ====
/- The proof of the claims of `proofs.«01_k».proof.Defs`: for each of the eight calls, the three programs' frames,
   the idealization of the kernel without rewrites, and the equality of the kernel's and the reference's results
   (Proof/Gla/Claim.lean, Proof/Merge/Claim.lean, Proof/Ffn/Claim.lean, Proof/Proj/Claim.lean,
   Proof/Up/Claim.lean, Proof/Down/Claim.lean, Proof/Attn/Claim.lean,
   Proof/Router/Claim.lean). -/
module

public import proofs.«01_k».proof.Defs
public import proofs.«01_k».proof.Proof.Gen.Kernel.Frame
public import proofs.«01_k».proof.Proof.Gen.KernelIdeal.Frame
public import proofs.«01_k».proof.Proof.Gla.Claim
public import proofs.«01_k».proof.Proof.Gen.Kernel4.Frame
public import proofs.«01_k».proof.Proof.Gen.Kernel4Ideal.Frame
public import proofs.«01_k».proof.Proof.Proj.Claim
public import proofs.«01_k».proof.Proof.Gen.Kernel3.Frame
public import proofs.«01_k».proof.Proof.Gen.Kernel3Ideal.Frame
public import proofs.«01_k».proof.Proof.Ffn.Claim
public import proofs.«01_k».proof.Proof.Gen.Kernel2.Frame
public import proofs.«01_k».proof.Proof.Gen.Kernel2Ideal.Frame
public import proofs.«01_k».proof.Proof.Merge.Claim
public import proofs.«01_k».proof.Proof.Gen.Kernel7.Frame
public import proofs.«01_k».proof.Proof.Gen.Kernel7Ideal.Frame
public import proofs.«01_k».proof.Proof.Attn.Claim
public import proofs.«01_k».proof.Proof.Gen.Kernel8.Frame
public import proofs.«01_k».proof.Proof.Gen.Kernel8Ideal.Frame
public import proofs.«01_k».proof.Proof.Router.Claim
public import proofs.«01_k».proof.Proof.Up.Frame
public import proofs.«01_k».proof.Proof.Up.Claim
public import proofs.«01_k».proof.Proof.Down.Frame
public import proofs.«01_k».proof.Proof.Down.Claim

@[expose] public section

noncomputable section

namespace Cert.Proof

open Idealize.ShloMosaic Idealize.SL.Sem

theorem claim : Cert.Claim :=
  ⟨Cert.Kernel.Gen.facts, Cert.KernelIdeal.Gen.facts, Cert.ReferenceIdeal.Gen.facts,
    Cert.Kernel2.Gen.facts, Cert.Kernel2Ideal.Gen.facts, Cert.Reference2Ideal.Gen.facts,
    Cert.Kernel3.Gen.facts, Cert.Kernel3Ideal.Gen.facts, Cert.Reference3Ideal.Gen.facts,
    Cert.Kernel4.Gen.facts, Cert.Kernel4Ideal.Gen.facts, Cert.Reference4Ideal.Gen.facts,
    Cert.Kernel5.Gen.facts, Cert.Kernel5Ideal.Gen.facts, Cert.Reference5Ideal.Gen.facts,
    Cert.Kernel6.Gen.facts, Cert.Kernel6Ideal.Gen.facts, Cert.Reference6Ideal.Gen.facts,
    Cert.Kernel7.Gen.facts, Cert.Kernel7Ideal.Gen.facts, Cert.Reference7Ideal.Gen.facts,
    Cert.Kernel8.Gen.facts, Cert.Kernel8Ideal.Gen.facts, Cert.Reference8Ideal.Gen.facts,
    Cert.Pre_experts_exist.Gen.facts, Cert.Pre_experts_exist_down.Gen.facts, Cert.Pre_finite_scores.Gen.facts,
    Cert.Pre_finite_router.Gen.facts,
    fun m ρ _ => Cert.Kernel.Gen.frame m ρ, fun m ρ _ => Cert.KernelIdeal.Gen.frame m ρ, frame_ref,
    fun m ρ _ => Cert.Kernel2.Gen.frame m ρ, fun m ρ _ => Cert.Kernel2Ideal.Gen.frame m ρ, Merge.frame_ref,
    fun m ρ _ => Cert.Kernel3.Gen.frame m ρ, fun m ρ _ => Cert.Kernel3Ideal.Gen.frame m ρ, Ffn.frame_ref,
    fun m ρ _ => Cert.Kernel4.Gen.frame m ρ, fun m ρ _ => Cert.Kernel4Ideal.Gen.frame m ρ, Proj.frame_ref,
    fun m ρ h => Cert.Kernel5.Fr.frame m ρ (Cert.Kernel5.Fr.ok_of_pre m h),
    fun m ρ h => Cert.Kernel5Ideal.Fr.frame m ρ (Cert.Kernel5Ideal.Fr.ok_of_pre m h), Up.frame_ref, Up.frame_ref_pre,
    fun m ρ h => Cert.Kernel6.Fr.frame m ρ (Cert.Kernel6.Fr.ok_of_pre m h),
    fun m ρ h => Cert.Kernel6Ideal.Fr.frame m ρ (Cert.Kernel6Ideal.Fr.ok_of_pre m h), Down.frame_ref, Down.frame_ref_pre,
    fun m ρ _ => Cert.Kernel7.Gen.frame m ρ, fun m ρ _ => Cert.Kernel7Ideal.Gen.frame m ρ, fun m ρ _ => Cert.Kernel7Ideal.Gen.frame m ρ,
    Attn.frame_ref, Attn.frame_ref_pre,
    fun m ρ _ => Cert.Kernel8.Gen.frame m ρ, fun m ρ _ => Cert.Kernel8Ideal.Gen.frame m ρ, fun m ρ _ => Cert.Kernel8Ideal.Gen.frame m ρ,
    Router.frame_ref, Router.frame_ref_pre,
    trivial, algebraic, trivial, Merge.algebraic, trivial, Ffn.algebraic, trivial, Proj.algebraic,
    trivial, Up.algebraic, trivial, Down.algebraic, trivial, Attn.algebraic, trivial, Router.algebraic⟩

end Cert.Proof

end
